-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradGu (m : (ℓ : Loc Cert.WgradGu.nD Cert.WgradGu.τ Cert.WgradGu.sig) → Buf (Elt Bits) ℓ) : Prop :=
  True

def Pre_WgradGuIdeal (m : (ℓ : Loc Cert.WgradGuIdeal.nD Cert.WgradGuIdeal.τ Cert.WgradGuIdeal.sig) → Buf (Elt Ideal) ℓ) : Prop :=
  True

def Pre_WgradGuRefIdeal (m : (ℓ : Loc Cert.WgradGuRefIdeal.nD Cert.WgradGuRefIdeal.τ Cert.WgradGuRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DgradOut (m : (ℓ : Loc Cert.DgradOut.nD Cert.DgradOut.τ Cert.DgradOut.sig) → Buf (Elt Bits) ℓ) : Prop :=
  True

def Pre_DgradOutIdeal (m : (ℓ : Loc Cert.DgradOutIdeal.nD Cert.DgradOutIdeal.τ Cert.DgradOutIdeal.sig) → Buf (Elt Ideal) ℓ) : Prop :=
  True

def Pre_DgradOutRefIdeal (m : (ℓ : Loc Cert.DgradOutRefIdeal.nD Cert.DgradOutRefIdeal.τ Cert.DgradOutRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedIdeal_gated_finite [hPre_gated_finite : Cert.Pre_gated_finite.Facts] (m : (ℓ : Loc Cert.GatedIdeal.nD Cert.GatedIdeal.τ Cert.GatedIdeal.sig) → Buf (Elt Ideal) ℓ) : Prop :=
  ∀ c : Dev Cert.GatedIdeal.nD,
    (Cert.Pre_gated_finite.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))) = (fun _ => 1#1)

def Pre_GatedRefIdeal (m : (ℓ : Loc Cert.GatedRefIdeal.nD Cert.GatedRefIdeal.τ Cert.GatedRefIdeal.sig) → Buf (Elt Ideal) ℓ) : Prop :=
  True

def Pre_GatedRefIdeal_gated_finite [hPre_gated_finite : Cert.Pre_gated_finite.Facts] (m : (ℓ : Loc Cert.GatedRefIdeal.nD Cert.GatedRefIdeal.τ Cert.GatedRefIdeal.sig) → Buf (Elt Ideal) ℓ) : Prop :=
  ∀ c : Dev Cert.GatedRefIdeal.nD,
    (Cert.Pre_gated_finite.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownLast (m : (ℓ : Loc Cert.FfnDownLast.nD Cert.FfnDownLast.τ Cert.FfnDownLast.sig) → Buf (Elt Bits) ℓ) : Prop :=
  True

def Pre_FfnDownLastIdeal (m : (ℓ : Loc Cert.FfnDownLastIdeal.nD Cert.FfnDownLastIdeal.τ Cert.FfnDownLastIdeal.sig) → Buf (Elt Ideal) ℓ) : Prop :=
  True

def Pre_FfnDownLastRefIdeal (m : (ℓ : Loc Cert.FfnDownLastRefIdeal.nD Cert.FfnDownLastRefIdeal.τ Cert.FfnDownLastRefIdeal.sig) → Buf (Elt Ideal) ℓ) : Prop :=
  True

def Pre_DgradGu (m : (ℓ : Loc Cert.DgradGu.nD Cert.DgradGu.τ Cert.DgradGu.sig) → Buf (Elt Bits) ℓ) : Prop :=
  True

def Pre_DgradGuIdeal (m : (ℓ : Loc Cert.DgradGuIdeal.nD Cert.DgradGuIdeal.τ Cert.DgradGuIdeal.sig) → Buf (Elt Ideal) ℓ) : Prop :=
  True

def Pre_DgradGuRefIdeal (m : (ℓ : Loc Cert.DgradGuRefIdeal.nD Cert.DgradGuRefIdeal.τ Cert.DgradGuRefIdeal.sig) → Buf (Elt Ideal) ℓ) : Prop :=
  True

def Pre_DgradIn (m : (ℓ : Loc Cert.DgradIn.nD Cert.DgradIn.τ Cert.DgradIn.sig) → Buf (Elt Bits) ℓ) : Prop :=
  True

def Pre_DgradInIdeal (m : (ℓ : Loc Cert.DgradInIdeal.nD Cert.DgradInIdeal.τ Cert.DgradInIdeal.sig) → Buf (Elt Ideal) ℓ) : Prop :=
  True

def Pre_DgradInRefIdeal (m : (ℓ : Loc Cert.DgradInRefIdeal.nD Cert.DgradInRefIdeal.τ Cert.DgradInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradGu [hWgradGu : Cert.WgradGu.Facts] : Prop :=
  ∀ (m : (ℓ : Loc Cert.WgradGu.nD Cert.WgradGu.τ Cert.WgradGu.sig) → Buf (Elt Bits) ℓ) (g : Dev Cert.WgradGu.nD → PrngReg), Pre_WgradGu m →
    θ_run (Cert.WgradGu.defs (F := Bits)) (onTc (τ := Cert.WgradGu.τ) (Cert.WgradGu.main (F := Bits))) ⟨m, fun _ => 0, g⟩ (fun r => (∀ c : Dev Cert.WgradGu.nD,
      r.2.mem ((c.tc : Thread Cert.WgradGu.nD Cert.WgradGu.τ).loc Cert.WgradGu.main_arg0) = m ((c.tc : Thread Cert.WgradGu.nD Cert.WgradGu.τ).loc Cert.WgradGu.main_arg0)
      ∧ r.2.mem ((c.tc : Thread Cert.WgradGu.nD Cert.WgradGu.τ).loc Cert.WgradGu.main_arg1) = m ((c.tc : Thread Cert.WgradGu.nD Cert.WgradGu.τ).loc Cert.WgradGu.main_arg1)
      ∧ r.2.mem ((c.tc : Thread Cert.WgradGu.nD Cert.WgradGu.τ).loc Cert.WgradGu.main_arg2) = m ((c.tc : Thread Cert.WgradGu.nD Cert.WgradGu.τ).loc Cert.WgradGu.main_arg2))
      ∧ r.2.sem = fun _ => 0)

def quiescent_WgradGuIdeal [hWgradGuIdeal : Cert.WgradGuIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg), Pre_WgradGuIdeal m →
    θ_run (Cert.WgradGuIdeal.defs (F := Ideal)) (onTc (τ := Cert.WgradGuIdeal.τ) (Cert.WgradGuIdeal.main (F := Ideal))) ⟨m, fun _ => 0, g⟩ (fun r => (∀ c : Dev Cert.WgradGuIdeal.nD,
      r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
      ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1)
      ∧ r.2.mem ((c.tc : Thread Cert.WgradGuIdeal.nD Cert.WgradGuIdeal.τ).loc Cert.WgradGuIdeal.main_arg2) = m ((c.tc : Thread Cert.WgradGuIdeal.nD Cert.WgradGuIdeal.τ).loc Cert.WgradGuIdeal.main_arg2))
      ∧ r.2.sem = fun _ => 0)

def quiescent_WgradGuRefIdeal [hWgradGuRefIdeal : Cert.WgradGuRefIdeal.Facts] : Prop :=
  ∀ (m : (ℓ : Loc Cert.WgradGuRefIdeal.nD Cert.WgradGuRefIdeal.τ Cert.WgradGuRefIdeal.sig) → Buf (Elt Ideal) ℓ) (g : Dev Cert.WgradGuRefIdeal.nD → PrngReg), Pre_WgradGuRefIdeal m →
    θ_run (Cert.WgradGuRefIdeal.defs (F := Ideal)) (onTc (τ := Cert.WgradGuRefIdeal.τ) (Cert.WgradGuRefIdeal.main (F := Ideal))) ⟨m, fun _ => 0, g⟩ (fun r => (∀ c : Dev Cert.WgradGuRefIdeal.nD,
      r.2.mem ((c.tc : Thread Cert.WgradGuRefIdeal.nD Cert.WgradGuRefIdeal.τ).loc Cert.WgradGuRefIdeal.main_arg0) = m ((c.tc : Thread Cert.WgradGuRefIdeal.nD Cert.WgradGuRefIdeal.τ).loc Cert.WgradGuRefIdeal.main_arg0)
      ∧ r.2.mem ((c.tc : Thread Cert.WgradGuRefIdeal.nD Cert.WgradGuRefIdeal.τ).loc Cert.WgradGuRefIdeal.main_arg1) = m ((c.tc : Thread Cert.WgradGuRefIdeal.nD Cert.WgradGuRefIdeal.τ).loc Cert.WgradGuRefIdeal.main_arg1)
      ∧ r.2.mem ((c.tc : Thread Cert.WgradGuRefIdeal.nD Cert.WgradGuRefIdeal.τ).loc Cert.WgradGuRefIdeal.main_arg2) = m ((c.tc : Thread Cert.WgradGuRefIdeal.nD Cert.WgradGuRefIdeal.τ).loc Cert.WgradGuRefIdeal.main_arg2))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2)
      ∧ r.2.mem ((c.tc : Thread Cert.WgradIn.nD Cert.WgradIn.τ).loc Cert.WgradIn.main_arg3) = m ((c.tc : Thread Cert.WgradIn.nD Cert.WgradIn.τ).loc Cert.WgradIn.main_arg3)
      ∧ r.2.mem ((c.tc : Thread Cert.WgradIn.nD Cert.WgradIn.τ).loc Cert.WgradIn.main_arg4) = m ((c.tc : Thread Cert.WgradIn.nD Cert.WgradIn.τ).loc Cert.WgradIn.main_arg4))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
      ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3)
      ∧ r.2.mem ((c.tc : Thread Cert.WgradInIdeal.nD Cert.WgradInIdeal.τ).loc Cert.WgradInIdeal.main_arg4) = m ((c.tc : Thread Cert.WgradInIdeal.nD Cert.WgradInIdeal.τ).loc Cert.WgradInIdeal.main_arg4))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1)
      ∧ r.2.mem ((c.tc : Thread Cert.WgradInRefIdeal.nD Cert.WgradInRefIdeal.τ).loc Cert.WgradInRefIdeal.main_arg2) = m ((c.tc : Thread Cert.WgradInRefIdeal.nD Cert.WgradInRefIdeal.τ).loc Cert.WgradInRefIdeal.main_arg2)
      ∧ r.2.mem ((c.tc : Thread Cert.WgradInRefIdeal.nD Cert.WgradInRefIdeal.τ).loc Cert.WgradInRefIdeal.main_arg3) = m ((c.tc : Thread Cert.WgradInRefIdeal.nD Cert.WgradInRefIdeal.τ).loc Cert.WgradInRefIdeal.main_arg3)
      ∧ r.2.mem ((c.tc : Thread Cert.WgradInRefIdeal.nD Cert.WgradInRefIdeal.τ).loc Cert.WgradInRefIdeal.main_arg4) = m ((c.tc : Thread Cert.WgradInRefIdeal.nD Cert.WgradInRefIdeal.τ).loc Cert.WgradInRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DgradOut [hDgradOut : Cert.DgradOut.Facts] : Prop :=
  ∀ (m : (ℓ : Loc Cert.DgradOut.nD Cert.DgradOut.τ Cert.DgradOut.sig) → Buf (Elt Bits) ℓ) (g : Dev Cert.DgradOut.nD → PrngReg), Pre_DgradOut m →
    θ_run (Cert.DgradOut.defs (F := Bits)) (onTc (τ := Cert.DgradOut.τ) (Cert.DgradOut.main (F := Bits))) ⟨m, fun _ => 0, g⟩ (fun r => (∀ c : Dev Cert.DgradOut.nD,
      r.2.mem ((c.tc : Thread Cert.DgradOut.nD Cert.DgradOut.τ).loc Cert.DgradOut.main_arg0) = m ((c.tc : Thread Cert.DgradOut.nD Cert.DgradOut.τ).loc Cert.DgradOut.main_arg0)
      ∧ r.2.mem ((c.tc : Thread Cert.DgradOut.nD Cert.DgradOut.τ).loc Cert.DgradOut.main_arg1) = m ((c.tc : Thread Cert.DgradOut.nD Cert.DgradOut.τ).loc Cert.DgradOut.main_arg1))
      ∧ r.2.sem = fun _ => 0)

def quiescent_DgradOutIdeal [hDgradOutIdeal : Cert.DgradOutIdeal.Facts] : Prop :=
  ∀ (m : (ℓ : Loc Cert.DgradOutIdeal.nD Cert.DgradOutIdeal.τ Cert.DgradOutIdeal.sig) → Buf (Elt Ideal) ℓ) (g : Dev Cert.DgradOutIdeal.nD → PrngReg), Pre_DgradOutIdeal m →
    θ_run (Cert.DgradOutIdeal.defs (F := Ideal)) (onTc (τ := Cert.DgradOutIdeal.τ) (Cert.DgradOutIdeal.main (F := Ideal))) ⟨m, fun _ => 0, g⟩ (fun r => (∀ c : Dev Cert.DgradOutIdeal.nD,
      r.2.mem ((c.tc : Thread Cert.DgradOutIdeal.nD Cert.DgradOutIdeal.τ).loc Cert.DgradOutIdeal.main_arg0) = m ((c.tc : Thread Cert.DgradOutIdeal.nD Cert.DgradOutIdeal.τ).loc Cert.DgradOutIdeal.main_arg0)
      ∧ r.2.mem ((c.tc : Thread Cert.DgradOutIdeal.nD Cert.DgradOutIdeal.τ).loc Cert.DgradOutIdeal.main_arg1) = m ((c.tc : Thread Cert.DgradOutIdeal.nD Cert.DgradOutIdeal.τ).loc Cert.DgradOutIdeal.main_arg1))
      ∧ r.2.sem = fun _ => 0)

def quiescent_DgradOutRefIdeal [hDgradOutRefIdeal : Cert.DgradOutRefIdeal.Facts] : Prop :=
  ∀ (m : (ℓ : Loc Cert.DgradOutRefIdeal.nD Cert.DgradOutRefIdeal.τ Cert.DgradOutRefIdeal.sig) → Buf (Elt Ideal) ℓ) (g : Dev Cert.DgradOutRefIdeal.nD → PrngReg), Pre_DgradOutRefIdeal m →
    θ_run (Cert.DgradOutRefIdeal.defs (F := Ideal)) (onTc (τ := Cert.DgradOutRefIdeal.τ) (Cert.DgradOutRefIdeal.main (F := Ideal))) ⟨m, fun _ => 0, g⟩ (fun r => (∀ c : Dev Cert.DgradOutRefIdeal.nD,
      r.2.mem ((c.tc : Thread Cert.DgradOutRefIdeal.nD Cert.DgradOutRefIdeal.τ).loc Cert.DgradOutRefIdeal.main_arg0) = m ((c.tc : Thread Cert.DgradOutRefIdeal.nD Cert.DgradOutRefIdeal.τ).loc Cert.DgradOutRefIdeal.main_arg0)
      ∧ r.2.mem ((c.tc : Thread Cert.DgradOutRefIdeal.nD Cert.DgradOutRefIdeal.τ).loc Cert.DgradOutRefIdeal.main_arg1) = m ((c.tc : Thread Cert.DgradOutRefIdeal.nD Cert.DgradOutRefIdeal.τ).loc Cert.DgradOutRefIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedIdeal_pre_gated_finite [hGatedIdeal : Cert.GatedIdeal.Facts] [hPre_gated_finite : Cert.Pre_gated_finite.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal_gated_finite m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_GatedRefIdeal_pre_gated_finite [hGatedRefIdeal : Cert.GatedRefIdeal.Facts] [hPre_gated_finite : Cert.Pre_gated_finite.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal_gated_finite m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_FfnDownLast [hFfnDownLast : Cert.FfnDownLast.Facts] : Prop :=
  ∀ (m : (ℓ : Loc Cert.FfnDownLast.nD Cert.FfnDownLast.τ Cert.FfnDownLast.sig) → Buf (Elt Bits) ℓ) (g : Dev Cert.FfnDownLast.nD → PrngReg), Pre_FfnDownLast m →
    θ_run (Cert.FfnDownLast.defs (F := Bits)) (onTc (τ := Cert.FfnDownLast.τ) (Cert.FfnDownLast.main (F := Bits))) ⟨m, fun _ => 0, g⟩ (fun r => (∀ c : Dev Cert.FfnDownLast.nD,
      r.2.mem ((c.tc : Thread Cert.FfnDownLast.nD Cert.FfnDownLast.τ).loc Cert.FfnDownLast.main_arg0) = m ((c.tc : Thread Cert.FfnDownLast.nD Cert.FfnDownLast.τ).loc Cert.FfnDownLast.main_arg0)
      ∧ r.2.mem ((c.tc : Thread Cert.FfnDownLast.nD Cert.FfnDownLast.τ).loc Cert.FfnDownLast.main_arg1) = m ((c.tc : Thread Cert.FfnDownLast.nD Cert.FfnDownLast.τ).loc Cert.FfnDownLast.main_arg1)
      ∧ r.2.mem ((c.tc : Thread Cert.FfnDownLast.nD Cert.FfnDownLast.τ).loc Cert.FfnDownLast.main_arg2) = m ((c.tc : Thread Cert.FfnDownLast.nD Cert.FfnDownLast.τ).loc Cert.FfnDownLast.main_arg2)
      ∧ r.2.mem ((c.tc : Thread Cert.FfnDownLast.nD Cert.FfnDownLast.τ).loc Cert.FfnDownLast.main_arg3) = m ((c.tc : Thread Cert.FfnDownLast.nD Cert.FfnDownLast.τ).loc Cert.FfnDownLast.main_arg3))
      ∧ r.2.sem = fun _ => 0)

def quiescent_FfnDownLastIdeal [hFfnDownLastIdeal : Cert.FfnDownLastIdeal.Facts] : Prop :=
  ∀ (m : (ℓ : Loc Cert.FfnDownLastIdeal.nD Cert.FfnDownLastIdeal.τ Cert.FfnDownLastIdeal.sig) → Buf (Elt Ideal) ℓ) (g : Dev Cert.FfnDownLastIdeal.nD → PrngReg), Pre_FfnDownLastIdeal m →
    θ_run (Cert.FfnDownLastIdeal.defs (F := Ideal)) (onTc (τ := Cert.FfnDownLastIdeal.τ) (Cert.FfnDownLastIdeal.main (F := Ideal))) ⟨m, fun _ => 0, g⟩ (fun r => (∀ c : Dev Cert.FfnDownLastIdeal.nD,
      r.2.mem ((c.tc : Thread Cert.FfnDownLastIdeal.nD Cert.FfnDownLastIdeal.τ).loc Cert.FfnDownLastIdeal.main_arg0) = m ((c.tc : Thread Cert.FfnDownLastIdeal.nD Cert.FfnDownLastIdeal.τ).loc Cert.FfnDownLastIdeal.main_arg0)
      ∧ r.2.mem ((c.tc : Thread Cert.FfnDownLastIdeal.nD Cert.FfnDownLastIdeal.τ).loc Cert.FfnDownLastIdeal.main_arg1) = m ((c.tc : Thread Cert.FfnDownLastIdeal.nD Cert.FfnDownLastIdeal.τ).loc Cert.FfnDownLastIdeal.main_arg1)
      ∧ r.2.mem ((c.tc : Thread Cert.FfnDownLastIdeal.nD Cert.FfnDownLastIdeal.τ).loc Cert.FfnDownLastIdeal.main_arg2) = m ((c.tc : Thread Cert.FfnDownLastIdeal.nD Cert.FfnDownLastIdeal.τ).loc Cert.FfnDownLastIdeal.main_arg2)
      ∧ r.2.mem ((c.tc : Thread Cert.FfnDownLastIdeal.nD Cert.FfnDownLastIdeal.τ).loc Cert.FfnDownLastIdeal.main_arg3) = m ((c.tc : Thread Cert.FfnDownLastIdeal.nD Cert.FfnDownLastIdeal.τ).loc Cert.FfnDownLastIdeal.main_arg3))
      ∧ r.2.sem = fun _ => 0)

def quiescent_FfnDownLastRefIdeal [hFfnDownLastRefIdeal : Cert.FfnDownLastRefIdeal.Facts] : Prop :=
  ∀ (m : (ℓ : Loc Cert.FfnDownLastRefIdeal.nD Cert.FfnDownLastRefIdeal.τ Cert.FfnDownLastRefIdeal.sig) → Buf (Elt Ideal) ℓ) (g : Dev Cert.FfnDownLastRefIdeal.nD → PrngReg), Pre_FfnDownLastRefIdeal m →
    θ_run (Cert.FfnDownLastRefIdeal.defs (F := Ideal)) (onTc (τ := Cert.FfnDownLastRefIdeal.τ) (Cert.FfnDownLastRefIdeal.main (F := Ideal))) ⟨m, fun _ => 0, g⟩ (fun r => (∀ c : Dev Cert.FfnDownLastRefIdeal.nD,
      r.2.mem ((c.tc : Thread Cert.FfnDownLastRefIdeal.nD Cert.FfnDownLastRefIdeal.τ).loc Cert.FfnDownLastRefIdeal.main_arg0) = m ((c.tc : Thread Cert.FfnDownLastRefIdeal.nD Cert.FfnDownLastRefIdeal.τ).loc Cert.FfnDownLastRefIdeal.main_arg0)
      ∧ r.2.mem ((c.tc : Thread Cert.FfnDownLastRefIdeal.nD Cert.FfnDownLastRefIdeal.τ).loc Cert.FfnDownLastRefIdeal.main_arg1) = m ((c.tc : Thread Cert.FfnDownLastRefIdeal.nD Cert.FfnDownLastRefIdeal.τ).loc Cert.FfnDownLastRefIdeal.main_arg1)
      ∧ r.2.mem ((c.tc : Thread Cert.FfnDownLastRefIdeal.nD Cert.FfnDownLastRefIdeal.τ).loc Cert.FfnDownLastRefIdeal.main_arg2) = m ((c.tc : Thread Cert.FfnDownLastRefIdeal.nD Cert.FfnDownLastRefIdeal.τ).loc Cert.FfnDownLastRefIdeal.main_arg2)
      ∧ r.2.mem ((c.tc : Thread Cert.FfnDownLastRefIdeal.nD Cert.FfnDownLastRefIdeal.τ).loc Cert.FfnDownLastRefIdeal.main_arg3) = m ((c.tc : Thread Cert.FfnDownLastRefIdeal.nD Cert.FfnDownLastRefIdeal.τ).loc Cert.FfnDownLastRefIdeal.main_arg3))
      ∧ r.2.sem = fun _ => 0)

def quiescent_DgradGu [hDgradGu : Cert.DgradGu.Facts] : Prop :=
  ∀ (m : (ℓ : Loc Cert.DgradGu.nD Cert.DgradGu.τ Cert.DgradGu.sig) → Buf (Elt Bits) ℓ) (g : Dev Cert.DgradGu.nD → PrngReg), Pre_DgradGu m →
    θ_run (Cert.DgradGu.defs (F := Bits)) (onTc (τ := Cert.DgradGu.τ) (Cert.DgradGu.main (F := Bits))) ⟨m, fun _ => 0, g⟩ (fun r => (∀ c : Dev Cert.DgradGu.nD,
      r.2.mem ((c.tc : Thread Cert.DgradGu.nD Cert.DgradGu.τ).loc Cert.DgradGu.main_arg0) = m ((c.tc : Thread Cert.DgradGu.nD Cert.DgradGu.τ).loc Cert.DgradGu.main_arg0)
      ∧ r.2.mem ((c.tc : Thread Cert.DgradGu.nD Cert.DgradGu.τ).loc Cert.DgradGu.main_arg1) = m ((c.tc : Thread Cert.DgradGu.nD Cert.DgradGu.τ).loc Cert.DgradGu.main_arg1)
      ∧ r.2.mem ((c.tc : Thread Cert.DgradGu.nD Cert.DgradGu.τ).loc Cert.DgradGu.main_arg2) = m ((c.tc : Thread Cert.DgradGu.nD Cert.DgradGu.τ).loc Cert.DgradGu.main_arg2)
      ∧ r.2.mem ((c.tc : Thread Cert.DgradGu.nD Cert.DgradGu.τ).loc Cert.DgradGu.main_arg3) = m ((c.tc : Thread Cert.DgradGu.nD Cert.DgradGu.τ).loc Cert.DgradGu.main_arg3)
      ∧ r.2.mem ((c.tc : Thread Cert.DgradGu.nD Cert.DgradGu.τ).loc Cert.DgradGu.main_arg4) = m ((c.tc : Thread Cert.DgradGu.nD Cert.DgradGu.τ).loc Cert.DgradGu.main_arg4)
      ∧ r.2.mem ((c.tc : Thread Cert.DgradGu.nD Cert.DgradGu.τ).loc Cert.DgradGu.main_arg5) = m ((c.tc : Thread Cert.DgradGu.nD Cert.DgradGu.τ).loc Cert.DgradGu.main_arg5)
      ∧ r.2.mem ((c.tc : Thread Cert.DgradGu.nD Cert.DgradGu.τ).loc Cert.DgradGu.main_arg6) = m ((c.tc : Thread Cert.DgradGu.nD Cert.DgradGu.τ).loc Cert.DgradGu.main_arg6)
      ∧ r.2.mem ((c.tc : Thread Cert.DgradGu.nD Cert.DgradGu.τ).loc Cert.DgradGu.main_arg7) = m ((c.tc : Thread Cert.DgradGu.nD Cert.DgradGu.τ).loc Cert.DgradGu.main_arg7))
      ∧ r.2.sem = fun _ => 0)

def quiescent_DgradGuIdeal [hDgradGuIdeal : Cert.DgradGuIdeal.Facts] : Prop :=
  ∀ (m : (ℓ : Loc Cert.DgradGuIdeal.nD Cert.DgradGuIdeal.τ Cert.DgradGuIdeal.sig) → Buf (Elt Ideal) ℓ) (g : Dev Cert.DgradGuIdeal.nD → PrngReg), Pre_DgradGuIdeal m →
    θ_run (Cert.DgradGuIdeal.defs (F := Ideal)) (onTc (τ := Cert.DgradGuIdeal.τ) (Cert.DgradGuIdeal.main (F := Ideal))) ⟨m, fun _ => 0, g⟩ (fun r => (∀ c : Dev Cert.DgradGuIdeal.nD,
      r.2.mem ((c.tc : Thread Cert.DgradGuIdeal.nD Cert.DgradGuIdeal.τ).loc Cert.DgradGuIdeal.main_arg0) = m ((c.tc : Thread Cert.DgradGuIdeal.nD Cert.DgradGuIdeal.τ).loc Cert.DgradGuIdeal.main_arg0)
      ∧ r.2.mem ((c.tc : Thread Cert.DgradGuIdeal.nD Cert.DgradGuIdeal.τ).loc Cert.DgradGuIdeal.main_arg1) = m ((c.tc : Thread Cert.DgradGuIdeal.nD Cert.DgradGuIdeal.τ).loc Cert.DgradGuIdeal.main_arg1)
      ∧ r.2.mem ((c.tc : Thread Cert.DgradGuIdeal.nD Cert.DgradGuIdeal.τ).loc Cert.DgradGuIdeal.main_arg2) = m ((c.tc : Thread Cert.DgradGuIdeal.nD Cert.DgradGuIdeal.τ).loc Cert.DgradGuIdeal.main_arg2)
      ∧ r.2.mem ((c.tc : Thread Cert.DgradGuIdeal.nD Cert.DgradGuIdeal.τ).loc Cert.DgradGuIdeal.main_arg3) = m ((c.tc : Thread Cert.DgradGuIdeal.nD Cert.DgradGuIdeal.τ).loc Cert.DgradGuIdeal.main_arg3)
      ∧ r.2.mem ((c.tc : Thread Cert.DgradGuIdeal.nD Cert.DgradGuIdeal.τ).loc Cert.DgradGuIdeal.main_arg4) = m ((c.tc : Thread Cert.DgradGuIdeal.nD Cert.DgradGuIdeal.τ).loc Cert.DgradGuIdeal.main_arg4)
      ∧ r.2.mem ((c.tc : Thread Cert.DgradGuIdeal.nD Cert.DgradGuIdeal.τ).loc Cert.DgradGuIdeal.main_arg5) = m ((c.tc : Thread Cert.DgradGuIdeal.nD Cert.DgradGuIdeal.τ).loc Cert.DgradGuIdeal.main_arg5)
      ∧ r.2.mem ((c.tc : Thread Cert.DgradGuIdeal.nD Cert.DgradGuIdeal.τ).loc Cert.DgradGuIdeal.main_arg6) = m ((c.tc : Thread Cert.DgradGuIdeal.nD Cert.DgradGuIdeal.τ).loc Cert.DgradGuIdeal.main_arg6)
      ∧ r.2.mem ((c.tc : Thread Cert.DgradGuIdeal.nD Cert.DgradGuIdeal.τ).loc Cert.DgradGuIdeal.main_arg7) = m ((c.tc : Thread Cert.DgradGuIdeal.nD Cert.DgradGuIdeal.τ).loc Cert.DgradGuIdeal.main_arg7))
      ∧ r.2.sem = fun _ => 0)

def quiescent_DgradGuRefIdeal [hDgradGuRefIdeal : Cert.DgradGuRefIdeal.Facts] : Prop :=
  ∀ (m : (ℓ : Loc Cert.DgradGuRefIdeal.nD Cert.DgradGuRefIdeal.τ Cert.DgradGuRefIdeal.sig) → Buf (Elt Ideal) ℓ) (g : Dev Cert.DgradGuRefIdeal.nD → PrngReg), Pre_DgradGuRefIdeal m →
    θ_run (Cert.DgradGuRefIdeal.defs (F := Ideal)) (onTc (τ := Cert.DgradGuRefIdeal.τ) (Cert.DgradGuRefIdeal.main (F := Ideal))) ⟨m, fun _ => 0, g⟩ (fun r => (∀ c : Dev Cert.DgradGuRefIdeal.nD,
      r.2.mem ((c.tc : Thread Cert.DgradGuRefIdeal.nD Cert.DgradGuRefIdeal.τ).loc Cert.DgradGuRefIdeal.main_arg0) = m ((c.tc : Thread Cert.DgradGuRefIdeal.nD Cert.DgradGuRefIdeal.τ).loc Cert.DgradGuRefIdeal.main_arg0)
      ∧ r.2.mem ((c.tc : Thread Cert.DgradGuRefIdeal.nD Cert.DgradGuRefIdeal.τ).loc Cert.DgradGuRefIdeal.main_arg1) = m ((c.tc : Thread Cert.DgradGuRefIdeal.nD Cert.DgradGuRefIdeal.τ).loc Cert.DgradGuRefIdeal.main_arg1)
      ∧ r.2.mem ((c.tc : Thread Cert.DgradGuRefIdeal.nD Cert.DgradGuRefIdeal.τ).loc Cert.DgradGuRefIdeal.main_arg2) = m ((c.tc : Thread Cert.DgradGuRefIdeal.nD Cert.DgradGuRefIdeal.τ).loc Cert.DgradGuRefIdeal.main_arg2)
      ∧ r.2.mem ((c.tc : Thread Cert.DgradGuRefIdeal.nD Cert.DgradGuRefIdeal.τ).loc Cert.DgradGuRefIdeal.main_arg3) = m ((c.tc : Thread Cert.DgradGuRefIdeal.nD Cert.DgradGuRefIdeal.τ).loc Cert.DgradGuRefIdeal.main_arg3)
      ∧ r.2.mem ((c.tc : Thread Cert.DgradGuRefIdeal.nD Cert.DgradGuRefIdeal.τ).loc Cert.DgradGuRefIdeal.main_arg4) = m ((c.tc : Thread Cert.DgradGuRefIdeal.nD Cert.DgradGuRefIdeal.τ).loc Cert.DgradGuRefIdeal.main_arg4)
      ∧ r.2.mem ((c.tc : Thread Cert.DgradGuRefIdeal.nD Cert.DgradGuRefIdeal.τ).loc Cert.DgradGuRefIdeal.main_arg5) = m ((c.tc : Thread Cert.DgradGuRefIdeal.nD Cert.DgradGuRefIdeal.τ).loc Cert.DgradGuRefIdeal.main_arg5)
      ∧ r.2.mem ((c.tc : Thread Cert.DgradGuRefIdeal.nD Cert.DgradGuRefIdeal.τ).loc Cert.DgradGuRefIdeal.main_arg6) = m ((c.tc : Thread Cert.DgradGuRefIdeal.nD Cert.DgradGuRefIdeal.τ).loc Cert.DgradGuRefIdeal.main_arg6)
      ∧ r.2.mem ((c.tc : Thread Cert.DgradGuRefIdeal.nD Cert.DgradGuRefIdeal.τ).loc Cert.DgradGuRefIdeal.main_arg7) = m ((c.tc : Thread Cert.DgradGuRefIdeal.nD Cert.DgradGuRefIdeal.τ).loc Cert.DgradGuRefIdeal.main_arg7))
      ∧ r.2.sem = fun _ => 0)

def quiescent_DgradIn [hDgradIn : Cert.DgradIn.Facts] : Prop :=
  ∀ (m : (ℓ : Loc Cert.DgradIn.nD Cert.DgradIn.τ Cert.DgradIn.sig) → Buf (Elt Bits) ℓ) (g : Dev Cert.DgradIn.nD → PrngReg), Pre_DgradIn m →
    θ_run (Cert.DgradIn.defs (F := Bits)) (onTc (τ := Cert.DgradIn.τ) (Cert.DgradIn.main (F := Bits))) ⟨m, fun _ => 0, g⟩ (fun r => (∀ c : Dev Cert.DgradIn.nD,
      r.2.mem ((c.tc : Thread Cert.DgradIn.nD Cert.DgradIn.τ).loc Cert.DgradIn.main_arg0) = m ((c.tc : Thread Cert.DgradIn.nD Cert.DgradIn.τ).loc Cert.DgradIn.main_arg0)
      ∧ r.2.mem ((c.tc : Thread Cert.DgradIn.nD Cert.DgradIn.τ).loc Cert.DgradIn.main_arg1) = m ((c.tc : Thread Cert.DgradIn.nD Cert.DgradIn.τ).loc Cert.DgradIn.main_arg1)
      ∧ r.2.mem ((c.tc : Thread Cert.DgradIn.nD Cert.DgradIn.τ).loc Cert.DgradIn.main_arg2) = m ((c.tc : Thread Cert.DgradIn.nD Cert.DgradIn.τ).loc Cert.DgradIn.main_arg2)
      ∧ r.2.mem ((c.tc : Thread Cert.DgradIn.nD Cert.DgradIn.τ).loc Cert.DgradIn.main_arg3) = m ((c.tc : Thread Cert.DgradIn.nD Cert.DgradIn.τ).loc Cert.DgradIn.main_arg3)
      ∧ r.2.mem ((c.tc : Thread Cert.DgradIn.nD Cert.DgradIn.τ).loc Cert.DgradIn.main_arg4) = m ((c.tc : Thread Cert.DgradIn.nD Cert.DgradIn.τ).loc Cert.DgradIn.main_arg4)
      ∧ r.2.mem ((c.tc : Thread Cert.DgradIn.nD Cert.DgradIn.τ).loc Cert.DgradIn.main_arg5) = m ((c.tc : Thread Cert.DgradIn.nD Cert.DgradIn.τ).loc Cert.DgradIn.main_arg5)
      ∧ r.2.mem ((c.tc : Thread Cert.DgradIn.nD Cert.DgradIn.τ).loc Cert.DgradIn.main_arg6) = m ((c.tc : Thread Cert.DgradIn.nD Cert.DgradIn.τ).loc Cert.DgradIn.main_arg6)
      ∧ r.2.mem ((c.tc : Thread Cert.DgradIn.nD Cert.DgradIn.τ).loc Cert.DgradIn.main_arg7) = m ((c.tc : Thread Cert.DgradIn.nD Cert.DgradIn.τ).loc Cert.DgradIn.main_arg7)
      ∧ r.2.mem ((c.tc : Thread Cert.DgradIn.nD Cert.DgradIn.τ).loc Cert.DgradIn.main_arg8) = m ((c.tc : Thread Cert.DgradIn.nD Cert.DgradIn.τ).loc Cert.DgradIn.main_arg8)
      ∧ r.2.mem ((c.tc : Thread Cert.DgradIn.nD Cert.DgradIn.τ).loc Cert.DgradIn.main_arg9) = m ((c.tc : Thread Cert.DgradIn.nD Cert.DgradIn.τ).loc Cert.DgradIn.main_arg9))
      ∧ r.2.sem = fun _ => 0)

def quiescent_DgradInIdeal [hDgradInIdeal : Cert.DgradInIdeal.Facts] : Prop :=
  ∀ (m : (ℓ : Loc Cert.DgradInIdeal.nD Cert.DgradInIdeal.τ Cert.DgradInIdeal.sig) → Buf (Elt Ideal) ℓ) (g : Dev Cert.DgradInIdeal.nD → PrngReg), Pre_DgradInIdeal m →
    θ_run (Cert.DgradInIdeal.defs (F := Ideal)) (onTc (τ := Cert.DgradInIdeal.τ) (Cert.DgradInIdeal.main (F := Ideal))) ⟨m, fun _ => 0, g⟩ (fun r => (∀ c : Dev Cert.DgradInIdeal.nD,
      r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
      ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
      ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
      ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
      ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4)
      ∧ r.2.mem ((c.tc : Thread Cert.DgradInIdeal.nD Cert.DgradInIdeal.τ).loc Cert.DgradInIdeal.main_arg5) = m ((c.tc : Thread Cert.DgradInIdeal.nD Cert.DgradInIdeal.τ).loc Cert.DgradInIdeal.main_arg5)
      ∧ r.2.mem ((c.tc : Thread Cert.DgradInIdeal.nD Cert.DgradInIdeal.τ).loc Cert.DgradInIdeal.main_arg6) = m ((c.tc : Thread Cert.DgradInIdeal.nD Cert.DgradInIdeal.τ).loc Cert.DgradInIdeal.main_arg6)
      ∧ r.2.mem ((c.tc : Thread Cert.DgradInIdeal.nD Cert.DgradInIdeal.τ).loc Cert.DgradInIdeal.main_arg7) = m ((c.tc : Thread Cert.DgradInIdeal.nD Cert.DgradInIdeal.τ).loc Cert.DgradInIdeal.main_arg7)
      ∧ r.2.mem ((c.tc : Thread Cert.DgradInIdeal.nD Cert.DgradInIdeal.τ).loc Cert.DgradInIdeal.main_arg8) = m ((c.tc : Thread Cert.DgradInIdeal.nD Cert.DgradInIdeal.τ).loc Cert.DgradInIdeal.main_arg8)
      ∧ r.2.mem ((c.tc : Thread Cert.DgradInIdeal.nD Cert.DgradInIdeal.τ).loc Cert.DgradInIdeal.main_arg9) = m ((c.tc : Thread Cert.DgradInIdeal.nD Cert.DgradInIdeal.τ).loc Cert.DgradInIdeal.main_arg9))
      ∧ r.2.sem = fun _ => 0)

def quiescent_DgradInRefIdeal [hDgradInRefIdeal : Cert.DgradInRefIdeal.Facts] : Prop :=
  ∀ (m : (ℓ : Loc Cert.DgradInRefIdeal.nD Cert.DgradInRefIdeal.τ Cert.DgradInRefIdeal.sig) → Buf (Elt Ideal) ℓ) (g : Dev Cert.DgradInRefIdeal.nD → PrngReg), Pre_DgradInRefIdeal m →
    θ_run (Cert.DgradInRefIdeal.defs (F := Ideal)) (onTc (τ := Cert.DgradInRefIdeal.τ) (Cert.DgradInRefIdeal.main (F := Ideal))) ⟨m, fun _ => 0, g⟩ (fun r => (∀ c : Dev Cert.DgradInRefIdeal.nD,
      r.2.mem ((c.tc : Thread Cert.DgradInRefIdeal.nD Cert.DgradInRefIdeal.τ).loc Cert.DgradInRefIdeal.main_arg0) = m ((c.tc : Thread Cert.DgradInRefIdeal.nD Cert.DgradInRefIdeal.τ).loc Cert.DgradInRefIdeal.main_arg0)
      ∧ r.2.mem ((c.tc : Thread Cert.DgradInRefIdeal.nD Cert.DgradInRefIdeal.τ).loc Cert.DgradInRefIdeal.main_arg1) = m ((c.tc : Thread Cert.DgradInRefIdeal.nD Cert.DgradInRefIdeal.τ).loc Cert.DgradInRefIdeal.main_arg1)
      ∧ r.2.mem ((c.tc : Thread Cert.DgradInRefIdeal.nD Cert.DgradInRefIdeal.τ).loc Cert.DgradInRefIdeal.main_arg2) = m ((c.tc : Thread Cert.DgradInRefIdeal.nD Cert.DgradInRefIdeal.τ).loc Cert.DgradInRefIdeal.main_arg2)
      ∧ r.2.mem ((c.tc : Thread Cert.DgradInRefIdeal.nD Cert.DgradInRefIdeal.τ).loc Cert.DgradInRefIdeal.main_arg3) = m ((c.tc : Thread Cert.DgradInRefIdeal.nD Cert.DgradInRefIdeal.τ).loc Cert.DgradInRefIdeal.main_arg3)
      ∧ r.2.mem ((c.tc : Thread Cert.DgradInRefIdeal.nD Cert.DgradInRefIdeal.τ).loc Cert.DgradInRefIdeal.main_arg4) = m ((c.tc : Thread Cert.DgradInRefIdeal.nD Cert.DgradInRefIdeal.τ).loc Cert.DgradInRefIdeal.main_arg4)
      ∧ r.2.mem ((c.tc : Thread Cert.DgradInRefIdeal.nD Cert.DgradInRefIdeal.τ).loc Cert.DgradInRefIdeal.main_arg5) = m ((c.tc : Thread Cert.DgradInRefIdeal.nD Cert.DgradInRefIdeal.τ).loc Cert.DgradInRefIdeal.main_arg5)
      ∧ r.2.mem ((c.tc : Thread Cert.DgradInRefIdeal.nD Cert.DgradInRefIdeal.τ).loc Cert.DgradInRefIdeal.main_arg6) = m ((c.tc : Thread Cert.DgradInRefIdeal.nD Cert.DgradInRefIdeal.τ).loc Cert.DgradInRefIdeal.main_arg6)
      ∧ r.2.mem ((c.tc : Thread Cert.DgradInRefIdeal.nD Cert.DgradInRefIdeal.τ).loc Cert.DgradInRefIdeal.main_arg7) = m ((c.tc : Thread Cert.DgradInRefIdeal.nD Cert.DgradInRefIdeal.τ).loc Cert.DgradInRefIdeal.main_arg7)
      ∧ r.2.mem ((c.tc : Thread Cert.DgradInRefIdeal.nD Cert.DgradInRefIdeal.τ).loc Cert.DgradInRefIdeal.main_arg8) = m ((c.tc : Thread Cert.DgradInRefIdeal.nD Cert.DgradInRefIdeal.τ).loc Cert.DgradInRefIdeal.main_arg8)
      ∧ r.2.mem ((c.tc : Thread Cert.DgradInRefIdeal.nD Cert.DgradInRefIdeal.τ).loc Cert.DgradInRefIdeal.main_arg9) = m ((c.tc : Thread Cert.DgradInRefIdeal.nD Cert.DgradInRefIdeal.τ).loc Cert.DgradInRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v283) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_v183) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0_0)) (v1 : (c : Dev Cert.WgradDownIdeal.nD) → Buf (Elt Ideal) ((c.tc : Thread Cert.WgradDownIdeal.nD Cert.WgradDownIdeal.τ).loc Cert.WgradDownIdeal.main_v0_1)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0_0) = v0 c
          ∧ r.2.mem ((c.tc : Thread Cert.WgradDownIdeal.nD Cert.WgradDownIdeal.τ).loc Cert.WgradDownIdeal.main_v0_1) = v1 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v9) = v0 c
          ∧ r.2.mem ((c.tc : Thread Cert.WgradDownRefIdeal.nD Cert.WgradDownRefIdeal.τ).loc Cert.WgradDownRefIdeal.main_v11) = v1 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradGu_WgradGuIdeal : Prop :=
  True

def algebraic_WgradGuIdeal_WgradGuRefIdeal [hWgradGuIdeal : Cert.WgradGuIdeal.Facts] [hWgradGuRefIdeal : Cert.WgradGuRefIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg)
    (m' : (ℓ : Loc Cert.WgradGuRefIdeal.nD Cert.WgradGuRefIdeal.τ Cert.WgradGuRefIdeal.sig) → Buf (Elt Ideal) ℓ) (g' : Dev Cert.WgradGuRefIdeal.nD → PrngReg), Pre_WgradGuIdeal m →
    (∀ c : Dev Cert.WgradGuIdeal.nD,
      m' ((c.tc : Thread Cert.WgradGuRefIdeal.nD Cert.WgradGuRefIdeal.τ).loc Cert.WgradGuRefIdeal.main_arg0) = m ((c.tc : Thread Cert.WgradGuIdeal.nD Cert.WgradGuIdeal.τ).loc Cert.WgradGuIdeal.main_arg0)
      ∧ m' ((c.tc : Thread Cert.WgradGuRefIdeal.nD Cert.WgradGuRefIdeal.τ).loc Cert.WgradGuRefIdeal.main_arg1) = m ((c.tc : Thread Cert.WgradGuIdeal.nD Cert.WgradGuIdeal.τ).loc Cert.WgradGuIdeal.main_arg1)
      ∧ m' ((c.tc : Thread Cert.WgradGuRefIdeal.nD Cert.WgradGuRefIdeal.τ).loc Cert.WgradGuRefIdeal.main_arg2) = m ((c.tc : Thread Cert.WgradGuIdeal.nD Cert.WgradGuIdeal.τ).loc Cert.WgradGuIdeal.main_arg2)) →
    ∃ (v0 : (c : Dev Cert.WgradGuIdeal.nD) → Buf (Elt Ideal) ((c.tc : Thread Cert.WgradGuIdeal.nD Cert.WgradGuIdeal.τ).loc Cert.WgradGuIdeal.main_v0_0)) (v1 : (c : Dev Cert.WgradGuIdeal.nD) → Buf (Elt Ideal) ((c.tc : Thread Cert.WgradGuIdeal.nD Cert.WgradGuIdeal.τ).loc Cert.WgradGuIdeal.main_v0_1)),
      θ_run (Cert.WgradGuIdeal.defs (F := Ideal)) (onTc (τ := Cert.WgradGuIdeal.τ) (Cert.WgradGuIdeal.main (F := Ideal))) ⟨m, fun _ => 0, g⟩ (fun r => ∀ c : Dev Cert.WgradGuIdeal.nD,
          r.2.mem ((c.tc : Thread Cert.WgradGuIdeal.nD Cert.WgradGuIdeal.τ).loc Cert.WgradGuIdeal.main_v0_0) = v0 c
          ∧ r.2.mem ((c.tc : Thread Cert.WgradGuIdeal.nD Cert.WgradGuIdeal.τ).loc Cert.WgradGuIdeal.main_v0_1) = v1 c
          ∧ r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
          ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1)
          ∧ r.2.mem ((c.tc : Thread Cert.WgradGuIdeal.nD Cert.WgradGuIdeal.τ).loc Cert.WgradGuIdeal.main_arg2) = m ((c.tc : Thread Cert.WgradGuIdeal.nD Cert.WgradGuIdeal.τ).loc Cert.WgradGuIdeal.main_arg2))
      ∧ θ_run (Cert.WgradGuRefIdeal.defs (F := Ideal)) (onTc (τ := Cert.WgradGuRefIdeal.τ) (Cert.WgradGuRefIdeal.main (F := Ideal))) ⟨m', fun _ => 0, g'⟩ (fun r => ∀ c : Dev Cert.WgradGuRefIdeal.nD,
          r.2.mem ((c.tc : Thread Cert.WgradGuRefIdeal.nD Cert.WgradGuRefIdeal.τ).loc Cert.WgradGuRefIdeal.main_v11) = v0 c
          ∧ r.2.mem ((c.tc : Thread Cert.WgradGuRefIdeal.nD Cert.WgradGuRefIdeal.τ).loc Cert.WgradGuRefIdeal.main_v13) = v1 c
          ∧ r.2.mem ((c.tc : Thread Cert.WgradGuRefIdeal.nD Cert.WgradGuRefIdeal.τ).loc Cert.WgradGuRefIdeal.main_arg0) = m' ((c.tc : Thread Cert.WgradGuRefIdeal.nD Cert.WgradGuRefIdeal.τ).loc Cert.WgradGuRefIdeal.main_arg0)
          ∧ r.2.mem ((c.tc : Thread Cert.WgradGuRefIdeal.nD Cert.WgradGuRefIdeal.τ).loc Cert.WgradGuRefIdeal.main_arg1) = m' ((c.tc : Thread Cert.WgradGuRefIdeal.nD Cert.WgradGuRefIdeal.τ).loc Cert.WgradGuRefIdeal.main_arg1)
          ∧ r.2.mem ((c.tc : Thread Cert.WgradGuRefIdeal.nD Cert.WgradGuRefIdeal.τ).loc Cert.WgradGuRefIdeal.main_arg2) = m' ((c.tc : Thread Cert.WgradGuRefIdeal.nD Cert.WgradGuRefIdeal.τ).loc Cert.WgradGuRefIdeal.main_arg2))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0_0)) (v1 : (c : Dev Cert.WgradOutIdeal.nD) → Buf (Elt Ideal) ((c.tc : Thread Cert.WgradOutIdeal.nD Cert.WgradOutIdeal.τ).loc Cert.WgradOutIdeal.main_v0_1)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0_0) = v0 c
          ∧ r.2.mem ((c.tc : Thread Cert.WgradOutIdeal.nD Cert.WgradOutIdeal.τ).loc Cert.WgradOutIdeal.main_v0_1) = v1 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v9) = v0 c
          ∧ r.2.mem ((c.tc : Thread Cert.WgradOutRefIdeal.nD Cert.WgradOutRefIdeal.τ).loc Cert.WgradOutRefIdeal.main_v11) = v1 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)
      ∧ m' ((c.tc : Thread Cert.WgradInRefIdeal.nD Cert.WgradInRefIdeal.τ).loc Cert.WgradInRefIdeal.main_arg3) = m ((c.tc : Thread Cert.WgradInIdeal.nD Cert.WgradInIdeal.τ).loc Cert.WgradInIdeal.main_arg3)
      ∧ m' ((c.tc : Thread Cert.WgradInRefIdeal.nD Cert.WgradInRefIdeal.τ).loc Cert.WgradInRefIdeal.main_arg4) = m ((c.tc : Thread Cert.WgradInIdeal.nD Cert.WgradInIdeal.τ).loc Cert.WgradInIdeal.main_arg4)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
          ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3)
          ∧ r.2.mem ((c.tc : Thread Cert.WgradInIdeal.nD Cert.WgradInIdeal.τ).loc Cert.WgradInIdeal.main_arg4) = m ((c.tc : Thread Cert.WgradInIdeal.nD Cert.WgradInIdeal.τ).loc Cert.WgradInIdeal.main_arg4))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v8) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2)
          ∧ r.2.mem ((c.tc : Thread Cert.WgradInRefIdeal.nD Cert.WgradInRefIdeal.τ).loc Cert.WgradInRefIdeal.main_arg3) = m' ((c.tc : Thread Cert.WgradInRefIdeal.nD Cert.WgradInRefIdeal.τ).loc Cert.WgradInRefIdeal.main_arg3)
          ∧ r.2.mem ((c.tc : Thread Cert.WgradInRefIdeal.nD Cert.WgradInRefIdeal.τ).loc Cert.WgradInRefIdeal.main_arg4) = m' ((c.tc : Thread Cert.WgradInRefIdeal.nD Cert.WgradInRefIdeal.τ).loc Cert.WgradInRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DgradOut_DgradOutIdeal : Prop :=
  True

def algebraic_DgradOutIdeal_DgradOutRefIdeal [hDgradOutIdeal : Cert.DgradOutIdeal.Facts] [hDgradOutRefIdeal : Cert.DgradOutRefIdeal.Facts] : Prop :=
  ∀ (m : (ℓ : Loc Cert.DgradOutIdeal.nD Cert.DgradOutIdeal.τ Cert.DgradOutIdeal.sig) → Buf (Elt Ideal) ℓ) (g : Dev Cert.DgradOutIdeal.nD → PrngReg)
    (m' : (ℓ : Loc Cert.DgradOutRefIdeal.nD Cert.DgradOutRefIdeal.τ Cert.DgradOutRefIdeal.sig) → Buf (Elt Ideal) ℓ) (g' : Dev Cert.DgradOutRefIdeal.nD → PrngReg), Pre_DgradOutIdeal m →
    (∀ c : Dev Cert.DgradOutIdeal.nD,
      m' ((c.tc : Thread Cert.DgradOutRefIdeal.nD Cert.DgradOutRefIdeal.τ).loc Cert.DgradOutRefIdeal.main_arg0) = m ((c.tc : Thread Cert.DgradOutIdeal.nD Cert.DgradOutIdeal.τ).loc Cert.DgradOutIdeal.main_arg0)
      ∧ m' ((c.tc : Thread Cert.DgradOutRefIdeal.nD Cert.DgradOutRefIdeal.τ).loc Cert.DgradOutRefIdeal.main_arg1) = m ((c.tc : Thread Cert.DgradOutIdeal.nD Cert.DgradOutIdeal.τ).loc Cert.DgradOutIdeal.main_arg1)) →
    ∃ (v0 : (c : Dev Cert.DgradOutIdeal.nD) → Buf (Elt Ideal) ((c.tc : Thread Cert.DgradOutIdeal.nD Cert.DgradOutIdeal.τ).loc Cert.DgradOutIdeal.main_v1)),
      θ_run (Cert.DgradOutIdeal.defs (F := Ideal)) (onTc (τ := Cert.DgradOutIdeal.τ) (Cert.DgradOutIdeal.main (F := Ideal))) ⟨m, fun _ => 0, g⟩ (fun r => ∀ c : Dev Cert.DgradOutIdeal.nD,
          r.2.mem ((c.tc : Thread Cert.DgradOutIdeal.nD Cert.DgradOutIdeal.τ).loc Cert.DgradOutIdeal.main_v1) = v0 c
          ∧ r.2.mem ((c.tc : Thread Cert.DgradOutIdeal.nD Cert.DgradOutIdeal.τ).loc Cert.DgradOutIdeal.main_arg0) = m ((c.tc : Thread Cert.DgradOutIdeal.nD Cert.DgradOutIdeal.τ).loc Cert.DgradOutIdeal.main_arg0)
          ∧ r.2.mem ((c.tc : Thread Cert.DgradOutIdeal.nD Cert.DgradOutIdeal.τ).loc Cert.DgradOutIdeal.main_arg1) = m ((c.tc : Thread Cert.DgradOutIdeal.nD Cert.DgradOutIdeal.τ).loc Cert.DgradOutIdeal.main_arg1))
      ∧ θ_run (Cert.DgradOutRefIdeal.defs (F := Ideal)) (onTc (τ := Cert.DgradOutRefIdeal.τ) (Cert.DgradOutRefIdeal.main (F := Ideal))) ⟨m', fun _ => 0, g'⟩ (fun r => ∀ c : Dev Cert.DgradOutRefIdeal.nD,
          r.2.mem ((c.tc : Thread Cert.DgradOutRefIdeal.nD Cert.DgradOutRefIdeal.τ).loc Cert.DgradOutRefIdeal.main_v4) = v0 c
          ∧ r.2.mem ((c.tc : Thread Cert.DgradOutRefIdeal.nD Cert.DgradOutRefIdeal.τ).loc Cert.DgradOutRefIdeal.main_arg0) = m' ((c.tc : Thread Cert.DgradOutRefIdeal.nD Cert.DgradOutRefIdeal.τ).loc Cert.DgradOutRefIdeal.main_arg0)
          ∧ r.2.mem ((c.tc : Thread Cert.DgradOutRefIdeal.nD Cert.DgradOutRefIdeal.τ).loc Cert.DgradOutRefIdeal.main_arg1) = m' ((c.tc : Thread Cert.DgradOutRefIdeal.nD Cert.DgradOutRefIdeal.τ).loc Cert.DgradOutRefIdeal.main_arg1))

def preserves_Gated_GatedIdeal : Prop :=
  True

def algebraic_GatedIdeal_GatedRefIdeal_pre_gated_finite [hGatedIdeal : Cert.GatedIdeal.Facts] [hGatedRefIdeal : Cert.GatedRefIdeal.Facts] [hPre_gated_finite : Cert.Pre_gated_finite.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal_gated_finite m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v2_2)) (v1 : (c : Dev Cert.GatedIdeal.nD) → Buf (Elt Ideal) ((c.tc : Thread Cert.GatedIdeal.nD Cert.GatedIdeal.τ).loc Cert.GatedIdeal.main_v4_0)) (v2 : (c : Dev Cert.GatedIdeal.nD) → Buf (Elt Ideal) ((c.tc : Thread Cert.GatedIdeal.nD Cert.GatedIdeal.τ).loc Cert.GatedIdeal.main_v4_1)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v2_2) = v0 c
          ∧ r.2.mem ((c.tc : Thread Cert.GatedIdeal.nD Cert.GatedIdeal.τ).loc Cert.GatedIdeal.main_v4_0) = v1 c
          ∧ r.2.mem ((c.tc : Thread Cert.GatedIdeal.nD Cert.GatedIdeal.τ).loc Cert.GatedIdeal.main_v4_1) = v2 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v19) = v0 c
          ∧ r.2.mem ((c.tc : Thread Cert.GatedRefIdeal.nD Cert.GatedRefIdeal.τ).loc Cert.GatedRefIdeal.main_v21) = v1 c
          ∧ r.2.mem ((c.tc : Thread Cert.GatedRefIdeal.nD Cert.GatedRefIdeal.τ).loc Cert.GatedRefIdeal.main_v23) = v2 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)) (v2 : (c : Dev Cert.MixOutIdeal.nD) → Buf (Elt Ideal) ((c.tc : Thread Cert.MixOutIdeal.nD Cert.MixOutIdeal.τ).loc Cert.MixOutIdeal.main_v1_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_v1_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v15) = v0 c
          ∧ r.2.mem ((c.tc : Thread Cert.MixOutRefIdeal.nD Cert.MixOutRefIdeal.τ).loc Cert.MixOutRefIdeal.main_v14) = v1 c
          ∧ r.2.mem ((c.tc : Thread Cert.MixOutRefIdeal.nD Cert.MixOutRefIdeal.τ).loc Cert.MixOutRefIdeal.main_v28) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)) (v2 : (c : Dev Cert.FfnDownIdeal.nD) → Buf (Elt Ideal) ((c.tc : Thread Cert.FfnDownIdeal.nD Cert.FfnDownIdeal.τ).loc Cert.FfnDownIdeal.main_v1_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_v1_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v15) = v0 c
          ∧ r.2.mem ((c.tc : Thread Cert.FfnDownRefIdeal.nD Cert.FfnDownRefIdeal.τ).loc Cert.FfnDownRefIdeal.main_v14) = v1 c
          ∧ r.2.mem ((c.tc : Thread Cert.FfnDownRefIdeal.nD Cert.FfnDownRefIdeal.τ).loc Cert.FfnDownRefIdeal.main_v28) = v2 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_FfnDownLast_FfnDownLastIdeal : Prop :=
  True

def algebraic_FfnDownLastIdeal_FfnDownLastRefIdeal [hFfnDownLastIdeal : Cert.FfnDownLastIdeal.Facts] [hFfnDownLastRefIdeal : Cert.FfnDownLastRefIdeal.Facts] : Prop :=
  ∀ (m : (ℓ : Loc Cert.FfnDownLastIdeal.nD Cert.FfnDownLastIdeal.τ Cert.FfnDownLastIdeal.sig) → Buf (Elt Ideal) ℓ) (g : Dev Cert.FfnDownLastIdeal.nD → PrngReg)
    (m' : (ℓ : Loc Cert.FfnDownLastRefIdeal.nD Cert.FfnDownLastRefIdeal.τ Cert.FfnDownLastRefIdeal.sig) → Buf (Elt Ideal) ℓ) (g' : Dev Cert.FfnDownLastRefIdeal.nD → PrngReg), Pre_FfnDownLastIdeal m →
    (∀ c : Dev Cert.FfnDownLastIdeal.nD,
      m' ((c.tc : Thread Cert.FfnDownLastRefIdeal.nD Cert.FfnDownLastRefIdeal.τ).loc Cert.FfnDownLastRefIdeal.main_arg0) = m ((c.tc : Thread Cert.FfnDownLastIdeal.nD Cert.FfnDownLastIdeal.τ).loc Cert.FfnDownLastIdeal.main_arg0)
      ∧ m' ((c.tc : Thread Cert.FfnDownLastRefIdeal.nD Cert.FfnDownLastRefIdeal.τ).loc Cert.FfnDownLastRefIdeal.main_arg1) = m ((c.tc : Thread Cert.FfnDownLastIdeal.nD Cert.FfnDownLastIdeal.τ).loc Cert.FfnDownLastIdeal.main_arg1)
      ∧ m' ((c.tc : Thread Cert.FfnDownLastRefIdeal.nD Cert.FfnDownLastRefIdeal.τ).loc Cert.FfnDownLastRefIdeal.main_arg2) = m ((c.tc : Thread Cert.FfnDownLastIdeal.nD Cert.FfnDownLastIdeal.τ).loc Cert.FfnDownLastIdeal.main_arg2)
      ∧ m' ((c.tc : Thread Cert.FfnDownLastRefIdeal.nD Cert.FfnDownLastRefIdeal.τ).loc Cert.FfnDownLastRefIdeal.main_arg3) = m ((c.tc : Thread Cert.FfnDownLastIdeal.nD Cert.FfnDownLastIdeal.τ).loc Cert.FfnDownLastIdeal.main_arg3)) →
    ∃ (v0 : (c : Dev Cert.FfnDownLastIdeal.nD) → Buf (Elt Ideal) ((c.tc : Thread Cert.FfnDownLastIdeal.nD Cert.FfnDownLastIdeal.τ).loc Cert.FfnDownLastIdeal.main_v1_0)) (v1 : (c : Dev Cert.FfnDownLastIdeal.nD) → Buf (Elt Ideal) ((c.tc : Thread Cert.FfnDownLastIdeal.nD Cert.FfnDownLastIdeal.τ).loc Cert.FfnDownLastIdeal.main_v1_1)),
      θ_run (Cert.FfnDownLastIdeal.defs (F := Ideal)) (onTc (τ := Cert.FfnDownLastIdeal.τ) (Cert.FfnDownLastIdeal.main (F := Ideal))) ⟨m, fun _ => 0, g⟩ (fun r => ∀ c : Dev Cert.FfnDownLastIdeal.nD,
          r.2.mem ((c.tc : Thread Cert.FfnDownLastIdeal.nD Cert.FfnDownLastIdeal.τ).loc Cert.FfnDownLastIdeal.main_v1_0) = v0 c
          ∧ r.2.mem ((c.tc : Thread Cert.FfnDownLastIdeal.nD Cert.FfnDownLastIdeal.τ).loc Cert.FfnDownLastIdeal.main_v1_1) = v1 c
          ∧ r.2.mem ((c.tc : Thread Cert.FfnDownLastIdeal.nD Cert.FfnDownLastIdeal.τ).loc Cert.FfnDownLastIdeal.main_arg0) = m ((c.tc : Thread Cert.FfnDownLastIdeal.nD Cert.FfnDownLastIdeal.τ).loc Cert.FfnDownLastIdeal.main_arg0)
          ∧ r.2.mem ((c.tc : Thread Cert.FfnDownLastIdeal.nD Cert.FfnDownLastIdeal.τ).loc Cert.FfnDownLastIdeal.main_arg1) = m ((c.tc : Thread Cert.FfnDownLastIdeal.nD Cert.FfnDownLastIdeal.τ).loc Cert.FfnDownLastIdeal.main_arg1)
          ∧ r.2.mem ((c.tc : Thread Cert.FfnDownLastIdeal.nD Cert.FfnDownLastIdeal.τ).loc Cert.FfnDownLastIdeal.main_arg2) = m ((c.tc : Thread Cert.FfnDownLastIdeal.nD Cert.FfnDownLastIdeal.τ).loc Cert.FfnDownLastIdeal.main_arg2)
          ∧ r.2.mem ((c.tc : Thread Cert.FfnDownLastIdeal.nD Cert.FfnDownLastIdeal.τ).loc Cert.FfnDownLastIdeal.main_arg3) = m ((c.tc : Thread Cert.FfnDownLastIdeal.nD Cert.FfnDownLastIdeal.τ).loc Cert.FfnDownLastIdeal.main_arg3))
      ∧ θ_run (Cert.FfnDownLastRefIdeal.defs (F := Ideal)) (onTc (τ := Cert.FfnDownLastRefIdeal.τ) (Cert.FfnDownLastRefIdeal.main (F := Ideal))) ⟨m', fun _ => 0, g'⟩ (fun r => ∀ c : Dev Cert.FfnDownLastRefIdeal.nD,
          r.2.mem ((c.tc : Thread Cert.FfnDownLastRefIdeal.nD Cert.FfnDownLastRefIdeal.τ).loc Cert.FfnDownLastRefIdeal.main_v2) = v0 c
          ∧ r.2.mem ((c.tc : Thread Cert.FfnDownLastRefIdeal.nD Cert.FfnDownLastRefIdeal.τ).loc Cert.FfnDownLastRefIdeal.main_v15) = v1 c
          ∧ r.2.mem ((c.tc : Thread Cert.FfnDownLastRefIdeal.nD Cert.FfnDownLastRefIdeal.τ).loc Cert.FfnDownLastRefIdeal.main_arg0) = m' ((c.tc : Thread Cert.FfnDownLastRefIdeal.nD Cert.FfnDownLastRefIdeal.τ).loc Cert.FfnDownLastRefIdeal.main_arg0)
          ∧ r.2.mem ((c.tc : Thread Cert.FfnDownLastRefIdeal.nD Cert.FfnDownLastRefIdeal.τ).loc Cert.FfnDownLastRefIdeal.main_arg1) = m' ((c.tc : Thread Cert.FfnDownLastRefIdeal.nD Cert.FfnDownLastRefIdeal.τ).loc Cert.FfnDownLastRefIdeal.main_arg1)
          ∧ r.2.mem ((c.tc : Thread Cert.FfnDownLastRefIdeal.nD Cert.FfnDownLastRefIdeal.τ).loc Cert.FfnDownLastRefIdeal.main_arg2) = m' ((c.tc : Thread Cert.FfnDownLastRefIdeal.nD Cert.FfnDownLastRefIdeal.τ).loc Cert.FfnDownLastRefIdeal.main_arg2)
          ∧ r.2.mem ((c.tc : Thread Cert.FfnDownLastRefIdeal.nD Cert.FfnDownLastRefIdeal.τ).loc Cert.FfnDownLastRefIdeal.main_arg3) = m' ((c.tc : Thread Cert.FfnDownLastRefIdeal.nD Cert.FfnDownLastRefIdeal.τ).loc Cert.FfnDownLastRefIdeal.main_arg3))

def preserves_DgradGu_DgradGuIdeal : Prop :=
  True

def algebraic_DgradGuIdeal_DgradGuRefIdeal [hDgradGuIdeal : Cert.DgradGuIdeal.Facts] [hDgradGuRefIdeal : Cert.DgradGuRefIdeal.Facts] : Prop :=
  ∀ (m : (ℓ : Loc Cert.DgradGuIdeal.nD Cert.DgradGuIdeal.τ Cert.DgradGuIdeal.sig) → Buf (Elt Ideal) ℓ) (g : Dev Cert.DgradGuIdeal.nD → PrngReg)
    (m' : (ℓ : Loc Cert.DgradGuRefIdeal.nD Cert.DgradGuRefIdeal.τ Cert.DgradGuRefIdeal.sig) → Buf (Elt Ideal) ℓ) (g' : Dev Cert.DgradGuRefIdeal.nD → PrngReg), Pre_DgradGuIdeal m →
    (∀ c : Dev Cert.DgradGuIdeal.nD,
      m' ((c.tc : Thread Cert.DgradGuRefIdeal.nD Cert.DgradGuRefIdeal.τ).loc Cert.DgradGuRefIdeal.main_arg0) = m ((c.tc : Thread Cert.DgradGuIdeal.nD Cert.DgradGuIdeal.τ).loc Cert.DgradGuIdeal.main_arg0)
      ∧ m' ((c.tc : Thread Cert.DgradGuRefIdeal.nD Cert.DgradGuRefIdeal.τ).loc Cert.DgradGuRefIdeal.main_arg1) = m ((c.tc : Thread Cert.DgradGuIdeal.nD Cert.DgradGuIdeal.τ).loc Cert.DgradGuIdeal.main_arg1)
      ∧ m' ((c.tc : Thread Cert.DgradGuRefIdeal.nD Cert.DgradGuRefIdeal.τ).loc Cert.DgradGuRefIdeal.main_arg2) = m ((c.tc : Thread Cert.DgradGuIdeal.nD Cert.DgradGuIdeal.τ).loc Cert.DgradGuIdeal.main_arg2)
      ∧ m' ((c.tc : Thread Cert.DgradGuRefIdeal.nD Cert.DgradGuRefIdeal.τ).loc Cert.DgradGuRefIdeal.main_arg3) = m ((c.tc : Thread Cert.DgradGuIdeal.nD Cert.DgradGuIdeal.τ).loc Cert.DgradGuIdeal.main_arg3)
      ∧ m' ((c.tc : Thread Cert.DgradGuRefIdeal.nD Cert.DgradGuRefIdeal.τ).loc Cert.DgradGuRefIdeal.main_arg4) = m ((c.tc : Thread Cert.DgradGuIdeal.nD Cert.DgradGuIdeal.τ).loc Cert.DgradGuIdeal.main_arg4)
      ∧ m' ((c.tc : Thread Cert.DgradGuRefIdeal.nD Cert.DgradGuRefIdeal.τ).loc Cert.DgradGuRefIdeal.main_arg5) = m ((c.tc : Thread Cert.DgradGuIdeal.nD Cert.DgradGuIdeal.τ).loc Cert.DgradGuIdeal.main_arg5)
      ∧ m' ((c.tc : Thread Cert.DgradGuRefIdeal.nD Cert.DgradGuRefIdeal.τ).loc Cert.DgradGuRefIdeal.main_arg6) = m ((c.tc : Thread Cert.DgradGuIdeal.nD Cert.DgradGuIdeal.τ).loc Cert.DgradGuIdeal.main_arg6)
      ∧ m' ((c.tc : Thread Cert.DgradGuRefIdeal.nD Cert.DgradGuRefIdeal.τ).loc Cert.DgradGuRefIdeal.main_arg7) = m ((c.tc : Thread Cert.DgradGuIdeal.nD Cert.DgradGuIdeal.τ).loc Cert.DgradGuIdeal.main_arg7)) →
    ∃ (v0 : (c : Dev Cert.DgradGuIdeal.nD) → Buf (Elt Ideal) ((c.tc : Thread Cert.DgradGuIdeal.nD Cert.DgradGuIdeal.τ).loc Cert.DgradGuIdeal.main_v2_0)) (v1 : (c : Dev Cert.DgradGuIdeal.nD) → Buf (Elt Ideal) ((c.tc : Thread Cert.DgradGuIdeal.nD Cert.DgradGuIdeal.τ).loc Cert.DgradGuIdeal.main_v2_1)) (v2 : (c : Dev Cert.DgradGuIdeal.nD) → Buf (Elt Ideal) ((c.tc : Thread Cert.DgradGuIdeal.nD Cert.DgradGuIdeal.τ).loc Cert.DgradGuIdeal.main_v2_2)) (v3 : (c : Dev Cert.DgradGuIdeal.nD) → Buf (Elt Ideal) ((c.tc : Thread Cert.DgradGuIdeal.nD Cert.DgradGuIdeal.τ).loc Cert.DgradGuIdeal.main_v2_3)),
      θ_run (Cert.DgradGuIdeal.defs (F := Ideal)) (onTc (τ := Cert.DgradGuIdeal.τ) (Cert.DgradGuIdeal.main (F := Ideal))) ⟨m, fun _ => 0, g⟩ (fun r => ∀ c : Dev Cert.DgradGuIdeal.nD,
          r.2.mem ((c.tc : Thread Cert.DgradGuIdeal.nD Cert.DgradGuIdeal.τ).loc Cert.DgradGuIdeal.main_v2_0) = v0 c
          ∧ r.2.mem ((c.tc : Thread Cert.DgradGuIdeal.nD Cert.DgradGuIdeal.τ).loc Cert.DgradGuIdeal.main_v2_1) = v1 c
          ∧ r.2.mem ((c.tc : Thread Cert.DgradGuIdeal.nD Cert.DgradGuIdeal.τ).loc Cert.DgradGuIdeal.main_v2_2) = v2 c
          ∧ r.2.mem ((c.tc : Thread Cert.DgradGuIdeal.nD Cert.DgradGuIdeal.τ).loc Cert.DgradGuIdeal.main_v2_3) = v3 c
          ∧ r.2.mem ((c.tc : Thread Cert.DgradGuIdeal.nD Cert.DgradGuIdeal.τ).loc Cert.DgradGuIdeal.main_arg0) = m ((c.tc : Thread Cert.DgradGuIdeal.nD Cert.DgradGuIdeal.τ).loc Cert.DgradGuIdeal.main_arg0)
          ∧ r.2.mem ((c.tc : Thread Cert.DgradGuIdeal.nD Cert.DgradGuIdeal.τ).loc Cert.DgradGuIdeal.main_arg1) = m ((c.tc : Thread Cert.DgradGuIdeal.nD Cert.DgradGuIdeal.τ).loc Cert.DgradGuIdeal.main_arg1)
          ∧ r.2.mem ((c.tc : Thread Cert.DgradGuIdeal.nD Cert.DgradGuIdeal.τ).loc Cert.DgradGuIdeal.main_arg2) = m ((c.tc : Thread Cert.DgradGuIdeal.nD Cert.DgradGuIdeal.τ).loc Cert.DgradGuIdeal.main_arg2)
          ∧ r.2.mem ((c.tc : Thread Cert.DgradGuIdeal.nD Cert.DgradGuIdeal.τ).loc Cert.DgradGuIdeal.main_arg3) = m ((c.tc : Thread Cert.DgradGuIdeal.nD Cert.DgradGuIdeal.τ).loc Cert.DgradGuIdeal.main_arg3)
          ∧ r.2.mem ((c.tc : Thread Cert.DgradGuIdeal.nD Cert.DgradGuIdeal.τ).loc Cert.DgradGuIdeal.main_arg4) = m ((c.tc : Thread Cert.DgradGuIdeal.nD Cert.DgradGuIdeal.τ).loc Cert.DgradGuIdeal.main_arg4)
          ∧ r.2.mem ((c.tc : Thread Cert.DgradGuIdeal.nD Cert.DgradGuIdeal.τ).loc Cert.DgradGuIdeal.main_arg5) = m ((c.tc : Thread Cert.DgradGuIdeal.nD Cert.DgradGuIdeal.τ).loc Cert.DgradGuIdeal.main_arg5)
          ∧ r.2.mem ((c.tc : Thread Cert.DgradGuIdeal.nD Cert.DgradGuIdeal.τ).loc Cert.DgradGuIdeal.main_arg6) = m ((c.tc : Thread Cert.DgradGuIdeal.nD Cert.DgradGuIdeal.τ).loc Cert.DgradGuIdeal.main_arg6)
          ∧ r.2.mem ((c.tc : Thread Cert.DgradGuIdeal.nD Cert.DgradGuIdeal.τ).loc Cert.DgradGuIdeal.main_arg7) = m ((c.tc : Thread Cert.DgradGuIdeal.nD Cert.DgradGuIdeal.τ).loc Cert.DgradGuIdeal.main_arg7))
      ∧ θ_run (Cert.DgradGuRefIdeal.defs (F := Ideal)) (onTc (τ := Cert.DgradGuRefIdeal.τ) (Cert.DgradGuRefIdeal.main (F := Ideal))) ⟨m', fun _ => 0, g'⟩ (fun r => ∀ c : Dev Cert.DgradGuRefIdeal.nD,
          r.2.mem ((c.tc : Thread Cert.DgradGuRefIdeal.nD Cert.DgradGuRefIdeal.τ).loc Cert.DgradGuRefIdeal.main_v38) = v0 c
          ∧ r.2.mem ((c.tc : Thread Cert.DgradGuRefIdeal.nD Cert.DgradGuRefIdeal.τ).loc Cert.DgradGuRefIdeal.main_v74) = v1 c
          ∧ r.2.mem ((c.tc : Thread Cert.DgradGuRefIdeal.nD Cert.DgradGuRefIdeal.τ).loc Cert.DgradGuRefIdeal.main_v21) = v2 c
          ∧ r.2.mem ((c.tc : Thread Cert.DgradGuRefIdeal.nD Cert.DgradGuRefIdeal.τ).loc Cert.DgradGuRefIdeal.main_v57) = v3 c
          ∧ r.2.mem ((c.tc : Thread Cert.DgradGuRefIdeal.nD Cert.DgradGuRefIdeal.τ).loc Cert.DgradGuRefIdeal.main_arg0) = m' ((c.tc : Thread Cert.DgradGuRefIdeal.nD Cert.DgradGuRefIdeal.τ).loc Cert.DgradGuRefIdeal.main_arg0)
          ∧ r.2.mem ((c.tc : Thread Cert.DgradGuRefIdeal.nD Cert.DgradGuRefIdeal.τ).loc Cert.DgradGuRefIdeal.main_arg1) = m' ((c.tc : Thread Cert.DgradGuRefIdeal.nD Cert.DgradGuRefIdeal.τ).loc Cert.DgradGuRefIdeal.main_arg1)
          ∧ r.2.mem ((c.tc : Thread Cert.DgradGuRefIdeal.nD Cert.DgradGuRefIdeal.τ).loc Cert.DgradGuRefIdeal.main_arg2) = m' ((c.tc : Thread Cert.DgradGuRefIdeal.nD Cert.DgradGuRefIdeal.τ).loc Cert.DgradGuRefIdeal.main_arg2)
          ∧ r.2.mem ((c.tc : Thread Cert.DgradGuRefIdeal.nD Cert.DgradGuRefIdeal.τ).loc Cert.DgradGuRefIdeal.main_arg3) = m' ((c.tc : Thread Cert.DgradGuRefIdeal.nD Cert.DgradGuRefIdeal.τ).loc Cert.DgradGuRefIdeal.main_arg3)
          ∧ r.2.mem ((c.tc : Thread Cert.DgradGuRefIdeal.nD Cert.DgradGuRefIdeal.τ).loc Cert.DgradGuRefIdeal.main_arg4) = m' ((c.tc : Thread Cert.DgradGuRefIdeal.nD Cert.DgradGuRefIdeal.τ).loc Cert.DgradGuRefIdeal.main_arg4)
          ∧ r.2.mem ((c.tc : Thread Cert.DgradGuRefIdeal.nD Cert.DgradGuRefIdeal.τ).loc Cert.DgradGuRefIdeal.main_arg5) = m' ((c.tc : Thread Cert.DgradGuRefIdeal.nD Cert.DgradGuRefIdeal.τ).loc Cert.DgradGuRefIdeal.main_arg5)
          ∧ r.2.mem ((c.tc : Thread Cert.DgradGuRefIdeal.nD Cert.DgradGuRefIdeal.τ).loc Cert.DgradGuRefIdeal.main_arg6) = m' ((c.tc : Thread Cert.DgradGuRefIdeal.nD Cert.DgradGuRefIdeal.τ).loc Cert.DgradGuRefIdeal.main_arg6)
          ∧ r.2.mem ((c.tc : Thread Cert.DgradGuRefIdeal.nD Cert.DgradGuRefIdeal.τ).loc Cert.DgradGuRefIdeal.main_arg7) = m' ((c.tc : Thread Cert.DgradGuRefIdeal.nD Cert.DgradGuRefIdeal.τ).loc Cert.DgradGuRefIdeal.main_arg7))

def preserves_DgradIn_DgradInIdeal : Prop :=
  True

def algebraic_DgradInIdeal_DgradInRefIdeal [hDgradInIdeal : Cert.DgradInIdeal.Facts] [hDgradInRefIdeal : Cert.DgradInRefIdeal.Facts] : Prop :=
  ∀ (m : (ℓ : Loc Cert.DgradInIdeal.nD Cert.DgradInIdeal.τ Cert.DgradInIdeal.sig) → Buf (Elt Ideal) ℓ) (g : Dev Cert.DgradInIdeal.nD → PrngReg)
    (m' : (ℓ : Loc Cert.DgradInRefIdeal.nD Cert.DgradInRefIdeal.τ Cert.DgradInRefIdeal.sig) → Buf (Elt Ideal) ℓ) (g' : Dev Cert.DgradInRefIdeal.nD → PrngReg), Pre_DgradInIdeal m →
    (∀ c : Dev Cert.DgradInIdeal.nD,
      m' ((c.tc : Thread Cert.DgradInRefIdeal.nD Cert.DgradInRefIdeal.τ).loc Cert.DgradInRefIdeal.main_arg0) = m ((c.tc : Thread Cert.DgradInIdeal.nD Cert.DgradInIdeal.τ).loc Cert.DgradInIdeal.main_arg0)
      ∧ m' ((c.tc : Thread Cert.DgradInRefIdeal.nD Cert.DgradInRefIdeal.τ).loc Cert.DgradInRefIdeal.main_arg1) = m ((c.tc : Thread Cert.DgradInIdeal.nD Cert.DgradInIdeal.τ).loc Cert.DgradInIdeal.main_arg1)
      ∧ m' ((c.tc : Thread Cert.DgradInRefIdeal.nD Cert.DgradInRefIdeal.τ).loc Cert.DgradInRefIdeal.main_arg2) = m ((c.tc : Thread Cert.DgradInIdeal.nD Cert.DgradInIdeal.τ).loc Cert.DgradInIdeal.main_arg2)
      ∧ m' ((c.tc : Thread Cert.DgradInRefIdeal.nD Cert.DgradInRefIdeal.τ).loc Cert.DgradInRefIdeal.main_arg3) = m ((c.tc : Thread Cert.DgradInIdeal.nD Cert.DgradInIdeal.τ).loc Cert.DgradInIdeal.main_arg3)
      ∧ m' ((c.tc : Thread Cert.DgradInRefIdeal.nD Cert.DgradInRefIdeal.τ).loc Cert.DgradInRefIdeal.main_arg4) = m ((c.tc : Thread Cert.DgradInIdeal.nD Cert.DgradInIdeal.τ).loc Cert.DgradInIdeal.main_arg4)
      ∧ m' ((c.tc : Thread Cert.DgradInRefIdeal.nD Cert.DgradInRefIdeal.τ).loc Cert.DgradInRefIdeal.main_arg5) = m ((c.tc : Thread Cert.DgradInIdeal.nD Cert.DgradInIdeal.τ).loc Cert.DgradInIdeal.main_arg5)
      ∧ m' ((c.tc : Thread Cert.DgradInRefIdeal.nD Cert.DgradInRefIdeal.τ).loc Cert.DgradInRefIdeal.main_arg6) = m ((c.tc : Thread Cert.DgradInIdeal.nD Cert.DgradInIdeal.τ).loc Cert.DgradInIdeal.main_arg6)
      ∧ m' ((c.tc : Thread Cert.DgradInRefIdeal.nD Cert.DgradInRefIdeal.τ).loc Cert.DgradInRefIdeal.main_arg7) = m ((c.tc : Thread Cert.DgradInIdeal.nD Cert.DgradInIdeal.τ).loc Cert.DgradInIdeal.main_arg7)
      ∧ m' ((c.tc : Thread Cert.DgradInRefIdeal.nD Cert.DgradInRefIdeal.τ).loc Cert.DgradInRefIdeal.main_arg8) = m ((c.tc : Thread Cert.DgradInIdeal.nD Cert.DgradInIdeal.τ).loc Cert.DgradInIdeal.main_arg8)
      ∧ m' ((c.tc : Thread Cert.DgradInRefIdeal.nD Cert.DgradInRefIdeal.τ).loc Cert.DgradInRefIdeal.main_arg9) = m ((c.tc : Thread Cert.DgradInIdeal.nD Cert.DgradInIdeal.τ).loc Cert.DgradInIdeal.main_arg9)) →
    ∃ (v0 : (c : Dev Cert.DgradInIdeal.nD) → Buf (Elt Ideal) ((c.tc : Thread Cert.DgradInIdeal.nD Cert.DgradInIdeal.τ).loc Cert.DgradInIdeal.main_v2_0)) (v1 : (c : Dev Cert.DgradInIdeal.nD) → Buf (Elt Ideal) ((c.tc : Thread Cert.DgradInIdeal.nD Cert.DgradInIdeal.τ).loc Cert.DgradInIdeal.main_v2_1)) (v2 : (c : Dev Cert.DgradInIdeal.nD) → Buf (Elt Ideal) ((c.tc : Thread Cert.DgradInIdeal.nD Cert.DgradInIdeal.τ).loc Cert.DgradInIdeal.main_v2_2)) (v3 : (c : Dev Cert.DgradInIdeal.nD) → Buf (Elt Ideal) ((c.tc : Thread Cert.DgradInIdeal.nD Cert.DgradInIdeal.τ).loc Cert.DgradInIdeal.main_v2_3)),
      θ_run (Cert.DgradInIdeal.defs (F := Ideal)) (onTc (τ := Cert.DgradInIdeal.τ) (Cert.DgradInIdeal.main (F := Ideal))) ⟨m, fun _ => 0, g⟩ (fun r => ∀ c : Dev Cert.DgradInIdeal.nD,
          r.2.mem ((c.tc : Thread Cert.DgradInIdeal.nD Cert.DgradInIdeal.τ).loc Cert.DgradInIdeal.main_v2_0) = v0 c
          ∧ r.2.mem ((c.tc : Thread Cert.DgradInIdeal.nD Cert.DgradInIdeal.τ).loc Cert.DgradInIdeal.main_v2_1) = v1 c
          ∧ r.2.mem ((c.tc : Thread Cert.DgradInIdeal.nD Cert.DgradInIdeal.τ).loc Cert.DgradInIdeal.main_v2_2) = v2 c
          ∧ r.2.mem ((c.tc : Thread Cert.DgradInIdeal.nD Cert.DgradInIdeal.τ).loc Cert.DgradInIdeal.main_v2_3) = v3 c
          ∧ r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
          ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
          ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
          ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
          ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4)
          ∧ r.2.mem ((c.tc : Thread Cert.DgradInIdeal.nD Cert.DgradInIdeal.τ).loc Cert.DgradInIdeal.main_arg5) = m ((c.tc : Thread Cert.DgradInIdeal.nD Cert.DgradInIdeal.τ).loc Cert.DgradInIdeal.main_arg5)
          ∧ r.2.mem ((c.tc : Thread Cert.DgradInIdeal.nD Cert.DgradInIdeal.τ).loc Cert.DgradInIdeal.main_arg6) = m ((c.tc : Thread Cert.DgradInIdeal.nD Cert.DgradInIdeal.τ).loc Cert.DgradInIdeal.main_arg6)
          ∧ r.2.mem ((c.tc : Thread Cert.DgradInIdeal.nD Cert.DgradInIdeal.τ).loc Cert.DgradInIdeal.main_arg7) = m ((c.tc : Thread Cert.DgradInIdeal.nD Cert.DgradInIdeal.τ).loc Cert.DgradInIdeal.main_arg7)
          ∧ r.2.mem ((c.tc : Thread Cert.DgradInIdeal.nD Cert.DgradInIdeal.τ).loc Cert.DgradInIdeal.main_arg8) = m ((c.tc : Thread Cert.DgradInIdeal.nD Cert.DgradInIdeal.τ).loc Cert.DgradInIdeal.main_arg8)
          ∧ r.2.mem ((c.tc : Thread Cert.DgradInIdeal.nD Cert.DgradInIdeal.τ).loc Cert.DgradInIdeal.main_arg9) = m ((c.tc : Thread Cert.DgradInIdeal.nD Cert.DgradInIdeal.τ).loc Cert.DgradInIdeal.main_arg9))
      ∧ θ_run (Cert.DgradInRefIdeal.defs (F := Ideal)) (onTc (τ := Cert.DgradInRefIdeal.τ) (Cert.DgradInRefIdeal.main (F := Ideal))) ⟨m', fun _ => 0, g'⟩ (fun r => ∀ c : Dev Cert.DgradInRefIdeal.nD,
          r.2.mem ((c.tc : Thread Cert.DgradInRefIdeal.nD Cert.DgradInRefIdeal.τ).loc Cert.DgradInRefIdeal.main_v38) = v0 c
          ∧ r.2.mem ((c.tc : Thread Cert.DgradInRefIdeal.nD Cert.DgradInRefIdeal.τ).loc Cert.DgradInRefIdeal.main_v74) = v1 c
          ∧ r.2.mem ((c.tc : Thread Cert.DgradInRefIdeal.nD Cert.DgradInRefIdeal.τ).loc Cert.DgradInRefIdeal.main_v21) = v2 c
          ∧ r.2.mem ((c.tc : Thread Cert.DgradInRefIdeal.nD Cert.DgradInRefIdeal.τ).loc Cert.DgradInRefIdeal.main_v57) = v3 c
          ∧ r.2.mem ((c.tc : Thread Cert.DgradInRefIdeal.nD Cert.DgradInRefIdeal.τ).loc Cert.DgradInRefIdeal.main_arg0) = m' ((c.tc : Thread Cert.DgradInRefIdeal.nD Cert.DgradInRefIdeal.τ).loc Cert.DgradInRefIdeal.main_arg0)
          ∧ r.2.mem ((c.tc : Thread Cert.DgradInRefIdeal.nD Cert.DgradInRefIdeal.τ).loc Cert.DgradInRefIdeal.main_arg1) = m' ((c.tc : Thread Cert.DgradInRefIdeal.nD Cert.DgradInRefIdeal.τ).loc Cert.DgradInRefIdeal.main_arg1)
          ∧ r.2.mem ((c.tc : Thread Cert.DgradInRefIdeal.nD Cert.DgradInRefIdeal.τ).loc Cert.DgradInRefIdeal.main_arg2) = m' ((c.tc : Thread Cert.DgradInRefIdeal.nD Cert.DgradInRefIdeal.τ).loc Cert.DgradInRefIdeal.main_arg2)
          ∧ r.2.mem ((c.tc : Thread Cert.DgradInRefIdeal.nD Cert.DgradInRefIdeal.τ).loc Cert.DgradInRefIdeal.main_arg3) = m' ((c.tc : Thread Cert.DgradInRefIdeal.nD Cert.DgradInRefIdeal.τ).loc Cert.DgradInRefIdeal.main_arg3)
          ∧ r.2.mem ((c.tc : Thread Cert.DgradInRefIdeal.nD Cert.DgradInRefIdeal.τ).loc Cert.DgradInRefIdeal.main_arg4) = m' ((c.tc : Thread Cert.DgradInRefIdeal.nD Cert.DgradInRefIdeal.τ).loc Cert.DgradInRefIdeal.main_arg4)
          ∧ r.2.mem ((c.tc : Thread Cert.DgradInRefIdeal.nD Cert.DgradInRefIdeal.τ).loc Cert.DgradInRefIdeal.main_arg5) = m' ((c.tc : Thread Cert.DgradInRefIdeal.nD Cert.DgradInRefIdeal.τ).loc Cert.DgradInRefIdeal.main_arg5)
          ∧ r.2.mem ((c.tc : Thread Cert.DgradInRefIdeal.nD Cert.DgradInRefIdeal.τ).loc Cert.DgradInRefIdeal.main_arg6) = m' ((c.tc : Thread Cert.DgradInRefIdeal.nD Cert.DgradInRefIdeal.τ).loc Cert.DgradInRefIdeal.main_arg6)
          ∧ r.2.mem ((c.tc : Thread Cert.DgradInRefIdeal.nD Cert.DgradInRefIdeal.τ).loc Cert.DgradInRefIdeal.main_arg7) = m' ((c.tc : Thread Cert.DgradInRefIdeal.nD Cert.DgradInRefIdeal.τ).loc Cert.DgradInRefIdeal.main_arg7)
          ∧ r.2.mem ((c.tc : Thread Cert.DgradInRefIdeal.nD Cert.DgradInRefIdeal.τ).loc Cert.DgradInRefIdeal.main_arg8) = m' ((c.tc : Thread Cert.DgradInRefIdeal.nD Cert.DgradInRefIdeal.τ).loc Cert.DgradInRefIdeal.main_arg8)
          ∧ r.2.mem ((c.tc : Thread Cert.DgradInRefIdeal.nD Cert.DgradInRefIdeal.τ).loc Cert.DgradInRefIdeal.main_arg9) = m' ((c.tc : Thread Cert.DgradInRefIdeal.nD Cert.DgradInRefIdeal.τ).loc Cert.DgradInRefIdeal.main_arg9))

def Claim : Prop :=
  ∃ (hKernel : Cert.Kernel.Facts) (hKernelIdeal : Cert.KernelIdeal.Facts) (hReferenceIdeal : Cert.ReferenceIdeal.Facts) (hWgradDown : Cert.WgradDown.Facts) (hWgradDownIdeal : Cert.WgradDownIdeal.Facts) (hWgradDownRefIdeal : Cert.WgradDownRefIdeal.Facts) (hWgradGu : Cert.WgradGu.Facts) (hWgradGuIdeal : Cert.WgradGuIdeal.Facts) (hWgradGuRefIdeal : Cert.WgradGuRefIdeal.Facts) (hWgradOut : Cert.WgradOut.Facts) (hWgradOutIdeal : Cert.WgradOutIdeal.Facts) (hWgradOutRefIdeal : Cert.WgradOutRefIdeal.Facts) (hWgradIn : Cert.WgradIn.Facts) (hWgradInIdeal : Cert.WgradInIdeal.Facts) (hWgradInRefIdeal : Cert.WgradInRefIdeal.Facts) (hProj : Cert.Proj.Facts) (hProjIdeal : Cert.ProjIdeal.Facts) (hProjRefIdeal : Cert.ProjRefIdeal.Facts) (hDgradOut : Cert.DgradOut.Facts) (hDgradOutIdeal : Cert.DgradOutIdeal.Facts) (hDgradOutRefIdeal : Cert.DgradOutRefIdeal.Facts) (hGated : Cert.Gated.Facts) (hGatedIdeal : Cert.GatedIdeal.Facts) (hGatedRefIdeal : Cert.GatedRefIdeal.Facts) (hMixOut : Cert.MixOut.Facts) (hMixOutIdeal : Cert.MixOutIdeal.Facts) (hMixOutRefIdeal : Cert.MixOutRefIdeal.Facts) (hFfnDown : Cert.FfnDown.Facts) (hFfnDownIdeal : Cert.FfnDownIdeal.Facts) (hFfnDownRefIdeal : Cert.FfnDownRefIdeal.Facts) (hFfnDownLast : Cert.FfnDownLast.Facts) (hFfnDownLastIdeal : Cert.FfnDownLastIdeal.Facts) (hFfnDownLastRefIdeal : Cert.FfnDownLastRefIdeal.Facts) (hDgradGu : Cert.DgradGu.Facts) (hDgradGuIdeal : Cert.DgradGuIdeal.Facts) (hDgradGuRefIdeal : Cert.DgradGuRefIdeal.Facts) (hDgradIn : Cert.DgradIn.Facts) (hDgradInIdeal : Cert.DgradInIdeal.Facts) (hDgradInRefIdeal : Cert.DgradInRefIdeal.Facts) (hPre_finite : Cert.Pre_finite.Facts) (hPre_gated_finite : Cert.Pre_gated_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradGu (hWgradGu := hWgradGu)
    ∧ quiescent_WgradGuIdeal (hWgradGuIdeal := hWgradGuIdeal)
    ∧ quiescent_WgradGuRefIdeal (hWgradGuRefIdeal := hWgradGuRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_Proj (hProj := hProj)
    ∧ quiescent_ProjIdeal (hProjIdeal := hProjIdeal)
    ∧ quiescent_ProjRefIdeal (hProjRefIdeal := hProjRefIdeal)
    ∧ quiescent_DgradOut (hDgradOut := hDgradOut)
    ∧ quiescent_DgradOutIdeal (hDgradOutIdeal := hDgradOutIdeal)
    ∧ quiescent_DgradOutRefIdeal (hDgradOutRefIdeal := hDgradOutRefIdeal)
    ∧ quiescent_Gated (hGated := hGated)
    ∧ quiescent_GatedIdeal (hGatedIdeal := hGatedIdeal)
    ∧ quiescent_GatedIdeal_pre_gated_finite (hGatedIdeal := hGatedIdeal) (hPre_gated_finite := hPre_gated_finite)
    ∧ quiescent_GatedRefIdeal (hGatedRefIdeal := hGatedRefIdeal)
    ∧ quiescent_GatedRefIdeal_pre_gated_finite (hGatedRefIdeal := hGatedRefIdeal) (hPre_gated_finite := hPre_gated_finite)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownLast (hFfnDownLast := hFfnDownLast)
    ∧ quiescent_FfnDownLastIdeal (hFfnDownLastIdeal := hFfnDownLastIdeal)
    ∧ quiescent_FfnDownLastRefIdeal (hFfnDownLastRefIdeal := hFfnDownLastRefIdeal)
    ∧ quiescent_DgradGu (hDgradGu := hDgradGu)
    ∧ quiescent_DgradGuIdeal (hDgradGuIdeal := hDgradGuIdeal)
    ∧ quiescent_DgradGuRefIdeal (hDgradGuRefIdeal := hDgradGuRefIdeal)
    ∧ quiescent_DgradIn (hDgradIn := hDgradIn)
    ∧ quiescent_DgradInIdeal (hDgradInIdeal := hDgradInIdeal)
    ∧ quiescent_DgradInRefIdeal (hDgradInRefIdeal := hDgradInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradDown_WgradDownIdeal
    ∧ algebraic_WgradDownIdeal_WgradDownRefIdeal (hWgradDownIdeal := hWgradDownIdeal) (hWgradDownRefIdeal := hWgradDownRefIdeal)
    ∧ preserves_WgradGu_WgradGuIdeal
    ∧ algebraic_WgradGuIdeal_WgradGuRefIdeal (hWgradGuIdeal := hWgradGuIdeal) (hWgradGuRefIdeal := hWgradGuRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradIn_WgradInIdeal
    ∧ algebraic_WgradInIdeal_WgradInRefIdeal (hWgradInIdeal := hWgradInIdeal) (hWgradInRefIdeal := hWgradInRefIdeal)
    ∧ preserves_Proj_ProjIdeal
    ∧ algebraic_ProjIdeal_ProjRefIdeal (hProjIdeal := hProjIdeal) (hProjRefIdeal := hProjRefIdeal)
    ∧ preserves_DgradOut_DgradOutIdeal
    ∧ algebraic_DgradOutIdeal_DgradOutRefIdeal (hDgradOutIdeal := hDgradOutIdeal) (hDgradOutRefIdeal := hDgradOutRefIdeal)
    ∧ preserves_Gated_GatedIdeal
    ∧ algebraic_GatedIdeal_GatedRefIdeal_pre_gated_finite (hGatedIdeal := hGatedIdeal) (hGatedRefIdeal := hGatedRefIdeal) (hPre_gated_finite := hPre_gated_finite)
    ∧ preserves_MixOut_MixOutIdeal
    ∧ algebraic_MixOutIdeal_MixOutRefIdeal (hMixOutIdeal := hMixOutIdeal) (hMixOutRefIdeal := hMixOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownLast_FfnDownLastIdeal
    ∧ algebraic_FfnDownLastIdeal_FfnDownLastRefIdeal (hFfnDownLastIdeal := hFfnDownLastIdeal) (hFfnDownLastRefIdeal := hFfnDownLastRefIdeal)
    ∧ preserves_DgradGu_DgradGuIdeal
    ∧ algebraic_DgradGuIdeal_DgradGuRefIdeal (hDgradGuIdeal := hDgradGuIdeal) (hDgradGuRefIdeal := hDgradGuRefIdeal)
    ∧ preserves_DgradIn_DgradInIdeal
    ∧ algebraic_DgradInIdeal_DgradInRefIdeal (hDgradInIdeal := hDgradInIdeal) (hDgradInRefIdeal := hDgradInRefIdeal)
-- ==== Pre_finite.lean ====
abbrev S8192x2560 : Shape := ⟨2, ![8192, 2560]⟩
abbrev S8192x1024 : Shape := ⟨2, ![8192, 1024]⟩
abbrev S3x256 : Shape := ⟨2, ![3, 256]⟩
abbrev S4x64x64 : Shape := ⟨3, ![4, 64, 64]⟩
abbrev S1x256 : Shape := ⟨2, ![1, 256]⟩
abbrev S1x512 : Shape := ⟨2, ![1, 512]⟩
abbrev S8192x512 : Shape := ⟨2, ![8192, 512]⟩
abbrev S_ : Shape := ⟨0, ![]⟩

class Facts : Prop where
  slices_S8192x2560_S8192x1024_0_0 : S8192x2560.Slices ![0, 0] S8192x1024
  slices_S8192x1024_S8192x512_0_0 : S8192x1024.Slices ![0, 0] S8192x512
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S3x256 : S_.BroadcastsInDim S3x256 (![] : Fin 0 → Fin S3x256.rank)
  reducesTo_S3x256_S_d0_1 : S3x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S1x256 : S_.BroadcastsInDim S1x256 (![] : Fin 0 → Fin S1x256.rank)
  reducesTo_S1x256_S_d0_1 : S1x256.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x256 .f32) (main_arg5 : FVec F S1x512 .f32) (main_v6 : IVec S_ 1) (main_v11 : IVec S_ 1) (main_v15 : IVec S_ 1) (main_v16 : FVec F S4x64x64 .f32) (main_cst_4 : FVec F S_ .f32) : IVec S_ 1 :=
  let main_v17 : FVec F S4x64x64 .f32 := broadcastInDim S4x64x64 ![] bcast_S_S4x64x64 main_cst_4
  let main_v18 : IVec S4x64x64 1 := cmpf .olt main_v16 main_v17
  let main_c_5 : IVec S_ 1 := constantI S_ 1 1#1
  let main_v19 : IVec S_ 1 := (fun x v => Host.reduce IntOp.andi x v reducesTo_S4x64x64_S_d0_1_2 h_S_) main_v18 main_c_5
  let main_v20 : FVec F S1x256 .f32 := Host.absf main_arg4
  let main_cst_6 : FVec F S_ .f32 := constant S_ .f32 0x7F800000#32
  let main_v21 : FVec F S1x256 .f32 := broadcastInDim S1x256 ![] bcast_S_S1x256 main_cst_6
  let main_v22 : IVec S1x256 1 := cmpf .olt main_v20 main_v21
  let main_c_7 : IVec S_ 1 := constantI S_ 1 1#1
  let main_v23 : IVec S_ 1 := (fun x v => Host.reduce IntOp.andi x v reducesTo_S1x256_S_d0_1 h_S_) main_v22 main_c_7
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v6 main_v11
  let main_v29 : IVec S_ 1 := andi main_v28 main_v15
  let main_v30 : IVec S_ 1 := andi main_v29 main_v19
  let main_v31 : IVec S_ 1 := andi main_v30 main_v23
  let main_v32 : IVec S_ 1 := andi main_v31 main_v27
  main_v32

def fn {F : FTy → Type} [FloatOps F] (main_arg0 : FVec F S8192x2560 .bf16) (main_arg1 : FVec F S8192x1024 .bf16) (main_arg2 : FVec F S3x256 .f32) (main_arg3 : FVec F S4x64x64 .f32) (main_arg4 : FVec F S1x256 .f32) (main_arg5 : FVec F S1x512 .f32) : IVec S_ 1 :=
  let main_v0 : FVec F S8192x1024 .bf16 := (extractStridedSlice S8192x1024 ![0, 0] · slices_S8192x2560_S8192x1024_0_0) main_arg0
  let main_v1 : FVec F S8192x512 .bf16 := (extractStridedSlice S8192x512 ![0, 0] · slices_S8192x1024_S8192x512_0_0) main_arg1
  let main_v2 : FVec F S8192x1024 .f32 := (extf .f32 · bitsLt_bf16_f32) main_v0
  let main_v3 : FVec F S8192x1024 .f32 := Host.absf main_v2
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_c : IVec S_ 1 := constantI S_ 1 1#1
  let main_v6 : IVec S_ 1 := (fun x v => Host.reduce IntOp.andi x v reducesTo_S8192x1024_S_d0_1 h_S_) main_v5 main_c
  let main_v7 : FVec F S8192x512 .f32 := (extf .f32 · bitsLt_bf16_f32) main_v1
  let main_v8 : FVec F S8192x512 .f32 := Host.absf main_v7
  let main_cst_0 : FVec F S_ .f32 := constant S_ .f32 0x7F800000#32
  let main_v9 : FVec F S8192x512 .f32 := broadcastInDim S8192x512 ![] bcast_S_S8192x512 main_cst_0
  let main_v10 : IVec S8192x512 1 := cmpf .olt main_v8 main_v9
  let main_c_1 : IVec S_ 1 := constantI S_ 1 1#1
  let main_v11 : IVec S_ 1 := (fun x v => Host.reduce IntOp.andi x v reducesTo_S8192x512_S_d0_1 h_S_) main_v10 main_c_1
  let main_v12 : FVec F S3x256 .f32 := Host.absf main_arg2
  let main_cst_2 : FVec F S_ .f32 := constant S_ .f32 0x7F800000#32
  let main_v13 : FVec F S3x256 .f32 := broadcastInDim S3x256 ![] bcast_S_S3x256 main_cst_2
  let main_v14 : IVec S3x256 1 := cmpf .olt main_v12 main_v13
  let main_c_3 : IVec S_ 1 := constantI S_ 1 1#1
  let main_v15 : IVec S_ 1 := (fun x v => Host.reduce IntOp.andi x v reducesTo_S3x256_S_d0_1 h_S_) main_v14 main_c_3
  let main_v16 : FVec F S4x64x64 .f32 := Host.absf main_arg3
  let main_cst_4 : FVec F S_ .f32 := constant S_ .f32 0x7F800000#32
  fn_part1 (F := F) main_arg4 main_arg5 main_v6 main_v11 main_v15 main_v16 main_cst_4
-- ==== Pre_gated_finite.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v4 : IVec S_ 1) (main_v8 : IVec S_ 1) (main_v12 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v4 main_v8
  let main_v19 : IVec S_ 1 := andi main_v18 main_v12
  let main_v20 : IVec S_ 1 := andi main_v19 main_v17
  main_v20

def fn {F : FTy → Type} [FloatOps F] (main_arg0 : FVec F S8192x1024 .bf16) (main_arg1 : FVec F S1024x5632 .f32) (main_arg2 : FVec F S2816x1024 .f32) (main_arg3 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : FVec F S8192x1024 .f32 := (extf .f32 · bitsLt_bf16_f32) main_arg3
  let main_v14 : FVec F S8192x1024 .f32 := Host.absf main_v13
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v4 main_v8 main_v12 main_v16
-- ==== Kernel.lean ====
abbrev S8192x2560 : Shape := ⟨2, ![8192, 2560]⟩
abbrev S8192x1024 : Shape := ⟨2, ![8192, 1024]⟩
abbrev S3x256 : Shape := ⟨2, ![3, 256]⟩
abbrev S4x64x64 : Shape := ⟨3, ![4, 64, 64]⟩
abbrev S1x256 : Shape := ⟨2, ![1, 256]⟩
abbrev S1x512 : Shape := ⟨2, ![1, 512]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S512x1024 : Shape := ⟨2, ![512, 1024]⟩
abbrev S16x1024 : Shape := ⟨2, ![16, 1024]⟩
abbrev S512x512 : Shape := ⟨2, ![512, 512]⟩
abbrev S16x512 : Shape := ⟨2, ![16, 512]⟩
abbrev S544x1024 : Shape := ⟨2, ![544, 1024]⟩
abbrev S528x256 : Shape := ⟨2, ![528, 256]⟩
abbrev S544x256 : Shape := ⟨2, ![544, 256]⟩
abbrev S528x1 : Shape := ⟨2, ![528, 1]⟩
abbrev S528x512 : Shape := ⟨2, ![528, 512]⟩
abbrev S528 : Shape := ⟨1, ![528]⟩
abbrev S512x256 : Shape := ⟨2, ![512, 256]⟩
abbrev S256 : Shape := ⟨1, ![256]⟩

abbrev nBuf : Space → Nat
  | .hbm => 43
  | .vmem => 20
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S3x256, .f32⟩
  | .hbm, ⟨3, _⟩ => ⟨S4x64x64, .f32⟩
  | .hbm, ⟨4, _⟩ => ⟨S1x256, .f32⟩
  | .hbm, ⟨5, _⟩ => ⟨S1x512, .f32⟩
  | .hbm, ⟨6, _⟩ => ⟨S_, .f32⟩
  | .hbm, ⟨7, _⟩ => ⟨S256x256, .f32⟩
  | .hbm, ⟨8, _⟩ => ⟨S1x64x64, .f32⟩
  | .hbm, ⟨9, _⟩ => ⟨S64x64, .f32⟩
  | .hbm, ⟨10, _⟩ => ⟨S_, .i32⟩
  | .hbm, ⟨11, _⟩ => ⟨S_, .i32⟩
  | .hbm, ⟨12, _⟩ => ⟨S256x256, .f32⟩
  | .hbm, ⟨13, _⟩ => ⟨S1x64x64, .f32⟩
  | .hbm, ⟨14, _⟩ => ⟨S64x64, .f32⟩
  | .hbm, ⟨15, _⟩ => ⟨S_, .i32⟩
  | .hbm, ⟨16, _⟩ => ⟨S_, .i32⟩
  | .hbm, ⟨17, _⟩ => ⟨S256x256, .f32⟩
  | .hbm, ⟨18, _⟩ => ⟨S1x64x64, .f32⟩
  | .hbm, ⟨19, _⟩ => ⟨S64x64, .f32⟩
  | .hbm, ⟨20, _⟩ => ⟨S_, .i32⟩
  | .hbm, ⟨21, _⟩ => ⟨S_, .i32⟩
  | .hbm, ⟨22, _⟩ => ⟨S256x256, .f32⟩
  | .hbm, ⟨23, _⟩ => ⟨S1x64x64, .f32⟩
  | .hbm, ⟨24, _⟩ => ⟨S64x64, .f32⟩
  | .hbm, ⟨25, _⟩ => ⟨S_, .i32⟩
  | .hbm, ⟨26, _⟩ => ⟨S_, .i32⟩
  | .hbm, ⟨27, _⟩ => ⟨S256x256, .f32⟩
  | .hbm, ⟨28, _⟩ => ⟨S256x256, .bf16⟩
  | .hbm, ⟨29, _⟩ => ⟨S8192x1024, .bf16⟩
  | .hbm, ⟨30, _⟩ => ⟨S3x256, .f32⟩
  | .hbm, ⟨31, _⟩ => ⟨S256x256, .f32⟩
  | .hbm, ⟨32, _⟩ => ⟨S1x256, .f32⟩
  | .hbm, ⟨33, _⟩ => ⟨S1x512, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S1x64x64, .f32⟩
  | .hbm, ⟨39, _⟩ => ⟨S1x64x64, .f32⟩
  | .hbm, ⟨40, _⟩ => ⟨S1x64x64, .f32⟩
  | .hbm, ⟨41, _⟩ => ⟨S1x64x64, .f32⟩
  | .hbm, ⟨42, _⟩ => ⟨S4x64x64, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S3x256, .f32⟩
  | .local _ .vmem, ⟨11, _⟩ => ⟨S256x256, .bf16⟩
  | .local _ .vmem, ⟨12, _⟩ => ⟨S1x256, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S3x256, .f32⟩
  | .local _ .vmem, ⟨17, _⟩ => ⟨S256x256, .f32⟩
  | .local _ .vmem, ⟨18, _⟩ => ⟨S1x256, .f32⟩
  | .local _ .vmem, ⟨19, _⟩ => ⟨S1x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x2560 : Shape := ⟨2, ![8192, 2560]⟩
abbrev S8192x1024 : Shape := ⟨2, ![8192, 1024]⟩
abbrev S3x256 : Shape := ⟨2, ![3, 256]⟩
abbrev S4x64x64 : Shape := ⟨3, ![4, 64, 64]⟩
abbrev S1x256 : Shape := ⟨2, ![1, 256]⟩
abbrev S1x512 : Shape := ⟨2, ![1, 512]⟩
abbrev S8192x512 : Shape := ⟨2, ![8192, 512]⟩
abbrev S8192x256 : Shape := ⟨2, ![8192, 256]⟩
abbrev S256 : Shape := ⟨1, ![256]⟩
abbrev S_ : Shape := ⟨0, ![]⟩
abbrev S8191x256 : Shape := ⟨2, ![8191, 256]⟩
abbrev S2x256 : Shape := ⟨2, ![2, 256]⟩
abbrev S8190x256 : Shape := ⟨2, ![8190, 256]⟩
abbrev S8192 : Shape := ⟨1, ![8192]⟩
abbrev S8192x64 : Shape := ⟨2, ![8192, 64]⟩
abbrev S8192x1 : Shape := ⟨2, ![8192, 1]⟩
abbrev S2x64 : Shape := ⟨2, ![2, 64]⟩
abbrev S8190x64 : Shape := ⟨2, ![8190, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x4x64 : Shape := ⟨3, ![8192, 4, 64]⟩
abbrev S4x64x8192 : Shape := ⟨3, ![4, 64, 8192]⟩
abbrev S4x8192x64 : Shape := ⟨3, ![4, 8192, 64]⟩

abbrev nBuf : Space → Nat
  | .hbm => 370
  | .vmem => 0
  | .smem => 0
  | _ => 0

abbrev hbmTy0_0 (i : Nat) : BufTy := match i % 128 with
  | 0 => ⟨S8192x2560, .bf16⟩
  | 1 => ⟨S8192x1024, .bf16⟩
  | 2 => ⟨S3x256, .f32⟩
  | 3 => ⟨S4x64x64, .f32⟩
  | 4 => ⟨S1x256, .f32⟩
  | 5 => ⟨S1x512, .f32⟩
  | 6 => ⟨S8192x2560, .f32⟩
  | 7 => ⟨S8192x1024, .f32⟩
  | 8 => ⟨S8192x1024, .f32⟩
  | 9 => ⟨S8192x512, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S1x256, .f32⟩
  | 16 => ⟨S256, .f32⟩
  | 17 => ⟨S1x256, .f32⟩
  | 18 => ⟨S8192x256, .f32⟩
  | 19 => ⟨S8192x256, .f32⟩
  | 20 => ⟨S1x256, .f32⟩
  | 21 => ⟨S256, .f32⟩
  | 22 => ⟨S_, .f32⟩
  | 23 => ⟨S1x256, .f32⟩
  | 24 => ⟨S8191x256, .f32⟩
  | 25 => ⟨S8192x256, .f32⟩
  | 26 => ⟨S_, .f32⟩
  | 27 => ⟨S1x256, .f32⟩
  | 28 => ⟨S1x256, .f32⟩
  | 29 => ⟨S8192x256, .f32⟩
  | 30 => ⟨S8192x256, .f32⟩
  | 31 => ⟨S8192x256, .f32⟩
  | 32 => ⟨S1x256, .f32⟩
  | 33 => ⟨S256, .f32⟩
  | 34 => ⟨S_, .f32⟩
  | 35 => ⟨S2x256, .f32⟩
  | 36 => ⟨S8190x256, .f32⟩
  | 37 => ⟨S8192x256, .f32⟩
  | 38 => ⟨S_, .f32⟩
  | 39 => ⟨S2x256, .f32⟩
  | 40 => ⟨S1x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S_, .f32⟩
  | 47 => ⟨S8192x256, .f32⟩
  | 48 => ⟨S8192, .i32⟩
  | 49 => ⟨S8192x64, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .f32⟩
  | 57 => ⟨S8192x1, .f32⟩
  | 58 => ⟨S_, .f32⟩
  | 59 => ⟨S2x64, .f32⟩
  | 60 => ⟨S8190x64, .f32⟩
  | 61 => ⟨S8192x64, .f32⟩
  | 62 => ⟨S_, .f32⟩
  | 63 => ⟨S2x64, .f32⟩
  | 64 => ⟨S8192x64, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .f32⟩
  | 77 => ⟨S8192x1, .f32⟩
  | 78 => ⟨S_, .f32⟩
  | 79 => ⟨S4x64, .f32⟩
  | 80 => ⟨S8188x64, .f32⟩
  | 81 => ⟨S8192x64, .f32⟩
  | 82 => ⟨S_, .f32⟩
  | 83 => ⟨S4x64, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S8192x64, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .f32⟩
  | 97 => ⟨S8192x1, .f32⟩
  | 98 => ⟨S_, .f32⟩
  | 99 => ⟨S8x64, .f32⟩
  | 100 => ⟨S8184x64, .f32⟩
  | 101 => ⟨S8192x64, .f32⟩
  | 102 => ⟨S_, .f32⟩
  | 103 => ⟨S8x64, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .f32⟩
  | 117 => ⟨S8192x1, .f32⟩
  | 118 => ⟨S_, .f32⟩
  | 119 => ⟨S16x64, .f32⟩
  | 120 => ⟨S8176x64, .f32⟩
  | 121 => ⟨S8192x64, .f32⟩
  | 122 => ⟨S_, .f32⟩
  | 123 => ⟨S16x64, .f32⟩
  | 124 => ⟨S8192x64, .f32⟩
  | 125 => ⟨S8192x64, .f32⟩
  | 126 => ⟨S8192x64, .f32⟩
  | 127 => ⟨S8192x64, .f32⟩
  | _ => ⟨S8192x2560, .bf16⟩

abbrev hbmTy0_1 (i : Nat) : BufTy := match i % 128 with
  | 0 => ⟨S8192x64, .f32⟩
  | 1 => ⟨S8192x256, .f32⟩
  | 2 => ⟨S8192x4x64, .f32⟩
  | 3 => ⟨S4x64x8192, .f32⟩
  | 4 => ⟨S8192x4x64, .f32⟩
  | 5 => ⟨S8192x256, .f32⟩
  | 6 => ⟨S8192x256, .f32⟩
  | 7 => ⟨S8192x256, .f32⟩
  | 8 => ⟨S1x256, .f32⟩
  | 9 => ⟨S8192x256, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x256, .f32⟩
  | 25 => ⟨S8192x256, .f32⟩
  | 26 => ⟨S8192x256, .f32⟩
  | 27 => ⟨S8192x256, .f32⟩
  | 28 => ⟨S1x256, .f32⟩
  | 29 => ⟨S8192x256, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S8192x256, .f32⟩
  | 47 => ⟨S8192x256, .f32⟩
  | 48 => ⟨S8192x512, .f32⟩
  | 49 => ⟨S8192x256, .f32⟩
  | 50 => ⟨S8192x256, .f32⟩
  | 51 => ⟨S8192x256, .f32⟩
  | 52 => ⟨S_, .f32⟩
  | 53 => ⟨S256, .f32⟩
  | 54 => ⟨S1x256, .f32⟩
  | 55 => ⟨S8192x256, .f32⟩
  | 56 => ⟨S8192x256, .f32⟩
  | 57 => ⟨S8192x256, .f32⟩
  | 58 => ⟨S_, .f32⟩
  | 59 => ⟨S8192, .f32⟩
  | 60 => ⟨S8192x1, .f32⟩
  | 61 => ⟨S8192x256, .f32⟩
  | 62 => ⟨S8192x256, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S1x512, .f32⟩
  | 76 => ⟨S8192x256, .f32⟩
  | 77 => ⟨S_, .f32⟩
  | 78 => ⟨S256, .f32⟩
  | 79 => ⟨S1x256, .f32⟩
  | 80 => ⟨S8192x256, .f32⟩
  | 81 => ⟨S8192x256, .f32⟩
  | 82 => ⟨S8192x256, .f32⟩
  | 83 => ⟨S_, .f32⟩
  | 84 => ⟨S8192, .f32⟩
  | 85 => ⟨S8192x1, .f32⟩
  | 86 => ⟨S8192x256, .f32⟩
  | 87 => ⟨S8192x256, .f32⟩
  | 88 => ⟨S8192x1, .f32⟩
  | 89 => ⟨S_, .f32⟩
  | 90 => ⟨S8192x1, .f32⟩
  | 91 => ⟨S8192x1, .f32⟩
  | 92 => ⟨S_, .f32⟩
  | 93 => ⟨S8192, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S_, .f32⟩
  | 100 => ⟨S1x512, .f32⟩
  | 101 => ⟨S1x512, .f32⟩
  | 102 => ⟨S8192x256, .f32⟩
  | 103 => ⟨S_, .f32⟩
  | 104 => ⟨S256, .f32⟩
  | 105 => ⟨S1x256, .f32⟩
  | 106 => ⟨S8192x256, .f32⟩
  | 107 => ⟨S8192x256, .f32⟩
  | 108 => ⟨S8192x4x64, .f32⟩
  | 109 => ⟨S4x64x8192, .f32⟩
  | 110 => ⟨S4x8192x64, .f32⟩
  | 111 => ⟨S8192x4x64, .f32⟩
  | 112 => ⟨S4x64x64, .f32⟩
  | 113 => ⟨S4x64x64, .f32⟩
  | 114 => ⟨S8192x256, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S_, .f32⟩
  | 121 => ⟨S8192x256, .f32⟩
  | 122 => ⟨S8192x64, .f32⟩
  | 123 => ⟨S8192x64, .f32⟩
  | 124 => ⟨S8192x64, .f32⟩
  | 125 => ⟨S16x64, .f32⟩
  | 126 => ⟨S8176x64, .f32⟩
  | 127 => ⟨S_, .f32⟩
  | _ => ⟨S8192x2560, .bf16⟩

abbrev hbmTy0_2 (i : Nat) : BufTy := match i % 128 with
  | 0 => ⟨S8192x64, .f32⟩
  | 1 => ⟨S8192x64, .f32⟩
  | 2 => ⟨S_, .f32⟩
  | 3 => ⟨S8192x256, .f32⟩
  | 4 => ⟨S8192x64, .f32⟩
  | 5 => ⟨S_, .f32⟩
  | 6 => ⟨S8192x256, .f32⟩
  | 7 => ⟨S8192x256, .f32⟩
  | 8 => ⟨S8192x64, .f32⟩
  | 9 => ⟨S8192x64, .f32⟩
  | 10 => ⟨S8192x64, .f32⟩
  | 11 => ⟨S8x64, .f32⟩
  | 12 => ⟨S8184x64, .f32⟩
  | 13 => ⟨S_, .f32⟩
  | 14 => ⟨S8192x64, .f32⟩
  | 15 => ⟨S8192x64, .f32⟩
  | 16 => ⟨S_, .f32⟩
  | 17 => ⟨S8192x256, .f32⟩
  | 18 => ⟨S8192x256, .f32⟩
  | 19 => ⟨S8192x64, .f32⟩
  | 20 => ⟨S_, .f32⟩
  | 21 => ⟨S8192x256, .f32⟩
  | 22 => ⟨S8192x256, .f32⟩
  | 23 => ⟨S8192x64, .f32⟩
  | 24 => ⟨S8192x64, .f32⟩
  | 25 => ⟨S8192x64, .f32⟩
  | 26 => ⟨S4x64, .f32⟩
  | 27 => ⟨S8188x64, .f32⟩
  | 28 => ⟨S_, .f32⟩
  | 29 => ⟨S8192x64, .f32⟩
  | 30 => ⟨S8192x64, .f32⟩
  | 31 => ⟨S_, .f32⟩
  | 32 => ⟨S8192x256, .f32⟩
  | 33 => ⟨S8192x256, .f32⟩
  | 34 => ⟨S8192x64, .f32⟩
  | 35 => ⟨S_, .f32⟩
  | 36 => ⟨S8192x256, .f32⟩
  | 37 => ⟨S8192x256, .f32⟩
  | 38 => ⟨S8192x64, .f32⟩
  | 39 => ⟨S8192x64, .f32⟩
  | 40 => ⟨S8192x64, .f32⟩
  | 41 => ⟨S2x64, .f32⟩
  | 42 => ⟨S8190x64, .f32⟩
  | 43 => ⟨S_, .f32⟩
  | 44 => ⟨S8192x64, .f32⟩
  | 45 => ⟨S8192x64, .f32⟩
  | 46 => ⟨S_, .f32⟩
  | 47 => ⟨S8192x256, .f32⟩
  | 48 => ⟨S8192x256, .f32⟩
  | 49 => ⟨S_, .f32⟩
  | 50 => ⟨S_, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S256, .f32⟩
  | 60 => ⟨S1x256, .f32⟩
  | 61 => ⟨S_, .f32⟩
  | 62 => ⟨S256, .f32⟩
  | 63 => ⟨S2x256, .f32⟩
  | 64 => ⟨S8190x256, .f32⟩
  | 65 => ⟨S_, .f32⟩
  | 66 => ⟨S8192x256, .f32⟩
  | 67 => ⟨S1x256, .f32⟩
  | 68 => ⟨S_, .f32⟩
  | 69 => ⟨S3x256, .f32⟩
  | 70 => ⟨S8192x256, .f32⟩
  | 71 => ⟨S8192x256, .f32⟩
  | 72 => ⟨S8192x256, .f32⟩
  | 73 => ⟨S_, .f32⟩
  | 74 => ⟨S256, .f32⟩
  | 75 => ⟨S1x256, .f32⟩
  | 76 => ⟨S_, .f32⟩
  | 77 => ⟨S256, .f32⟩
  | 78 => ⟨S1x256, .f32⟩
  | 79 => ⟨S8191x256, .f32⟩
  | 80 => ⟨S_, .f32⟩
  | 81 => ⟨S8192x256, .f32⟩
  | 82 => ⟨S8192x256, .f32⟩
  | 83 => ⟨S1x256, .f32⟩
  | 84 => ⟨S_, .f32⟩
  | 85 => ⟨S3x256, .f32⟩
  | 86 => ⟨S3x256, .f32⟩
  | 87 => ⟨S8192x256, .f32⟩
  | 88 => ⟨S8192x256, .f32⟩
  | 89 => ⟨S8192x256, .f32⟩
  | 90 => ⟨S8192x256, .f32⟩
  | 91 => ⟨S_, .f32⟩
  | 92 => ⟨S256, .f32⟩
  | 93 => ⟨S1x256, .f32⟩
  | 94 => ⟨S_, .f32⟩
  | 95 => ⟨S256, .f32⟩
  | 96 => ⟨S1x256, .f32⟩
  | 97 => ⟨S_, .f32⟩
  | 98 => ⟨S3x256, .f32⟩
  | 99 => ⟨S3x256, .f32⟩
  | 100 => ⟨S8192x256, .f32⟩
  | 101 => ⟨S8192x256, .f32⟩
  | 102 => ⟨S_, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S8192x1024, .bf16⟩
  | _ => ⟨S8192x2560, .bf16⟩

abbrev hbmTy (i : Nat) : BufTy := match i / 128 with
  | 0 => hbmTy0_0 i
  | 1 => hbmTy0_1 i
  | 2 => hbmTy0_2 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_call0_cst : Ref sig .tc := ⟨.hbm, 45, rfl⟩
abbrev main_call0_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_c_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_6 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_10 : Ref sig .tc := ⟨.hbm, 90, rfl⟩
abbrev main_v70 : Ref sig .tc := ⟨.hbm, 91, rfl⟩
abbrev main_v71 : Ref sig .tc := ⟨.hbm, 92, rfl⟩
abbrev main_c_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_14 : Ref sig .tc := ⟨.hbm, 110, rfl⟩
abbrev main_v86 : Ref sig .tc := ⟨.hbm, 111, rfl⟩
abbrev main_v87 : Ref sig .tc := ⟨.hbm, 112, rfl⟩
abbrev main_c_15 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_18 : Ref sig .tc := ⟨.hbm, 138, rfl⟩
abbrev main_v110 : Ref sig .tc := ⟨.hbm, 139, rfl⟩
abbrev main_v111 : Ref sig .tc := ⟨.hbm, 140, rfl⟩
abbrev main_cst_19 : Ref sig .tc := ⟨.hbm, 141, rfl⟩
abbrev main_v112 : Ref sig .tc := ⟨.hbm, 142, rfl⟩
abbrev main_v113 : Ref sig .tc := ⟨.hbm, 143, rfl⟩
abbrev main_cst_20 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_21 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_22 : Ref sig .tc := ⟨.hbm, 158, rfl⟩
abbrev main_v126 : Ref sig .tc := ⟨.hbm, 159, rfl⟩
abbrev main_v127 : Ref sig .tc := ⟨.hbm, 160, rfl⟩
abbrev main_cst_23 : Ref sig .tc := ⟨.hbm, 161, rfl⟩
abbrev main_v128 : Ref sig .tc := ⟨.hbm, 162, rfl⟩
abbrev main_v129 : Ref sig .tc := ⟨.hbm, 163, rfl⟩
abbrev main_cst_24 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_25 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_26 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_27 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_28 : Ref sig .tc := ⟨.hbm, 192, rfl⟩
abbrev main_v154 : Ref sig .tc := ⟨.hbm, 193, rfl⟩
abbrev main_v155 : Ref sig .tc := ⟨.hbm, 194, rfl⟩
abbrev main_cst_29 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_30 : Ref sig .tc := ⟨.hbm, 202, rfl⟩
abbrev main_v162 : Ref sig .tc := ⟨.hbm, 203, rfl⟩
abbrev main_v163 : Ref sig .tc := ⟨.hbm, 204, rfl⟩
abbrev main_cst_31 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_32 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_33 : Ref sig .tc := ⟨.hbm, 217, rfl⟩
abbrev main_v174 : Ref sig .tc := ⟨.hbm, 218, rfl⟩
abbrev main_v175 : Ref sig .tc := ⟨.hbm, 219, rfl⟩
abbrev main_cst_34 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_35 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_36 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_37 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_cst_38 : Ref sig .tc := ⟨.hbm, 255, rfl⟩
abbrev main_v207 : Ref sig .tc := ⟨.hbm, 256, rfl⟩
abbrev main_v208 : Ref sig .tc := ⟨.hbm, 257, rfl⟩
abbrev main_cst_39 : Ref sig .tc := ⟨.hbm, 258, rfl⟩
abbrev main_v209 : Ref sig .tc := ⟨.hbm, 259, rfl⟩
abbrev main_v210 : Ref sig .tc := ⟨.hbm, 260, rfl⟩
abbrev main_cst_40 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_cst_41 : Ref sig .tc := ⟨.hbm, 269, rfl⟩
abbrev main_v218 : Ref sig .tc := ⟨.hbm, 270, rfl⟩
abbrev main_v219 : Ref sig .tc := ⟨.hbm, 271, rfl⟩
abbrev main_cst_42 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_cst_43 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_cst_44 : Ref sig .tc := ⟨.hbm, 284, rfl⟩
abbrev main_v230 : Ref sig .tc := ⟨.hbm, 285, rfl⟩
abbrev main_v231 : Ref sig .tc := ⟨.hbm, 286, rfl⟩
abbrev main_cst_45 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_46 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_cst_47 : Ref sig .tc := ⟨.hbm, 299, rfl⟩
abbrev main_v242 : Ref sig .tc := ⟨.hbm, 300, rfl⟩
abbrev main_v243 : Ref sig .tc := ⟨.hbm, 301, rfl⟩
abbrev main_cst_48 : Ref sig .tc := ⟨.hbm, 302, rfl⟩
abbrev main_v244 : Ref sig .tc := ⟨.hbm, 303, rfl⟩
abbrev main_v245 : Ref sig .tc := ⟨.hbm, 304, rfl⟩
abbrev main_call1_call0_cst : Ref sig .tc := ⟨.hbm, 305, rfl⟩
abbrev main_call1_call0_v0 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_cst_49 : Ref sig .tc := ⟨.hbm, 314, rfl⟩
abbrev main_v253 : Ref sig .tc := ⟨.hbm, 315, rfl⟩
abbrev main_v254 : Ref sig .tc := ⟨.hbm, 316, rfl⟩
abbrev main_cst_50 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_cst_51 : Ref sig .tc := ⟨.hbm, 321, rfl⟩
abbrev main_v258 : Ref sig .tc := ⟨.hbm, 322, rfl⟩
abbrev main_v259 : Ref sig .tc := ⟨.hbm, 323, rfl⟩
abbrev main_cst_52 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_cst_53 : Ref sig .tc := ⟨.hbm, 329, rfl⟩
abbrev main_v264 : Ref sig .tc := ⟨.hbm, 330, rfl⟩
abbrev main_v265 : Ref sig .tc := ⟨.hbm, 331, rfl⟩
abbrev main_cst_54 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_cst_55 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_cst_56 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_cst_57 : Ref sig .tc := ⟨.hbm, 347, rfl⟩
abbrev main_v278 : Ref sig .tc := ⟨.hbm, 348, rfl⟩
abbrev main_v279 : Ref sig .tc := ⟨.hbm, 349, rfl⟩
abbrev main_cst_58 : Ref sig .tc := ⟨.hbm, 350, rfl⟩
abbrev main_v280 : Ref sig .tc := ⟨.hbm, 351, rfl⟩
abbrev main_v281 : Ref sig .tc := ⟨.hbm, 352, rfl⟩
abbrev main_cst_59 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_cst_60 : Ref sig .tc := ⟨.hbm, 358, rfl⟩
abbrev main_v286 : Ref sig .tc := ⟨.hbm, 359, rfl⟩
abbrev main_cst_61 : Ref sig .tc := ⟨.hbm, 360, rfl⟩
abbrev main_v287 : Ref sig .tc := ⟨.hbm, 361, rfl⟩
abbrev main_v288 : Ref sig .tc := ⟨.hbm, 362, rfl⟩
abbrev main_cst_62 : Ref sig .tc := ⟨.hbm, 363, rfl⟩
abbrev main_v289 : Ref sig .tc := ⟨.hbm, 364, rfl⟩
abbrev main_v290 : Ref sig .tc := ⟨.hbm, 365, rfl⟩
abbrev main_cst_63 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S4x352x1024 : Shape := ⟨3, ![4, 352, 1024]⟩
abbrev S2048x1408 : Shape := ⟨2, ![2048, 1408]⟩
abbrev S2048x1024 : Shape := ⟨2, ![2048, 1024]⟩
abbrev S2x352x1024 : Shape := ⟨3, ![2, 352, 1024]⟩
abbrev S1408x1024 : Shape := ⟨2, ![1408, 1024]⟩
abbrev S352x1024 : Shape := ⟨2, ![352, 1024]⟩
abbrev S1x352x1024 : Shape := ⟨3, ![1, 352, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x352x1024, .bf16⟩
  | .hbm, ⟨3, _⟩ => ⟨S4x352x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x352x1024, .bf16⟩
  | .local _ .vmem, ⟨5, _⟩ => ⟨S2x352x1024, .bf16⟩
  | .local _ .vmem, ⟨6, _⟩ => ⟨S2x352x1024, .bf16⟩
  | .local _ .vmem, ⟨7, _⟩ => ⟨S2x352x1024, .bf16⟩
  | .local _ .vmem, ⟨8, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S4x1x352x1024 : Shape := ⟨4, ![4, 1, 352, 1024]⟩
abbrev S4x352x1024 : Shape := ⟨3, ![4, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S4x2x352x1024, .f32⟩
  | .hbm, ⟨10, _⟩ => ⟨S4x2x352x1024, .bf16⟩
  | .hbm, ⟨11, _⟩ => ⟨S4x1x352x1024, .bf16⟩
  | .hbm, ⟨12, _⟩ => ⟨S4x352x1024, .bf16⟩
  | .hbm, ⟨13, _⟩ => ⟨S4x1x352x1024, .bf16⟩
  | .hbm, ⟨14, _⟩ => ⟨S4x352x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== WgradGu.lean ====
abbrev S8192x2816 : Shape := ⟨2, ![8192, 2816]⟩
abbrev S8192x1024 : Shape := ⟨2, ![8192, 1024]⟩
abbrev S4x704x1024 : Shape := ⟨3, ![4, 704, 1024]⟩
abbrev S2048x1408 : Shape := ⟨2, ![2048, 1408]⟩
abbrev S2048x1024 : Shape := ⟨2, ![2048, 1024]⟩
abbrev S1x704x1024 : Shape := ⟨3, ![1, 704, 1024]⟩
abbrev S1408x1024 : Shape := ⟨2, ![1408, 1024]⟩
abbrev S704x1024 : Shape := ⟨2, ![704, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S4x704x1024, .bf16⟩
  | .hbm, ⟨4, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg0 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WgradGuRefIdeal.lean ====
abbrev S8192x2816 : Shape := ⟨2, ![8192, 2816]⟩
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S4x2x704x1024 : Shape := ⟨4, ![4, 2, 704, 1024]⟩
abbrev S4x1x704x1024 : Shape := ⟨4, ![4, 1, 704, 1024]⟩
abbrev S4x704x1024 : Shape := ⟨3, ![4, 704, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x5632, .bf16⟩
  | .hbm, ⟨4, _⟩ => ⟨S_, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S4x2x704x1024, .f32⟩
  | .hbm, ⟨13, _⟩ => ⟨S4x2x704x1024, .bf16⟩
  | .hbm, ⟨14, _⟩ => ⟨S4x1x704x1024, .bf16⟩
  | .hbm, ⟨15, _⟩ => ⟨S4x704x1024, .bf16⟩
  | .hbm, ⟨16, _⟩ => ⟨S4x1x704x1024, .bf16⟩
  | .hbm, ⟨17, _⟩ => ⟨S4x704x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== WgradOut.lean ====
abbrev S8192x1024 : Shape := ⟨2, ![8192, 1024]⟩
abbrev S4x128x1024 : Shape := ⟨3, ![4, 128, 1024]⟩
abbrev S2048x1024 : Shape := ⟨2, ![2048, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x128x1024, .bf16⟩
  | .hbm, ⟨3, _⟩ => ⟨S4x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WgradOutRefIdeal.lean ====
abbrev S8192x1024 : Shape := ⟨2, ![8192, 1024]⟩
abbrev S_ : Shape := ⟨0, ![]⟩
abbrev S1024x1024 : Shape := ⟨2, ![1024, 1024]⟩
abbrev S4x2x128x1024 : Shape := ⟨4, ![4, 2, 128, 1024]⟩
abbrev S4x1x128x1024 : Shape := ⟨4, ![4, 1, 128, 1024]⟩
abbrev S4x128x1024 : Shape := ⟨3, ![4, 128, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x2x128x1024, .f32⟩
  | .hbm, ⟨10, _⟩ => ⟨S4x2x128x1024, .bf16⟩
  | .hbm, ⟨11, _⟩ => ⟨S4x1x128x1024, .bf16⟩
  | .hbm, ⟨12, _⟩ => ⟨S4x128x1024, .bf16⟩
  | .hbm, ⟨13, _⟩ => ⟨S4x1x128x1024, .bf16⟩
  | .hbm, ⟨14, _⟩ => ⟨S4x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== WgradIn.lean ====
abbrev S8192x1024 : Shape := ⟨2, ![8192, 1024]⟩
abbrev S8192x512 : Shape := ⟨2, ![8192, 512]⟩
abbrev S2560x1024 : Shape := ⟨2, ![2560, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S2560x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![5, 1, 4], ![false, false, false]⟩

def k0_cond6 (i : grid0.Coords) : BitVec 1 :=
  let arg2 : BitVec 32 := BitVec.ofNat 32 (i 2).val
  let c3_i32_9 : BitVec 32 := 3#32
  let v23 : BitVec 1 := Scalar.cmpi .eq arg2 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg0 c3_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg0 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg0 c4_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg2 c0_i32
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WgradInRefIdeal.lean ====
abbrev S8192x1024 : Shape := ⟨2, ![8192, 1024]⟩
abbrev S8192x512 : Shape := ⟨2, ![8192, 512]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x2560, .bf16⟩
  | .hbm, ⟨6, _⟩ => ⟨S_, .f32⟩
  | .hbm, ⟨7, _⟩ => ⟨S1024x2560, .f32⟩
  | .hbm, ⟨8, _⟩ => ⟨S8192x1024, .f32⟩
  | .hbm, ⟨9, _⟩ => ⟨S8192x2560, .f32⟩
  | .hbm, ⟨10, _⟩ => ⟨S8192x2560, .f32⟩
  | .hbm, ⟨11, _⟩ => ⟨S2560x1024, .f32⟩
  | .hbm, ⟨12, _⟩ => ⟨S1024x2560, .f32⟩
  | .hbm, ⟨13, _⟩ => ⟨S2560x1024, .f32⟩
  | .hbm, ⟨14, _⟩ => ⟨S2560x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proj.lean ====
abbrev S8192x1024 : Shape := ⟨2, ![8192, 1024]⟩
abbrev S1024x2560 : Shape := ⟨2, ![1024, 2560]⟩
abbrev S2560x1024 : Shape := ⟨2, ![2560, 1024]⟩
abbrev S8192x2560 : Shape := ⟨2, ![8192, 2560]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S2560x1024, .f32⟩
  | .hbm, ⟨3, _⟩ => ⟨S2560x1024, .bf16⟩
  | .hbm, ⟨4, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S1024x2560, .bf16⟩
  | .local _ .vmem, ⟨4, _⟩ => ⟨S1024x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S8192x1024, .f32⟩
  | .hbm, ⟨3, _⟩ => ⟨S8192x2560, .f32⟩
  | .hbm, ⟨4, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DgradOut.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgradOutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gated.lean ====
abbrev S8192x1024 : Shape := ⟨2, ![8192, 1024]⟩
abbrev S1024x5632 : Shape := ⟨2, ![1024, 5632]⟩
abbrev S2816x1024 : Shape := ⟨2, ![2816, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 12
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S2816x1024, .f32⟩
  | .hbm, ⟨3, _⟩ => ⟨S8192x1024, .bf16⟩
  | .hbm, ⟨4, _⟩ => ⟨S5632x1024, .f32⟩
  | .hbm, ⟨5, _⟩ => ⟨S5632x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S2816x1024, .bf16⟩
  | .hbm, ⟨10, _⟩ => ⟨S8192x2816, .bf16⟩
  | .hbm, ⟨11, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1024, .bf16⟩
  | .local _ .vmem, ⟨13, _⟩ => ⟨S1024x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GatedRefIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S2816x1024, .f32⟩
  | .hbm, ⟨3, _⟩ => ⟨S8192x1024, .bf16⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x5632, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S8192x2816, .bf16⟩
  | .hbm, ⟨49, _⟩ => ⟨S8192x2816, .f32⟩
  | .hbm, ⟨50, _⟩ => ⟨S8192x2816, .bf16⟩
  | .hbm, ⟨51, _⟩ => ⟨S8192x2816, .f32⟩
  | .hbm, ⟨52, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v7_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v7_1 : Ref sig .tc := ⟨.hbm, 30, rfl⟩
abbrev main_v7_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S2816x1024, .bf16⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FfnDownLast.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S2816x1024, .bf16⟩
  | .hbm, ⟨5, _⟩ => ⟨S8192x1024, .bf16⟩
  | .hbm, ⟨6, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownLastRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DgradGu.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S5632x1024, .f32⟩
  | .hbm, ⟨9, _⟩ => ⟨S5632x1024, .bf16⟩
  | .hbm, ⟨10, _⟩ => ⟨S8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DgradGuRefIdeal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x5632, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== DgradIn.lean ====
abbrev S8192x1024 : Shape := ⟨2, ![8192, 1024]⟩
abbrev S8192x512 : Shape := ⟨2, ![8192, 512]⟩
abbrev S1024x2560 : Shape := ⟨2, ![1024, 2560]⟩
abbrev S1x1024 : Shape := ⟨2, ![1, 1024]⟩
abbrev S2560x1024 : Shape := ⟨2, ![2560, 1024]⟩
abbrev S512x1024 : Shape := ⟨2, ![512, 1024]⟩
abbrev S512x512 : Shape := ⟨2, ![512, 512]⟩
abbrev S1024x1024 : Shape := ⟨2, ![1024, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S1024x2560, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S2560x1024, .f32⟩
  | .hbm, ⟨11, _⟩ => ⟨S2560x1024, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2560x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DgradInRefIdeal.lean ====
abbrev S8192x1024 : Shape := ⟨2, ![8192, 1024]⟩
abbrev S8192x512 : Shape := ⟨2, ![8192, 512]⟩
abbrev S1024x2560 : Shape := ⟨2, ![1024, 2560]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S1024x2560, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S8192x2560, .bf16⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2560, .f32⟩
  | .hbm, ⟨31, _⟩ => ⟨S8192x2560, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Proof.Spec.lean ====
/- The mathematics of the two mixers' gradient over the reals: every quantity of the forward pass and of the
   gradient as a function of a row and a column, both plain natural numbers. Both programs are shown to compute
   these functions. `P` are the four projected quarters side by side, `D` the gradient that arrives, `cw` the
   convolution's taps, `bd` the pooling weights as one matrix, `ps` the pooling scale, `gg` the norms' gains. -/
module

public import Idealize.ShloMosaic.Lib.Pointwise

@[expose] public section

noncomputable section

namespace Mix

open Finset

/-- `f` read `n` rows earlier, zero before the first row. -/
def back (n : ℕ) (f : ℕ → ℕ → ℝ) (s c : ℕ) : ℝ := if n ≤ s then f (s - n) c else 0

/-- How many rows the pooling window of column `c` holds: 2, 4, 8 or 16. -/
def win (c : ℕ) : ℕ := if c < 64 then 2 else if c < 128 then 4 else if c < 192 then 8 else 16

/-- The norms' epsilon, the exact value of the float written in the source. -/
def eps : ℝ := 8796093 / 2 ^ 43

theorem eps_pos : 0 < eps := by unfold eps; positivity

theorem ofBits_eps : Idealize.ShloMosaic.Ideal.ofBits .f32 0x358637BD#32 = ((eps : ℝ) : EReal) := by
  simp [Idealize.ShloMosaic.Ideal.ofBits, Idealize.ShloMosaic.Ideal.ieee, eps, -EReal.coe_mul]
  norm_num

theorem ofBits_256 : Idealize.ShloMosaic.Ideal.ofBits .f32 0x43800000#32 = ((256 : ℝ) : EReal) := by
  simp [Idealize.ShloMosaic.Ideal.ofBits, Idealize.ShloMosaic.Ideal.ieee, -EReal.coe_mul]
  norm_num

theorem ofBits_2 : Idealize.ShloMosaic.Ideal.ofBits .f32 0x40000000#32 = ((2 : ℝ) : EReal) := by
  simp [Idealize.ShloMosaic.Ideal.ofBits, Idealize.ShloMosaic.Ideal.ieee, -EReal.coe_mul]
  norm_num

theorem ofBits_4 : Idealize.ShloMosaic.Ideal.ofBits .f32 0x40800000#32 = ((4 : ℝ) : EReal) := by
  simp [Idealize.ShloMosaic.Ideal.ofBits, Idealize.ShloMosaic.Ideal.ieee, -EReal.coe_mul]
  norm_num

theorem ofBits_8 : Idealize.ShloMosaic.Ideal.ofBits .f32 0x41000000#32 = ((8 : ℝ) : EReal) := by
  simp [Idealize.ShloMosaic.Ideal.ofBits, Idealize.ShloMosaic.Ideal.ieee, -EReal.coe_mul]
  norm_num

theorem ofBits_16 : Idealize.ShloMosaic.Ideal.ofBits .f32 0x41800000#32 = ((16 : ℝ) : EReal) := by
  simp [Idealize.ShloMosaic.Ideal.ofBits, Idealize.ShloMosaic.Ideal.ieee, -EReal.coe_mul]
  norm_num

theorem ofBits_neg_half : Idealize.ShloMosaic.Ideal.ofBits .f32 0xBF000000#32 = ((-(1 / 2) : ℝ) : EReal) := by
  simp [Idealize.ShloMosaic.Ideal.ofBits, Idealize.ShloMosaic.Ideal.ieee, -EReal.coe_mul]
  norm_num

/-- A quotient of reals whose divisor is not zero is the real quotient. -/
theorem div_real (x y : ℝ) (h : y ≠ 0) : Idealize.ShloMosaic.Ideal.div (x : EReal) (y : EReal) = ((x / y : ℝ) : EReal) := by
  rw [Idealize.ShloMosaic.Ideal.div_coe h, ← EReal.coe_mul, mul_one_div]

/-- The reciprocal square root of a positive real. -/
theorem rsqrt_real (x : ℝ) (h : 0 < x) : Idealize.ShloMosaic.Ideal.rsqrt (x : EReal) = (((Real.sqrt x)⁻¹ : ℝ) : EReal) := by
  rw [Idealize.ShloMosaic.Ideal.rsqrt_coe, if_neg (not_lt.2 h.le), if_neg h.ne']

/-- A finite sum of reals, read as an extended real. -/
theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

section norm

variable (y dy : ℕ → ℕ → ℝ) (g : ℕ → ℝ)

/-- A row's mean square, plus epsilon. -/
def ms (s : ℕ) : ℝ := (∑ k : Fin 256, y s k * y s k) / 256 + eps

/-- The factor that normalises a row. -/
def rr (s : ℕ) : ℝ := (Real.sqrt (ms y s))⁻¹

/-- The gradient of the normalisation with respect to what it normalises. -/
def nb (s c : ℕ) : ℝ :=
  rr y s * (dy s c * g c - y s c * (rr y s * rr y s * ((∑ k : Fin 256, dy s k * g k * y s k) / 256)))

/-- One row's share of the gradient with respect to the gain. -/
def ng (s c : ℕ) : ℝ := dy s c * (y s c * rr y s)

theorem ms_pos (s : ℕ) : 0 < ms y s := by
  have : 0 ≤ ∑ k : Fin 256, y s k * y s k := Finset.sum_nonneg fun k _ => mul_self_nonneg _
  unfold ms
  have := eps_pos
  positivity

theorem nb_zero (s : ℕ) (h : ∀ c, dy s c = 0) (c : ℕ) : nb y dy g s c = 0 := by
  simp [nb, h]

end norm

variable (P D cw bd : ℕ → ℕ → ℝ) (ps gg : ℕ → ℝ)

/-- What the convolution runs over. -/
def z (s c : ℕ) : ℝ := P s (256 + c) * P s (512 + c)

/-- The causal convolution over the last three rows. -/
def conv (s c : ℕ) : ℝ := cw 2 c * z P s c + cw 1 c * back 1 (z P) s c + cw 0 c * back 2 (z P) s c

/-- The convolution mixer's output, gated. -/
def ya (s c : ℕ) : ℝ := P s c * conv P cw s c

/-- What the pooling averages. -/
def x (s c : ℕ) : ℝ := P s (768 + c)

/-- How many rows an average is over. -/
def cnt (s c : ℕ) : ℝ := min ((s : ℝ) + 1) (win c : ℝ)

/-- A window's sum. -/
def wsum (s c : ℕ) : ℝ := ∑ j ∈ range (win c), back j (x P) s c

/-- The average less the row itself. -/
def d (s c : ℕ) : ℝ := wsum P s c / cnt s c - x P s c

/-- The pooled rows times the weights. -/
def yp (s c : ℕ) : ℝ := ∑ k : Fin 256, d P s k * bd k c

/-- The pooling mixer's output, scaled. -/
def yb (s c : ℕ) : ℝ := yp P bd s c * ps c

/-- The gradient at the convolution mixer's output. -/
def dya (s c : ℕ) : ℝ := nb (ya P cw) D gg s c

/-- The gradient at the pooling mixer's output. -/
def dyb (s c : ℕ) : ℝ := nb (yb P bd ps) (fun s c => D s (256 + c)) (fun c => gg (256 + c)) s c

/-- The gradient at the convolution. -/
def dconv (s c : ℕ) : ℝ := dya P D cw gg s c * P s c

/-- The gradient at what the convolution runs over. -/
def dz (s c : ℕ) : ℝ := cw 2 c * dconv P D cw gg s c + cw 1 c * dconv P D cw gg (s + 1) c + cw 0 c * dconv P D cw gg (s + 2) c

/-- The gradient at the product with the pooling weights. -/
def dys (s c : ℕ) : ℝ := dyb P D bd ps gg s c * ps c

/-- The gradient at the averages. -/
def dd (s c : ℕ) : ℝ := ∑ k : Fin 256, dys P D bd ps gg s k * bd c k

/-- … divided by how many rows each average is over. -/
def e (s c : ℕ) : ℝ := dd P D bd ps gg s c / cnt s c

/-- The gradient at what the pooling averages. -/
def dx (s c : ℕ) : ℝ := (∑ j ∈ range (win c), e P D bd ps gg (s + j) c) - dd P D bd ps gg s c

/-- The gradient at the four quarters side by side. -/
def dp (s c : ℕ) : ℝ :=
  if c < 256 then dya P D cw gg s c * conv P cw s c
  else if c < 512 then dz P D cw gg s (c - 256) * P s (256 + c)
  else if c < 768 then dz P D cw gg s (c - 512) * P s (c - 256)
  else dx P D bd ps gg s (c - 768)

/-- The gradient at the taps, summed over the first `n` rows. -/
def dcw (n j c : ℕ) : ℝ := ∑ s ∈ range n, dconv P D cw gg s c * back (2 - j) (z P) s c

/-- The gradient at the pooling weights. -/
def dbd (n k c : ℕ) : ℝ := ∑ s ∈ range n, d P s k * dys P D bd ps gg s c

/-- The gradient at the pooling scale. -/
def dps (n c : ℕ) : ℝ := ∑ s ∈ range n, dyb P D bd ps gg s c * yp P bd s c

/-- The gradient at the gains. -/
def dgg (n c : ℕ) : ℝ :=
  if c < 256 then ∑ s ∈ range n, ng (ya P cw) D s c
  else ∑ s ∈ range n, ng (yb P bd ps) (fun s c => D s (256 + c)) s (c - 256)

theorem win_pos (c : ℕ) : 0 < win c := by unfold win; split_ifs <;> norm_num

theorem cnt_pos (s c : ℕ) : 0 < cnt s c := by
  have : (0 : ℝ) < win c := by exact_mod_cast win_pos c
  unfold cnt; positivity

section arrays

open Idealize.ShloMosaic Idealize.ShloMosaic.TcCoe Idealize.ShloMosaic.Tactic

/-- A matrix of extended reals holds the reals `f` row by row and column by column. -/
def Is {n m : ℕ} (v : (⟨2, ![n, m]⟩ : Shape).Idx → EReal) (f : ℕ → ℕ → ℝ) : Prop :=
  ∀ (a : Fin n) (b : Fin m), v (ix2 a b) = (f a b : EReal)

theorem Is.congr {n m : ℕ} {v : (⟨2, ![n, m]⟩ : Shape).Idx → EReal} {f g : ℕ → ℕ → ℝ} (h : Is v f) (hfg : ∀ a b, a < n → b < m → f a b = g a b) : Is v g :=
  fun a b => (h a b).trans (congrArg _ (hfg a b a.isLt b.isLt))

/-- A whole array of the reals `f`. -/
def mat (N M : ℕ) (f : ℕ → ℕ → ℝ) : (⟨2, ![N, M]⟩ : Shape).Idx → EReal := fun i => (f (i 0).val (i 1).val : EReal)

theorem Is.mat {N M : ℕ} {v : (⟨2, ![N, M]⟩ : Shape).Idx → EReal} {f : ℕ → ℕ → ℝ} (h : Is v f) : v = mat N M f := by
  funext i
  rw [show i = ix2 (i 0) (i 1) from by funext k; fin_cases k <;> rfl]
  exact h _ _

/-- The diagonal blocks of a matrix of the reals `f`, one behind the other. -/
def cube (f : ℕ → ℕ → ℝ) : (⟨3, ![4, 64, 64]⟩ : Shape).Idx → EReal :=
  fun i => (f (64 * (i 0).val + (i 1).val) (64 * (i 0).val + (i 2).val) : EReal)

end arrays

end Mix

end
-- ==== Proof.Stages.lean ====
/- What each named value of the kernel's body is worth at a grid point, given what the point's blocks hold: the
   functions of Spec.lean at the point's rows. Row `r` of a 528-row value is row `512 n + r` of the sequence; row
   `e` of a 544-row value is row `512 n + e - 16`. -/
module

public import proofs.«01_k».proof.Proof.Gen.KernelIdeal.Skeleton
public import proofs.«01_k».proof.Proof.Spec
public import Idealize.ShloMosaic.Lib.WordCmp

@[expose] public section

noncomputable section

namespace Cert.KernelIdeal.Stages

open Cert.KernelIdeal.Gen Idealize.ShloMosaic Idealize.ShloMosaic.TcCoe Idealize.ShloMosaic.Tactic Mix

variable (P D cw bd : ℕ → ℕ → ℝ) (ps gg : ℕ → ℝ)

/-- The point's rows with their halo: zero above the first row of the sequence. -/
def ext (n e c : ℕ) : ℝ := if 16 ≤ 512 * n + e then P (512 * n + e - 16) c else 0

theorem sgt_zero (n : ℕ) (h : n < 16) : Scalar.cmpi CmpIPredicate.sgt (BitVec.ofNat 32 n) 0#32 = if n = 0 then 0#1 else 1#1 := by
  interval_cases n <;> rfl

theorem slt_last (n : ℕ) (h : n < 16) : Scalar.cmpi CmpIPredicate.slt (BitVec.ofNat 32 n) 15#32 = if n < 15 then 1#1 else 0#1 := by
  interval_cases n <;> rfl

/-- A selection by "this lane is below `k`". -/
theorem sel_lane {α : Type} (k b : ℕ) (hb : b < 256) (hk : k ≤ 256) (u v : α) :
    Scalar.select (IntOp.cmpi CmpIPredicate.slt (BitVec.ofNat 32 b) (BitVec.ofNat 32 k)) u v = if b < k then u else v := by
  rw [WordCmp.cmpi_slt_ofNat (by omega) (by omega)]
  by_cases h : b < k <;> simp [Scalar.select, h]

/-- The row a rotation by `k` reads, when no row wraps. -/
theorem rot (n k r : ℕ) (h : k ≤ r) (hr : r < n) : (r + n - k) % n = r - k := by
  rw [show r + n - k = (r - k) + n by omega, Nat.add_mod_right, Nat.mod_eq_of_lt (by omega)]

/-- … and when every row wraps. -/
theorem rot_up (n k r : ℕ) (hk : k ≤ n) (hr : r < k) : (r + n - k) % n = r + (n - k) := by
  rw [Nat.mod_eq_of_lt (by omega)]; omega

/-- A word's value as a row of the sequence, counted from one. -/
theorem row_word (n r : ℕ) (hn : n < 16) (hr : r < 528) :
    (FloatOps.sitofp (F := Ideal) FTy.f32 (IntOp.addi (IntOp.addi (Scalar.muli (BitVec.ofNat 32 n) 512#32) (BitVec.ofNat 32 r)) 1#32) : EReal)
      = (((512 * n + r : ℕ) : ℝ) + 1 : ℝ) := by
  have : (IntOp.addi (IntOp.addi (Scalar.muli (BitVec.ofNat 32 n) 512#32) (BitVec.ofNat 32 r)) 1#32) = BitVec.ofNat 32 (512 * n + r + 1) := by
    apply BitVec.eq_of_toNat_eq
    simp [IntOp.addi, Scalar.muli, IntOp.muli]
    omega
  rw [this]
  show (((BitVec.ofNat 32 (512 * n + r + 1)).toInt : ℝ) : EReal) = _
  rw [BitVec.toInt_eq_toNat_of_lt (by simp; omega)]
  rw [BitVec.toNat_ofNat, Nat.mod_eq_of_lt (by omega)]
  simp

theorem pay4_at (i : grid0.Coords) (v1 : Vec Ideal S16x1024 .bf16) (v5 : Vec Ideal S512x1024 .bf16) (v7 : Vec Ideal S16x1024 .bf16)
    (h1 : 0 < (i 0).val → Is v1 fun a => P (512 * (i 0).val + a - 16)) (h5 : Is v5 fun a => P (512 * (i 0).val + a))
    (h7 : Is v7 fun a => P (512 * (i 0).val + 512 + a)) : Is (k0_pay4 i v1 v5 v7) (ext P (i 0).val) := by
  intro a b
  have hn : (i 0).val < 16 := (i 0).isLt
  have ha : a.val < 544 := a.isLt
  pointwise [k0_pay4, k0_pay3]
  rw [sgt_zero _ hn]
  by_cases h0 : a.val < 16
  · rw [dif_pos h0]
    by_cases hz : (i 0).val = 0
    · rw [if_pos hz, show ext P (i 0).val a b = 0 from if_neg (by omega)]
      simp [Scalar.select]
    · rw [h1 (by omega), if_neg hz, show ext P (i 0).val a b = P (512 * (i 0).val + a - 16) b from if_pos (by omega)]
      simp [Scalar.select]
  · rw [dif_neg h0, show ext P (i 0).val a b = P (512 * (i 0).val + a - 16) b from if_pos (by omega)]
    by_cases h2 : a.val - 16 < 512
    · rw [dif_pos h2, h5]; exact congrArg (fun r => ((P r b : ℝ) : EReal)) (show 512 * (i 0).val + (a.val - 16) = _ by omega)
    · rw [dif_neg h2, h7]; exact congrArg (fun r => ((P r b : ℝ) : EReal)) (show 512 * (i 0).val + 512 + (a.val - 16 - 512) = _ by omega)

section blocks

variable (n : ℕ) (i : grid0.Coords) (hi : (i 0).val = n)
  {v1 : Vec Ideal S16x1024 .bf16} {v5 : Vec Ideal S512x1024 .bf16} {v7 : Vec Ideal S16x1024 .bf16}
  (h4 : Is (k0_pay4 i v1 v5 v7) (ext P n))
include h4

theorem pay6_at : Is (k0_pay6 i v1 v5 v7) fun r c => P (512 * n + r) c := by
  intro a b
  pointwise [k0_pay6]
  rw [h4]
  simp [ext]
  rw [if_pos (by omega)]
  congr 1; omega

theorem pay12_at : Is (k0_pay12 i v1 v5 v7) fun e c => ext P n e (768 + c) := by
  intro a b
  pointwise [k0_pay12]
  rw [h4]

theorem pay7_at : Is (k0_pay7 i v1 v5 v7) fun e c => ext P n e (256 + c) * ext P n e (512 + c) := by
  intro a b
  pointwise [k0_pay7]
  rw [h4, h4, ← EReal.coe_mul]

omit h4 in
/-- A row of the halo block, as the row that lies so many rows earlier. -/
theorem ext_back (j r c : ℕ) (hj : j ≤ 16) : ext P n (16 + r - j) c = back j P (512 * n + r) c := by
  unfold ext back
  by_cases h : j ≤ 512 * n + r
  · rw [if_pos (by omega), if_pos h]; congr 1; omega
  · rw [if_neg (by omega), if_neg h]

omit h4 in
theorem z_back (j r c : ℕ) (hj : j ≤ 16) :
    ext P n (16 + r - j) (256 + c) * ext P n (16 + r - j) (512 + c) = back j (z P) (512 * n + r) c := by
  rw [ext_back P n j r _ hj, ext_back P n j r _ hj]
  unfold back z
  split_ifs <;> simp

theorem pay8_at : Is (k0_pay8 i v1 v5 v7) fun r c => back 0 (z P) (512 * n + r) c := by
  intro a b
  pointwise [k0_pay8]
  rw [pay7_at P n i h4]
  simp only [← z_back P n 0 a b (by omega)]
  rfl

theorem pay9_at : Is (k0_pay9 i v1 v5 v7) fun r c => back 1 (z P) (512 * n + r) c := by
  intro a b
  pointwise [k0_pay9]
  rw [pay7_at P n i h4]
  simp only [← z_back P n 1 a b (by omega)]
  rw [rot _ _ _ (by omega) (by omega)]

theorem pay10_at : Is (k0_pay10 i v1 v5 v7) fun r c => back 2 (z P) (512 * n + r) c := by
  intro a b
  pointwise [k0_pay10]
  rw [pay7_at P n i h4]
  simp only [← z_back P n 2 a b (by omega)]
  rw [rot _ _ _ (by omega) (by omega)]

theorem pay11_at {v10 v11 v12 : Vec Ideal S1x256 .f32} (h10 : Is v10 fun _ => cw 0) (h11 : Is v11 fun _ => cw 1) (h12 : Is v12 fun _ => cw 2) :
    Is (k0_pay11 i v1 v5 v7 v10 v11 v12) fun r c => conv P cw (512 * n + r) c := by
  intro a b
  pointwise [k0_pay11]
  rw [pay8_at P n i h4, pay9_at P n i h4, pay10_at P n i h4, h10, h11, h12]
  simp only [← EReal.coe_mul, ← EReal.coe_add]
  rfl

end blocks

theorem pay14_at (n : ℕ) (hn : n < 16) : Is (k0_pay14 (F := Ideal) (Scalar.muli (BitVec.ofNat 32 n) 512#32)) fun r c => cnt (512 * n + r) c := by
  intro a b
  pointwise [k0_pay14]
  rw [row_word n a hn a.isLt, sel_lane _ _ b.isLt (by omega), sel_lane _ _ b.isLt (by omega), sel_lane _ _ b.isLt (by omega),
    ofBits_2, ofBits_4, ofBits_8, ofBits_16]
  unfold cnt win
  rw [EReal.coe_strictMono.monotone.map_min]
  push_cast
  split_ifs <;> rfl

theorem x_back (n j r c : ℕ) (hj : j ≤ 16) : ext P n (16 + r - j) (768 + c) = back j (x P) (512 * n + r) c :=
  ext_back P n j r _ hj

theorem x_back0 (n r c : ℕ) : ext P n (16 + r) (768 + c) = back 0 (x P) (512 * n + r) c :=
  ext_back P n 0 r _ (by omega)

theorem sum_real (a b : ℝ) : (a : EReal) + (b : EReal) = ((a + b : ℝ) : EReal) := (EReal.coe_add a b).symm

theorem pay13_at {v : FVec Ideal S544x256 .f32} {f : ℕ → ℕ → ℝ} (h : Is v f) (a : Fin 544) (ha : 1 ≤ a.val) (b : Fin 256) :
    k0_pay13 v (ix2 a b) = ((f a b + f (a - 1) b : ℝ) : EReal) := by
  pointwise [k0_pay13]
  rw [h, h, ← EReal.coe_add]
  simp (disch := omega) only [rot]

theorem pay15_at {v : FVec Ideal S544x256 .f32} {f : ℕ → ℕ → ℝ} (h : Is v f) (a : Fin 544) (ha : 15 ≤ a.val) (b : Fin 256) :
    k0_pay15 v (ix2 a b) = ((if b.val < 128 then ∑ j ∈ Finset.range 4, f (a - j) b else if b.val < 192 then
      ∑ j ∈ Finset.range 8, f (a - j) b else ∑ j ∈ Finset.range 16, f (a - j) b : ℝ) : EReal) := by
  pointwise [k0_pay15]
  rw [sel_lane _ _ b.isLt (by omega), sel_lane _ _ b.isLt (by omega)]
  have e : ∀ (r : ℕ) (hr : r < 544), 1 ≤ r → k0_pay13 v (ix2 ⟨r, hr⟩ b) = ((f r b + f (r - 1) b : ℝ) : EReal) :=
    fun r hr h1 => pay13_at h ⟨r, hr⟩ h1 b
  rw [show a = ⟨a.val, a.isLt⟩ from rfl]
  simp (disch := omega) only [rot]
  simp (disch := omega) only [e, sum_real, Nat.sub_sub, Nat.reduceAdd]
  split_ifs
  all_goals
    congr 1
    simp only [Finset.sum_range_succ, Finset.sum_range_zero, zero_add, Nat.sub_zero]
    ring

theorem pay17_at (n : ℕ) {v35 : FVec Ideal S544x256 .f32} {v66 : FVec Ideal S528x256 .f32}
    (h35 : Is v35 fun e c => ext P n e (768 + c)) (h66 : Is v66 fun r c => cnt (512 * n + r) c) :
    Is (k0_pay17 v35 (k0_pay13 v35) v66 (k0_pay15 v35) k0_pay16) fun r c => d P (512 * n + r) c := by
  intro a b
  have ha : a.val < 528 := a.isLt
  pointwise [k0_pay17, k0_pay16]
  rw [sel_lane _ _ b.isLt (by omega), h66, h35, pay13_at h35 _ (by simp only; omega), pay15_at h35 _ (by simp only; omega)]
  have hc := cnt_pos (512 * n + a) b
  have e : ∀ k, k ≤ 16 → ∑ j ∈ Finset.range k, ext P n (16 + a - j) (768 + b) = ∑ j ∈ Finset.range k, back j (x P) (512 * n + a) b :=
    fun k hk => Finset.sum_congr rfl fun j hj => x_back P n j a b (by have := Finset.mem_range.1 hj; omega)
  have e2 : ext P n (16 + a) (768 + b) + ext P n (16 + a - 1) (768 + b) = ∑ j ∈ Finset.range 2, back j (x P) (512 * n + a) b := by
    rw [← e 2 (by omega)]; simp [Finset.sum_range_succ]
  simp (disch := omega) only [e2, e]
  rw [← apply_ite Real.toEReal, div_real _ _ hc.ne', ← EReal.coe_sub, x_back0]
  unfold d wsum win
  split_ifs <;> simp [back]

section products

variable (n : ℕ)

theorem pay5_at {v : Vec Ideal S256x256 .bf16} (h : Is v bd) : Is (k0_pay5 v) bd := by
  intro a b
  pointwise [k0_pay5]
  rw [h]

theorem pay18_at {v14 : FVec Ideal S256x256 .bf16} {v35 v37 v78 : FVec Ideal S544x256 .f32} {v66 : FVec Ideal S528x256 .f32} {v80 : IVec S544x256 1}
    (h14 : Is v14 bd) (h : Is (k0_pay17 v35 v37 v66 v78 v80) fun r c => d P (512 * n + r) c) :
    Is (k0_pay18 v14 v35 v37 v66 v78 v80) fun r c => yp P bd (512 * n + r) c := by
  intro a b
  pointwise [k0_pay18]
  simp only [h _ _, h14 _ _, ← EReal.coe_mul, coe_sum]
  rfl

theorem pay21_at {v14 : FVec Ideal S256x256 .bf16} {v15 : Vec Ideal S1x256 .f32} {v35 v37 v78 : FVec Ideal S544x256 .f32} {v66 : FVec Ideal S528x256 .f32} {v80 : IVec S544x256 1}
    (h15 : Is v15 fun _ => ps) (h : Is (k0_pay18 v14 v35 v37 v66 v78 v80) fun r c => yp P bd (512 * n + r) c) :
    Is (k0_pay21 v14 v15 v35 v37 v66 v78 v80) fun r c => yb P bd ps (512 * n + r) c := by
  intro a b
  pointwise [k0_pay21]
  simp only [h _ _, h15 _ _, ← EReal.coe_mul]
  rfl

theorem pay19_at (hn : n < 16) {v89 : Vec Ideal S16x512 .bf16} {v93 : Vec Ideal S512x512 .bf16} (h93 : Is v93 fun a => D (512 * n + a))
    (h89 : n < 15 → Is v89 fun a => D (512 * n + 512 + a)) (hD : ∀ s c, 8192 ≤ s → D s c = 0) :
    Is (k0_pay19 (BitVec.ofNat 32 n) v89 v93) fun r c => D (512 * n + r) c := by
  intro a b
  pointwise [k0_pay19]
  rw [slt_last _ hn]
  by_cases h : a.val < 512
  · rw [dif_pos h, h93]
  · rw [dif_neg h]
    by_cases hl : n < 15
    · rw [if_pos hl, h89 hl]
      exact congrArg (fun r => ((D r b : ℝ) : EReal)) (show 512 * n + 512 + (a.val - 512) = _ by omega)
    · rw [if_neg hl, hD _ _ (by omega)]
      simp [Scalar.select]

theorem pay20_at {v18 v34 : FVec Ideal S528x256 .f32} (h18 : Is v18 fun r c => P (512 * n + r) c)
    (h34 : Is v34 fun r c => conv P cw (512 * n + r) c) : Is (k0_pay20 v18 v34) fun r c => ya P cw (512 * n + r) c := by
  intro a b
  pointwise [k0_pay20]
  rw [h18, h34, ← EReal.coe_mul]
  rfl

theorem pay22_at {v18 v34 : FVec Ideal S528x256 .f32} {y : ℕ → ℕ → ℝ} (h : Is (k0_pay20 v18 v34) fun r c => y (512 * n + r) c) :
    Is (k0_pay22 v18 v34) fun r _ => rr y (512 * n + r) := by
  intro a b
  pointwise [k0_pay22]
  simp only [h _ _, ← EReal.coe_mul, coe_sum, ofBits_256, ofBits_eps, div_real _ 256 (by norm_num), ← EReal.coe_add]
  exact rsqrt_real _ (ms_pos y (512 * n + a))

theorem pay23_at {a0 : BitVec 32} {v89 : Vec Ideal S16x512 .bf16} {v93 : Vec Ideal S512x512 .bf16} (h : Is (k0_pay19 a0 v89 v93) fun r c => D (512 * n + r) c) :
    Is (k0_pay23 a0 v89 v93) fun r c => D (512 * n + r) c := by
  intro a b
  pointwise [k0_pay23]
  rw [h]

theorem pay24_at {a0 : BitVec 32} {v16 : Vec Ideal S1x512 .f32} {v18 v34 : FVec Ideal S528x256 .f32} {v89 : Vec Ideal S16x512 .bf16} {v93 : Vec Ideal S512x512 .bf16}
    {y : ℕ → ℕ → ℝ} (h20 : Is (k0_pay20 v18 v34) fun r c => y (512 * n + r) c) (h16 : Is v16 fun _ => gg)
    (h19 : Is (k0_pay19 a0 v89 v93) fun r c => D (512 * n + r) c) : Is (k0_pay24 a0 v16 v18 v34 v89 v93) fun r c => nb y D gg (512 * n + r) c := by
  have h22 := pay22_at n h20
  have h23 := pay23_at D n h19
  intro a b
  pointwise [k0_pay24]
  simp only [h20 _ _, h22 _ _, h23 _ _, h16 _ _, ← EReal.coe_mul, coe_sum, ofBits_256, div_real _ 256 (by norm_num), ← EReal.coe_sub]
  rfl

theorem pay25_at {a0 : BitVec 32} {v18 v34 : FVec Ideal S528x256 .f32} {v89 : Vec Ideal S16x512 .bf16} {v93 : Vec Ideal S512x512 .bf16}
    {y : ℕ → ℕ → ℝ} (h20 : Is (k0_pay20 v18 v34) fun r c => y (512 * n + r) c)
    (h19 : Is (k0_pay19 a0 v89 v93) fun r c => D (512 * n + r) c) : Is (k0_pay25 a0 v18 v34 v89 v93) fun r c => ng y D (512 * n + r) c := by
  have h22 := pay22_at n h20
  have h23 := pay23_at D n h19
  intro a b
  pointwise [k0_pay25]
  simp only [h20 _ _, h22 _ _, h23 _ _, ← EReal.coe_mul]
  rfl

theorem pay27_at {v14 : FVec Ideal S256x256 .bf16} {v15 : Vec Ideal S1x256 .f32} {v35 v37 v78 : FVec Ideal S544x256 .f32} {v66 : FVec Ideal S528x256 .f32} {v80 : IVec S544x256 1}
    {y : ℕ → ℕ → ℝ} (h : Is (k0_pay21 v14 v15 v35 v37 v66 v78 v80) fun r c => y (512 * n + r) c) :
    Is (k0_pay27 (k0_pay26 v14 v15 v35 v37 v66 v78 v80)) fun r _ => rr y (512 * n + r) := by
  intro a b
  pointwise [k0_pay27, k0_pay26]
  simp only [h _ _, ← EReal.coe_mul, coe_sum, ofBits_256, ofBits_eps, div_real _ 256 (by norm_num), ← EReal.coe_add]
  exact rsqrt_real _ (ms_pos y (512 * n + a))

theorem pay29_at {v16 : Vec Ideal S1x512 .f32} {v95 : FVec Ideal S528x512 .f32} {v98 : FVec Ideal S528x256 .f32} {v127 : FVec Ideal S528 .f32}
    {y : ℕ → ℕ → ℝ} (h98 : Is v98 fun r c => y (512 * n + r) c) (h16 : Is v16 fun _ => gg) (h95 : Is v95 fun r c => D (512 * n + r) c)
    (h27 : Is (k0_pay27 v127) fun r _ => rr y (512 * n + r)) :
    Is (k0_pay29 v16 v95 v98 v127) fun r c => nb y (fun s c => D s (256 + c)) (fun c => gg (256 + c)) (512 * n + r) c := by
  intro a b
  pointwise [k0_pay29, k0_pay28]
  simp only [h98 _ _, h27 _ _, h95 _ _, h16 _ _, ← EReal.coe_mul, coe_sum, ofBits_256, div_real _ 256 (by norm_num), ← EReal.coe_sub]
  rfl

theorem pay30_at {v95 : FVec Ideal S528x512 .f32} {v98 : FVec Ideal S528x256 .f32} {v127 : FVec Ideal S528 .f32}
    {y : ℕ → ℕ → ℝ} (h98 : Is v98 fun r c => y (512 * n + r) c) (h95 : Is v95 fun r c => D (512 * n + r) c)
    (h27 : Is (k0_pay27 v127) fun r _ => rr y (512 * n + r)) :
    Is (k0_pay30 v95 v98 v127) fun r c => ng y (fun s c => D s (256 + c)) (512 * n + r) c := by
  intro a b
  pointwise [k0_pay30, k0_pay28]
  simp only [h98 _ _, h27 _ _, h95 _ _, ← EReal.coe_mul]
  rfl

theorem pay31_at {v18 v122 : FVec Ideal S528x256 .f32} (h18 : Is v18 fun r c => P (512 * n + r) c)
    (h122 : Is v122 fun r c => dya P D cw gg (512 * n + r) c) : Is (k0_pay31 v18 v122) fun r c => dconv P D cw gg (512 * n + r) c := by
  intro a b
  pointwise [k0_pay31]
  rw [h18, h122, ← EReal.coe_mul]
  rfl

theorem pay32_at {v10 v11 v12 : Vec Ideal S1x256 .f32} {v18 v122 : FVec Ideal S528x256 .f32} (h10 : Is v10 fun _ => cw 0) (h11 : Is v11 fun _ => cw 1) (h12 : Is v12 fun _ => cw 2)
    (h : Is (k0_pay31 v18 v122) fun r c => dconv P D cw gg (512 * n + r) c) :
    Is (k0_pay32 v10 v11 v12 v18 v122) fun r c => dz P D cw gg (512 * n + r) c := by
  intro a b
  have ha : a.val < 512 := a.isLt
  pointwise [k0_pay32]
  simp only [h _ _, h10 _ _, h11 _ _, h12 _ _, ← EReal.coe_mul, ← EReal.coe_add]
  rw [rot_up _ _ _ (by omega) (by omega), rot_up _ _ _ (by omega) (by omega)]
  rfl

theorem pay33_at {v34 v122 : FVec Ideal S528x256 .f32} (h34 : Is v34 fun r c => conv P cw (512 * n + r) c)
    (h122 : Is v122 fun r c => dya P D cw gg (512 * n + r) c) :
    Is (k0_pay33 v34 v122) fun r c => dya P D cw gg (512 * n + r) c * conv P cw (512 * n + r) c := by
  intro a b
  pointwise [k0_pay33]
  rw [h34, h122, ← EReal.coe_mul]

theorem pay34_at {v5 : Vec Ideal S512x1024 .bf16} {v10 v11 v12 : Vec Ideal S1x256 .f32} {v18 v122 : FVec Ideal S528x256 .f32}
    (h5 : Is v5 fun a => P (512 * n + a)) (h : Is (k0_pay32 v10 v11 v12 v18 v122) fun r c => dz P D cw gg (512 * n + r) c) :
    Is (k0_pay34 (k0_pay3 v5) v10 v11 v12 v18 v122) fun r c => dz P D cw gg (512 * n + r) c * P (512 * n + r) (512 + c) := by
  intro a b
  pointwise [k0_pay34, k0_pay3]
  rw [h, h5, ← EReal.coe_mul]

theorem pay35_at {v5 : Vec Ideal S512x1024 .bf16} {v10 v11 v12 : Vec Ideal S1x256 .f32} {v18 v122 : FVec Ideal S528x256 .f32}
    (h5 : Is v5 fun a => P (512 * n + a)) (h : Is (k0_pay32 v10 v11 v12 v18 v122) fun r c => dz P D cw gg (512 * n + r) c) :
    Is (k0_pay35 (k0_pay3 v5) v10 v11 v12 v18 v122) fun r c => dz P D cw gg (512 * n + r) c * P (512 * n + r) (256 + c) := by
  intro a b
  pointwise [k0_pay35, k0_pay3]
  rw [h, h5, ← EReal.coe_mul]

theorem pay36_at {v15 : Vec Ideal S1x256 .f32} {v149 : FVec Ideal S528x256 .f32} (h15 : Is v15 fun _ => ps)
    (h : Is v149 fun r c => dyb P D bd ps gg (512 * n + r) c) : Is (k0_pay36 v15 v149) fun r c => dys P D bd ps gg (512 * n + r) c := by
  intro a b
  pointwise [k0_pay36]
  rw [h, h15, ← EReal.coe_mul]
  rfl

end products

end Cert.KernelIdeal.Stages

end
-- ==== Proof.Sums.lean ====
/- What the body's last values are worth: the gradient at the pooled quarter, and the sums over the rows of the
   sequence that the points add up. A sum over the first `512 n` rows becomes one over the first `512 (n + 1)`. -/
module

public import proofs.«01_k».proof.Proof.Stages

@[expose] public section

noncomputable section

namespace Cert.KernelIdeal.Stages

open Cert.KernelIdeal.Gen Idealize.ShloMosaic Idealize.ShloMosaic.TcCoe Idealize.ShloMosaic.Tactic Mix

variable (P D cw bd : ℕ → ℕ → ℝ) (ps gg : ℕ → ℝ) (n : ℕ)

/-- A value plus itself read some rows later. -/
def later (k : BitVec 32) (v : FVec Ideal S528x256 .f32) : FVec Ideal S528x256 .f32 :=
  addf v (dynamicRotate 0 k none v rotates_S528x256_d0)

theorem later1_at (v : FVec Ideal S528x256 .f32) (r : ℕ) (hr : r < 528) (h : r + 1 < 528) (b : Fin 256) :
    later 527#32 v (ix2 ⟨r, hr⟩ b) = v (ix2 ⟨r, hr⟩ b) + v (ix2 ⟨r + 1, h⟩ b) := by
  pointwise [later]
  simp (disch := omega) only [rot_up, Nat.reduceSub]

theorem later2_at (v : FVec Ideal S528x256 .f32) (r : ℕ) (hr : r < 528) (h : r + 2 < 528) (b : Fin 256) :
    later 526#32 v (ix2 ⟨r, hr⟩ b) = v (ix2 ⟨r, hr⟩ b) + v (ix2 ⟨r + 2, h⟩ b) := by
  pointwise [later]
  simp (disch := omega) only [rot_up, Nat.reduceSub]

theorem later4_at (v : FVec Ideal S528x256 .f32) (r : ℕ) (hr : r < 528) (h : r + 4 < 528) (b : Fin 256) :
    later 524#32 v (ix2 ⟨r, hr⟩ b) = v (ix2 ⟨r, hr⟩ b) + v (ix2 ⟨r + 4, h⟩ b) := by
  pointwise [later]
  simp (disch := omega) only [rot_up, Nat.reduceSub]

theorem later8_at (v : FVec Ideal S528x256 .f32) (r : ℕ) (hr : r < 528) (h : r + 8 < 528) (b : Fin 256) :
    later 520#32 v (ix2 ⟨r, hr⟩ b) = v (ix2 ⟨r, hr⟩ b) + v (ix2 ⟨r + 8, h⟩ b) := by
  pointwise [later]
  simp (disch := omega) only [rot_up, Nat.reduceSub]

/-- The gradient at the averages, as the body forms it. -/
def atAverages (v14 : FVec Ideal S256x256 .bf16) (v178 : FVec Ideal S528x256 .f32) : FVec Ideal S528x256 .f32 :=
  matmul dot_S528x256_S256x256_S528x256_1_1_0_0_n_n none (truncf .bf16 v178 bitsLt_bf16_f32) v14 (constant S528x256 .f32 0x00000000#32)

theorem atAverages_at {v14 : FVec Ideal S256x256 .bf16} {v178 : FVec Ideal S528x256 .f32} (h14 : Is v14 bd)
    (h178 : Is v178 fun r c => dys P D bd ps gg (512 * n + r) c) : Is (atAverages v14 v178) fun r c => dd P D bd ps gg (512 * n + r) c := by
  intro a b
  pointwise [atAverages]
  simp only [h178 _ _, h14 _ _, ← EReal.coe_mul, coe_sum]
  rfl

/-- The window sums of later rows, one per width. -/
def widths (v : FVec Ideal S528x256 .f32) : FVec Ideal S528x256 .f32 :=
  select (broadcastTo S528x256 (shapeCast S1x256 (cmpi .slt (iota .tc S1x256 32 [1] iota_S1x256_d1_w32) (broadcast S1x256 64#32)) shapeCasts_S1x256_S1x256) broadcasts_S1x256_S528x256)
    (later 527#32 v)
    (select (broadcastTo S528x256 (shapeCast S1x256 (cmpi .slt (iota .tc S1x256 32 [1] iota_S1x256_d1_w32) (broadcast S1x256 128#32)) shapeCasts_S1x256_S1x256) broadcasts_S1x256_S528x256)
      (later 526#32 (later 527#32 v))
      (select (broadcastTo S528x256 (shapeCast S1x256 (cmpi .slt (iota .tc S1x256 32 [1] iota_S1x256_d1_w32) (broadcast S1x256 192#32)) shapeCasts_S1x256_S1x256) broadcasts_S1x256_S528x256)
        (later 524#32 (later 526#32 (later 527#32 v)))
        (later 520#32 (later 524#32 (later 526#32 (later 527#32 v))))))

theorem widths_at {v : FVec Ideal S528x256 .f32} {f : ℕ → ℕ → ℝ} (h : Is v f) (r : ℕ) (hr : r < 528) (hr' : r < 512) (b : Fin 256) :
    widths v (ix2 ⟨r, hr⟩ b) = ((∑ j ∈ Finset.range (win b), f (r + j) b : ℝ) : EReal) := by
  pointwise [widths]
  rw [sel_lane _ _ b.isLt (by omega), sel_lane _ _ b.isLt (by omega), sel_lane _ _ b.isLt (by omega)]
  have h1 : ∀ (q : ℕ) (hq : q < 528) (_ : q + 1 < 528), later 527#32 v (ix2 ⟨q, hq⟩ b) = ((f q b + f (q + 1) b : ℝ) : EReal) := by
    intro q hq hq'
    rw [later1_at _ _ _ hq', h, h, sum_real]
  have h2 : ∀ (q : ℕ) (hq : q < 528) (_ : q + 3 < 528), later 526#32 (later 527#32 v) (ix2 ⟨q, hq⟩ b) = ((∑ j ∈ Finset.range 4, f (q + j) b : ℝ) : EReal) := by
    intro q hq hq'
    rw [later2_at _ _ _ (by omega), h1 _ _ (by omega), h1 _ _ (by omega), sum_real]
    congr 1
    simp only [Finset.sum_range_succ, Finset.sum_range_zero, zero_add, Nat.add_zero, Nat.add_assoc, Nat.reduceAdd]
    ring
  have h3 : ∀ (q : ℕ) (hq : q < 528) (_ : q + 7 < 528), later 524#32 (later 526#32 (later 527#32 v)) (ix2 ⟨q, hq⟩ b) = ((∑ j ∈ Finset.range 8, f (q + j) b : ℝ) : EReal) := by
    intro q hq hq'
    rw [later4_at _ _ _ (by omega), h2 _ _ (by omega), h2 _ _ (by omega), sum_real]
    congr 1
    simp only [Finset.sum_range_succ, Finset.sum_range_zero, zero_add, Nat.add_zero, Nat.add_assoc, Nat.reduceAdd]
    ring
  rw [h1 _ _ (by omega), h2 _ _ (by omega), h3 _ _ (by omega), later8_at _ _ _ (by omega), h3 _ _ (by omega), h3 _ _ (by omega), sum_real]
  unfold win
  split_ifs <;> congr 1
  · simp only [Finset.sum_range_succ, Finset.sum_range_zero, zero_add, Nat.add_zero]
  · simp only [Finset.sum_range_succ, Finset.sum_range_zero, zero_add, Nat.add_zero, Nat.add_assoc, Nat.reduceAdd]
    ring

theorem pay37_at {v14 : FVec Ideal S256x256 .bf16} {v15 : Vec Ideal S1x256 .f32} {v66 v149 : FVec Ideal S528x256 .f32}
    (h14 : Is v14 bd) (h66 : Is v66 fun r c => cnt (512 * n + r) c) (h36 : Is (k0_pay36 v15 v149) fun r c => dys P D bd ps gg (512 * n + r) c) :
    Is (k0_pay37 v14 v15 (iota .tc S1x256 32 [1] iota_S1x256_d1_w32) v66 v149) fun r c => dx P D bd ps gg (512 * n + r) c := by
  have hd := atAverages_at P D bd ps gg n h14 h36
  have he : Is (divf (atAverages v14 (k0_pay36 v15 v149)) v66) fun r c => e P D bd ps gg (512 * n + r) c := by
    intro a b
    pointwise []
    rw [hd, h66, div_real _ _ (cnt_pos _ _).ne']
    rfl
  intro a b
  show truncf .bf16 (extractStridedSlice S512x256 ![0, 0] (subf (widths (divf (atAverages v14 (k0_pay36 v15 v149)) v66)) (atAverages v14 (k0_pay36 v15 v149)))
    slices_S528x256_o0_0_S512x256) bitsLt_bf16_f32 (ix2 a b) = _
  pointwise []
  rw [widths_at he _ _ a.isLt, hd, ← EReal.coe_sub]
  simp only [dx, Nat.add_assoc]

/-- A sum over the first `512 n` rows and one over the next 512 make one over the first `512 (n + 1)`. -/
theorem add_rows (f : ℕ → ℝ) (S : EReal) (hS : S = ((∑ s ∈ Finset.range (512 * n), f s : ℝ) : EReal)) :
    S + ((∑ k : Fin 512, f (512 * n + k) : ℝ) : EReal) = ((∑ s ∈ Finset.range (512 * (n + 1)), f s : ℝ) : EReal) := by
  rw [hS, ← EReal.coe_add, show 512 * (n + 1) = 512 * n + 512 by ring, Finset.sum_range_add,
    Fin.sum_univ_eq_sum_range (fun k => f (512 * n + k)) 512]

theorem tap0_at {v26 v153 : FVec Ideal S528x256 .f32} {v : Vec Ideal S1x256 .f32} (hv : Is v fun _ c => dcw P D cw gg (512 * n) 0 c)
    (h26 : Is v26 fun r c => back 2 (z P) (512 * n + r) c) (h153 : Is v153 fun r c => dconv P D cw gg (512 * n + r) c) :
    Is (k0_pay44 (k0_pay42 v) (k0_pay43 v26 v153)) fun _ c => dcw P D cw gg (512 * (n + 1)) 0 c := by
  intro a b
  pointwise [k0_pay44, k0_pay42, k0_pay43]
  simp only [h26 _ _, h153 _ _, ← EReal.coe_mul, coe_sum]
  exact add_rows n (fun s => dconv P D cw gg s b * back 2 (z P) s b) _ (hv _ _)

theorem tap1_at {v24 v153 : FVec Ideal S528x256 .f32} {v : Vec Ideal S1x256 .f32} (hv : Is v fun _ c => dcw P D cw gg (512 * n) 1 c)
    (h24 : Is v24 fun r c => back 1 (z P) (512 * n + r) c) (h153 : Is v153 fun r c => dconv P D cw gg (512 * n + r) c) :
    Is (k0_pay45 v24 v153 v) fun _ c => dcw P D cw gg (512 * (n + 1)) 1 c := by
  intro a b
  pointwise [k0_pay45]
  simp only [h24 _ _, h153 _ _, ← EReal.coe_mul, coe_sum]
  exact add_rows n (fun s => dconv P D cw gg s b * back 1 (z P) s b) _ (hv _ _)

theorem tap2_at {v22 v153 : FVec Ideal S528x256 .f32} {v : Vec Ideal S1x256 .f32} (hv : Is v fun _ c => dcw P D cw gg (512 * n) 2 c)
    (h22 : Is v22 fun r c => back 0 (z P) (512 * n + r) c) (h153 : Is v153 fun r c => dconv P D cw gg (512 * n + r) c) :
    Is (k0_pay46 v22 v153 v) fun _ c => dcw P D cw gg (512 * (n + 1)) 2 c := by
  intro a b
  pointwise [k0_pay46]
  simp only [h22 _ _, h153 _ _, ← EReal.coe_mul, coe_sum]
  exact add_rows n (fun s => dconv P D cw gg s b * back 0 (z P) s b) _ (hv _ _)

theorem weights_at {v85 v178 : FVec Ideal S528x256 .f32} {v : Vec Ideal S256x256 .f32} (hv : Is v (dbd P D bd ps gg (512 * n)))
    (h85 : Is v85 fun r c => d P (512 * n + r) c) (h178 : Is v178 fun r c => dys P D bd ps gg (512 * n + r) c) :
    Is (k0_pay47 v85 v178 v) (dbd P D bd ps gg (512 * (n + 1))) := by
  intro a b
  pointwise [k0_pay47]
  simp only [h85 _ _, h178 _ _, ← EReal.coe_mul, coe_sum]
  exact add_rows n (fun s => d P s a * dys P D bd ps gg s b) _ (hv _ _)

theorem scale_at {v87 v149 : FVec Ideal S528x256 .f32} {v : Vec Ideal S1x256 .f32} (hv : Is v fun _ c => dps P D bd ps gg (512 * n) c)
    (h87 : Is v87 fun r c => yp P bd (512 * n + r) c) (h149 : Is v149 fun r c => dyb P D bd ps gg (512 * n + r) c) :
    Is (k0_pay48 v87 v149 v) fun _ c => dps P D bd ps gg (512 * (n + 1)) c := by
  intro a b
  pointwise [k0_pay48]
  simp only [h87 _ _, h149 _ _, ← EReal.coe_mul, coe_sum]
  exact add_rows n (fun s => dyb P D bd ps gg s b * yp P bd s b) _ (hv _ _)

theorem gain0_at {v125 : FVec Ideal S528x256 .f32} {v : Vec Ideal S1x256 .f32} {f : ℕ → ℕ → ℝ}
    (hv : Is v fun _ c => ∑ s ∈ Finset.range (512 * n), f s c) (h : Is v125 fun r c => f (512 * n + r) c) :
    Is (k0_pay1 v125 v) fun _ c => ∑ s ∈ Finset.range (512 * (n + 1)), f s c := by
  intro a b
  pointwise [k0_pay1]
  simp only [h _ _, coe_sum]
  exact add_rows n (fun s => f s b) _ (hv _ _)

theorem gain1_at {v152 : FVec Ideal S528x256 .f32} {v : Vec Ideal S1x256 .f32} {f : ℕ → ℕ → ℝ}
    (hv : Is v fun _ c => ∑ s ∈ Finset.range (512 * n), f s c) (h : Is v152 fun r c => f (512 * n + r) c) :
    Is (k0_pay2 v152 v) fun _ c => ∑ s ∈ Finset.range (512 * (n + 1)), f s c := by
  intro a b
  pointwise [k0_pay2]
  simp only [h _ _, coe_sum]
  exact add_rows n (fun s => f s b) _ (hv _ _)

end Cert.KernelIdeal.Stages

end
-- ==== Proof.Body.lean ====
/- The body at one grid point: given what the point's blocks hold, what each of its stored values is worth; and how a
   block stored piece by piece reads. -/
module

public import proofs.«01_k».proof.Proof.Sums
public import Idealize.ShloMosaic.Lib.Pipeline.ValueKit.Tiles

@[expose] public section

noncomputable section

namespace Cert.KernelIdeal.Stages

open Cert.KernelIdeal.Gen Idealize.ShloMosaic Idealize.ShloMosaic.TcCoe Idealize.ShloMosaic.Tactic Mix

/-- What the blocks read at the point of rows `512 n …` hold. -/
structure Blocks (P D cw bd : ℕ → ℕ → ℝ) (ps gg : ℕ → ℝ) (i : grid0.Coords) (v1 : Vec Ideal S16x1024 .bf16) (v5 : Vec Ideal S512x1024 .bf16)
    (v7 : Vec Ideal S16x1024 .bf16) (v10 v11 v12 : Vec Ideal S1x256 .f32) (v13 : Vec Ideal S256x256 .bf16) (v15 : Vec Ideal S1x256 .f32)
    (v16 : Vec Ideal S1x512 .f32) (v89 : Vec Ideal S16x512 .bf16) (v93 : Vec Ideal S512x512 .bf16) : Prop where
  earlier : 0 < (i 0).val → Is v1 fun a => P (512 * (i 0).val + a - 16)
  main : Is v5 fun a => P (512 * (i 0).val + a)
  after : Is v7 fun a => P (512 * (i 0).val + 512 + a)
  tap0 : Is v10 fun _ => cw 0
  tap1 : Is v11 fun _ => cw 1
  tap2 : Is v12 fun _ => cw 2
  weights : Is v13 bd
  scale : Is v15 fun _ => ps
  gains : Is v16 fun _ => gg
  grad : Is v93 fun a => D (512 * (i 0).val + a)
  gradAfter : (i 0).val < 15 → Is v89 fun a => D (512 * (i 0).val + 512 + a)
  gradEnd : ∀ s c, 8192 ≤ s → D s c = 0

namespace Blocks

variable {P D cw bd : ℕ → ℕ → ℝ} {ps gg : ℕ → ℝ} {i : grid0.Coords} {v1 : Vec Ideal S16x1024 .bf16} {v5 : Vec Ideal S512x1024 .bf16}
  {v7 : Vec Ideal S16x1024 .bf16} {v10 v11 v12 : Vec Ideal S1x256 .f32} {v13 : Vec Ideal S256x256 .bf16} {v15 : Vec Ideal S1x256 .f32}
  {v16 : Vec Ideal S1x512 .f32} {v89 : Vec Ideal S16x512 .bf16} {v93 : Vec Ideal S512x512 .bf16}
  (B : Blocks P D cw bd ps gg i v1 v5 v7 v10 v11 v12 v13 v15 v16 v89 v93)
include B

theorem ext4 : Is (k0_pay4 i v1 v5 v7) (ext P (i 0).val) := pay4_at P i v1 v5 v7 B.earlier B.main B.after
theorem gate : Is (k0_pay6 i v1 v5 v7) fun r c => P (512 * (i 0).val + r) c := pay6_at P _ i B.ext4
theorem conv11 : Is (k0_pay11 i v1 v5 v7 v10 v11 v12) fun r c => conv P cw (512 * (i 0).val + r) c :=
  pay11_at P cw _ i B.ext4 B.tap0 B.tap1 B.tap2
theorem pooled : Is (k0_pay12 i v1 v5 v7) fun e c => ext P (i 0).val e (768 + c) := pay12_at P _ i B.ext4
omit B in
theorem counts : Is (k0_pay14 (F := Ideal) (Scalar.muli (BitVec.ofNat 32 (i 0).val) 512#32)) fun r c => cnt (512 * (i 0).val + r) c :=
  pay14_at _ (i 0).isLt
theorem averages : Is (k0_pay17 (k0_pay12 i v1 v5 v7) (k0_pay13 (k0_pay12 i v1 v5 v7)) (k0_pay14 (Scalar.muli (BitVec.ofNat 32 (i 0).val) 512#32))
    (k0_pay15 (k0_pay12 i v1 v5 v7)) k0_pay16) fun r c => d P (512 * (i 0).val + r) c :=
  pay17_at P _ B.pooled counts
theorem weights5 : Is (k0_pay5 v13) bd := pay5_at bd B.weights
theorem product : Is (k0_pay18 (k0_pay5 v13) (k0_pay12 i v1 v5 v7) (k0_pay13 (k0_pay12 i v1 v5 v7)) (k0_pay14 (Scalar.muli (BitVec.ofNat 32 (i 0).val) 512#32))
    (k0_pay15 (k0_pay12 i v1 v5 v7)) k0_pay16) fun r c => yp P bd (512 * (i 0).val + r) c :=
  pay18_at P bd _ B.weights5 B.averages
theorem scaled : Is (k0_pay21 (k0_pay5 v13) v15 (k0_pay12 i v1 v5 v7) (k0_pay13 (k0_pay12 i v1 v5 v7)) (k0_pay14 (Scalar.muli (BitVec.ofNat 32 (i 0).val) 512#32))
    (k0_pay15 (k0_pay12 i v1 v5 v7)) k0_pay16) fun r c => yb P bd ps (512 * (i 0).val + r) c :=
  pay21_at P bd ps _ B.scale B.product
theorem grad19 : Is (k0_pay19 (BitVec.ofNat 32 (i 0).val) v89 v93) fun r c => D (512 * (i 0).val + r) c :=
  pay19_at D _ (i 0).isLt B.grad B.gradAfter B.gradEnd
theorem gated : Is (k0_pay20 (k0_pay6 i v1 v5 v7) (k0_pay11 i v1 v5 v7 v10 v11 v12)) fun r c => ya P cw (512 * (i 0).val + r) c :=
  pay20_at P cw _ B.gate B.conv11
theorem grad24 : Is (k0_pay24 (BitVec.ofNat 32 (i 0).val) v16 (k0_pay6 i v1 v5 v7) (k0_pay11 i v1 v5 v7 v10 v11 v12) v89 v93)
    fun r c => dya P D cw gg (512 * (i 0).val + r) c :=
  pay24_at D gg _ B.gated B.gains B.grad19
theorem gain25 : Is (k0_pay25 (BitVec.ofNat 32 (i 0).val) (k0_pay6 i v1 v5 v7) (k0_pay11 i v1 v5 v7 v10 v11 v12) v89 v93)
    fun r c => ng (ya P cw) D (512 * (i 0).val + r) c :=
  pay25_at D _ B.gated B.grad19
theorem norm27 : Is (k0_pay27 (k0_pay26 (k0_pay5 v13) v15 (k0_pay12 i v1 v5 v7) (k0_pay13 (k0_pay12 i v1 v5 v7))
    (k0_pay14 (Scalar.muli (BitVec.ofNat 32 (i 0).val) 512#32)) (k0_pay15 (k0_pay12 i v1 v5 v7)) k0_pay16)) fun r _ => rr (yb P bd ps) (512 * (i 0).val + r) :=
  pay27_at _ B.scaled
theorem grad29 : Is (k0_pay29 v16 (k0_pay19 (BitVec.ofNat 32 (i 0).val) v89 v93)
    (k0_pay21 (k0_pay5 v13) v15 (k0_pay12 i v1 v5 v7) (k0_pay13 (k0_pay12 i v1 v5 v7)) (k0_pay14 (Scalar.muli (BitVec.ofNat 32 (i 0).val) 512#32))
      (k0_pay15 (k0_pay12 i v1 v5 v7)) k0_pay16)
    (k0_pay26 (k0_pay5 v13) v15 (k0_pay12 i v1 v5 v7) (k0_pay13 (k0_pay12 i v1 v5 v7))
      (k0_pay14 (Scalar.muli (BitVec.ofNat 32 (i 0).val) 512#32)) (k0_pay15 (k0_pay12 i v1 v5 v7)) k0_pay16))
    fun r c => dyb P D bd ps gg (512 * (i 0).val + r) c :=
  pay29_at D gg _ B.scaled B.gains B.grad19 B.norm27
theorem gain30 : Is (k0_pay30 (k0_pay19 (BitVec.ofNat 32 (i 0).val) v89 v93)
    (k0_pay21 (k0_pay5 v13) v15 (k0_pay12 i v1 v5 v7) (k0_pay13 (k0_pay12 i v1 v5 v7)) (k0_pay14 (Scalar.muli (BitVec.ofNat 32 (i 0).val) 512#32))
      (k0_pay15 (k0_pay12 i v1 v5 v7)) k0_pay16)
    (k0_pay26 (k0_pay5 v13) v15 (k0_pay12 i v1 v5 v7) (k0_pay13 (k0_pay12 i v1 v5 v7))
      (k0_pay14 (Scalar.muli (BitVec.ofNat 32 (i 0).val) 512#32)) (k0_pay15 (k0_pay12 i v1 v5 v7)) k0_pay16))
    fun r c => ng (yb P bd ps) (fun s c => D s (256 + c)) (512 * (i 0).val + r) c :=
  pay30_at D _ B.scaled B.grad19 B.norm27
theorem grad31 : Is (k0_pay31 (k0_pay6 i v1 v5 v7) (k0_pay24 (BitVec.ofNat 32 (i 0).val) v16 (k0_pay6 i v1 v5 v7) (k0_pay11 i v1 v5 v7 v10 v11 v12) v89 v93))
    fun r c => dconv P D cw gg (512 * (i 0).val + r) c :=
  pay31_at P D cw gg _ B.gate B.grad24
theorem grad32 : Is (k0_pay32 v10 v11 v12 (k0_pay6 i v1 v5 v7) (k0_pay24 (BitVec.ofNat 32 (i 0).val) v16 (k0_pay6 i v1 v5 v7) (k0_pay11 i v1 v5 v7 v10 v11 v12) v89 v93))
    fun r c => dz P D cw gg (512 * (i 0).val + r) c :=
  pay32_at P D cw gg _ B.tap0 B.tap1 B.tap2 B.grad31
theorem grad36 : Is (k0_pay36 v15 (k0_pay29 v16 (k0_pay19 (BitVec.ofNat 32 (i 0).val) v89 v93)
    (k0_pay21 (k0_pay5 v13) v15 (k0_pay12 i v1 v5 v7) (k0_pay13 (k0_pay12 i v1 v5 v7)) (k0_pay14 (Scalar.muli (BitVec.ofNat 32 (i 0).val) 512#32))
      (k0_pay15 (k0_pay12 i v1 v5 v7)) k0_pay16)
    (k0_pay26 (k0_pay5 v13) v15 (k0_pay12 i v1 v5 v7) (k0_pay13 (k0_pay12 i v1 v5 v7))
      (k0_pay14 (Scalar.muli (BitVec.ofNat 32 (i 0).val) 512#32)) (k0_pay15 (k0_pay12 i v1 v5 v7)) k0_pay16)))
    fun r c => dys P D bd ps gg (512 * (i 0).val + r) c :=
  pay36_at P D bd ps gg _ B.scale B.grad29

end Blocks

section pieces

variable {N M r0 c0 h w : ℕ} {e : EltTy}

/-- A block read where its last stored piece lies. -/
theorem piece_in (inb) (p : (Rect.unit (s := ⟨2, ![N, M]⟩) ![r0, c0] ![h, w] inb).shape.Idx → Elt Ideal e)
    (L : List (View.Piece (Elt Ideal) ⟨2, ![N, M]⟩ e)) (a : Fin N) (b : Fin M) (ha : r0 ≤ a.val) (ha' : a.val - r0 < h) (hb : c0 ≤ b.val) (hb' : b.val - c0 < w) :
    View.canon (⟨Rect.unit ![r0, c0] ![h, w] inb, p⟩ :: L) (ix2 a b) = p (ix2 ⟨a.val - r0, ha'⟩ ⟨b.val - c0, hb'⟩) := by
  have : (ix2 a b : (⟨2, ![N, M]⟩ : Shape).Idx) = (Rect.unit (s := ⟨2, ![N, M]⟩) ![r0, c0] ![h, w] inb).emb (ix2 ⟨a.val - r0, ha'⟩ ⟨b.val - c0, hb'⟩) := by
    funext k
    apply Fin.ext
    refine Eq.trans ?_ (Rect.idx_unit_val _ _ inb _ k).symm
    fin_cases k
    · show a.val = r0 + (a.val - r0); omega
    · show b.val = c0 + (b.val - c0); omega
  rw [this]
  exact View.canon_cons_emb _ _ _ _

/-- … and where it does not. -/
theorem piece_out (inb) (p : (Rect.unit (s := ⟨2, ![N, M]⟩) ![r0, c0] ![h, w] inb).shape.Idx → Elt Ideal e)
    (L : List (View.Piece (Elt Ideal) ⟨2, ![N, M]⟩ e)) (a : Fin N) (b : Fin M) (hn : ¬ (r0 ≤ a.val ∧ a.val < r0 + h ∧ c0 ≤ b.val ∧ b.val < c0 + w)) :
    View.canon (⟨Rect.unit ![r0, c0] ![h, w] inb, p⟩ :: L) (ix2 a b) = View.canon L (ix2 a b) := by
  refine View.canon_cons_of_not_mem _ _ fun hm => hn ?_
  have h0 := (Rect.mem_set_unit (inb := inb)).1 hm
  exact ⟨(h0 0).1, (h0 0).2, (h0 1).1, (h0 1).2⟩

/-- Reading a rectangle of a block. -/
theorem ld_at (inb) (X : (⟨2, ![N, M]⟩ : Shape).Idx → Elt Ideal e) (a : Fin h) (b : Fin w) (ha : r0 + a.val < N) (hb : c0 + b.val < M) :
    View.ld X (Rect.unit (s := ⟨2, ![N, M]⟩) ![r0, c0] ![h, w] inb) (ix2 a b) = X (ix2 ⟨r0 + a.val, ha⟩ ⟨c0 + b.val, hb⟩) :=
  View.ld_unit_apply_of X _ _ inb _ _ fun k => by fin_cases k <;> rfl

end pieces

end Cert.KernelIdeal.Stages

end
-- ==== Proof.Outs.lean ====
/- What the body leaves in its five output blocks at each grid point, by induction over the points: the point's rows of
   the gradient, and the sums over all rows so far. -/
module

public import proofs.«01_k».proof.Proof.Body
public import proofs.«01_k».proof.Proof.Gen.KernelIdeal.Frame

@[expose] public section

noncomputable section

namespace Cert.KernelIdeal.Stages

open Cert.KernelIdeal.Gen Idealize.ShloMosaic Idealize.ShloMosaic.TcCoe Idealize.ShloMosaic.Tactic Mix

theorem readCov_ld {s : Shape} {e : EltTy} {sg : RefSig} {κ : Kind} {sp : Space} (v : View sg κ sp s e) (L : List (View.Piece (Elt Ideal) s e)) (r : Rect s) :
    v.readCov L r.toLoadRect = View.ld (View.canon L) r := View.readCov_eq_canon' v L r.toLoadRect

/-- A rectangle of a matrix of reals. -/
theorem ld_is {N M r0 c0 h w : ℕ} (inb : ∀ a, (![r0, c0] : Fin 2 → ℕ) a + (![h, w] : Fin 2 → ℕ) a ≤ (⟨2, ![N, M]⟩ : Shape).size a)
    {X : (⟨2, ![N, M]⟩ : Shape).Idx → EReal} {f g : ℕ → ℕ → ℝ} (hX : Is X f) (hfg : ∀ a b, a < h → b < w → f (r0 + a) (c0 + b) = g a b) :
    Is (n := h) (m := w) (View.ld (Val := Elt Ideal) (e' := .f32) X (Rect.unit (s := ⟨2, ![N, M]⟩) ![r0, c0] ![h, w] inb)) g := by
  intro a b
  have h0 := inb 0
  have h1 := inb 1
  rw [ld_at (e := .f32) inb X a b (by have := a.isLt; simp at h0; omega) (by have := b.isLt; simp at h1; omega), hX]
  exact congrArg _ (hfg a b a.isLt b.isLt)

/-- Three rows stored one by one. -/
theorem rows3 {i2 i1 i0} {p2 p1 p0 : Vec Ideal S1x256 .f32} {L : List (View.Piece (Elt Ideal) S3x256 .f32)} {f : ℕ → ℕ → ℝ}
    (h2 : Is p2 fun _ => f 2) (h1 : Is p1 fun _ => f 1) (h0 : Is p0 fun _ => f 0) :
    Is (n := 3) (m := 256) (View.canon (⟨Rect.unit (s := S3x256) ![2, 0] ![1, 256] i2, p2⟩ :: ⟨Rect.unit (s := S3x256) ![1, 0] ![1, 256] i1, p1⟩ ::
      ⟨Rect.unit (s := S3x256) ![0, 0] ![1, 256] i0, p0⟩ :: L)) f := by
  intro a b
  have hb := b.isLt
  fin_cases a
  · refine (piece_out (N := 3) (M := 256) i2 p2 _ 0 b (by simp)).trans ((piece_out (N := 3) (M := 256) i1 p1 _ 0 b (by simp)).trans ?_)
    exact (piece_in (N := 3) (M := 256) i0 p0 _ 0 b (by simp) (by simp) (by simp) (by omega)).trans (h0 _ _)
  · refine (piece_out (N := 3) (M := 256) i2 p2 _ 1 b (by simp)).trans ?_
    exact (piece_in (N := 3) (M := 256) i1 p1 _ 1 b (by simp) (by simp) (by simp) (by omega)).trans (h1 _ _)
  · exact (piece_in (N := 3) (M := 256) i2 p2 _ 2 b (by simp) (by simp) (by simp) (by omega)).trans (h2 _ _)

/-- Two halves of a row stored one by one. -/
theorem halves {i1 i0} {p1 p0 : Vec Ideal S1x256 .f32} {L : List (View.Piece (Elt Ideal) S1x512 .f32)} {f : ℕ → ℝ}
    (h1 : Is p1 fun _ c => f (256 + c)) (h0 : Is p0 fun _ => f) :
    Is (n := 1) (m := 512) (View.canon (⟨Rect.unit (s := S1x512) ![0, 256] ![1, 256] i1, p1⟩ :: ⟨Rect.unit (s := S1x512) ![0, 0] ![1, 256] i0, p0⟩ :: L))
      fun _ => f := by
  intro a b
  have hb := b.isLt
  have ha := a.isLt
  by_cases h : b.val < 256
  · refine (piece_out (N := 1) (M := 512) i1 p1 _ a b (by omega)).trans ?_
    exact (piece_in (N := 1) (M := 512) i0 p0 _ a b (by omega) (by omega) (by omega) (by omega)).trans (h0 _ _)
  · refine (piece_in (N := 1) (M := 512) i1 p1 _ a b (by omega) (by omega) (by omega) (by omega)).trans ((h1 _ _).trans ?_)
    exact congrArg (fun k => ((f k : ℝ) : EReal)) (show 256 + (b.val - 256) = b.val by omega)

/-- Four groups of columns stored one by one. -/
theorem quarters {i3 i2 i1 i0} {p3 p2 p1 p0 : Vec Ideal S512x256 .bf16} {L : List (View.Piece (Elt Ideal) S512x1024 .bf16)} {f : ℕ → ℕ → ℝ}
    (h3 : Is p3 fun r c => f r (768 + c)) (h2 : Is p2 fun r c => f r (512 + c)) (h1 : Is p1 fun r c => f r (256 + c)) (h0 : Is p0 f) :
    Is (n := 512) (m := 1024) (View.canon (⟨Rect.unit (s := S512x1024) ![0, 768] ![512, 256] i3, p3⟩ :: ⟨Rect.unit (s := S512x1024) ![0, 512] ![512, 256] i2, p2⟩ ::
      ⟨Rect.unit (s := S512x1024) ![0, 256] ![512, 256] i1, p1⟩ :: ⟨Rect.unit (s := S512x1024) ![0, 0] ![512, 256] i0, p0⟩ :: L)) f := by
  intro a b
  have hb := b.isLt
  have ha := a.isLt
  by_cases k3 : 768 ≤ b.val
  · refine (piece_in (N := 512) (M := 1024) i3 p3 _ a b (by omega) (by omega) (by omega) (by omega)).trans ((h3 _ _).trans ?_)
    exact congrArg (fun k => ((f a k : ℝ) : EReal)) (show 768 + (b.val - 768) = b.val by omega)
  refine (piece_out (N := 512) (M := 1024) i3 p3 _ a b (by omega)).trans ?_
  by_cases k2 : 512 ≤ b.val
  · refine (piece_in (N := 512) (M := 1024) i2 p2 _ a b (by omega) (by omega) (by omega) (by omega)).trans ((h2 _ _).trans ?_)
    exact congrArg (fun k => ((f a k : ℝ) : EReal)) (show 512 + (b.val - 512) = b.val by omega)
  refine (piece_out (N := 512) (M := 1024) i2 p2 _ a b (by omega)).trans ?_
  by_cases k1 : 256 ≤ b.val
  · refine (piece_in (N := 512) (M := 1024) i1 p1 _ a b (by omega) (by omega) (by omega) (by omega)).trans ((h1 _ _).trans ?_)
    exact congrArg (fun k => ((f a k : ℝ) : EReal)) (show 256 + (b.val - 256) = b.val by omega)
  refine (piece_out (N := 512) (M := 1024) i1 p1 _ a b (by omega)).trans ?_
  exact (piece_in (N := 512) (M := 1024) i0 p0 _ a b (by omega) (by omega) (by omega) (by omega)).trans (h0 _ _)

/-- A block that one stored piece fills. -/
theorem whole_at {N M : ℕ} (inb : ∀ a, (![0, 0] : Fin 2 → ℕ) a + (![N, M] : Fin 2 → ℕ) a ≤ (⟨2, ![N, M]⟩ : Shape).size a)
    {z : (⟨2, ![N, M]⟩ : Shape).Idx → EReal} {f : ℕ → ℕ → ℝ} {L : List (View.Piece (Elt Ideal) ⟨2, ![N, M]⟩ .f32)} (hz : Is z f) :
    Is (n := N) (m := M) (View.canon ((⟨Rect.unit (s := ⟨2, ![N, M]⟩) ![0, 0] ![N, M] inb, z⟩ : View.Piece (Elt Ideal) ⟨2, ![N, M]⟩ .f32) :: L)) f := fun a b =>
  (piece_in inb z L a b (Nat.zero_le _) a.isLt (Nat.zero_le _) b.isLt).trans (hz _ _)

theorem zeros_at {N M : ℕ} (inb : ∀ a, (![0, 0] : Fin 2 → ℕ) a + (![N, M] : Fin 2 → ℕ) a ≤ (⟨2, ![N, M]⟩ : Shape).size a)
    {z : (⟨2, ![N, M]⟩ : Shape).Idx → EReal} (hz : Is z fun _ _ => 0) :
    Is (n := N) (m := M) (View.canon [(⟨Rect.unit (s := ⟨2, ![N, M]⟩) ![0, 0] ![N, M] inb, z⟩ : View.Piece (Elt Ideal) ⟨2, ![N, M]⟩ .f32)]) fun _ _ => 0 :=
  whole_at inb hz

theorem pay38_at : Is (k0_pay38 (F := Ideal)) fun _ _ => 0 := fun a b => by
  pointwise [k0_pay38]
  simp

theorem pay39_at : Is (k0_pay39 (F := Ideal)) fun _ _ => 0 := fun a b => by
  pointwise [k0_pay39]
  simp

theorem pay40_at : Is (k0_pay40 (F := Ideal)) fun _ _ => 0 := fun a b => by
  pointwise [k0_pay40]
  simp

theorem pay41_at : Is (k0_pay41 (F := Ideal)) fun _ _ => 0 := fun a b => by
  pointwise [k0_pay41]
  simp

/-- One row of three, read. -/
theorem ld_pt {r0 : ℕ} {inb} {X : S3x256.Idx → EReal} {g : ℕ → ℝ} (hr : r0 < 3) (h : ∀ b : Fin 256, b.val < 256 → X (ix2 ⟨r0, hr⟩ b) = g b) :
    Is (n := 1) (m := 256) (View.ld (Val := Elt Ideal) (e' := .f32) X (Rect.unit (s := S3x256) ![r0, 0] ![1, 256] inb)) fun _ => g := by
  intro a b
  have hb := b.isLt
  obtain rfl : a = 0 := Subsingleton.elim _ _
  rw [ld_at (N := 3) (M := 256) (e := .f32) inb X 0 b (by simpa using hr) (by omega)]
  refine Eq.trans ?_ (h b b.isLt)
  congr 2
  exact Fin.ext (Nat.zero_add _)

/-- The second half of a row, read. -/
theorem ld_half {inb} {X : S1x512.Idx → EReal} {g : ℕ → ℝ} (hr : 256 < 512) (h : ∀ (b : ℕ) (hb : b < 256), X (ix2 0 ⟨256 + b, by omega⟩) = g b) :
    Is (n := 1) (m := 256) (View.ld (Val := Elt Ideal) (e' := .f32) X (Rect.unit (s := S1x512) ![0, 256] ![1, 256] inb)) fun _ => g := by
  intro a b
  obtain rfl : a = 0 := Subsingleton.elim _ _
  rw [ld_at (N := 1) (M := 512) (e := .f32) inb X 0 b (by simp) (by omega)]
  exact h b b.isLt

variable (P D cw bd : ℕ → ℕ → ℝ) (ps gg : ℕ → ℝ) (m : (ℓ : Loc nD τ sig) → Buf (Elt Ideal) ℓ) (c : Dev nD)

/-- The point's blocks hold the arguments' rows. -/
def BlocksAt (t : Fin cfg0.N) : Prop :=
  Blocks P D cw bd ps gg (grid0.coords t)
    (View.ld (X0_1 m c t) (Rect.unit (s := S16x1024) ![0, 0] ![16, 1024] inb_S16x1024_S16x1024_0_0))
    (View.ld (X0_0 m c t) (Rect.unit (s := S512x1024) ![0, 0] ![512, 1024] inb_S512x1024_S512x1024_0_0))
    (View.ld (X0_2 m c t) (Rect.unit (s := S16x1024) ![0, 0] ![16, 1024] inb_S16x1024_S16x1024_0_0))
    (View.ld (iblk m c 5 t) (Rect.unit (s := S3x256) ![0, 0] ![1, 256] inb_S3x256_S1x256_0_0))
    (View.ld (iblk m c 5 t) (Rect.unit (s := S3x256) ![1, 0] ![1, 256] inb_S3x256_S1x256_1_0))
    (View.ld (iblk m c 5 t) (Rect.unit (s := S3x256) ![2, 0] ![1, 256] inb_S3x256_S1x256_2_0))
    (View.ld (iblk m c 6 t) (Rect.unit (s := S256x256) ![0, 0] ![256, 256] inb_S256x256_S256x256_0_0))
    (View.ld (iblk m c 7 t) (Rect.unit (s := S1x256) ![0, 0] ![1, 256] inb_S1x256_S1x256_0_0))
    (View.ld (iblk m c 8 t) (Rect.unit (s := S1x512) ![0, 0] ![1, 512] inb_S1x512_S1x512_0_0))
    (View.ld (iblk m c 4 t) (Rect.unit (s := S16x512) ![0, 0] ![16, 512] inb_S16x512_S16x512_0_0))
    (View.ld (iblk m c 3 t) (Rect.unit (s := S512x512) ![0, 0] ![512, 512] inb_S512x512_S512x512_0_0))

theorem coords_val : ∀ t : Fin cfg0.N, (grid0.coords t 0).val = t.val := by decide +kernel

theorem rows_at (t : Fin cfg0.N) (B : BlocksAt P D cw bd ps gg m c t) :
    Is (n := 512) (m := 1024) (outsAt0 m c t.val t.isLt).1 fun r => dp P D cw bd ps gg (512 * (grid0.coords t 0).val + r) := by
  by_cases h0 : t.val % 16 = 0
  · refine (iff_of_eq (congrArg (fun x => Is x _) (congrArg (fun x => x.1) (outsAt0_A m c t h0)))).2 ?_
    dsimp only
    unfold out0_A_9 kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread]
    rw [View.read_writes_junk_eq_canon]
    refine quarters ?_ ?_ ?_ ?_
    · exact (pay37_at P D bd ps gg _ B.weights5 Blocks.counts B.grad36).congr fun r c _ _ => by
        rw [dp, if_neg (by omega), if_neg (by omega), if_neg (by omega), Nat.add_sub_cancel_left]
    · exact (pay35_at P D cw gg _ B.main B.grad32).congr fun r c _ _ => by
        rw [dp, if_neg (by omega), if_neg (by omega), if_pos (by omega), Nat.add_sub_cancel_left, show 512 + c - 256 = 256 + c by omega]
    · exact (pay34_at P D cw gg _ B.main B.grad32).congr fun r c _ _ => by
        rw [dp, if_neg (by omega), if_pos (by omega), Nat.add_sub_cancel_left, show 256 + (256 + c) = 512 + c by omega]
    · exact (pay33_at P D cw gg _ B.conv11 B.grad24).congr fun r c _ _ => by rw [dp, if_pos (by omega)]
  · refine (iff_of_eq (congrArg (fun x => Is x _) (congrArg (fun x => x.1) (outsAt0_B m c t h0)))).2 ?_
    dsimp only
    unfold out0_B_9 kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread]
    rw [View.read_writes_junk_eq_canon]
    refine quarters ?_ ?_ ?_ ?_
    · exact (pay37_at P D bd ps gg _ B.weights5 Blocks.counts B.grad36).congr fun r c _ _ => by
        rw [dp, if_neg (by omega), if_neg (by omega), if_neg (by omega), Nat.add_sub_cancel_left]
    · exact (pay35_at P D cw gg _ B.main B.grad32).congr fun r c _ _ => by
        rw [dp, if_neg (by omega), if_neg (by omega), if_pos (by omega), Nat.add_sub_cancel_left, show 512 + c - 256 = 256 + c by omega]
    · exact (pay34_at P D cw gg _ B.main B.grad32).congr fun r c _ _ => by
        rw [dp, if_neg (by omega), if_pos (by omega), Nat.add_sub_cancel_left, show 256 + (256 + c) = 512 + c by omega]
    · exact (pay33_at P D cw gg _ B.conv11 B.grad24).congr fun r c _ _ => by rw [dp, if_pos (by omega)]

theorem taps_first (t : Fin cfg0.N) (B : BlocksAt P D cw bd ps gg m c t) (h0 : t.val % 16 = 0) :
    Is (n := 3) (m := 256) (outsAt0 m c t.val t.isLt).2.1 ((dcw P D cw gg) (512 * ((grid0.coords t 0).val + 1))) := by
  refine (iff_of_eq (congrArg (fun x => Is x _) (congrArg (fun x => x.2.1) (outsAt0_A m c t h0)))).2 ?_
  dsimp only
  unfold out0_A_10 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, readCov_ld]
  rw [View.read_writes_junk_eq_canon]
  have h1 : (grid0.coords t 0).val = 0 := by have := coords_val t; have := t.isLt; have h16 : cfg0.N = 16 := N_0; omega
  refine rows3 ?_ ?_ ?_
  · refine tap2_at P D cw gg _ (ld_pt (by decide) fun b hb => ?_) (pay8_at P _ _ B.ext4) B.grad31
    refine (piece_out (N := 3) (M := 256) _ _ _ 2 b (by simp)).trans ((piece_out (N := 3) (M := 256) _ _ _ 2 b (by simp)).trans ?_)
    rw [zeros_at _ pay38_at, h1]; simp [dcw]
  · refine tap1_at P D cw gg _ (ld_pt (by decide) fun b hb => ?_) (pay9_at P _ _ B.ext4) B.grad31
    refine (piece_out (N := 3) (M := 256) _ _ _ 1 b (by simp)).trans ?_
    rw [zeros_at _ pay38_at, h1]; simp [dcw]
  · refine tap0_at P D cw gg _ (ld_pt (by decide) fun b hb => ?_) (pay10_at P _ _ B.ext4) B.grad31
    rw [zeros_at _ pay38_at, h1]; simp [dcw]

theorem taps_next (t : Fin cfg0.N) (B : BlocksAt P D cw bd ps gg m c t) (h0 : ¬t.val % 16 = 0)
    (hold : Is (n := 3) (m := 256) (outsAt0 m c (t.val - 1) (Nat.lt_of_le_of_lt (Nat.sub_le _ _) t.isLt)).2.1 ((dcw P D cw gg) (512 * (grid0.coords t 0).val))) :
    Is (n := 3) (m := 256) (outsAt0 m c t.val t.isLt).2.1 ((dcw P D cw gg) (512 * ((grid0.coords t 0).val + 1))) := by
  refine (iff_of_eq (congrArg (fun x => Is x _) (congrArg (fun x => x.2.1) (outsAt0_B m c t h0)))).2 ?_
  dsimp only
  unfold out0_B_10 kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread]
  rw [View.read_writes_junk_eq_canon]
  refine rows3 ?_ ?_ ?_
  · exact tap2_at P D cw gg _ (ld_is _ hold fun a b ha _ => by rw [Nat.zero_add, show 2 + a = 2 by omega]) (pay8_at P _ _ B.ext4) B.grad31
  · exact tap1_at P D cw gg _ (ld_is _ hold fun a b ha _ => by rw [Nat.zero_add, show 1 + a = 1 by omega]) (pay9_at P _ _ B.ext4) B.grad31
  · exact tap0_at P D cw gg _ (ld_is _ hold fun a b ha _ => by rw [Nat.zero_add, Nat.zero_add, show a = 0 by omega]) (pay10_at P _ _ B.ext4) B.grad31

theorem weights_first (t : Fin cfg0.N) (B : BlocksAt P D cw bd ps gg m c t) (h0 : t.val % 16 = 0) :
    Is (n := 256) (m := 256) (outsAt0 m c t.val t.isLt).2.2.1 ((dbd P D bd ps gg) (512 * ((grid0.coords t 0).val + 1))) := by
  refine (iff_of_eq (congrArg (fun x => Is x _) (congrArg (fun x => x.2.2.1) (outsAt0_A m c t h0)))).2 ?_
  dsimp only
  unfold out0_A_11 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, readCov_ld]
  rw [View.read_writes_junk_eq_canon]
  have h1 : (grid0.coords t 0).val = 0 := by have := coords_val t; have := t.isLt; have h16 : cfg0.N = 16 := N_0; omega
  exact whole_at _ (weights_at P D bd ps gg _ (ld_is _ (zeros_at _ pay39_at) fun a b _ _ => by rw [h1]; simp [dbd]) B.averages B.grad36)

theorem weights_next (t : Fin cfg0.N) (B : BlocksAt P D cw bd ps gg m c t) (h0 : ¬t.val % 16 = 0)
    (hold : Is (n := 256) (m := 256) (outsAt0 m c (t.val - 1) (Nat.lt_of_le_of_lt (Nat.sub_le _ _) t.isLt)).2.2.1 ((dbd P D bd ps gg) (512 * (grid0.coords t 0).val))) :
    Is (n := 256) (m := 256) (outsAt0 m c t.val t.isLt).2.2.1 ((dbd P D bd ps gg) (512 * ((grid0.coords t 0).val + 1))) := by
  refine (iff_of_eq (congrArg (fun x => Is x _) (congrArg (fun x => x.2.2.1) (outsAt0_B m c t h0)))).2 ?_
  dsimp only
  unfold out0_B_11 kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_11 t).read_unread]
  rw [View.read_writes_junk_eq_canon]
  exact whole_at _ (weights_at P D bd ps gg _ (ld_is _ hold fun a b _ _ => by rw [Nat.zero_add, Nat.zero_add]) B.averages B.grad36)

theorem scale_first (t : Fin cfg0.N) (B : BlocksAt P D cw bd ps gg m c t) (h0 : t.val % 16 = 0) :
    Is (n := 1) (m := 256) (outsAt0 m c t.val t.isLt).2.2.2.1 ((fun k _ c => dps P D bd ps gg k c) (512 * ((grid0.coords t 0).val + 1))) := by
  refine (iff_of_eq (congrArg (fun x => Is x _) (congrArg (fun x => x.2.2.2.1) (outsAt0_A m c t h0)))).2 ?_
  dsimp only
  unfold out0_A_12 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, readCov_ld]
  rw [View.read_writes_junk_eq_canon]
  have h1 : (grid0.coords t 0).val = 0 := by have := coords_val t; have := t.isLt; have h16 : cfg0.N = 16 := N_0; omega
  exact whole_at _ (scale_at P D bd ps gg _ (ld_is _ (zeros_at _ pay40_at) fun a b _ _ => by rw [h1]; simp [dps]) B.product B.grad29)

theorem scale_next (t : Fin cfg0.N) (B : BlocksAt P D cw bd ps gg m c t) (h0 : ¬t.val % 16 = 0)
    (hold : Is (n := 1) (m := 256) (outsAt0 m c (t.val - 1) (Nat.lt_of_le_of_lt (Nat.sub_le _ _) t.isLt)).2.2.2.1 ((fun k _ c => dps P D bd ps gg k c) (512 * (grid0.coords t 0).val))) :
    Is (n := 1) (m := 256) (outsAt0 m c t.val t.isLt).2.2.2.1 ((fun k _ c => dps P D bd ps gg k c) (512 * ((grid0.coords t 0).val + 1))) := by
  refine (iff_of_eq (congrArg (fun x => Is x _) (congrArg (fun x => x.2.2.2.1) (outsAt0_B m c t h0)))).2 ?_
  dsimp only
  unfold out0_B_12 kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_12 t).read_unread]
  rw [View.read_writes_junk_eq_canon]
  exact whole_at _ (scale_at P D bd ps gg _ (ld_is _ hold fun a b _ _ => by simp only [Nat.zero_add]) B.product B.grad29)

theorem gains_first (t : Fin cfg0.N) (B : BlocksAt P D cw bd ps gg m c t) (h0 : t.val % 16 = 0) :
    Is (n := 1) (m := 512) (outsAt0 m c t.val t.isLt).2.2.2.2 ((fun k _ c => dgg P D cw bd ps k c) (512 * ((grid0.coords t 0).val + 1))) := by
  refine (iff_of_eq (congrArg (fun x => Is x _) (congrArg (fun x => x.2.2.2.2) (outsAt0_A m c t h0)))).2 ?_
  dsimp only
  unfold out0_A_13 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, readCov_ld]
  rw [View.read_writes_junk_eq_canon]
  have h1 : (grid0.coords t 0).val = 0 := by have := coords_val t; have := t.isLt; have h16 : cfg0.N = 16 := N_0; omega
  refine halves ?_ ?_
  · refine (gain1_at _ (ld_half (by decide) fun b hb => ?_) B.gain30).congr fun a b _ _ => ?_
    · refine (piece_out (N := 1) (M := 512) _ _ _ 0 ⟨256 + b, by omega⟩ (by simp)).trans ?_
      rw [zeros_at _ pay41_at, h1]; simp
    · rw [dgg, if_neg (by omega), Nat.add_sub_cancel_left]
  · refine (gain0_at _ (ld_is _ (zeros_at _ pay41_at) fun a b _ _ => ?_) B.gain25).congr fun a b _ _ => ?_
    · rw [h1]; simp
    · rw [dgg, if_pos (by omega)]

theorem gains_next (t : Fin cfg0.N) (B : BlocksAt P D cw bd ps gg m c t) (h0 : ¬t.val % 16 = 0)
    (hold : Is (n := 1) (m := 512) (outsAt0 m c (t.val - 1) (Nat.lt_of_le_of_lt (Nat.sub_le _ _) t.isLt)).2.2.2.2 ((fun k _ c => dgg P D cw bd ps k c) (512 * (grid0.coords t 0).val))) :
    Is (n := 1) (m := 512) (outsAt0 m c t.val t.isLt).2.2.2.2 ((fun k _ c => dgg P D cw bd ps k c) (512 * ((grid0.coords t 0).val + 1))) := by
  refine (iff_of_eq (congrArg (fun x => Is x _) (congrArg (fun x => x.2.2.2.2) (outsAt0_B m c t h0)))).2 ?_
  dsimp only
  unfold out0_B_13 kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_13 t).read_unread]
  rw [View.read_writes_junk_eq_canon]
  refine halves ?_ ?_
  · refine (gain1_at _ (ld_is _ hold fun a b _ _ => ?_) B.gain30).congr fun a b _ _ => ?_
    · show dgg P D cw bd ps _ _ = _
      rw [dgg, if_neg (by omega), Nat.add_sub_cancel_left]
    · rw [dgg, if_neg (by omega), Nat.add_sub_cancel_left]
  · refine (gain0_at _ (ld_is _ hold fun a b _ _ => ?_) B.gain25).congr fun a b _ _ => ?_
    · show dgg P D cw bd ps _ _ = _
      rw [Nat.zero_add, dgg, if_pos (by omega)]
    · rw [dgg, if_pos (by omega)]

end Cert.KernelIdeal.Stages

end
-- ==== Proof.Inputs.lean ====
/- What it means that the six argument arrays hold reals: which plain functions of row and column they are. -/
module

public import proofs.«01_k».proof.Proof.Spec

@[expose] public section

noncomputable section

namespace Mix

open Idealize.ShloMosaic Idealize.ShloMosaic.TcCoe Idealize.ShloMosaic.Tactic

/-- The pooling weights of the four groups of columns as the diagonal blocks of one matrix. -/
def diag (pw : ℕ → ℕ → ℕ → ℝ) (k c : ℕ) : ℝ := if k / 64 = c / 64 then pw (k / 64) (k % 64) (c % 64) else 0

/-- The argument arrays hold reals: the projected quarters `P` (its rows past the end repeat the last sixteen), the
    gradient `D` (zero past the end), the taps, the pooling weights, the pooling scale and the gains. -/
structure Inputs (a0 : Vec Ideal ⟨2, ![8192, 2560]⟩ .bf16) (a1 : Vec Ideal ⟨2, ![8192, 1024]⟩ .bf16)
    (a2 : Vec Ideal ⟨2, ![3, 256]⟩ .f32) (a3 : Vec Ideal ⟨3, ![4, 64, 64]⟩ .f32) (a4 : Vec Ideal ⟨2, ![1, 256]⟩ .f32)
    (a5 : Vec Ideal ⟨2, ![1, 512]⟩ .f32) (P D cw : ℕ → ℕ → ℝ) (pw : ℕ → ℕ → ℕ → ℝ) (ps gg : ℕ → ℝ) : Prop where
  proj : ∀ (s : Fin 8192) (c : Fin 2560), c.val < 1024 → a0 (ix2 s c) = (P s c : EReal)
  wrap : ∀ s c, 8192 ≤ s → P s c = P (s - 16) c
  grad : ∀ (s : Fin 8192) (c : Fin 1024), c.val < 512 → a1 (ix2 s c) = (D s c : EReal)
  past : ∀ s c, 8192 ≤ s → D s c = 0
  taps : ∀ (j : Fin 3) (c : Fin 256), a2 (ix2 j c) = (cw j c : EReal)
  pool : ∀ (g : Fin 4) (k c : Fin 64), a3 (ix3 g k c) = (pw g k c : EReal)
  scale : ∀ (z : Fin 1) (c : Fin 256), a4 (ix2 z c) = (ps c : EReal)
  gains : ∀ (z : Fin 1) (c : Fin 512), a5 (ix2 z c) = (gg c : EReal)

end Mix

end
-- ==== Proof.Launched.lean ====
/- What the body's blocks hold at each grid point, read off the argument arrays, and what the host lines before the
   kernel make of the pooling weights. -/
module

public import proofs.«01_k».proof.Proof.Outs
public import proofs.«01_k».proof.Proof.Inputs
public import Idealize.ShloMosaic.Lib.Pipeline.ValueKit

@[expose] public section

noncomputable section

namespace Cert.KernelIdeal.Stages

open Cert.KernelIdeal Cert.KernelIdeal.Gen Idealize.ShloMosaic Idealize.ShloMosaic.TcCoe Idealize.ShloMosaic.Tactic Mix

variable {P D cw : ℕ → ℕ → ℝ} {pw : ℕ → ℕ → ℕ → ℝ} {ps gg : ℕ → ℝ}
variable (m : (ℓ : Loc nD τ sig) → Buf (Elt Ideal) ℓ) (c : Dev nD)

/-- The argument arrays of one device hold reals. -/
abbrev Launched (P D cw : ℕ → ℕ → ℝ) (pw : ℕ → ℕ → ℕ → ℝ) (ps gg : ℕ → ℝ) : Prop :=
  Inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) P D cw pw ps gg

theorem at0 : ∀ t : Fin cfg0.N, win0_0.index t = ![t.val, 0] := by decide +kernel
theorem at1 : ∀ t : Fin cfg0.N, win0_1.index t = ![32 * t.val - 1, 0] := by decide +kernel
theorem at2 : ∀ t : Fin cfg0.N, win0_2.index t = ![min (32 * (t.val + 1)) 511, 0] := by decide +kernel
theorem at3 : ∀ t : Fin cfg0.N, win0_3.index t = ![t.val, 0] := by decide +kernel
theorem at4 : ∀ t : Fin cfg0.N, win0_4.index t = ![min (32 * (t.val + 1)) 511, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![0, 0] := by decide +kernel

theorem block0 (t : Fin cfg0.N) (a : Fin 512) (b : Fin 1024) (h : 512 * t.val + a.val < 8192) (h' : b.val < 2560) :
    X0_0 m c t (ix2 a b) = m ((c : Thread nD τ).loc main_arg0) (ix2 ⟨512 * t.val + a.val, h⟩ ⟨b.val, h'⟩) := by
  unfold X0_0 Pipeline.Window.fill
  rw [dif_pos (moved0_0 t _)]
  blk_simp [iblk]
  rw [V_main_arg0]
  refine congrArg _ (funext fun k => Fin.ext ?_)
  match k with
  | ⟨0, _⟩ => blk_simp [at0]; show _ = 512 * t.val + a.val; simp; omega
  | ⟨1, _⟩ => blk_simp [at0]

theorem block1 (t : Fin cfg0.N) (a : Fin 16) (b : Fin 1024) (h : 16 * (32 * t.val - 1) + a.val < 8192) (h' : b.val < 2560) :
    X0_1 m c t (ix2 a b) = m ((c : Thread nD τ).loc main_arg0) (ix2 ⟨16 * (32 * t.val - 1) + a.val, h⟩ ⟨b.val, h'⟩) := by
  unfold X0_1 Pipeline.Window.fill
  rw [dif_pos (moved0_1 t _)]
  blk_simp [iblk]
  rw [V_main_arg0]
  refine congrArg _ (funext fun k => Fin.ext ?_)
  match k with
  | ⟨0, _⟩ => blk_simp [at1]; show _ = 16 * (32 * t.val - 1) + a.val; simp; omega
  | ⟨1, _⟩ => blk_simp [at1]

theorem block2 (t : Fin cfg0.N) (a : Fin 16) (b : Fin 1024) (h : 16 * (min (32 * (t.val + 1)) 511) + a.val < 8192) (h' : b.val < 2560) :
    X0_2 m c t (ix2 a b) = m ((c : Thread nD τ).loc main_arg0) (ix2 ⟨16 * (min (32 * (t.val + 1)) 511) + a.val, h⟩ ⟨b.val, h'⟩) := by
  unfold X0_2 Pipeline.Window.fill
  rw [dif_pos (moved0_2 t _)]
  blk_simp [iblk]
  rw [V_main_arg0]
  refine congrArg _ (funext fun k => Fin.ext ?_)
  match k with
  | ⟨0, _⟩ => blk_simp [at2]; show _ = 16 * (min (32 * (t.val + 1)) 511) + a.val; simp; omega
  | ⟨1, _⟩ => blk_simp [at2]

theorem block3 (t : Fin cfg0.N) (a : Fin 512) (b : Fin 512) (h : 512 * t.val + a.val < 8192) (h' : b.val < 1024) :
    iblk m c 3 t (ix2 a b) = m ((c : Thread nD τ).loc main_arg1) (ix2 ⟨512 * t.val + a.val, h⟩ ⟨b.val, h'⟩) := by
  blk_simp [iblk]
  rw [V_main_arg1]
  refine congrArg _ (funext fun k => Fin.ext ?_)
  match k with
  | ⟨0, _⟩ => blk_simp [at3]; show _ = 512 * t.val + a.val; simp; omega
  | ⟨1, _⟩ => blk_simp [at3]

theorem block4 (t : Fin cfg0.N) (a : Fin 16) (b : Fin 512) (h : 16 * (min (32 * (t.val + 1)) 511) + a.val < 8192) (h' : b.val < 1024) :
    iblk m c 4 t (ix2 a b) = m ((c : Thread nD τ).loc main_arg1) (ix2 ⟨16 * (min (32 * (t.val + 1)) 511) + a.val, h⟩ ⟨b.val, h'⟩) := by
  blk_simp [iblk]
  rw [V_main_arg1]
  refine congrArg _ (funext fun k => Fin.ext ?_)
  match k with
  | ⟨0, _⟩ => blk_simp [at4]; show _ = 16 * (min (32 * (t.val + 1)) 511) + a.val; simp; omega
  | ⟨1, _⟩ => blk_simp [at4]

theorem block5 (t : Fin cfg0.N) (a : Fin 3) (b : Fin 256) :
    iblk m c 5 t (ix2 a b) = m ((c : Thread nD τ).loc main_arg2) (ix2 a b) := by
  blk_simp [iblk]
  rw [V_main_arg2]
  refine congrArg _ (funext fun k => Fin.ext ?_)
  match k with
  | ⟨0, _⟩ => blk_simp [at5]
  | ⟨1, _⟩ => blk_simp [at5]

theorem block7 (t : Fin cfg0.N) (a : Fin 1) (b : Fin 256) :
    iblk m c 7 t (ix2 a b) = m ((c : Thread nD τ).loc main_arg4) (ix2 a b) := by
  blk_simp [iblk]
  rw [V_main_arg4]
  refine congrArg _ (funext fun k => Fin.ext ?_)
  match k with
  | ⟨0, _⟩ => blk_simp [at7]
  | ⟨1, _⟩ => blk_simp [at7]

theorem block8 (t : Fin cfg0.N) (a : Fin 1) (b : Fin 512) :
    iblk m c 8 t (ix2 a b) = m ((c : Thread nD τ).loc main_arg5) (ix2 a b) := by
  blk_simp [iblk]
  rw [V_main_arg5]
  refine congrArg _ (funext fun k => Fin.ext ?_)
  match k with
  | ⟨0, _⟩ => blk_simp [at8]
  | ⟨1, _⟩ => blk_simp [at8]

theorem block6 (t : Fin cfg0.N) (a b : Fin 256) : iblk m c 6 t (ix2 a b) = V m c main_v13 (ix2 a b) := by
  blk_simp [iblk]
  refine congrArg _ (funext fun k => Fin.ext ?_)
  match k with
  | ⟨0, _⟩ => blk_simp [at6]
  | ⟨1, _⟩ => blk_simp [at6]

/-- A square block put on the diagonal of a matrix. -/
theorem put_at (a b : Fin 256) (x : Vec Ideal S256x256 .f32) (u : Vec Ideal S64x64 .f32) (st : Fin 2 → Int) (n : ℕ) (hn : n ≤ 192) (hst : ∀ k, st k = n) (hs)
    (f : ℕ → ℕ → ℝ) (hx : a.val < n ∨ n + 64 ≤ a.val ∨ b.val < n ∨ n + 64 ≤ b.val → x (ix2 a b) = (f a b : EReal))
    (hu : ∀ (p q : Fin 64), a.val = n + p.val → b.val = n + q.val → u (ix2 p q) = (f a b : EReal)) :
    Host.dynamicUpdateSlice x u st hs (ix2 a b) = (f a b : EReal) := by
  have hc : ∀ k, Host.clampedStart S256x256 S64x64 hs.1 st k = n := by
    intro k
    fin_cases k <;> simp [Host.clampedStart, hst] <;> omega
  rw [Host.dynamicUpdateSlice_apply]
  split_ifs with h
  · have h0 := h 0
    have h1 := h 1
    rw [hc] at h0 h1
    have l0 : a.val < n + 64 := h0.2
    have l1 : b.val < n + 64 := h1.2
    have g0 : n ≤ a.val := h0.1
    have g1 : n ≤ b.val := h1.1
    rw [← hu ⟨a.val - n, by omega⟩ ⟨b.val - n, by omega⟩ (by simp; omega) (by simp; omega)]
    refine congrArg u (funext fun k => Fin.ext ?_)
    match k with
    | ⟨0, _⟩ => show a.val - Host.clampedStart S256x256 S64x64 hs.1 st 0 = a.val - n; rw [hc]
    | ⟨1, _⟩ => show b.val - Host.clampedStart S256x256 S64x64 hs.1 st 1 = b.val - n; rw [hc]
  · refine hx ?_
    by_contra hcon
    push Not at hcon
    refine h fun k => ?_
    rw [hc]
    match k with
    | ⟨0, _⟩ => exact ⟨hcon.1, hcon.2.1⟩
    | ⟨1, _⟩ => exact ⟨hcon.2.2.1, hcon.2.2.2⟩

theorem weights_piece (H : Launched m c P D cw pw ps gg) (a b : Fin 256) (n : ℕ) (g : Fin 4) (hg : n = 64 * g.val) (p q : Fin 64)
    (hp : a.val = n + p.val) (hq : b.val = n + q.val) (v : EReal) (hv : v = m ((c : Thread nD τ).loc main_arg3) (ix3 g p q)) :
    v = (diag pw a b : EReal) := by
  have hp' := p.isLt
  have hq' := q.isLt
  rw [hv, H.pool]
  unfold diag
  rw [if_pos (by omega), show a.val / 64 = g.val by omega, show a.val % 64 = p.val by omega, show b.val % 64 = q.val by omega]

theorem weights_matrix (H : Launched m c P D cw pw ps gg) (a b : Fin 256) : V m c main_v13 (ix2 a b) = (diag pw a b : EReal) := by
  show StableHlo.after (List.flatten [hostOps0]) (fun b => m (c, b)) (Proc.devRef .tc main_v13) (ix2 a b) = _
  simp only [hostOps0, List.flatten_cons, List.flatten_nil, List.append_nil]
  after_results
  rw [truncf_apply]
  refine put_at a b _ _ _ 192 (by norm_num) (fun k => ?_) _ _ (fun h3 => ?_) fun p q hp hq =>
    weights_piece m c H a b 192 3 rfl p q hp hq _ (by pointwise [])
  · fin_cases k <;> (after_results; rfl)
  refine put_at a b _ _ _ 128 (by norm_num) (fun k => ?_) _ _ (fun h2 => ?_) fun p q hp hq =>
    weights_piece m c H a b 128 2 rfl p q hp hq _ (by pointwise [])
  · fin_cases k <;> (after_results; rfl)
  refine put_at a b _ _ _ 64 (by norm_num) (fun k => ?_) _ _ (fun h1 => ?_) fun p q hp hq =>
    weights_piece m c H a b 64 1 rfl p q hp hq _ (by pointwise [])
  · fin_cases k <;> (after_results; rfl)
  refine put_at a b _ _ _ 0 (by norm_num) (fun k => ?_) _ _ (fun h0 => ?_) fun p q hp hq =>
    weights_piece m c H a b 0 0 rfl p q hp hq _ (by pointwise [])
  · fin_cases k <;> (after_results; rfl)
  pointwise []
  unfold diag
  rw [if_neg (by omega)]
  rfl

theorem blocks (H : Launched m c P D cw pw ps gg) (t : Fin cfg0.N) : BlocksAt P D cw (diag pw) ps gg m c t := by
  have hN : t.val < 16 := lt_of_lt_of_eq t.isLt (show cfg0.N = 16 from N_0)
  unfold BlocksAt
  constructor
  · rw [coords_val]
    intro h a b
    rw [ld_at (e := .bf16) _ _ a b (by omega) (by omega), block1 m c t _ _ (by dsimp only; omega) (by dsimp only; omega), H.proj _ _ (by dsimp only; omega)]
    congr 2 <;> dsimp only <;> omega
  · rw [coords_val]
    intro a b
    rw [ld_at (e := .bf16) _ _ a b (by omega) (by omega), block0 m c t _ _ (by dsimp only; omega) (by dsimp only; omega), H.proj _ _ (by dsimp only; omega)]
    congr 2 <;> dsimp only <;> omega
  · rw [coords_val]
    intro a b
    rw [ld_at (e := .bf16) _ _ a b (by omega) (by omega), block2 m c t _ _ (by dsimp only; omega) (by dsimp only; omega), H.proj _ _ (by dsimp only; omega)]
    by_cases h : t.val < 15
    · congr 2 <;> dsimp only <;> omega
    · show _ = ((P (512 * t.val + 512 + a.val) b.val : ℝ) : EReal)
      rw [H.wrap (512 * t.val + 512 + a.val) _ (by omega)]
      congr 2 <;> dsimp only <;> omega
  · intro a b
    rw [ld_at (e := .f32) _ _ a b (by omega) (by omega), block5, H.taps]
    congr 2 <;> dsimp only <;> omega
  · intro a b
    rw [ld_at (e := .f32) _ _ a b (by omega) (by omega), block5, H.taps]
    congr 2 <;> dsimp only <;> omega
  · intro a b
    rw [ld_at (e := .f32) _ _ a b (by omega) (by omega), block5, H.taps]
    congr 2 <;> dsimp only <;> omega
  · intro a b
    rw [ld_at (e := .bf16) _ _ a b (by omega) (by omega), block6, weights_matrix m c H]
    congr 2 <;> dsimp only <;> omega
  · intro a b
    rw [ld_at (e := .f32) _ _ a b (by omega) (by omega), block7, H.scale]
    congr 2 <;> dsimp only <;> omega
  · intro a b
    rw [ld_at (e := .f32) _ _ a b (by omega) (by omega), block8, H.gains]
    congr 2 <;> dsimp only <;> omega
  · rw [coords_val]
    intro a b
    rw [ld_at (e := .bf16) _ _ a b (by omega) (by omega), block3 m c t _ _ (by dsimp only; omega) (by dsimp only; omega), H.grad _ _ (by dsimp only; omega)]
    congr 2 <;> dsimp only <;> omega
  · rw [coords_val]
    intro h a b
    rw [ld_at (e := .bf16) _ _ a b (by omega) (by omega), block4 m c t _ _ (by dsimp only; omega) (by dsimp only; omega), H.grad _ _ (by dsimp only; omega)]
    congr 2 <;> dsimp only <;> omega
  · exact H.past

end Cert.KernelIdeal.Stages

end
-- ==== Proof.Results.lean ====
/- What the kernel's result arrays hold after the run: the rows of the gradient, and the sums over all rows. -/
module

public import proofs.«01_k».proof.Proof.Launched

@[expose] public section

noncomputable section

namespace Cert.KernelIdeal.Stages

open Cert.KernelIdeal Cert.KernelIdeal.Gen Idealize.ShloMosaic Idealize.ShloMosaic.TcCoe Idealize.ShloMosaic.Tactic Mix

variable {P D cw : ℕ → ℕ → ℝ} {pw : ℕ → ℕ → ℕ → ℝ} {ps gg : ℕ → ℝ}
variable (m : (ℓ : Loc nD τ sig) → Buf (Elt Ideal) ℓ) (c : Dev nD)

section sums

variable (H : Launched m c P D cw pw ps gg)
include H

theorem taps_sum : ∀ (n : ℕ) (h : n < cfg0.N), Is (n := 3) (m := 256) (outsAt0 m c n h).2.1 (dcw P D cw gg (512 * (n + 1)))
  | 0, h => by
    have := taps_first P D cw (diag pw) ps gg m c ⟨0, h⟩ (blocks m c H _) rfl
    rwa [coords_val] at this
  | n + 1, h => by
    have hN : n + 1 < 16 := lt_of_lt_of_eq h (show cfg0.N = 16 from N_0)
    have := taps_next P D cw (diag pw) ps gg m c ⟨n + 1, h⟩ (blocks m c H _) (by dsimp only; omega)
      (by rw [coords_val]; exact taps_sum n _)
    rwa [coords_val] at this

theorem weights_sum : ∀ (n : ℕ) (h : n < cfg0.N), Is (n := 256) (m := 256) (outsAt0 m c n h).2.2.1 (dbd P D (diag pw) ps gg (512 * (n + 1)))
  | 0, h => by
    have := weights_first P D cw (diag pw) ps gg m c ⟨0, h⟩ (blocks m c H _) rfl
    rwa [coords_val] at this
  | n + 1, h => by
    have hN : n + 1 < 16 := lt_of_lt_of_eq h (show cfg0.N = 16 from N_0)
    have := weights_next P D cw (diag pw) ps gg m c ⟨n + 1, h⟩ (blocks m c H _) (by dsimp only; omega)
      (by rw [coords_val]; exact weights_sum n _)
    rwa [coords_val] at this

theorem scale_sum : ∀ (n : ℕ) (h : n < cfg0.N), Is (n := 1) (m := 256) (outsAt0 m c n h).2.2.2.1 fun _ => dps P D (diag pw) ps gg (512 * (n + 1))
  | 0, h => by
    have := scale_first P D cw (diag pw) ps gg m c ⟨0, h⟩ (blocks m c H _) rfl
    rwa [coords_val] at this
  | n + 1, h => by
    have hN : n + 1 < 16 := lt_of_lt_of_eq h (show cfg0.N = 16 from N_0)
    have := scale_next P D cw (diag pw) ps gg m c ⟨n + 1, h⟩ (blocks m c H _) (by dsimp only; omega)
      (by rw [coords_val]; exact scale_sum n _)
    rwa [coords_val] at this

theorem gains_sum : ∀ (n : ℕ) (h : n < cfg0.N), Is (n := 1) (m := 512) (outsAt0 m c n h).2.2.2.2 fun _ => dgg P D cw (diag pw) ps (512 * (n + 1))
  | 0, h => by
    have := gains_first P D cw (diag pw) ps gg m c ⟨0, h⟩ (blocks m c H _) rfl
    rwa [coords_val] at this
  | n + 1, h => by
    have hN : n + 1 < 16 := lt_of_lt_of_eq h (show cfg0.N = 16 from N_0)
    have := gains_next P D cw (diag pw) ps gg m c ⟨n + 1, h⟩ (blocks m c H _) (by dsimp only; omega)
      (by rw [coords_val]; exact gains_sum n _)
    rwa [coords_val] at this

end sums

theorem at9 : ∀ t : Fin cfg0.N, win0_9.index t = ![t.val, 0] := by decide +kernel

section arrays

variable (H : Launched m c P D cw pw ps gg)
include H

theorem rows_array : (dats m 0 c).arrAt 9 cfg0.N = mat 8192 1024 (dp P D cw (diag pw) ps gg) := by
  refine (dats m 0 c).arrAt_eq_of_covers 9 _ (by decide +kernel) fun t hf y => ?_
  blk_simp
  rw [after0_9]
  have h := rows_at P D cw (diag pw) ps gg m c t (blocks m c H t)
  rw [h.mat, coords_val]
  unfold mat
  blk_simp [at9]
  congr 2 <;> omega

theorem taps_array : (dats m 0 c).arrAt 10 cfg0.N = mat 3 256 (dcw P D cw gg 8192) := by
  refine (dats m 0 c).arrAt_eq_of_after_last 10 t0_15 (by decide +kernel) _ fun j => ?_
  blk_simp
  rw [after0_10, (taps_sum m c H _ _).mat]
  rfl

theorem weights_array : (dats m 0 c).arrAt 11 cfg0.N = mat 256 256 (dbd P D (diag pw) ps gg 8192) := by
  refine (dats m 0 c).arrAt_eq_of_after_last 11 t0_15 (by decide +kernel) _ fun j => ?_
  blk_simp
  rw [after0_11, (weights_sum m c H _ _).mat]
  rfl

theorem scale_array : (dats m 0 c).arrAt 12 cfg0.N = mat 1 256 fun _ => dps P D (diag pw) ps gg 8192 := by
  refine (dats m 0 c).arrAt_eq_of_after_last 12 t0_15 (by decide +kernel) _ fun j => ?_
  blk_simp
  rw [after0_12, (scale_sum m c H _ _).mat]
  rfl

theorem gains_array : (dats m 0 c).arrAt 13 cfg0.N = mat 1 512 fun _ => dgg P D cw (diag pw) ps 8192 := by
  refine (dats m 0 c).arrAt_eq_of_after_last 13 t0_15 (by decide +kernel) _ fun j => ?_
  blk_simp
  rw [after0_13, (gains_sum m c H _ _).mat]
  rfl

end arrays

/-- One diagonal block of the matrix, as the host lines cut it out. -/
abbrev piece (n : ℕ) (h : S256x256.Slices ![n, n] S64x64) (A : Vec Ideal S256x256 .f32) : Vec Ideal S1x64x64 .f32 :=
  broadcastInDim S1x64x64 ![1, 2] bcast_S64x64_S1x64x64_1_2 (extractStridedSlice S64x64 ![n, n] A h)

theorem stack_at (A : Vec Ideal S256x256 .f32) (f : ℕ → ℕ → ℝ) (hA : A = mat 256 256 f) (h) :
    concatenate S4x64x64 0 [⟨S1x64x64, piece 0 slices_S256x256_S64x64_0_0 A⟩, ⟨S1x64x64, piece 64 slices_S256x256_S64x64_64_64 A⟩,
      ⟨S1x64x64, piece 128 slices_S256x256_S64x64_128_128 A⟩, ⟨S1x64x64, piece 192 slices_S256x256_S64x64_192_192 A⟩] h = cube f := by
  funext i
  obtain ⟨g, a, b, rfl⟩ : ∃ (g : Fin 4) (a b : Fin 64), i = ix3 g a b := ⟨i 0, i 1, i 2, by funext k; fin_cases k <;> rfl⟩
  subst hA
  match g with
  | 0 => pointwise []; simp [mat, cube]
  | 1 => pointwise []; simp [mat, cube]
  | 2 => pointwise []; simp [mat, cube]
  | 3 => pointwise []; simp [mat, cube]

theorem shared_in : ∀ w w' : Fin cfg0.W, w ≠ w' → Pipeline.arrRef spec0 w = Pipeline.arrRef spec0 w' → (cfg0.win w).isOut = false := by
  decide +kernel

theorem entry11 : Pipeline.withArrays (cfgs 0).spec c (V0 m c) (fun w => (dats m 0 c).arrAt w (cfgs 0).N) (Proc.devRef .tc main_v14_2)
    = (dats m 0 c).arrAt 11 cfg0.N :=
  Pipeline.withArrays_arr_shared spec0 c (V0 m c) (fun w => (dats m 0 c).arrAt w cfg0.N)
    (fun w w' hne e => ((dats m 0 c).arrAt_in w (shared_in w w' hne e) _).trans (A_eq m c w)) 11

theorem stack_of (A p0 p1 p2 p3) (f : ℕ → ℕ → ℝ) (hA : A = mat 256 256 f) (h0 : p0 = piece 0 slices_S256x256_S64x64_0_0 A)
    (h1 : p1 = piece 64 slices_S256x256_S64x64_64_64 A) (h2 : p2 = piece 128 slices_S256x256_S64x64_128_128 A)
    (h3 : p3 = piece 192 slices_S256x256_S64x64_192_192 A) (h) :
    concatenate S4x64x64 0 [⟨S1x64x64, p0⟩, ⟨S1x64x64, p1⟩, ⟨S1x64x64, p2⟩, ⟨S1x64x64, p3⟩] h = cube f := by
  subst h0 h1 h2 h3
  exact stack_at A f hA h

theorem cube_array (H : Launched m c P D cw pw ps gg) :
    Pipeline.afterTail₀ cfgs (dats m) 0 (V0 m) [hostOps1] c main_v23 = cube (dbd P D (diag pw) ps gg 8192) := by
  unfold Pipeline.afterTail₀
  simp only [hostOps1, List.flatten_cons, List.flatten_nil, List.append_nil]
  after_results
  refine stack_of _ _ _ _ _ _ ((entry11 m c).trans (weights_array m c H)) ?_ ?_ ?_ ?_ _
  · dsimp only [Matrix.cons_val]; repeat (first | rw [StableHlo.unary_result] | (rw [StableHlo.unary_result_ne]; rotate_left; decide))
  · dsimp only [Matrix.cons_val]; repeat (first | rw [StableHlo.unary_result] | (rw [StableHlo.unary_result_ne]; rotate_left; decide))
  · dsimp only [Matrix.cons_val]; repeat (first | rw [StableHlo.unary_result] | (rw [StableHlo.unary_result_ne]; rotate_left; decide))
  · dsimp only [Matrix.cons_val]; repeat (first | rw [StableHlo.unary_result] | (rw [StableHlo.unary_result_ne]; rotate_left; decide))

theorem run (ρ : Dev nD → PrngReg) (P D cw : Dev nD → ℕ → ℕ → ℝ) (pw : Dev nD → ℕ → ℕ → ℕ → ℝ) (ps gg : Dev nD → ℕ → ℝ)
    (H : ∀ c, Launched m c (P c) (D c) (cw c) (pw c) (ps c) (gg c)) :
    θ_run defs (onTc (τ := τ) (main (F := Ideal))) ⟨m, fun _ => 0, ρ⟩ fun r => ∀ c : Dev nD,
      r.2.mem ((c.tc : Thread nD τ).loc main_v14_0) = mat 8192 1024 (dp (P c) (D c) (cw c) (diag (pw c)) (ps c) (gg c))
      ∧ r.2.mem ((c.tc : Thread nD τ).loc main_v14_1) = mat 3 256 (dcw (P c) (D c) (cw c) (gg c) 8192)
      ∧ r.2.mem ((c.tc : Thread nD τ).loc main_v23) = cube (dbd (P c) (D c) (diag (pw c)) (ps c) (gg c) 8192)
      ∧ r.2.mem ((c.tc : Thread nD τ).loc main_v14_3) = mat 1 256 (fun _ => dps (P c) (D c) (diag (pw c)) (ps c) (gg c) 8192)
      ∧ r.2.mem ((c.tc : Thread nD τ).loc main_v14_4) = mat 1 512 fun _ => dgg (P c) (D c) (cw c) (diag (pw c)) (ps c) 8192 :=
  (θ_run defs _ _).mono (fun _ h c => ⟨(h.out_eq c 9).trans (rows_array m c (H c)), (h.out_eq c 10).trans (taps_array m c (H c)),
    (h.rest_eq c main_v23 (by decide)).trans (cube_array m c (H c)), (h.out_eq c 12).trans (scale_array m c (H c)),
    (h.out_eq c 13).trans (gains_array m c (H c))⟩) (run_main m ρ)

end Cert.KernelIdeal.Stages

end
-- ==== Proof.HostOps.lean ====
/- What the host's operations on matrices give when their operands hold reals, for any sizes: each is stated for the
   predicates "this matrix holds the reals `f`" and "this vector holds the reals `f`". -/
module

public import proofs.«01_k».proof.Proof.Spec
public import Idealize.ShloMosaic.Lib.Routing.OpsOne

@[expose] public section

noncomputable section

namespace Mix

open Idealize.ShloMosaic Idealize.ShloMosaic.TcCoe Idealize.ShloMosaic.Tactic

/-- A vector of extended reals holds the reals `f`. -/
def Is1 {n : ℕ} (v : (⟨1, ![n]⟩ : Shape).Idx → EReal) (f : ℕ → ℝ) : Prop := ∀ a : Fin n, v (ix1 a) = (f a : EReal)

/-- A rank-three array of extended reals holds the reals `f`. -/
def Is3 {n m k : ℕ} (v : (⟨3, ![n, m, k]⟩ : Shape).Idx → EReal) (f : ℕ → ℕ → ℕ → ℝ) : Prop :=
  ∀ (a : Fin n) (b : Fin m) (c : Fin k), v (ix3 a b c) = (f a b c : EReal)

variable {n m p q : ℕ} {f g : ℕ → ℕ → ℝ} {f1 : ℕ → ℝ}

abbrev M (n m : ℕ) := FVec Ideal ⟨2, ![n, m]⟩ .f32

theorem Is.add {v w : M n m} (h : Is v f) (k : Is w g) : Is (addf v w) fun a b => f a b + g a b := fun a b =>
  (congrArg₂ (· + ·) (h a b) (k a b)).trans (EReal.coe_add _ _).symm

theorem Is.sub {v w : M n m} (h : Is v f) (k : Is w g) : Is (subf v w) fun a b => f a b - g a b := fun a b =>
  (congrArg₂ (· - ·) (h a b) (k a b)).trans (EReal.coe_sub _ _).symm

theorem Is.mul {v w : M n m} (h : Is v f) (k : Is w g) : Is (mulf v w) fun a b => f a b * g a b := fun a b =>
  (congrArg₂ (· * ·) (h a b) (k a b)).trans (EReal.coe_mul _ _).symm

theorem Is.neg {v : M n m} (h : Is v f) : Is (Host.negf v) fun a b => - f a b := fun a b =>
  (congrArg (- ·) (h a b)).trans (EReal.coe_neg _).symm

theorem Is.div {v w : M n m} (h : Is v f) (k : Is w g) (hg : ∀ a b, a < n → b < m → g a b ≠ 0) : Is (Host.divf v w) fun a b => f a b / g a b :=
  fun a b => (congrArg₂ Ideal.div (h a b) (k a b)).trans (div_real _ _ (hg a b a.isLt b.isLt))

theorem Is.slice {v : M n m} (h : Is v f) (o k : ℕ) (hs : (⟨2, ![n, m]⟩ : Shape).Slices ![o, k] ⟨2, ![p, q]⟩) :
    Is (extractStridedSlice ⟨2, ![p, q]⟩ ![o, k] v hs) fun a b => f (o + a) (k + b) := fun a b => by
  have h0 : o + p ≤ n := hs.2 0
  have h1 : k + q ≤ m := hs.2 1
  rw [extractStridedSlice_apply ![o, k] v hs (ix2 a b) (ix2 ⟨o + a, by omega⟩ ⟨k + b, by omega⟩) (fun x => match x with | ⟨0, _⟩ => rfl | ⟨1, _⟩ => rfl)]
  exact h _ _

theorem Is.pad {v : M n m} (h : Is v f) (o k o' k' : ℕ) (z : FVec Ideal ⟨0, ![]⟩ .f32) (hz : ∀ i, z i = 0)
    (hs : (⟨2, ![n, m]⟩ : Shape).Pads ![o, k] ![o', k'] ![0, 0] ⟨2, ![p, q]⟩) (hu) :
    Is (pad ⟨2, ![p, q]⟩ ![o, k] ![o', k'] ![0, 0] v z hs hu) fun a b => if (o ≤ a ∧ a < o + n) ∧ (k ≤ b ∧ b < k + m) then f (a - o) (b - k) else 0 := by
  intro a b
  have key : ∀ hin : ∀ x : Fin (⟨2, ![n, m]⟩ : Shape).rank, ![o, k] x ≤ ((ix2 a b) (x.cast hs.1)).val ∧ (((ix2 a b) (x.cast hs.1)).val - ![o, k] x) % (![0, 0] x + 1) = 0
      ∧ (((ix2 a b) (x.cast hs.1)).val - ![o, k] x) / (![0, 0] x + 1) < (⟨2, ![n, m]⟩ : Shape).size x,
      (o ≤ a.val ∧ a.val < o + n) ∧ (k ≤ b.val ∧ b.val < k + m) := fun hin => by
    have h0 := hin 0
    have h1 := hin 1
    change o ≤ a.val ∧ (a.val - o) % 1 = 0 ∧ (a.val - o) / 1 < n at h0
    change k ≤ b.val ∧ (b.val - k) % 1 = 0 ∧ (b.val - k) / 1 < m at h1
    omega
  rw [pad_apply]
  by_cases hc : (o ≤ a.val ∧ a.val < o + n) ∧ (k ≤ b.val ∧ b.val < k + m)
  · refine (dif_pos (fun x => by
      match x with
      | ⟨0, _⟩ => show o ≤ a.val ∧ (a.val - o) % 1 = 0 ∧ (a.val - o) / 1 < n; omega
      | ⟨1, _⟩ => show k ≤ b.val ∧ (b.val - k) % 1 = 0 ∧ (b.val - k) / 1 < m; omega)).trans ?_
    show _ = ((if (o ≤ a.val ∧ a.val < o + n) ∧ (k ≤ b.val ∧ b.val < k + m) then f (a.val - o) (b.val - k) else 0 : ℝ) : EReal)
    rw [if_pos hc]
    refine Eq.trans (congrArg v (funext fun x => Fin.ext ?_)) (h ⟨a.val - o, by omega⟩ ⟨b.val - k, by omega⟩)
    match x with
    | ⟨0, _⟩ => show (a.val - o) / 1 = a.val - o; omega
    | ⟨1, _⟩ => show (b.val - k) / 1 = b.val - k; omega
  · refine (dif_neg (fun hin => hc (key hin))).trans ?_
    show _ = ((if (o ≤ a.val ∧ a.val < o + n) ∧ (k ≤ b.val ∧ b.val < k + m) then f (a.val - o) (b.val - k) else 0 : ℝ) : EReal)
    rw [if_neg hc]
    exact hz _

theorem Is.row {v : M 1 m} (h : Is v f) (hs : (⟨2, ![1, m]⟩ : Shape).BroadcastsInDim ⟨2, ![n, m]⟩ ![0, 1]) :
    Is (broadcastInDim ⟨2, ![n, m]⟩ ![0, 1] hs v) fun _ b => f 0 b := fun a b => by
  rw [broadcastInDim_apply ![0, 1] hs v (ix2 a b) (ix2 0 b) (fun x => match x with
    | ⟨0, _⟩ => by show 0 = if 1 = 1 then 0 else _; simp
    | ⟨1, _⟩ => by show b.val = if m = 1 then 0 else b.val; have := b.isLt; split_ifs <;> omega)]
  exact h _ _

theorem Is.col {v : M n 1} (h : Is v f) (hs : (⟨2, ![n, 1]⟩ : Shape).BroadcastsInDim ⟨2, ![n, m]⟩ ![0, 1]) :
    Is (broadcastInDim ⟨2, ![n, m]⟩ ![0, 1] hs v) fun a _ => f a 0 := fun a b => by
  rw [broadcastInDim_apply ![0, 1] hs v (ix2 a b) (ix2 a 0) (fun x => match x with
    | ⟨0, _⟩ => by show a.val = if n = 1 then 0 else a.val; have := a.isLt; split_ifs <;> omega
    | ⟨1, _⟩ => by show 0 = if 1 = 1 then 0 else _; simp)]
  exact h _ _

theorem Is1.wide {v : FVec Ideal ⟨1, ![n]⟩ .f32} (h : Is1 v f1) (hs : (⟨1, ![n]⟩ : Shape).BroadcastsInDim ⟨2, ![n, m]⟩ ![0]) :
    Is (broadcastInDim ⟨2, ![n, m]⟩ ![0] hs v) fun a _ => f1 a := fun a b => by
  rw [broadcastInDim_apply ![0] hs v (ix2 a b) (ix1 a) (fun x => match x with
    | ⟨0, _⟩ => by show a.val = if n = 1 then 0 else a.val; have := a.isLt; split_ifs <;> omega)]
  exact h _

theorem Is1.row {v : FVec Ideal ⟨1, ![m]⟩ .f32} (h : Is1 v f1) (hs : (⟨1, ![m]⟩ : Shape).BroadcastsInDim ⟨2, ![n, m]⟩ ![1]) :
    Is (broadcastInDim ⟨2, ![n, m]⟩ ![1] hs v) fun _ b => f1 b := fun a b => by
  rw [broadcastInDim_apply ![1] hs v (ix2 a b) (ix1 b) (fun x => match x with
    | ⟨0, _⟩ => by show b.val = if m = 1 then 0 else b.val; have := b.isLt; split_ifs <;> omega)]
  exact h _

theorem Is1.asRow {v : FVec Ideal ⟨1, ![m]⟩ .f32} (h : Is1 v f1) (hs : (⟨1, ![m]⟩ : Shape).ShapeCasts ⟨2, ![1, m]⟩) :
    Is (shapeCast ⟨2, ![1, m]⟩ v hs) fun _ b => f1 b := fun a b => by
  rw [shapeCast_apply v hs (ix2 a b) (ix1 b) (by
    rw [Shape.rowMajor_val_one, Shape.rowMajor_val_two]; show b.val = a.val * m + b.val; have := a.isLt; simp [show a.val = 0 by omega])]
  exact h _

theorem Is1.asCol {v : FVec Ideal ⟨1, ![n]⟩ .f32} (h : Is1 v f1) (hs : (⟨1, ![n]⟩ : Shape).ShapeCasts ⟨2, ![n, 1]⟩) :
    Is (shapeCast ⟨2, ![n, 1]⟩ v hs) fun a _ => f1 a := fun a b => by
  rw [shapeCast_apply v hs (ix2 a b) (ix1 a) (by
    rw [Shape.rowMajor_val_one, Shape.rowMajor_val_two]; show a.val = a.val * 1 + b.val; have := b.isLt; omega)]
  exact h _

theorem Is.flat {v : M 1 m} (h : Is v f) (hs : (⟨2, ![1, m]⟩ : Shape).ShapeCasts ⟨1, ![m]⟩) : Is1 (shapeCast ⟨1, ![m]⟩ v hs) fun b => f 0 b := fun b => by
  rw [shapeCast_apply v hs (ix1 b) (ix2 0 b) (by
    rw [Shape.rowMajor_val_one, Shape.rowMajor_val_two]; show (0 : ℕ) * m + b.val = b.val; simp)]
  exact h _ _

theorem Is.sumCols {v : M n m} (h : Is v f) (z : FVec Ideal ⟨0, ![]⟩ .f32) (hz : ∀ i, z i = 0)
    (hs : (⟨2, ![n, m]⟩ : Shape).ReducesTo [1] ⟨1, ![n]⟩) (hs' : (⟨2, ![n, m]⟩ : Shape).Reduces [1] ⟨1, ![n]⟩) (hu) : Is1 (Host.reduceAdd v z hs hu) fun a => ∑ k : Fin m, f a k := fun a => by
  simp only [Host.reduceAdd, Ideal.hostReduceAdd_def]
  rw [Ideal.hostReduceAdd_single hs hs', hz, zero_add, ← coe_sum]
  refine Finset.sum_congr rfl fun k _ => ?_
  refine Eq.trans (congrArg v (funext fun x => Fin.ext ?_)) (h a k)
  match x with | ⟨0, _⟩ => rfl | ⟨1, _⟩ => rfl

theorem Is.sumRows {v : M n m} (h : Is v f) (z : FVec Ideal ⟨0, ![]⟩ .f32) (hz : ∀ i, z i = 0)
    (hs : (⟨2, ![n, m]⟩ : Shape).ReducesTo [0] ⟨1, ![m]⟩) (hs' : (⟨2, ![n, m]⟩ : Shape).Reduces [0] ⟨1, ![m]⟩) (hu) : Is1 (Host.reduceAdd v z hs hu) fun b => ∑ k : Fin n, f k b := fun b => by
  simp only [Host.reduceAdd, Ideal.hostReduceAdd_def]
  rw [Ideal.hostReduceAdd_single hs hs', hz, zero_add, ← coe_sum]
  refine Finset.sum_congr rfl fun k _ => ?_
  refine Eq.trans (congrArg v (funext fun x => Fin.ext ?_)) (h k b)
  match x with | ⟨0, _⟩ => rfl | ⟨1, _⟩ => rfl

theorem Is.stack {n₁ n₂ : ℕ} {u : M n₁ m} {v : M n₂ m} (hu : Is u f) (hv : Is v g)
    (hs : Shape.Concatenates [⟨2, ![n₁, m]⟩, ⟨2, ![n₂, m]⟩] ⟨2, ![n, m]⟩ 0) :
    Is (concatenate ⟨2, ![n, m]⟩ 0 [⟨⟨2, ![n₁, m]⟩, u⟩, ⟨⟨2, ![n₂, m]⟩, v⟩] hs) fun a b => if a < n₁ then f a b else g (a - n₁) b := fun a b => by
  rw [concatenate_pair_apply]
  by_cases hc : a.val < n₁
  · refine (dif_pos hc).trans ?_
    show _ = ((if a.val < n₁ then f a b else g (a.val - n₁) b : ℝ) : EReal)
    rw [if_pos hc]
    refine Eq.trans (congrArg u (funext fun x => Fin.ext ?_)) (hu ⟨a.val, hc⟩ b)
    match x with | ⟨0, _⟩ => rfl | ⟨1, _⟩ => rfl
  · refine (dif_neg hc).trans ?_
    show _ = ((if a.val < n₁ then f a b else g (a.val - n₁) b : ℝ) : EReal)
    rw [if_neg hc]
    have hsz := hs.size_axis
    change n₁ + n₂ = n at hsz
    refine Eq.trans (congrArg v (funext fun x => Fin.ext ?_)) (hv ⟨a.val - n₁, by have := a.isLt; omega⟩ b)
    match x with | ⟨0, _⟩ => rfl | ⟨1, _⟩ => rfl

/-- Rows moved down, zeros above them. -/
theorem Is.moved {k : ℕ} {u : M k m} {v : M n m} (hv : Is v f) (hu : Is u fun _ _ => 0) (hs : (⟨2, ![n, m]⟩ : Shape).Slices ![0, 0] ⟨2, ![p, m]⟩)
    (hc : Shape.Concatenates [⟨2, ![k, m]⟩, ⟨2, ![p, m]⟩] ⟨2, ![n, m]⟩ 0) :
    Is (concatenate ⟨2, ![n, m]⟩ 0 [⟨⟨2, ![k, m]⟩, u⟩, ⟨⟨2, ![p, m]⟩, extractStridedSlice ⟨2, ![p, m]⟩ ![0, 0] v hs⟩] hc) (back k f) :=
  (Is.stack hu (hv.slice 0 0 hs) hc).congr fun a b _ _ => by
    unfold back
    by_cases h : a < k
    · rw [if_pos h, if_neg (by omega)]
    · rw [if_neg h, if_pos (by omega), Nat.zero_add, Nat.zero_add]

/-- Rows moved up, zeros below them. -/
theorem Is.raised (k : ℕ) {v : M n m} (hv : Is v f) (hs : (⟨2, ![n, m]⟩ : Shape).Slices ![k, 0] ⟨2, ![p, m]⟩) (z : FVec Ideal ⟨0, ![]⟩ .f32) (hz : ∀ i, z i = 0)
    (hp : (⟨2, ![p, m]⟩ : Shape).Pads ![0, 0] ![k, 0] ![0, 0] ⟨2, ![n, m]⟩) (hu) (hn : k + p = n) :
    Is (Idealize.ShloMosaic.pad ⟨2, ![n, m]⟩ ![0, 0] ![k, 0] ![0, 0] (extractStridedSlice ⟨2, ![p, m]⟩ ![k, 0] v hs) z hp hu)
      fun a b => if a + k < n then f (a + k) b else 0 :=
  ((hv.slice k 0 hs).pad 0 0 k 0 z hz hp hu).congr fun a b _ hb => by
    by_cases h : a + k < n
    · rw [if_pos ⟨by omega, by omega⟩, if_pos h, Nat.sub_zero, Nat.sub_zero, Nat.zero_add, Nat.add_comm]
    · rw [if_neg (by omega), if_neg h]

theorem rsqrt_at {v : M n m} (h : Is v f) (hf : ∀ a b, a < n → b < m → 0 < f a b) : Is (Host.rsqrt v) fun a b => (Real.sqrt (f a b))⁻¹ := fun a b =>
  (congrArg Ideal.rsqrt (h a b)).trans (rsqrt_real _ (hf a b a.isLt b.isLt))

theorem foldl_real {ι : Type} (l : List ι) (g : ι → EReal) (f : ι → ℝ) (hg : ∀ a ∈ l, g a = (f a : EReal)) (r : EReal) (z : ℝ) (hr : r = (z : EReal)) :
    l.foldl (fun r a => r + g a) r = ((z + (l.map f).sum : ℝ) : EReal) := by
  induction l generalizing r z with
  | nil => simp [hr]
  | cons a l ih =>
    rw [List.foldl_cons, ih (fun b hb => hg b (List.mem_cons_of_mem _ hb)) _ (z + f a)
      (by rw [hr, hg a List.mem_cons_self, EReal.coe_add]), List.map_cons, List.sum_cons, add_assoc]

/-- A window sum along the rows, padded by `lo` zeros before the first row and `hi` after the last. -/
theorem Is.window {lo hi : ℕ} {v : M n m} (h : Is v f) (z : FVec Ideal ⟨0, ![]⟩ .f32) (hz : ∀ i, z i = 0)
    (hs : (⟨2, ![n, m]⟩ : Shape).ReduceWindows (![n, 1] : Fin 2 → ℕ) ![1, 1] ![lo, 0] ![hi, 0] ⟨2, ![n, m]⟩) (hu) :
    Is (Host.reduceWindowAdd ![n, 1] ![1, 1] ![lo, 0] ![hi, 0] v z hs hu)
      fun a b => ∑ w ∈ Finset.range n, if lo ≤ a + w ∧ a + w - lo < n then f (a + w - lo) b else 0 := by
  intro j c
  have hc := c.isLt
  show Host.reduceWindow (· + ·) _ _ _ _ v (fun _ : (⟨0, ![]⟩ : Shape).Idx => z (Shape.Idx.first hu)) hs hu (ix2 j c) = _
  unfold Host.reduceWindow
  refine (foldl_real _ _ (fun w => if lo ≤ j.val + w.val ∧ j.val + w.val - lo < n then f (j.val + w.val - lo) c.val else 0) (fun w _ => ?_) _ 0 ((hz _).trans EReal.coe_zero.symm)).trans ?_
  · have hw0 : ((⟨2, ![n, 1]⟩ : Shape).rowMajor.symm w 0).val = w.val := by rw [Routing.symm_col]; rfl
    have hw1 : ((⟨2, ![n, 1]⟩ : Shape).rowMajor.symm w 1).val = 0 := by rw [Routing.symm_col]; rfl
    dsimp only
    split
    · next hin =>
      have h0 := hin 0
      change lo ≤ j.val * 1 + ((⟨2, ![n, 1]⟩ : Shape).rowMajor.symm w 0).val
        ∧ j.val * 1 + ((⟨2, ![n, 1]⟩ : Shape).rowMajor.symm w 0).val - lo < n at h0
      rw [hw0] at h0
      rw [if_pos (by omega)]
      refine (congrArg v (funext fun a => Fin.ext ?_)).trans (h ⟨j.val + w.val - lo, by omega⟩ c)
      match a with
      | ⟨0, _⟩ =>
        show j.val * 1 + ((⟨2, ![n, 1]⟩ : Shape).rowMajor.symm w 0).val - lo = j.val + w.val - lo
        rw [hw0, Nat.mul_one]
      | ⟨1, _⟩ =>
        show c.val * 1 + ((⟨2, ![n, 1]⟩ : Shape).rowMajor.symm w 1).val - 0 = c.val
        rw [hw1]
        omega
    · next hin =>
      rw [if_neg fun hle => hin fun a => by
        match a with
        | ⟨0, _⟩ =>
          show lo ≤ j.val * 1 + ((⟨2, ![n, 1]⟩ : Shape).rowMajor.symm w 0).val
            ∧ j.val * 1 + ((⟨2, ![n, 1]⟩ : Shape).rowMajor.symm w 0).val - lo < n
          rw [hw0]
          omega
        | ⟨1, _⟩ =>
          show 0 ≤ c.val * 1 + ((⟨2, ![n, 1]⟩ : Shape).rowMajor.symm w 1).val ∧ c.val * 1 + ((⟨2, ![n, 1]⟩ : Shape).rowMajor.symm w 1).val - 0 < m
          rw [hw1]
          omega]
      exact (hz _).trans EReal.coe_zero.symm
  · rw [zero_add, ← Fin.sum_univ_def, Fin.sum_univ_eq_sum_range (fun w => if lo ≤ j.val + w ∧ j.val + w - lo < n then f (j.val + w - lo) c.val else 0),
      Routing.numel_col n]

/-- A running sum from the first row. -/
theorem Is.running {lo : ℕ} {v : M n m} (h : Is v f) (z : FVec Ideal ⟨0, ![]⟩ .f32) (hz : ∀ i, z i = 0) (hlo : lo + 1 = n)
    (hs : (⟨2, ![n, m]⟩ : Shape).ReduceWindows (![n, 1] : Fin 2 → ℕ) ![1, 1] ![lo, 0] ![0, 0] ⟨2, ![n, m]⟩) (hu) :
    Is (Host.reduceWindowAdd ![n, 1] ![1, 1] ![lo, 0] ![0, 0] v z hs hu) fun a b => ∑ s ∈ Finset.range (a + 1), f s b :=
  (h.window z hz hs hu).congr fun a b ha hb => by
    rw [← Finset.sum_filter]
    refine Finset.sum_bij' (fun w _ => a + w - lo) (fun s _ => lo + s - a) ?_ ?_ ?_ ?_ ?_ <;>
      intro w hw <;> simp only [Finset.mem_filter, Finset.mem_range] at hw ⊢ <;> omega

/-- A running sum from the last row back. -/
theorem Is.runningBack {hi : ℕ} {v : M n m} (h : Is v f) (z : FVec Ideal ⟨0, ![]⟩ .f32) (hz : ∀ i, z i = 0)
    (hs : (⟨2, ![n, m]⟩ : Shape).ReduceWindows (![n, 1] : Fin 2 → ℕ) ![1, 1] ![0, 0] ![hi, 0] ⟨2, ![n, m]⟩) (hu) :
    Is (Host.reduceWindowAdd ![n, 1] ![1, 1] ![0, 0] ![hi, 0] v z hs hu) fun a b => ∑ s ∈ Finset.range (n - a), f (a + s) b :=
  (h.window z hz hs hu).congr fun a b ha hb => by
    rw [← Finset.sum_filter]
    refine Finset.sum_congr ?_ fun _ _ => rfl
    ext w
    simp only [Finset.mem_filter, Finset.mem_range]
    omega

/-- A broadcast constant. -/
theorem const_is (b : BitVec 32) (r : ℝ) (hb : Ideal.ofBits .f32 b = (r : EReal)) (hs : (⟨0, ![]⟩ : Shape).BroadcastsInDim ⟨2, ![n, m]⟩ ![]) :
    Is (broadcastInDim ⟨2, ![n, m]⟩ ![] hs (constant (F := Ideal) ⟨0, ![]⟩ .f32 b)) fun _ _ => r := fun _ _ => hb

theorem zero_word : Ideal.ofBits .f32 0x00000000#32 = ((0 : ℝ) : EReal) := by
  simp [Ideal.ofBits, Ideal.ieee]

end Mix

end
-- ==== Proof.Forward.lean ====
/- The reference's forward pass over the reals: each value it forms, as the functions of Spec.lean. -/
module

public import proofs.«01_k».proof.Proof.Gen.ReferenceIdeal.Read
public import proofs.«01_k».proof.Proof.HostOps
public import proofs.«01_k».proof.Proof.Inputs

@[expose] public section

noncomputable section

namespace Cert.ReferenceIdeal.Mixers

open Cert.ReferenceIdeal.Read Cert.ReferenceIdeal.Gen Idealize.ShloMosaic Idealize.ShloMosaic.TcCoe Idealize.ShloMosaic.Tactic Mix

/-- The first `w` of a window's running sums less the ones before the window are the window's own sum. -/
theorem window_sum (f : ℕ → ℕ → ℝ) (w a b : ℕ) :
    (∑ s ∈ Finset.range (a + 1), f s b) - back w (fun a b => ∑ s ∈ Finset.range (a + 1), f s b) a b = ∑ j ∈ Finset.range w, back j f a b := by
  induction w with
  | zero => simp [back]
  | succ w ih =>
    rw [Finset.sum_range_succ (fun j => back j f a b), ← ih]
    unfold back
    by_cases h : w < a
    · rw [if_pos (by omega), if_pos (by omega), if_pos (by omega)]
      show (_ : ℝ) - ∑ s ∈ Finset.range (a - (w + 1) + 1), f s b = _ - ∑ s ∈ Finset.range (a - w + 1), f s b + _
      rw [show a - (w + 1) + 1 = a - w by omega, Finset.sum_range_succ (fun s => f s b) (a - w)]
      ring
    · by_cases h' : w = a
      · subst h'
        simp
      · rw [if_neg (by omega), if_neg (by omega), if_neg (by omega)]
        ring

/-- The number of rows in a window, counted in words. -/
theorem count_word (w : ℕ) (hw : w ≤ 16) (a : Fin 8192) :
    FloatOps.sitofp (F := Ideal) .f32 (IntOp.minsi (IntOp.addi (BitVec.ofNat 32 a.val) 1#32) (BitVec.ofNat 32 w)) = ((min ((a.val : ℝ) + 1) (w : ℝ) : ℝ) : EReal) := by
  have ha := a.isLt
  have e : IntOp.addi (BitVec.ofNat 32 a.val) 1#32 = BitVec.ofNat 32 (a.val + 1) := by
    rw [BitVec.ofNat_add]; rfl
  rw [e]
  have h1 : (BitVec.ofNat 32 (a.val + 1)).toInt = (a.val + 1 : ℤ) := by
    rw [BitVec.toInt_eq_toNat_of_lt (by simp; omega)]; simp; omega
  have h2 : (BitVec.ofNat 32 w).toInt = (w : ℤ) := by
    rw [BitVec.toInt_eq_toNat_of_lt (by simp; omega)]; simp; omega
  show (((IntOp.minsi (BitVec.ofNat 32 (a.val + 1)) (BitVec.ofNat 32 w)).toInt : ℝ) : EReal) = _
  unfold IntOp.minsi
  rw [BitVec.slt_eq_decide, h1, h2]
  by_cases h : (a.val + 1 : ℤ) < w
  · have h' : (a.val : ℝ) + 1 < w := by exact_mod_cast h
    simp only [h, decide_true, if_true, h1, min_eq_left h'.le]
    norm_num
  · have h' : (w : ℝ) ≤ (a.val : ℝ) + 1 := by exact_mod_cast not_lt.1 h
    simp only [h, decide_false, if_false, h2, min_eq_right h', Bool.false_eq_true]
    norm_num

/-- The terms of one block are the block's own sum. -/
theorem block_sum (f : ℕ → ℝ) (g : ℕ) (hg : g < 4) : ∑ k : Fin 256, (if k.val / 64 = g then f k else 0) = ∑ k : Fin 64, f (64 * g + k) := by
  rw [Fin.sum_univ_eq_sum_range (fun k => if k / 64 = g then f k else 0), Fin.sum_univ_eq_sum_range (fun k => f (64 * g + k)), ← Finset.sum_filter]
  refine Finset.sum_bij' (fun k _ => k - 64 * g) (fun k _ => 64 * g + k) ?_ ?_ ?_ ?_ ?_ <;>
    intro k hk <;> simp only [Finset.mem_filter, Finset.mem_range] at hk ⊢ <;> first | omega | (congr 1; omega)

variable {x0 : (⟨S8192x2560, .bf16⟩ : BufTy).Contents (Elt Ideal)} {x1 : (⟨S8192x1024, .bf16⟩ : BufTy).Contents (Elt Ideal)}
  {x2 : (⟨S3x256, .f32⟩ : BufTy).Contents (Elt Ideal)} {x3 : (⟨S4x64x64, .f32⟩ : BufTy).Contents (Elt Ideal)}
  {x4 : (⟨S1x256, .f32⟩ : BufTy).Contents (Elt Ideal)} {x5 : (⟨S1x512, .f32⟩ : BufTy).Contents (Elt Ideal)}
  {P D cw : ℕ → ℕ → ℝ} {pw : ℕ → ℕ → ℕ → ℝ} {ps gg : ℕ → ℝ} (H : Inputs x0 x1 x2 x3 x4 x5 P D cw pw ps gg)

include H

theorem v1 : Is (val_main_v1 (F := Ideal) x0) P := fun a b => by
  rw [val_main_v1_apply]
  refine Eq.trans (congrArg x0 (funext fun x => Fin.ext ?_)) (H.proj a ⟨b.val, by omega⟩ b.isLt)
  match x with | ⟨0, _⟩ => rfl | ⟨1, _⟩ => rfl

theorem taps : Is (x2 : M 3 256) cw := H.taps

theorem scales : Is (x4 : M 1 256) fun _ => ps := H.scale

theorem gains : Is (x5 : M 1 512) fun _ => gg := H.gains

theorem v4 : Is (val_main_v4 (F := Ideal) x0) P :=
  ((v1 H).slice 0 0 _).congr fun a b _ _ => by simp

theorem v5 : Is (val_main_v5 (F := Ideal) x0) fun a b => P a (256 + b) :=
  ((v1 H).slice 0 256 _).congr fun a b _ _ => by simp

theorem v6 : Is (val_main_v6 (F := Ideal) x0) fun a b => P a (512 + b) :=
  ((v1 H).slice 0 512 _).congr fun a b _ _ => by simp

theorem v7 : Is (val_main_v7 (F := Ideal) x0) fun a b => P a (768 + b) :=
  ((v1 H).slice 0 768 _).congr fun a b _ _ => by simp

theorem v8 : Is (val_main_v8 (F := Ideal) x0) (z P) :=
  (v5 H).mul (v6 H)

theorem v11 : Is (val_main_v11 (F := Ideal) x2) fun _ b => cw 2 b :=
  ((((taps H).slice 2 0 _).flat _).row _).congr fun a b _ _ => by simp

theorem v20 : Is (val_main_v20 (F := Ideal) x2) fun _ b => cw 1 b :=
  ((((taps H).slice 1 0 _).flat _).row _).congr fun a b _ _ => by simp

theorem v30 : Is (val_main_v30 (F := Ideal) x2) fun _ b => cw 0 b :=
  ((((taps H).slice 0 0 _).flat _).row _).congr fun a b _ _ => by simp

theorem v18 : Is (val_main_v18 (F := Ideal) x0) (back 1 (z P)) :=
  (v8 H).moved (const_is _ 0 zero_word _) _ _

theorem v28 : Is (val_main_v28 (F := Ideal) x0) (back 2 (z P)) :=
  (v8 H).moved (const_is _ 0 zero_word _) _ _

theorem v33 : Is (val_main_v33 (F := Ideal) x0 x2) (conv P cw) :=
  ((((v11 H).row _).mul (v8 H)).add (((v20 H).row _).mul (v18 H))).add (((v30 H).row _).mul (v28 H))

theorem v34 : Is (val_main_v34 (F := Ideal) x0 x2) (ya P cw) :=
  (v4 H).mul (v33 H)

theorem v35 : Is (val_main_v35 (F := Ideal) x0) fun a b => ∑ s ∈ Finset.range (a + 1), x P s b :=
  (v7 H).running _ (fun _ => zero_word.trans EReal.coe_zero) rfl _ _

omit H in
theorem v43 : Is (val_main_v43 (F := Ideal)) fun a _ => min ((a : ℝ) + 1) (2 : ℝ) :=
  Is1.wide (f1 := fun a => min ((a : ℝ) + 1) (2 : ℝ)) (fun a => (count_word 2 (by norm_num) a).trans (by norm_num)) _

theorem v52 : Is (val_main_v52 (F := Ideal) x0) fun a b => d P a (0 + b) :=
  ((((((v35 H).slice 0 0 _).sub (((v35 H).slice 0 0 _).moved (const_is _ 0 zero_word _) _ _)).div (v43.col _) (fun a b _ _ => by positivity)).sub
    ((v7 H).slice 0 0 _))).congr fun a b _ hb => by
      have hw : win (0 + b) = 2 := by unfold win; split_ifs <;> omega
      unfold d wsum cnt
      rw [hw, ← window_sum (x P) 2 a (0 + b)]
      simp [back, x]

omit H in
theorem v59 : Is (val_main_v59 (F := Ideal)) fun a _ => min ((a : ℝ) + 1) (4 : ℝ) :=
  Is1.wide (f1 := fun a => min ((a : ℝ) + 1) (4 : ℝ)) (fun a => (count_word 4 (by norm_num) a).trans (by norm_num)) _

theorem v68 : Is (val_main_v68 (F := Ideal) x0) fun a b => d P a (64 + b) :=
  ((((((v35 H).slice 0 64 _).sub (((v35 H).slice 0 64 _).moved (const_is _ 0 zero_word _) _ _)).div (v59.col _) (fun a b _ _ => by positivity)).sub
    ((v7 H).slice 0 64 _))).congr fun a b _ hb => by
      have hw : win (64 + b) = 4 := by unfold win; split_ifs <;> omega
      unfold d wsum cnt
      rw [hw, ← window_sum (x P) 4 a (64 + b)]
      simp [back, x]

omit H in
theorem v75 : Is (val_main_v75 (F := Ideal)) fun a _ => min ((a : ℝ) + 1) (8 : ℝ) :=
  Is1.wide (f1 := fun a => min ((a : ℝ) + 1) (8 : ℝ)) (fun a => (count_word 8 (by norm_num) a).trans (by norm_num)) _

theorem v84 : Is (val_main_v84 (F := Ideal) x0) fun a b => d P a (128 + b) :=
  ((((((v35 H).slice 0 128 _).sub (((v35 H).slice 0 128 _).moved (const_is _ 0 zero_word _) _ _)).div (v75.col _) (fun a b _ _ => by positivity)).sub
    ((v7 H).slice 0 128 _))).congr fun a b _ hb => by
      have hw : win (128 + b) = 8 := by unfold win; split_ifs <;> omega
      unfold d wsum cnt
      rw [hw, ← window_sum (x P) 8 a (128 + b)]
      simp [back, x]

omit H in
theorem v91 : Is (val_main_v91 (F := Ideal)) fun a _ => min ((a : ℝ) + 1) (16 : ℝ) :=
  Is1.wide (f1 := fun a => min ((a : ℝ) + 1) (16 : ℝ)) (fun a => (count_word 16 (by norm_num) a).trans (by norm_num)) _

theorem v100 : Is (val_main_v100 (F := Ideal) x0) fun a b => d P a (192 + b) :=
  ((((((v35 H).slice 0 192 _).sub (((v35 H).slice 0 192 _).moved (const_is _ 0 zero_word _) _ _)).div (v91.col _) (fun a b _ _ => by positivity)).sub
    ((v7 H).slice 0 192 _))).congr fun a b _ hb => by
      have hw : win (192 + b) = 16 := by unfold win; split_ifs <;> omega
      unfold d wsum cnt
      rw [hw, ← window_sum (x P) 16 a (192 + b)]
      simp [back, x]

omit H in
/-- Four blocks of columns side by side. -/
theorem beside {p0 p1 p2 p3 : M 8192 64} {f : ℕ → ℕ → ℝ} (h0 : Is p0 fun a b => f a (0 + b)) (h1 : Is p1 fun a b => f a (64 + b)) (h2 : Is p2 fun a b => f a (128 + b))
    (h3 : Is p3 fun a b => f a (192 + b)) (h) :
    Is (concatenate S8192x256 1 [⟨S8192x64, p0⟩, ⟨S8192x64, p1⟩, ⟨S8192x64, p2⟩, ⟨S8192x64, p3⟩] h) f := fun a b => by
  pointwise []
  have hb := b.isLt
  by_cases g0 : b.val < 64
  · rw [dif_pos g0, h0]
    exact congrArg (fun c => ((f a c : ℝ) : EReal)) (by show 0 + b.val = b.val; omega)
  · rw [dif_neg g0]
    by_cases g1 : b.val - 64 < 64
    · rw [dif_pos g1, h1]
      exact congrArg (fun c => ((f a c : ℝ) : EReal)) (by show 64 + (b.val - 64) = b.val; omega)
    · rw [dif_neg g1]
      by_cases g2 : b.val - 64 - 64 < 64
      · rw [dif_pos g2, h2]
        exact congrArg (fun c => ((f a c : ℝ) : EReal)) (by show 128 + (b.val - 64 - 64) = b.val; omega)
      · rw [dif_neg g2, h3]
        exact congrArg (fun c => ((f a c : ℝ) : EReal)) (by show 192 + (b.val - 64 - 64 - 64) = b.val; omega)

theorem v101 : Is (val_main_v101 (F := Ideal) x0) (d P) :=
  beside (v52 H) (v68 H) (v84 H) (v100 H) _

omit H in
/-- A matrix read at an index whose two coordinates are known. -/
theorem val_at {n m : ℕ} {v : (⟨2, ![n, m]⟩ : Shape).Idx → EReal} {f : ℕ → ℕ → ℝ} (h : Is v f) {i : (⟨2, ![n, m]⟩ : Shape).Idx} {a b : ℕ}
    (ha : (i 0).val = a) (hb : (i 1).val = b) : v i = (f a b : EReal) := by
  subst ha hb
  rw [h.mat]
  rfl

/-- The averages split into their four groups of columns. -/
theorem v102 : Is3 (val_main_v102 (F := Ideal) x0) fun s g k => d P s (64 * g + k) := fun s g k => by
  rw [val_main_v102_apply, val_at (v101 H) (a := s.val) (b := 64 * g.val + k.val) (by show ((s.val * 4 + g.val) * 64 + k.val) / 256 = _; omega)
    (by show ((s.val * 4 + g.val) * 64 + k.val) % 256 = _; omega)]

theorem v103 : Is3 (val_main_v103 (F := Ideal) x0 x3) fun g c s => ∑ k : Fin 64, pw g k c * d P s (64 * g + k) := fun g c s => by
  rw [val_main_v103_apply, ← coe_sum]
  refine Finset.sum_congr rfl fun k _ => ?_
  rw [EReal.coe_mul]
  exact congrArg₂ (· * ·) ((congrArg x3 (by funext x; match x with | ⟨0, _⟩ => rfl | ⟨1, _⟩ => rfl | ⟨2, _⟩ => rfl)).trans (H.pool g k c))
    ((congrArg _ (by funext x; match x with | ⟨0, _⟩ => rfl | ⟨1, _⟩ => rfl | ⟨2, _⟩ => rfl)).trans (v102 H s g k))

theorem v105 : Is (val_main_v105 (F := Ideal) x0 x3) (yp P (diag pw)) := fun a b => by
  have ha := a.isLt
  have hb := b.isLt
  rw [val_main_v105_apply, val_main_v104_apply]
  refine Eq.trans (congrArg _ ?_) ((v103 H ⟨b.val / 64, by omega⟩ ⟨b.val % 64, by omega⟩ a).trans (congrArg _ ?_))
  · funext x
    match x with
    | ⟨0, _⟩ => exact Fin.ext (by show (a.val * 256 + b.val) / 64 % 4 = b.val / 64; omega)
    | ⟨1, _⟩ => exact Fin.ext (by show (a.val * 256 + b.val) % 64 = b.val % 64; omega)
    | ⟨2, _⟩ => exact Fin.ext (by show (a.val * 256 + b.val) / 256 = a.val; omega)
  · unfold yp diag
    refine (Eq.trans ?_ ((block_sum (fun k => d P a k * pw (k / 64) (k % 64) (b % 64)) (b / 64) (by omega)).trans (Finset.sum_congr rfl fun k _ => ?_))).symm
    · exact Finset.sum_congr rfl fun k _ => by split_ifs <;> simp
    · have hk := k.isLt
      show d P a (64 * (b.val / 64) + k) * pw ((64 * (b.val / 64) + k.val) / 64) ((64 * (b.val / 64) + k.val) % 64) (b.val % 64) = pw (b.val / 64) k (b.val % 64) * d P a (64 * (b.val / 64) + k)
      rw [show (64 * (b.val / 64) + k.val) / 64 = b.val / 64 by omega, show (64 * (b.val / 64) + k.val) % 64 = k.val by omega]
      exact mul_comm _ _

theorem v107 : Is (val_main_v107 (F := Ideal) x0 x3 x4) (yb P (diag pw) ps) :=
  ((v105 H).mul ((scales H).row _)).congr fun _ _ _ _ => rfl

end Cert.ReferenceIdeal.Mixers

end
-- ==== Proof.Backward.lean ====
/- The reference's gradient over the reals: each value its backward pass forms, as the functions of Spec.lean. -/
module

public import proofs.«01_k».proof.Proof.Forward

@[expose] public section

noncomputable section

namespace Cert.ReferenceIdeal.Mixers

open Cert.ReferenceIdeal.Read Cert.ReferenceIdeal.Gen Idealize.ShloMosaic Idealize.ShloMosaic.TcCoe Idealize.ShloMosaic.Tactic Mix

theorem zeros : ∀ i : (⟨0, ![]⟩ : Shape).Idx, constant (F := Ideal) ⟨0, ![]⟩ .f32 0x00000000#32 i = 0 := fun _ => zero_word.trans EReal.coe_zero

/-- The two ways of writing the gradient of a normalisation agree. -/
theorem nb_written (y dy : ℕ → ℕ → ℝ) (g : ℕ → ℝ) (a b : ℕ) :
    dy a b * g b * (Real.sqrt (ms y a))⁻¹
      + y a b * (∑ _k : Fin 1, (∑ k : Fin 256, y a k * (dy a k * g k)) * (-(1 / 2) * ((Real.sqrt (ms y a))⁻¹ / ms y a)) / 256)
      + (∑ _k : Fin 1, (∑ k : Fin 256, y a k * (dy a k * g k)) * (-(1 / 2) * ((Real.sqrt (ms y a))⁻¹ / ms y a)) / 256) * y a b = nb y dy g a b := by
  have hr : (Real.sqrt (ms y a))⁻¹ / ms y a = rr y a * (rr y a * rr y a) := by
    unfold rr
    rw [← mul_inv, Real.mul_self_sqrt (ms_pos y a).le, div_eq_mul_inv]
  rw [hr, Finset.sum_congr rfl fun (k : Fin 256) _ => show y a k * (dy a k * g k) = dy a k * g k * y a k by ring]
  unfold nb
  simp only [Finset.univ_unique, Finset.sum_singleton]
  rw [show (Real.sqrt (ms y a))⁻¹ = rr y a from rfl]
  ring

/-- Sums over later rows, from the running sum of the differences: past the end there is nothing. -/
theorem later_sum (f : ℕ → ℝ) (w n a : ℕ) (hf : ∀ s, n ≤ s → f s = 0) :
    ∑ s ∈ Finset.range (n - a), (f (a + s) - f (a + s + w)) = ∑ j ∈ Finset.range w, f (a + j) := by
  have key : ∀ k, ∑ s ∈ Finset.range k, (f (a + s) - f (a + s + w)) = (∑ j ∈ Finset.range w, f (a + j)) - ∑ j ∈ Finset.range w, f (a + k + j) := by
    intro k
    induction k with
    | zero => simp
    | succ k ih =>
      rw [Finset.sum_range_succ, ih]
      have e : (∑ j ∈ Finset.range w, f (a + k + j)) + f (a + k + w) = f (a + k) + ∑ j ∈ Finset.range w, f (a + (k + 1) + j) := by
        rw [← Finset.sum_range_succ (fun j => f (a + k + j)) w, Finset.sum_range_succ', add_comm]
        simp only [Nat.add_zero, show ∀ j, a + k + (j + 1) = a + (k + 1) + j from fun j => by omega]
      linarith
  rw [key, Finset.sum_eq_zero (s := Finset.range w) (f := fun j => f (a + (n - a) + j)) (fun j _ => hf _ (by omega)), sub_zero]

variable {x0 : (⟨S8192x2560, .bf16⟩ : BufTy).Contents (Elt Ideal)} {x1 : (⟨S8192x1024, .bf16⟩ : BufTy).Contents (Elt Ideal)}
  {x2 : (⟨S3x256, .f32⟩ : BufTy).Contents (Elt Ideal)} {x3 : (⟨S4x64x64, .f32⟩ : BufTy).Contents (Elt Ideal)}
  {x4 : (⟨S1x256, .f32⟩ : BufTy).Contents (Elt Ideal)} {x5 : (⟨S1x512, .f32⟩ : BufTy).Contents (Elt Ideal)}
  {P D cw : ℕ → ℕ → ℝ} {pw : ℕ → ℕ → ℕ → ℝ} {ps gg : ℕ → ℝ} (H : Inputs x0 x1 x2 x3 x4 x5 P D cw pw ps gg)

include H

theorem v3 : Is (val_main_v3 (F := Ideal) x1) D := fun a b => by
  rw [val_main_v3_apply]
  refine Eq.trans (congrArg x1 (funext fun x => Fin.ext ?_)) (H.grad a ⟨b.val, by omega⟩ b.isLt)
  match x with | ⟨0, _⟩ => rfl | ⟨1, _⟩ => rfl

theorem v115 : Is (val_main_v115 (F := Ideal) x0 x2) fun a _ => ms (ya P cw) a :=
  (((((v34 H).mul (v34 H)).sumCols _ zeros _ (by decide) _).wide _).div (const_is _ 256 ofBits_256 _) (fun _ _ _ _ => by norm_num)).add
    (const_is _ eps ofBits_eps _)

theorem v116 : Is (val_main_v116 (F := Ideal) x0 x2) fun a _ => (Real.sqrt (ms (ya P cw) a))⁻¹ :=
  rsqrt_at (v115 H) (fun a _ _ _ => ms_pos _ a)

theorem v119 : Is (val_main_v119 (F := Ideal) x0 x2) fun a _ => -(1 / 2) * ((Real.sqrt (ms (ya P cw) a))⁻¹ / ms (ya P cw) a) :=
  (const_is _ _ ofBits_neg_half _).mul ((v116 H).div (v115 H) (fun a _ _ _ => (ms_pos _ a).ne'))

theorem v121 : Is (val_main_v121 (F := Ideal) x0 x2) fun a b => (ya P cw) a b * (Real.sqrt (ms (ya P cw) a))⁻¹ :=
  (v34 H).mul ((v116 H).col _)

theorem v108 : Is (val_main_v108 (F := Ideal) x5) fun _ b => gg b :=
  ((gains H).slice 0 0 _).congr fun a b _ _ => by simp

theorem v141 : Is (val_main_v141 (F := Ideal) x1) fun a b => D a b :=
  ((v3 H).slice 0 0 _).congr fun a b _ _ => by simp

theorem v167 : Is (val_main_v167 (F := Ideal) x1 x5) fun a b => D a b * gg b :=
  (v141 H).mul ((v108 H).row _)

theorem v177 : Is (val_main_v177 (F := Ideal) x0 x1 x2 x5) fun a _ => ∑ _k : Fin 1, (∑ k : Fin 256, (ya P cw) a k * (D a k * gg k)) * (-(1 / 2) * ((Real.sqrt (ms (ya P cw) a))⁻¹ / ms (ya P cw) a)) / 256 :=
  Is1.wide (f1 := fun a => ∑ _k : Fin 1, (∑ k : Fin 256, (ya P cw) a k * (D a k * gg k)) * (-(1 / 2) * ((Real.sqrt (ms (ya P cw) a))⁻¹ / ms (ya P cw) a)) / 256)
    ((((((((v34 H).mul (v167 H)).sumCols _ zeros _ (by decide) _).asCol _).mul (v119 H)).div (const_is _ 256 ofBits_256 _) (fun _ _ _ _ => by norm_num)).sumCols _ zeros _ (by decide) _)) _

theorem v181 : Is (val_main_v181 (F := Ideal) x0 x1 x2 x5) (dya P D cw gg) :=
  ((((v167 H).mul ((v116 H).col _)).add ((v34 H).mul (v177 H))).add ((v177 H).mul (v34 H))).congr fun a b _ _ =>
    nb_written _ (fun a b => D a b) (fun b => gg b) a b

theorem v165 : Is (val_main_v165 (F := Ideal) x0 x1 x2) fun _ b => ∑ s ∈ Finset.range 8192, ng (ya P cw) (fun a b => D a b) s b :=
  (((((v121 H).mul (v141 H)).sumRows _ zeros _ (by decide) _).asRow _)).congr fun a b _ _ =>
    (Fin.sum_univ_eq_sum_range (fun s => (ya P cw) s b * (Real.sqrt (ms (ya P cw) s))⁻¹ * D s b) 8192).trans (Finset.sum_congr rfl fun s _ => mul_comm _ _)

theorem v131 : Is (val_main_v131 (F := Ideal) x0 x3 x4) fun a _ => ms (yb P (diag pw) ps) a :=
  (((((v107 H).mul (v107 H)).sumCols _ zeros _ (by decide) _).wide _).div (const_is _ 256 ofBits_256 _) (fun _ _ _ _ => by norm_num)).add
    (const_is _ eps ofBits_eps _)

theorem v132 : Is (val_main_v132 (F := Ideal) x0 x3 x4) fun a _ => (Real.sqrt (ms (yb P (diag pw) ps) a))⁻¹ :=
  rsqrt_at (v131 H) (fun a _ _ _ => ms_pos _ a)

theorem v135 : Is (val_main_v135 (F := Ideal) x0 x3 x4) fun a _ => -(1 / 2) * ((Real.sqrt (ms (yb P (diag pw) ps) a))⁻¹ / ms (yb P (diag pw) ps) a) :=
  (const_is _ _ ofBits_neg_half _).mul ((v132 H).div (v131 H) (fun a _ _ _ => (ms_pos _ a).ne'))

theorem v137 : Is (val_main_v137 (F := Ideal) x0 x3 x4) fun a b => (yb P (diag pw) ps) a b * (Real.sqrt (ms (yb P (diag pw) ps) a))⁻¹ :=
  (v107 H).mul ((v132 H).col _)

theorem v124 : Is (val_main_v124 (F := Ideal) x5) fun _ b => (fun b => gg (256 + b)) b :=
  ((gains H).slice 0 256 _).congr fun a b _ _ => by simp

theorem v142 : Is (val_main_v142 (F := Ideal) x1) fun a b => (fun a b => D a (256 + b)) a b :=
  ((v3 H).slice 0 256 _).congr fun a b _ _ => by simp

theorem v147 : Is (val_main_v147 (F := Ideal) x1 x5) fun a b => (fun a b => D a (256 + b)) a b * (fun b => gg (256 + b)) b :=
  (v142 H).mul ((v124 H).row _)

theorem v157 : Is (val_main_v157 (F := Ideal) x0 x1 x3 x4 x5) fun a _ => ∑ _k : Fin 1, (∑ k : Fin 256, (yb P (diag pw) ps) a k * ((fun a b => D a (256 + b)) a k * (fun b => gg (256 + b)) k)) * (-(1 / 2) * ((Real.sqrt (ms (yb P (diag pw) ps) a))⁻¹ / ms (yb P (diag pw) ps) a)) / 256 :=
  Is1.wide (f1 := fun a => ∑ _k : Fin 1, (∑ k : Fin 256, (yb P (diag pw) ps) a k * ((fun a b => D a (256 + b)) a k * (fun b => gg (256 + b)) k)) * (-(1 / 2) * ((Real.sqrt (ms (yb P (diag pw) ps) a))⁻¹ / ms (yb P (diag pw) ps) a)) / 256)
    ((((((((v107 H).mul (v147 H)).sumCols _ zeros _ (by decide) _).asCol _).mul (v135 H)).div (const_is _ 256 ofBits_256 _) (fun _ _ _ _ => by norm_num)).sumCols _ zeros _ (by decide) _)) _

theorem v161 : Is (val_main_v161 (F := Ideal) x0 x1 x3 x4 x5) (dyb P D (diag pw) ps gg) :=
  ((((v147 H).mul ((v132 H).col _)).add ((v107 H).mul (v157 H))).add ((v157 H).mul (v107 H))).congr fun a b _ _ =>
    nb_written _ (fun a b => (fun a b => D a (256 + b)) a b) (fun b => (fun b => gg (256 + b)) b) a b

theorem v145 : Is (val_main_v145 (F := Ideal) x0 x1 x3 x4) fun _ b => ∑ s ∈ Finset.range 8192, ng (yb P (diag pw) ps) (fun a b => (fun a b => D a (256 + b)) a b) s b :=
  (((((v137 H).mul (v142 H)).sumRows _ zeros _ (by decide) _).asRow _)).congr fun a b _ _ =>
    (Fin.sum_univ_eq_sum_range (fun s => (yb P (diag pw) ps) s b * (Real.sqrt (ms (yb P (diag pw) ps) s))⁻¹ * (fun a b => D a (256 + b)) s b) 8192).trans (Finset.sum_congr rfl fun s _ => mul_comm _ _)

theorem v183 : Is (val_main_v183 (F := Ideal) x0 x1 x2 x3 x4) fun _ c => dgg P D cw (diag pw) ps 8192 c :=
  (((v145 H).pad 0 256 0 0 _ zeros _ _).add ((v165 H).pad 0 0 0 256 _ zeros _ _)).congr fun a b ha hb => by
    unfold dgg
    by_cases h : b < 256
    · rw [if_neg (by omega), if_pos ⟨by omega, by omega⟩, if_pos h, zero_add, Nat.sub_zero]
    · rw [if_pos ⟨by omega, by omega⟩, if_neg (by omega), if_neg h, add_zero]

theorem v186 : Is (val_main_v186 (F := Ideal) x0 x1 x3 x4 x5) fun _ c => dps P D (diag pw) ps gg 8192 c :=
  ((((v105 H).mul (v161 H)).sumRows _ zeros _ (by decide) _).asRow _).congr fun a b _ _ =>
    (Fin.sum_univ_eq_sum_range (fun s => yp P (diag pw) s b * dyb P D (diag pw) ps gg s b) 8192).trans (Finset.sum_congr rfl fun s _ => mul_comm _ _)

theorem v188 : Is (val_main_v188 (F := Ideal) x0 x1 x3 x4 x5) (dys P D (diag pw) ps gg) :=
  (v161 H).mul ((scales H).row _)

theorem v190 : Is3 (val_main_v190 (F := Ideal) x0 x1 x3 x4 x5) fun g c s => dys P D (diag pw) ps gg s (64 * g + c) := fun g c s => by
  rw [val_main_v190_apply, val_main_v189_apply, val_at (v188 H) (a := s.val) (b := 64 * g.val + c.val) (by show ((s.val * 4 + g.val) * 64 + c.val) / 256 = _; omega)
    (by show ((s.val * 4 + g.val) * 64 + c.val) % 256 = _; omega)]

theorem v191 : Is3 (val_main_v191 (F := Ideal) x0 x1 x3 x4 x5) fun g s c => ∑ k : Fin 64, dys P D (diag pw) ps gg s (64 * g + k) * pw g c k := fun g s c => by
  rw [val_main_v191_apply, ← coe_sum]
  refine Finset.sum_congr rfl fun k _ => ?_
  rw [EReal.coe_mul]
  exact congrArg₂ (· * ·) ((congrArg _ (by funext x; match x with | ⟨0, _⟩ => rfl | ⟨1, _⟩ => rfl | ⟨2, _⟩ => rfl)).trans (v190 H g k s))
    ((congrArg x3 (by funext x; match x with | ⟨0, _⟩ => rfl | ⟨1, _⟩ => rfl | ⟨2, _⟩ => rfl)).trans (H.pool g c k))

theorem v195 : Is (val_main_v195 (F := Ideal) x0 x1 x3 x4 x5) (dd P D (diag pw) ps gg) := fun a b => by
  have ha := a.isLt
  have hb := b.isLt
  rw [val_main_v195_apply, val_main_v192_apply]
  refine Eq.trans (congrArg _ ?_) ((v191 H ⟨b.val / 64, by omega⟩ a ⟨b.val % 64, by omega⟩).trans (congrArg _ ?_))
  · funext x
    match x with
    | ⟨0, _⟩ => exact Fin.ext (by show (a.val * 256 + b.val) / 64 % 4 = b.val / 64; omega)
    | ⟨1, _⟩ => exact Fin.ext (by show (a.val * 256 + b.val) / 256 = a.val; omega)
    | ⟨2, _⟩ => exact Fin.ext (by show (a.val * 256 + b.val) % 64 = b.val % 64; omega)
  · unfold dd diag
    refine (Eq.trans ?_ ((block_sum (fun k => dys P D (diag pw) ps gg a k * pw (b / 64) (b % 64) (k % 64)) (b / 64) (by omega)).trans (Finset.sum_congr rfl fun k _ => ?_))).symm
    · refine Finset.sum_congr rfl fun k _ => ?_
      by_cases h : b.val / 64 = k.val / 64
      · rw [if_pos h, if_pos h.symm]; rfl
      · rw [if_neg h, if_neg (Ne.symm h), mul_zero]
    · have hk := k.isLt
      show dys P D (diag pw) ps gg a (64 * (b.val / 64) + k) * pw (b.val / 64) (b.val % 64) ((64 * (b.val / 64) + k.val) % 64) = _
      rw [show (64 * (b.val / 64) + k.val) % 64 = k.val by omega]
      rfl

theorem v194 : (val_main_v194 (F := Ideal) x0 x1 x3 x4 x5) = cube (dbd P D (diag pw) ps gg 8192) := by
  funext i
  obtain ⟨g, k, c, rfl⟩ : ∃ (g : Fin 4) (k c : Fin 64), i = ix3 g k c := ⟨i 0, i 1, i 2, by funext x; fin_cases x <;> rfl⟩
  rw [val_main_v194_apply, val_main_v193_apply]
  show _ = ((dbd P D (diag pw) ps gg 8192 (64 * g.val + k.val) (64 * g.val + c.val) : ℝ) : EReal)
  unfold dbd
  rw [← Fin.sum_univ_eq_sum_range (fun s => d P s (64 * g.val + k.val) * dys P D (diag pw) ps gg s (64 * g.val + c.val)) 8192, ← coe_sum]
  refine Finset.sum_congr rfl fun s _ => ?_
  rw [mul_comm (d P _ _), EReal.coe_mul]
  exact congrArg₂ (· * ·) ((congrArg _ (by funext x; match x with | ⟨0, _⟩ => rfl | ⟨1, _⟩ => rfl | ⟨2, _⟩ => rfl)).trans (v190 H g c s))
    ((congrArg _ (by funext x; match x with | ⟨0, _⟩ => rfl | ⟨1, _⟩ => rfl | ⟨2, _⟩ => rfl)).trans (v102 H s g k))

omit H in
theorem dys_past (hD : ∀ s c, 8192 ≤ s → D s c = 0) (s c : ℕ) (h : 8192 ≤ s) : dys P D (diag pw) ps gg s c = 0 := by
  unfold dys dyb
  rw [nb_zero _ _ _ s (fun c => hD s (256 + c) h), zero_mul]

omit H in
theorem e_past (hD : ∀ s c, 8192 ≤ s → D s c = 0) (s c : ℕ) (h : 8192 ≤ s) : e P D (diag pw) ps gg s c = 0 := by
  unfold e dd
  rw [Finset.sum_eq_zero fun k _ => by rw [dys_past hD s k h, zero_mul], zero_div]

omit H in
theorem dconv_past (hD : ∀ s c, 8192 ≤ s → D s c = 0) (s c : ℕ) (h : 8192 ≤ s) : dconv P D cw gg s c = 0 := by
  unfold dconv dya
  rw [nb_zero _ _ _ s (fun c => hD s c h), zero_mul]

theorem v199 : Is (val_main_v199 (F := Ideal) x0 x1 x3 x4 x5) fun a b => dd P D (diag pw) ps gg a (192 + b) :=
  ((v195 H).slice 0 192 _).congr fun a b _ _ => by simp

theorem v203 : Is (val_main_v203 (F := Ideal) x0 x1 x3 x4 x5) fun a b => e P D (diag pw) ps gg a (192 + b) :=
  ((v199 H).div (v91.col _) (fun a b _ _ => by positivity)).congr fun a b _ hb => by
    have hw : win (192 + b) = 16 := by unfold win; split_ifs <;> omega
    unfold e cnt
    rw [hw]
    norm_num

theorem v208 : Is (val_main_v208 (F := Ideal) x0 x1 x3 x4 x5) fun a b => e P D (diag pw) ps gg a (192 + b) - e P D (diag pw) ps gg (a + win (192 + b)) (192 + b) :=
  ((v203 H).add ((v203 H).neg.raised 16 _ _ zeros _ _ rfl)).congr fun a b _ hb => by
    have hw : win (192 + b) = 16 := by unfold win; split_ifs <;> omega
    rw [hw]
    by_cases h : a + 16 < 8192
    · rw [if_pos h]; ring
    · rw [if_neg h, e_past H.past (a + 16) (192 + b) (by omega)]; ring

theorem v198 : Is (val_main_v198 (F := Ideal) x0 x1 x3 x4 x5) fun a b => dd P D (diag pw) ps gg a (128 + b) :=
  ((v195 H).slice 0 128 _).congr fun a b _ _ => by simp

theorem v214 : Is (val_main_v214 (F := Ideal) x0 x1 x3 x4 x5) fun a b => e P D (diag pw) ps gg a (128 + b) :=
  ((v198 H).div (v75.col _) (fun a b _ _ => by positivity)).congr fun a b _ hb => by
    have hw : win (128 + b) = 8 := by unfold win; split_ifs <;> omega
    unfold e cnt
    rw [hw]
    norm_num

theorem v219 : Is (val_main_v219 (F := Ideal) x0 x1 x3 x4 x5) fun a b => e P D (diag pw) ps gg a (128 + b) - e P D (diag pw) ps gg (a + win (128 + b)) (128 + b) :=
  ((v214 H).add ((v214 H).neg.raised 8 _ _ zeros _ _ rfl)).congr fun a b _ hb => by
    have hw : win (128 + b) = 8 := by unfold win; split_ifs <;> omega
    rw [hw]
    by_cases h : a + 8 < 8192
    · rw [if_pos h]; ring
    · rw [if_neg h, e_past H.past (a + 8) (128 + b) (by omega)]; ring

theorem v197 : Is (val_main_v197 (F := Ideal) x0 x1 x3 x4 x5) fun a b => dd P D (diag pw) ps gg a (64 + b) :=
  ((v195 H).slice 0 64 _).congr fun a b _ _ => by simp

theorem v226 : Is (val_main_v226 (F := Ideal) x0 x1 x3 x4 x5) fun a b => e P D (diag pw) ps gg a (64 + b) :=
  ((v197 H).div (v59.col _) (fun a b _ _ => by positivity)).congr fun a b _ hb => by
    have hw : win (64 + b) = 4 := by unfold win; split_ifs <;> omega
    unfold e cnt
    rw [hw]
    norm_num

theorem v231 : Is (val_main_v231 (F := Ideal) x0 x1 x3 x4 x5) fun a b => e P D (diag pw) ps gg a (64 + b) - e P D (diag pw) ps gg (a + win (64 + b)) (64 + b) :=
  ((v226 H).add ((v226 H).neg.raised 4 _ _ zeros _ _ rfl)).congr fun a b _ hb => by
    have hw : win (64 + b) = 4 := by unfold win; split_ifs <;> omega
    rw [hw]
    by_cases h : a + 4 < 8192
    · rw [if_pos h]; ring
    · rw [if_neg h, e_past H.past (a + 4) (64 + b) (by omega)]; ring

theorem v196 : Is (val_main_v196 (F := Ideal) x0 x1 x3 x4 x5) fun a b => dd P D (diag pw) ps gg a (0 + b) :=
  ((v195 H).slice 0 0 _).congr fun a b _ _ => by simp

theorem v238 : Is (val_main_v238 (F := Ideal) x0 x1 x3 x4 x5) fun a b => e P D (diag pw) ps gg a (0 + b) :=
  ((v196 H).div (v43.col _) (fun a b _ _ => by positivity)).congr fun a b _ hb => by
    have hw : win (0 + b) = 2 := by unfold win; split_ifs <;> omega
    unfold e cnt
    rw [hw]
    norm_num

theorem v243 : Is (val_main_v243 (F := Ideal) x0 x1 x3 x4 x5) fun a b => e P D (diag pw) ps gg a (0 + b) - e P D (diag pw) ps gg (a + win (0 + b)) (0 + b) :=
  ((v238 H).add ((v238 H).neg.raised 2 _ _ zeros _ _ rfl)).congr fun a b _ hb => by
    have hw : win (0 + b) = 2 := by unfold win; split_ifs <;> omega
    rw [hw]
    by_cases h : a + 2 < 8192
    · rw [if_pos h]; ring
    · rw [if_neg h, e_past H.past (a + 2) (0 + b) (by omega)]; ring

theorem v236 : Is (val_main_v236 (F := Ideal) x0 x1 x3 x4 x5) fun a b => - dd P D (diag pw) ps gg a b :=
  ((((((v199 H).neg.pad 0 192 0 0 _ zeros _ _).add ((v198 H).neg.pad 0 128 0 64 _ zeros _ _)).add ((v197 H).neg.pad 0 64 0 128 _ zeros _ _)).add
    ((v196 H).neg.pad 0 0 0 192 _ zeros _ _))).congr fun a b ha hb => by
    by_cases h0 : b < 64
    · rw [if_neg (by omega), if_neg (by omega), if_neg (by omega), if_pos ⟨by omega, by omega⟩, show 0 + (b - 0) = b by omega]; simp
    · by_cases h1 : b < 128
      · rw [if_neg (by omega), if_neg (by omega), if_pos ⟨by omega, by omega⟩, if_neg (by omega), show 64 + (b - 64) = b by omega]; simp
      · by_cases h2 : b < 192
        · rw [if_neg (by omega), if_pos ⟨by omega, by omega⟩, if_neg (by omega), if_neg (by omega), show 128 + (b - 128) = b by omega]; simp
        · rw [if_pos ⟨by omega, by omega⟩, if_neg (by omega), if_neg (by omega), if_neg (by omega), show 192 + (b - 192) = b by omega]; simp

theorem v245 : Is (val_main_v245 (F := Ideal) x0 x1 x3 x4 x5) fun a b => e P D (diag pw) ps gg a b - e P D (diag pw) ps gg (a + win b) b :=
  ((((((v208 H).pad 0 192 0 0 _ zeros _ _).add ((v219 H).pad 0 128 0 64 _ zeros _ _)).add ((v231 H).pad 0 64 0 128 _ zeros _ _)).add
    ((v243 H).pad 0 0 0 192 _ zeros _ _))).congr fun a b ha hb => by
    by_cases h0 : b < 64
    · rw [if_neg (by omega), if_neg (by omega), if_neg (by omega), if_pos ⟨by omega, by omega⟩, show 0 + (b - 0) = b by omega]; simp
    · by_cases h1 : b < 128
      · rw [if_neg (by omega), if_neg (by omega), if_pos ⟨by omega, by omega⟩, if_neg (by omega), show 64 + (b - 64) = b by omega]; simp
      · by_cases h2 : b < 192
        · rw [if_neg (by omega), if_pos ⟨by omega, by omega⟩, if_neg (by omega), if_neg (by omega), show 128 + (b - 128) = b by omega]; simp
        · rw [if_pos ⟨by omega, by omega⟩, if_neg (by omega), if_neg (by omega), if_neg (by omega), show 192 + (b - 192) = b by omega]; simp

theorem v247 : Is (val_main_v247 (F := Ideal) x0 x1 x3 x4 x5) (dx P D (diag pw) ps gg) :=
  ((v236 H).add ((v245 H).runningBack _ (fun _ => zero_word.trans EReal.coe_zero) _ _)).congr fun a b ha hb => by
    unfold dx
    rw [later_sum (fun s => e P D (diag pw) ps gg s b) (win b) 8192 a (fun s hs => e_past H.past s b hs)]
    ring

theorem v248 : Is (val_main_v248 (F := Ideal) x0 x1 x2 x5) (dconv P D cw gg) :=
  ((v4 H).mul (v181 H)).congr fun a b _ _ => mul_comm _ _

theorem v249 : Is (val_main_v249 (F := Ideal) x0 x1 x2 x5) fun a b => dya P D cw gg a b * conv P cw a b :=
  (v181 H).mul (v33 H)

theorem v276 : Is (val_main_v276 (F := Ideal) x0 x1 x2 x5) (dz P D cw gg) :=
  (((Is.raised 2 (((v30 H).row _).mul (v248 H)) _ _ zeros _ _ rfl).add (Is.raised 1 (((v20 H).row _).mul (v248 H)) _ _ zeros _ _ rfl)).add
    (((v11 H).row _).mul (v248 H))).congr fun a b ha hb => by
    have h1 : (if a + 1 < 8192 then cw 1 b * dconv P D cw gg (a + 1) b else 0) = cw 1 b * dconv P D cw gg (a + 1) b := by
      split_ifs with h
      · rfl
      · rw [dconv_past H.past (a + 1) b (by omega), mul_zero]
    have h2 : (if a + 2 < 8192 then cw 0 b * dconv P D cw gg (a + 2) b else 0) = cw 0 b * dconv P D cw gg (a + 2) b := by
      split_ifs with h
      · rfl
      · rw [dconv_past H.past (a + 2) b (by omega), mul_zero]
    rw [h1, h2]
    unfold dz
    ring

theorem v259 : Is (val_main_v259 (F := Ideal) x0 x1 x2 x5) fun _ b => ∑ s ∈ Finset.range 8192, dconv P D cw gg s b * back 2 (z P) s b :=
  (Is1.row ((((((v248 H).mul (v28 H)).sumRows _ zeros _ (by decide) _).asRow _)).sumRows _ zeros _ (by decide) _) _).congr fun a b _ _ => by
    simp only [Finset.univ_unique, Finset.sum_singleton]
    exact Fin.sum_univ_eq_sum_range (fun s => dconv P D cw gg s b * back 2 (z P) s b) 8192

theorem v271 : Is (val_main_v271 (F := Ideal) x0 x1 x2 x5) fun _ b => ∑ s ∈ Finset.range 8192, dconv P D cw gg s b * back 1 (z P) s b :=
  (Is1.row ((((((v248 H).mul (v18 H)).sumRows _ zeros _ (by decide) _).asRow _)).sumRows _ zeros _ (by decide) _) _).congr fun a b _ _ => by
    simp only [Finset.univ_unique, Finset.sum_singleton]
    exact Fin.sum_univ_eq_sum_range (fun s => dconv P D cw gg s b * back 1 (z P) s b) 8192

theorem v281 : Is (val_main_v281 (F := Ideal) x0 x1 x2 x5) fun _ b => ∑ s ∈ Finset.range 8192, dconv P D cw gg s b * z P s b :=
  (Is1.row ((((((v248 H).mul (v8 H)).sumRows _ zeros _ (by decide) _).asRow _)).sumRows _ zeros _ (by decide) _) _).congr fun a b _ _ => by
    simp only [Finset.univ_unique, Finset.sum_singleton]
    exact Fin.sum_univ_eq_sum_range (fun s => dconv P D cw gg s b * z P s b) 8192

theorem v283 : Is (val_main_v283 (F := Ideal) x0 x1 x2 x5) (dcw P D cw gg 8192) :=
  ((((v259 H).pad 0 0 2 0 _ zeros _ _).add ((v271 H).pad 1 0 1 0 _ zeros _ _)).add ((v281 H).pad 2 0 0 0 _ zeros _ _)).congr fun a b ha hb => by
    unfold dcw
    interval_cases a
    · rw [if_pos ⟨by omega, by omega⟩, if_neg (by omega), if_neg (by omega)]; simp
    · rw [if_neg (by omega), if_pos ⟨by omega, by omega⟩, if_neg (by omega)]; simp
    · rw [if_neg (by omega), if_neg (by omega), if_pos ⟨by omega, by omega⟩]; simp [back]

theorem v284 : Is (val_main_v284 (F := Ideal) x0 x1 x2 x5) fun a b => P a (256 + b) * dz P D cw gg a b :=
  (v5 H).mul (v276 H)

theorem v285 : Is (val_main_v285 (F := Ideal) x0 x1 x2 x5) fun a b => dz P D cw gg a b * P a (512 + b) :=
  (v276 H).mul (v6 H)

theorem v292 : Is (val_main_v292 (F := Ideal) x0 x1 x2 x3 x4 x5) (dp P D cw (diag pw) ps gg) :=
  (((((v247 H).pad 0 768 0 0 _ zeros _ _).add ((v284 H).pad 0 512 0 256 _ zeros _ _)).add ((v285 H).pad 0 256 0 512 _ zeros _ _)).add
    ((v249 H).pad 0 0 0 768 _ zeros _ _)).congr fun a b ha hb => by
    unfold dp
    by_cases h0 : b < 256
    · rw [if_neg (by omega), if_neg (by omega), if_neg (by omega), if_pos ⟨by omega, by omega⟩, if_pos h0]; simp
    · by_cases h1 : b < 512
      · rw [if_neg (by omega), if_neg (by omega), if_pos ⟨by omega, by omega⟩, if_neg (by omega), if_neg h0, if_pos h1, show 512 + (b - 256) = 256 + b by omega]; simp
      · by_cases h2 : b < 768
        · rw [if_neg (by omega), if_pos ⟨by omega, by omega⟩, if_neg (by omega), if_neg (by omega), if_neg h0, if_neg h1, if_pos h2, show 256 + (b - 512) = b - 256 by omega]
          simp [mul_comm]
        · rw [if_pos ⟨by omega, by omega⟩, if_neg (by omega), if_neg (by omega), if_neg (by omega), if_neg h0, if_neg h1, if_neg h2]; simp

omit H in
/-- An array read as reals everywhere is the array of those reals. -/
theorem mat_of {n m : ℕ} {v : M n m} {f : ℕ → ℕ → ℝ} (h : Is v f) : v = mat n m f := by
  funext i
  obtain ⟨a, b, rfl⟩ : ∃ (a : Fin n) (b : Fin m), i = ix2 a b := ⟨i 0, i 1, by funext x; match x with | ⟨0, _⟩ => rfl | ⟨1, _⟩ => rfl⟩
  exact h a b

theorem array293 : (val_main_v293 (F := Ideal) x0 x1 x2 x3 x4 x5) = mat 8192 1024 (dp P D cw (diag pw) ps gg) := by
  unfold val_main_v293
  exact mat_of (v292 H)

theorem array283 : (val_main_v283 (F := Ideal) x0 x1 x2 x5) = mat 3 256 (dcw P D cw gg 8192) := mat_of (v283 H)

theorem array186 : (val_main_v186 (F := Ideal) x0 x1 x3 x4 x5) = mat 1 256 fun _ => dps P D (diag pw) ps gg 8192 := mat_of (v186 H)

theorem array183 : (val_main_v183 (F := Ideal) x0 x1 x2 x3 x4) = mat 1 512 fun _ => dgg P D cw (diag pw) ps 8192 := mat_of (v183 H)

end Cert.ReferenceIdeal.Mixers

end
-- ==== Proof.Finite.lean ====
/- What the precondition says: the entries the kernel reads are reals. -/
module

public import proofs.«01_k».proof.Defs
public import proofs.«01_k».proof.Proof.Inputs
public import proofs.«01_k».proof.Proof.Gen.Pre_finite
public import Idealize.ShloMosaic.Lib.ReduceAll
public import Idealize.ShloMosaic.Lib.WordCmp
public import Idealize.ShloMosaic.Lib.Pointwise

@[expose] public section

noncomputable section

namespace Mix

open Idealize.ShloMosaic Idealize.ShloMosaic.TcCoe Idealize.ShloMosaic.Tactic Cert.Pre_finite

/-- A value below infinity in magnitude is a real. -/
theorem real_of (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have hlt : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal ?_ ?_).symm
  · rintro rfl; simp at hlt
  · rintro rfl; simp at hlt

theorem both_one : ∀ a b : BitVec 1, IntOp.andi a b = 1#1 → a = 1#1 ∧ b = 1#1 := by decide

theorem both_at {s : Shape} (x y : IVec s 1) (j : s.Idx) (h : andi x y j = 1#1) : x j = 1#1 ∧ y j = 1#1 := both_one _ _ h

/-- Whether every entry is below infinity in magnitude. -/
def below {s : Shape} {axes : List (Fin s.rank)} (x : FVec Ideal s .f32) (hb : S_.BroadcastsInDim s (![] : Fin 0 → Fin s.rank))
    (h : s.ReducesTo axes S_) (hu : 0 < S_.numel) : IVec S_ 1 :=
  Host.reduce IntOp.andi (cmpf .olt (Host.absf x) (broadcastInDim s ![] hb (constant (F := Ideal) S_ .f32 0x7F800000#32))) (constantI S_ 1 1#1) h hu

theorem real_all {s : Shape} {axes : List (Fin s.rank)} (x : FVec Ideal s .f32) (hb : S_.BroadcastsInDim s (![] : Fin 0 → Fin s.rank))
    (h : s.ReducesTo axes S_) (hu : 0 < S_.numel) (j : S_.Idx) (e : below x hb h hu j = 1#1) (i : s.Idx) :
    (x i : EReal) = ((EReal.toReal (x i) : ℝ) : EReal) :=
  haveI : Subsingleton S_.Idx := ⟨fun _ _ => funext fun k => k.elim0⟩
  real_of (x i) (Host.reduce_andi_all _ _ h hu j e i)

/-- A row index past the end falls back into the last sixteen rows. -/
def folded (s : ℕ) : ℕ := if s < 8192 then s else 8176 + s % 16

theorem folded_lt (s : ℕ) : folded s < 8192 := by unfold folded; split_ifs <;> omega

theorem folded_wrap (s : ℕ) (h : 8192 ≤ s) : folded s = folded (s - 16) := by unfold folded; split_ifs <;> omega

theorem fn_below [Facts] (a0 : FVec Ideal S8192x2560 .bf16) (a1 : FVec Ideal S8192x1024 .bf16) (a2 : FVec Ideal S3x256 .f32)
    (a3 : FVec Ideal S4x64x64 .f32) (a4 : FVec Ideal S1x256 .f32) (a5 : FVec Ideal S1x512 .f32) :
    fn (F := Ideal) a0 a1 a2 a3 a4 a5 = andi (andi (andi (andi (andi (below (extf .f32 (extractStridedSlice S8192x1024 ![0, 0] a0 Facts.slices_S8192x2560_S8192x1024_0_0) Facts.bitsLt_bf16_f32) Facts.bcast_S_S8192x1024 Facts.reducesTo_S8192x1024_S_d0_1 Facts.h_S_)
      (below (extf .f32 (extractStridedSlice S8192x512 ![0, 0] a1 Facts.slices_S8192x1024_S8192x512_0_0) Facts.bitsLt_bf16_f32) Facts.bcast_S_S8192x512 Facts.reducesTo_S8192x512_S_d0_1 Facts.h_S_))
      (below a2 Facts.bcast_S_S3x256 Facts.reducesTo_S3x256_S_d0_1 Facts.h_S_))
      (below a3 Facts.bcast_S_S4x64x64 Facts.reducesTo_S4x64x64_S_d0_1_2 Facts.h_S_))
      (below a4 Facts.bcast_S_S1x256 Facts.reducesTo_S1x256_S_d0_1 Facts.h_S_))
      (below a5 Facts.bcast_S_S1x512 Facts.reducesTo_S1x512_S_d0_1 Facts.h_S_) := by
  unfold fn fn_part1 below
  rfl

theorem inputs_of [Facts] (a0 : FVec Ideal S8192x2560 .bf16) (a1 : FVec Ideal S8192x1024 .bf16) (a2 : FVec Ideal S3x256 .f32)
    (a3 : FVec Ideal S4x64x64 .f32) (a4 : FVec Ideal S1x256 .f32) (a5 : FVec Ideal S1x512 .f32)
    (h : fn (F := Ideal) a0 a1 a2 a3 a4 a5 = fun _ => 1#1) :
    ∃ P D cw pw ps gg, Inputs a0 a1 a2 a3 a4 a5 P D cw pw ps gg := by
  rw [fn_below] at h
  have h' := congrFun h (fun k => k.elim0)
  obtain ⟨h', g5⟩ := both_at _ _ _ h'
  obtain ⟨h', g4⟩ := both_at _ _ _ h'
  obtain ⟨h', g3⟩ := both_at _ _ _ h'
  obtain ⟨h', g2⟩ := both_at _ _ _ h'
  obtain ⟨g0, g1⟩ := both_at _ _ _ h'
  have r0 := real_all _ _ _ _ _ g0
  have r1 := real_all _ _ _ _ _ g1
  have r2 := real_all _ _ _ _ _ g2
  have r3 := real_all _ _ _ _ _ g3
  have r4 := real_all _ _ _ _ _ g4
  have r5 := real_all _ _ _ _ _ g5
  refine ⟨fun s c => if hc : c < 2560 then EReal.toReal (a0 (ix2 ⟨folded s, folded_lt s⟩ ⟨c, hc⟩)) else 0,
    fun s c => if hs : s < 8192 then if hc : c < 1024 then EReal.toReal (a1 (ix2 ⟨s, hs⟩ ⟨c, hc⟩)) else 0 else 0,
    fun j c => if hj : j < 3 then if hc : c < 256 then EReal.toReal (a2 (ix2 ⟨j, hj⟩ ⟨c, hc⟩)) else 0 else 0,
    fun g k c => if hg : g < 4 then if hk : k < 64 then if hc : c < 64 then EReal.toReal (a3 (ix3 ⟨g, hg⟩ ⟨k, hk⟩ ⟨c, hc⟩)) else 0 else 0 else 0,
    fun c => if hc : c < 256 then EReal.toReal (a4 (ix2 0 ⟨c, hc⟩)) else 0,
    fun c => if hc : c < 512 then EReal.toReal (a5 (ix2 0 ⟨c, hc⟩)) else 0, ?_, ?_, ?_, ?_, ?_, ?_, ?_, ?_⟩
  · intro s c hc
    have e : (⟨folded s.val, folded_lt s.val⟩ : Fin 8192) = s := Fin.ext (if_pos s.isLt)
    simp only [c.isLt, dif_pos, e, Fin.eta]
    refine Eq.trans (congrArg a0 ?_) ((r0 (ix2 s ⟨c.val, hc⟩)).trans (congrArg (fun i => ((EReal.toReal (a0 i) : ℝ) : EReal)) ?_))
    · funext x; match x with | ⟨0, _⟩ => exact Fin.ext (Nat.zero_add _).symm | ⟨1, _⟩ => exact Fin.ext (Nat.zero_add _).symm
    · funext x; match x with | ⟨0, _⟩ => exact Fin.ext (Nat.zero_add _) | ⟨1, _⟩ => exact Fin.ext (Nat.zero_add _)
  · intro s c hs
    have e : (⟨folded s, folded_lt s⟩ : Fin 8192) = ⟨folded (s - 16), folded_lt _⟩ := Fin.ext (folded_wrap s hs)
    rw [e]
  · intro s c hc
    simp only [c.isLt, s.isLt, dif_pos, Fin.eta]
    refine Eq.trans (congrArg a1 ?_) ((r1 (ix2 s ⟨c.val, hc⟩)).trans (congrArg (fun i => ((EReal.toReal (a1 i) : ℝ) : EReal)) ?_))
    · funext x; match x with | ⟨0, _⟩ => exact Fin.ext (Nat.zero_add _).symm | ⟨1, _⟩ => exact Fin.ext (Nat.zero_add _).symm
    · funext x; match x with | ⟨0, _⟩ => exact Fin.ext (Nat.zero_add _) | ⟨1, _⟩ => exact Fin.ext (Nat.zero_add _)
  · intro s c hs
    exact dif_neg (by omega)
  · intro j c
    simp only [c.isLt, j.isLt, dif_pos, Fin.eta]
    exact r2 _
  · intro g k c
    simp only [c.isLt, k.isLt, g.isLt, dif_pos, Fin.eta]
    exact r3 _
  · intro z c
    obtain rfl : z = 0 := Subsingleton.elim _ _
    simp only [c.isLt, dif_pos, Fin.eta]
    exact r4 _
  · intro z c
    obtain rfl : z = 0 := Subsingleton.elim _ _
    simp only [c.isLt, dif_pos, Fin.eta]
    exact r5 _

end Mix

end
-- ==== Proof.Dense.lean ====
/- Products of matrices of extended reals, for any sizes, and how a block of a run reads and stores them. -/
module

public import proofs.«01_k».proof.Proof.Outs

@[expose] public section

noncomputable section

namespace Mix

open Idealize.ShloMosaic Idealize.ShloMosaic.TcCoe Idealize.ShloMosaic.Tactic

variable {n m k : ℕ}

/-- A matrix of extended reals. -/
abbrev Mat (n m : ℕ) := (⟨2, ![n, m]⟩ : Shape).Idx → EReal

/-- The product of two matrices. -/
def mm (x : Mat n k) (w : Mat k m) : Mat n m := fun i => ∑ j : Fin k, x (ix2 (i 0) j) * w (ix2 j (i 1))

/-- The product of a matrix and a transposed one. -/
def mmt (x : Mat n k) (w : Mat m k) : Mat n m := fun i => ∑ j : Fin k, x (ix2 (i 0) j) * w (ix2 (i 1) j)

/-- The product of a transposed matrix and another. -/
def tmm (x : Mat k n) (w : Mat k m) : Mat n m := fun i => ∑ j : Fin k, x (ix2 j (i 0)) * w (ix2 j (i 1))

theorem sum_mm {x : Mat n k} {w : Mat k m} {a : Fin n} {b : Fin m} {f : Fin k → EReal} (h : ∀ j, f j = x (ix2 a j) * w (ix2 j b)) :
    ∑ j, f j = mm x w (ix2 a b) := Finset.sum_congr rfl fun j _ => h j

theorem sum_mmt {x : Mat n k} {w : Mat m k} {a : Fin n} {b : Fin m} {f : Fin k → EReal} (h : ∀ j, f j = x (ix2 a j) * w (ix2 b j)) :
    ∑ j, f j = mmt x w (ix2 a b) := Finset.sum_congr rfl fun j _ => h j

/-- Two indices of a matrix with the same row and the same column are the same. -/
theorem idx2_ext {i i' : (⟨2, ![n, m]⟩ : Shape).Idx} (h0 : (i 0).val = (i' 0).val) (h1 : (i 1).val = (i' 1).val) : i = i' := by
  funext k
  match k with
  | ⟨0, _⟩ => exact Fin.ext h0
  | ⟨1, _⟩ => exact Fin.ext h1

/-- A matrix read at any pair of numbers, zero outside. -/
def num (x : Mat n m) (i j : ℕ) : EReal := if h : i < n ∧ j < m then x (ix2 ⟨i, h.1⟩ ⟨j, h.2⟩) else 0

theorem num_of (x : Mat n m) {i j : ℕ} (hi : i < n) (hj : j < m) : x (ix2 ⟨i, hi⟩ ⟨j, hj⟩) = num x i j := by
  rw [num, dif_pos ⟨hi, hj⟩]

theorem num_at (x : Mat n m) (i : Fin n) (j : Fin m) : x (ix2 i j) = num x i j := num_of x i.isLt j.isLt

/-- The product of a column of one matrix and a column of another, over the first `l` rows. -/
def dots (x : Mat k n) (w : Mat k m) (l i j : ℕ) : EReal := ∑ s ∈ Finset.range l, num x s i * num w s j

theorem dots_zero (x : Mat k n) (w : Mat k m) (i j : ℕ) : dots x w 0 i j = 0 := rfl

theorem dots_add (x : Mat k n) (w : Mat k m) (l p i j : ℕ) :
    dots x w (l + p) i j = dots x w l i j + ∑ s : Fin p, num x (l + s) i * num w (l + s) j := by
  rw [dots, Finset.sum_range_add, Fin.sum_univ_eq_sum_range fun s => num x (l + s) i * num w (l + s) j]
  rfl

theorem tmm_at (x : Mat k n) (w : Mat k m) (i : Fin n) (j : Fin m) : tmm x w (ix2 i j) = dots x w k i j := by
  rw [dots, ← Fin.sum_univ_eq_sum_range fun s => num x s i * num w s j]
  exact Finset.sum_congr rfl fun s _ => congrArg₂ (· * ·) (num_at x s i) (num_at w s j)

/-- The shards of the rows of the product of a transposed matrix and another: `r` rows each, every other shard from shard `o` on. -/
def shards (r o : ℕ) (x : Mat k n) (w : Mat k m) : (⟨3, ![4, r, m]⟩ : Shape).Idx → EReal := fun i => dots x w k ((2 * (i 0).val + o) * r + (i 1).val) (i 2).val

/-- Two matrices side by side. -/
def side {p q : ℕ} (m : ℕ) (x : Mat n p) (y : Mat n q) : Mat n m := fun i => if (i 1).val < p then num x (i 0).val (i 1).val else num y (i 0).val ((i 1).val - p)

theorem num_side {p q m : ℕ} (x : Mat n p) (y : Mat n q) {i j : ℕ} (hi : i < n) (hj : j < m) :
    num (side m x y) i j = if j < p then num x i j else num y i (j - p) := by
  rw [← num_of (side m x y) hi hj]
  rfl

section pieces

variable {G R M o : ℕ} {e : EltTy}

/-- A stack of matrices read at the one its last store filled. -/
theorem slab_in (inb) (p : (Rect.unit (s := ⟨3, ![G, R, M]⟩) ![o, 0, 0] ![1, R, M] inb).shape.Idx → Elt Ideal e)
    (L : List (View.Piece (Elt Ideal) ⟨3, ![G, R, M]⟩ e)) (a : Fin G) (b : Fin R) (d : Fin M) (ha : a.val = o) :
    View.canon (⟨Rect.unit ![o, 0, 0] ![1, R, M] inb, p⟩ :: L) (ix3 a b d) = p (ix3 0 b d) := by
  have : (ix3 a b d : (⟨3, ![G, R, M]⟩ : Shape).Idx) = (Rect.unit (s := ⟨3, ![G, R, M]⟩) ![o, 0, 0] ![1, R, M] inb).emb (ix3 0 b d) := by
    funext k
    apply Fin.ext
    refine Eq.trans ?_ (Rect.idx_unit_val _ _ inb _ k).symm
    match k with
    | ⟨0, _⟩ => show a.val = o + 0; omega
    | ⟨1, _⟩ => show b.val = 0 + b.val; omega
    | ⟨2, _⟩ => show d.val = 0 + d.val; omega
  rw [this]
  exact View.canon_cons_emb _ _ _ _

/-- … and at another. -/
theorem slab_out (inb) (p : (Rect.unit (s := ⟨3, ![G, R, M]⟩) ![o, 0, 0] ![1, R, M] inb).shape.Idx → Elt Ideal e)
    (L : List (View.Piece (Elt Ideal) ⟨3, ![G, R, M]⟩ e)) (a : Fin G) (b : Fin R) (d : Fin M) (ha : a.val ≠ o) :
    View.canon (⟨Rect.unit ![o, 0, 0] ![1, R, M] inb, p⟩ :: L) (ix3 a b d) = View.canon L (ix3 a b d) := by
  refine View.canon_cons_of_not_mem _ _ fun hm => ha ?_
  have h0 := (Rect.mem_set_unit (inb := inb)).1 hm 0
  have h1 : o ≤ a.val := h0.1
  have h2 : a.val < o + 1 := h0.2
  omega

/-- Some rows of a matrix that was stored whole. -/
theorem rows_of {N : ℕ} {sg : RefSig} {κ : Kind} {sp : Space} (v : View sg κ sp ⟨2, ![N, M]⟩ e) (inb inb')
    (p : (Rect.unit (s := ⟨2, ![N, M]⟩) ![0, 0] ![N, M] inb').shape.Idx → Elt Ideal e) (a : Fin R) (b : Fin M) (ha : o + a.val < N) :
    v.readCov [⟨Rect.unit ![0, 0] ![N, M] inb', p⟩] (Rect.unit (s := ⟨2, ![N, M]⟩) ![o, 0] ![R, M] inb).toLoadRect (ix2 a b) = p (ix2 ⟨o + a.val, ha⟩ b) := by
  rw [Cert.KernelIdeal.Stages.readCov_ld, Cert.KernelIdeal.Stages.ld_at inb _ a b ha (by omega),
    Cert.KernelIdeal.Stages.piece_in inb' p [] ⟨o + a.val, ha⟩ ⟨0 + b.val, by omega⟩ (Nat.zero_le _) ha (Nat.zero_le _) (by dsimp only; omega)]
  exact congrArg p (idx2_ext (by dsimp only; rfl) (by show 0 + b.val - 0 = b.val; omega))

end pieces

end Mix

end
-- ==== Proof.WgradDown.lean ====
/- The gradient of the down projection's weights: the accumulator adds up the products of the token blocks, and the last
   point of a run stores its rows as shards. -/
module

public import proofs.«01_k».proof.Proof.Dense
public import proofs.«01_k».proof.Proof.Gen.WgradDownIdeal.Value
public import proofs.«01_k».proof.Proof.Gen.WgradDownRefIdeal.Read
public import Idealize.ShloMosaic.Lib.Pipeline.ValueKit
public import Idealize.ShloMosaic.Lib.Pipeline.ReadBack

@[expose] public section

noncomputable section

namespace Cert.WgradDownIdeal.Product

open Cert.WgradDownIdeal Cert.WgradDownIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, win0_0.index t = ![t.val % 4, t.val / 4] := by decide +kernel
theorem at1 : ∀ t : Fin cfg0.N, win0_1.index t = ![t.val % 4, 0] := by decide +kernel
theorem at2 : ∀ t : Fin cfg0.N, win0_2.index t = ![t.val / 4, 0, 0] := by decide +kernel
theorem at3 : ∀ t : Fin cfg0.N, win0_3.index t = ![t.val / 4, 0, 0] := by decide +kernel

theorem block0 (t : Fin cfg0.N) (a : Fin 2048) (b : Fin 1408) :
    iblk m c 0 t (ix2 a b) = num (n := 8192) (m := 2816) (m ((c : Thread nD τ).loc main_arg0)) (2048 * (t.val % 4) + a.val) (1408 * (t.val / 4) + b.val) := by
  have hN : t.val < 8 := lt_of_lt_of_eq t.isLt (show cfg0.N = 8 from N_0)
  have ha := a.isLt
  have hb := b.isLt
  rw [← num_of (n := 8192) (m := 2816) _ (by omega) (by omega)]
  blk_simp [iblk]
  rw [V_main_arg0]
  refine congrArg _ (idx2_ext ?_ ?_)
  · blk_simp [at0]; show _ = 2048 * (t.val % 4) + a.val; simp; omega
  · blk_simp [at0]; show _ = 1408 * (t.val / 4) + b.val; simp; omega

theorem block1 (t : Fin cfg0.N) (a : Fin 2048) (b : Fin 1024) :
    iblk m c 1 t (ix2 a b) = num (n := 8192) (m := 1024) (m ((c : Thread nD τ).loc main_arg1)) (2048 * (t.val % 4) + a.val) b.val := by
  have ha := a.isLt
  have hb := b.isLt
  rw [← num_of (n := 8192) (m := 1024) _ (by omega) (by omega)]
  blk_simp [iblk]
  rw [V_main_arg1]
  refine congrArg _ (idx2_ext ?_ ?_)
  · blk_simp [at1]; show _ = 2048 * (t.val % 4) + a.val; simp; omega
  · blk_simp [at1]

theorem step (x : Vec Ideal S1408x1024 .f32) (x0 : Vec Ideal S2048x1408 .bf16) (x1 : Vec Ideal S2048x1024 .bf16) (a : Fin 1408) (b : Fin 1024) :
    k0_pay2 x x0 x1 (ix2 a b) = x (ix2 a b) + ∑ k : Fin 2048, x0 (ix2 k a) * x1 (ix2 k b) := by
  pointwise [k0_pay2]

theorem start (a : Fin 1408) (b : Fin 1024) : k0_pay1 (F := Ideal) (ix2 a b) = 0 := by
  pointwise [k0_pay1]

/-- The two arguments. -/
abbrev X : Mat 8192 2816 := m ((c : Thread nD τ).loc main_arg0)
abbrev D : Mat 8192 1024 := m ((c : Thread nD τ).loc main_arg1)

/-- The product of a point's blocks. -/
theorem term (t : Fin cfg0.N) (a : Fin 1408) (b : Fin 1024) (x0 : Mat 2048 1408) (x1 : Mat 2048 1024) (h0 : x0 = iblk m c 0 t) (h1 : x1 = iblk m c 1 t) :
    ∑ k : Fin 2048, x0 (ix2 k a) * x1 (ix2 k b)
      = ∑ k : Fin 2048, num (X m c) (2048 * (t.val % 4) + k.val) (1408 * (t.val / 4) + a.val) * num (D m c) (2048 * (t.val % 4) + k.val) b.val := by
  subst h0 h1
  exact Finset.sum_congr rfl fun k _ => congrArg₂ (· * ·) (block0 m c t k a) (block1 m c t k b)

theorem first (t : Fin cfg0.N) (h : t.val % 4 = 0) (a : Fin 1408) (b : Fin 1024) :
    (outsAt0 m c t.val t.isLt).2.2 (ix2 a b) = dots (X m c) (D m c) (2048 * (t.val % 4 + 1)) (1408 * (t.val / 4) + a.val) b.val := by
  rw [outsAt0_A m c t h (by omega)]
  frame_out
  rw [step, start, zero_add, term m c t a b _ _ rfl rfl, Nat.mul_add, dots_add, h, Nat.mul_zero, dots_zero, zero_add]

theorem next (t : Fin cfg0.N) (h : ¬t.val % 4 = 0) (a : Fin 1408) (b : Fin 1024)
    (hold : (outsAt0 m c (t.val - 1) (Nat.lt_of_le_of_lt (Nat.sub_le _ _) t.isLt)).2.2 (ix2 a b)
      = dots (X m c) (D m c) (2048 * (t.val % 4)) (1408 * (t.val / 4) + a.val) b.val) :
    (outsAt0 m c t.val t.isLt).2.2 (ix2 a b) = dots (X m c) (D m c) (2048 * (t.val % 4 + 1)) (1408 * (t.val / 4) + a.val) b.val := by
  rw [Nat.mul_add, dots_add, ← hold, ← term m c t a b _ _ rfl rfl]
  by_cases h1 : t.val % 4 = 3
  · rw [outsAt0_C m c t h h1]
    frame_out
    simp only [read_unread_whole]
    exact step _ _ _ a b
  · rw [outsAt0_B m c t h h1]
    frame_out
    simp only [read_unread_whole]
    exact step _ _ _ a b

/-- After each point the accumulator holds the product over the rows so far. -/
theorem sums (a : Fin 1408) (b : Fin 1024) : ∀ (n : ℕ) (h : n < cfg0.N),
    (outsAt0 m c n h).2.2 (ix2 a b) = dots (X m c) (D m c) (2048 * (n % 4 + 1)) (1408 * (n / 4) + a.val) b.val
  | 0, h => first m c ⟨0, h⟩ rfl a b
  | n + 1, h => by
    by_cases h0 : (n + 1) % 4 = 0
    · exact first m c ⟨n + 1, h⟩ h0 a b
    · refine next m c ⟨n + 1, h⟩ h0 a b ((sums a b n _).trans ?_)
      rw [show (n + 1) % 4 = n % 4 + 1 by omega, show (n + 1) / 4 = n / 4 by omega]

/-- What the last point of a run has added up. -/
theorem total (t : Fin cfg0.N) (h1 : t.val % 4 = 3) (a : Fin 1408) (b : Fin 1024) :
    k0_pay2 (outsAt0 m c (t.val - 1) (Nat.lt_of_le_of_lt (Nat.sub_le _ _) t.isLt)).2.2 (iblk m c 0 t) (iblk m c 1 t) (ix2 a b)
      = dots (X m c) (D m c) 8192 (1408 * (t.val / 4) + a.val) b.val := by
  have h := sums m c a b t.val t.isLt
  rw [h1] at h
  refine Eq.trans ?_ h
  rw [outsAt0_C m c t (by omega) h1]
  frame_out
  simp only [read_unread_whole]

theorem even (t : Fin cfg0.N) (h1 : t.val % 4 = 3) (a : Fin 2) (b : Fin 352) (d : Fin 1024) :
    (outsAt0 m c t.val t.isLt).1 (ix3 a b d) = dots (X m c) (D m c) 8192 ((2 * (2 * (t.val / 4) + a.val) + 0) * 352 + b.val) d.val := by
  rw [outsAt0_C m c t (by omega) h1]
  frame_out
  simp only [read_unread_whole]
  have hb := b.isLt
  rcases (show a.val = 0 ∨ a.val = 1 by omega) with ha | ha
  · rw [slab_out _ _ _ _ _ _ (by omega), slab_in _ _ _ _ _ _ ha]
    pointwise [k0_pay3]
    rw [rows_of _ _ _ _ _ _ (by omega), total m c t h1]
    congr 1; dsimp only; omega
  · rw [slab_in _ _ _ _ _ _ ha]
    pointwise [k0_pay5]
    rw [rows_of _ _ _ _ _ _ (by omega), total m c t h1]
    congr 1; dsimp only; omega

theorem odd (t : Fin cfg0.N) (h1 : t.val % 4 = 3) (a : Fin 2) (b : Fin 352) (d : Fin 1024) :
    (outsAt0 m c t.val t.isLt).2.1 (ix3 a b d) = dots (X m c) (D m c) 8192 ((2 * (2 * (t.val / 4) + a.val) + 1) * 352 + b.val) d.val := by
  rw [outsAt0_C m c t (by omega) h1]
  frame_out
  simp only [read_unread_whole]
  have hb := b.isLt
  rcases (show a.val = 0 ∨ a.val = 1 by omega) with ha | ha
  · rw [slab_out _ _ _ _ _ _ (by omega), slab_in _ _ _ _ _ _ ha]
    pointwise [k0_pay4]
    rw [rows_of _ _ _ _ _ _ (by omega), total m c t h1]
    congr 1; dsimp only; omega
  · rw [slab_in _ _ _ _ _ _ ha]
    pointwise [k0_pay6]
    rw [rows_of _ _ _ _ _ _ (by omega), total m c t h1]
    congr 1; dsimp only; omega

theorem array2 : (dats m 0 c).arrAt 2 cfg0.N = shards 352 0 (X m c) (D m c) := by
  refine (dats m 0 c).arrAt_eq_of_covers 2 _ (by decide +kernel) fun t hf y => ?_
  obtain ⟨a, b, d, rfl⟩ : ∃ (a : Fin 2) (b : Fin 352) (d : Fin 1024), y = ix3 a b d := ⟨y 0, y 1, y 2, (ix3_eta y).symm⟩
  blk_simp
  rw [after0_2, even m c t ((flush0_2 t).mp hf)]
  unfold shards
  blk_simp [at2]
  congr 1 <;> simp <;> omega

theorem array3 : (dats m 0 c).arrAt 3 cfg0.N = shards 352 1 (X m c) (D m c) := by
  refine (dats m 0 c).arrAt_eq_of_covers 3 _ (by decide +kernel) fun t hf y => ?_
  obtain ⟨a, b, d, rfl⟩ : ∃ (a : Fin 2) (b : Fin 352) (d : Fin 1024), y = ix3 a b d := ⟨y 0, y 1, y 2, (ix3_eta y).symm⟩
  blk_simp
  rw [after0_3, odd m c t ((flush0_3 t).mp hf)]
  unfold shards
  blk_simp [at3]
  congr 1 <;> simp <;> omega

open Cert.WgradDownRefIdeal.Read in
theorem gradient (x : Mat 8192 2816) (w : Mat 8192 1024) (i : (⟨2, ![2816, 1024]⟩ : Shape).Idx) :
    val_main_v5 (F := Ideal) x w i = dots x w 8192 (i 0).val (i 1).val := by
  rw [val_main_v5_apply, val_main_v4_apply, dots, ← Fin.sum_univ_eq_sum_range fun s => num x s (i 0).val * num w s (i 1).val]
  refine Finset.sum_congr rfl fun k _ => ?_
  rw [mul_comm, ← num_of x k.isLt (i 0).isLt, ← num_of w k.isLt (i 1).isLt]
  exact congrArg₂ (· * ·) (congrArg x (idx2_ext rfl rfl)) (congrArg w (idx2_ext rfl rfl))

open Cert.WgradDownRefIdeal.Read in
theorem value9 (x : Mat 8192 2816) (w : Mat 8192 1024) : val_main_v9 (F := Ideal) x w = shards 352 0 x w := by
  funext i
  have h0 : (i 0).val < 4 := (i 0).isLt
  have h1 : (i 1).val < 352 := (i 1).isLt
  have h2 : (i 2).val < 1024 := (i 2).isLt
  rw [val_main_v9_apply, val_main_v8_apply, val_main_v7_apply, val_main_v6_apply]
  refine (gradient x w _).trans ?_
  unfold shards
  congr 1 <;> dsimp only <;> omega

open Cert.WgradDownRefIdeal.Read in
theorem value11 (x : Mat 8192 2816) (w : Mat 8192 1024) : val_main_v11 (F := Ideal) x w = shards 352 1 x w := by
  funext i
  have h0 : (i 0).val < 4 := (i 0).isLt
  have h1 : (i 1).val < 352 := (i 1).isLt
  have h2 : (i 2).val < 1024 := (i 2).isLt
  rw [val_main_v11_apply, val_main_v10_apply, val_main_v7_apply, val_main_v6_apply]
  refine (gradient x w _).trans ?_
  unfold shards
  congr 1 <;> dsimp only <;> omega

end Cert.WgradDownIdeal.Product

end
-- ==== Proof.WgradGu.lean ====
/- The gradient of the gate and up weights: the accumulator adds up the products of the token blocks, and the last
   point of a run stores its rows as shards. -/
module

public import proofs.«01_k».proof.Proof.Dense
public import proofs.«01_k».proof.Proof.Gen.WgradGuIdeal.Value
public import proofs.«01_k».proof.Proof.Gen.WgradGuRefIdeal.Read
public import Idealize.ShloMosaic.Lib.Pipeline.ValueKit
public import Idealize.ShloMosaic.Lib.Pipeline.ReadBack

@[expose] public section

noncomputable section

namespace Cert.WgradGuIdeal.Product

open Cert.WgradGuIdeal Cert.WgradGuIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, t.val < 8 → win0_0.index t = ![t.val % 4, t.val / 4] := by decide +kernel
theorem at1 : ∀ t : Fin cfg0.N, ¬t.val < 8 → win0_1.index t = ![t.val % 4, t.val / 4 - 2] := by decide +kernel
theorem at2 : ∀ t : Fin cfg0.N, win0_2.index t = ![t.val % 4, 0] := by decide +kernel
theorem at3 : ∀ t : Fin cfg0.N, win0_3.index t = ![t.val / 4, 0, 0] := by decide +kernel
theorem at4 : ∀ t : Fin cfg0.N, win0_4.index t = ![t.val / 4, 0, 0] := by decide +kernel

/-- The gradients of gate and up, side by side, and the tokens. -/
abbrev X : Mat 8192 5632 := side (n := 8192) (p := 2816) (q := 2816) 5632 (m ((c : Thread nD τ).loc main_arg0)) (m ((c : Thread nD τ).loc main_arg1))
abbrev D : Mat 8192 1024 := m ((c : Thread nD τ).loc main_arg2)

theorem points (t : Fin cfg0.N) : t.val < 16 := lt_of_lt_of_eq t.isLt (show cfg0.N = 16 from N_0)

theorem block0 (t : Fin cfg0.N) (h : t.val < 8) (a : Fin 2048) (b : Fin 1408) :
    iblk m c 0 t (ix2 a b) = num (X m c) (2048 * (t.val % 4) + a.val) (1408 * (t.val / 4) + b.val) := by
  have ha := a.isLt
  have hb := b.isLt
  rw [num_side _ _ (by omega) (by omega), if_pos (by omega), ← num_of (n := 8192) (m := 2816) _ (by omega) (by omega)]
  blk_simp [iblk]
  rw [V_main_arg0]
  refine congrArg _ (idx2_ext ?_ ?_)
  · blk_simp [at0 t h]; show _ = 2048 * (t.val % 4) + a.val; simp; omega
  · blk_simp [at0 t h]; show _ = 1408 * (t.val / 4) + b.val; simp; omega

theorem block1 (t : Fin cfg0.N) (h : ¬t.val < 8) (a : Fin 2048) (b : Fin 1408) :
    iblk m c 1 t (ix2 a b) = num (X m c) (2048 * (t.val % 4) + a.val) (1408 * (t.val / 4) + b.val) := by
  have hN := points t
  have ha := a.isLt
  have hb := b.isLt
  rw [num_side _ _ (by omega) (by omega), if_neg (by omega), ← num_of (n := 8192) (m := 2816) _ (by omega) (by omega)]
  blk_simp [iblk]
  rw [V_main_arg1]
  refine congrArg _ (idx2_ext ?_ ?_)
  · blk_simp [at1 t h]; show _ = 2048 * (t.val % 4) + a.val; simp; omega
  · blk_simp [at1 t h]; show _ = 1408 * (t.val / 4) + b.val - 2816; first | omega | (simp; omega)

theorem block2 (t : Fin cfg0.N) (a : Fin 2048) (b : Fin 1024) :
    iblk m c 2 t (ix2 a b) = num (D m c) (2048 * (t.val % 4) + a.val) b.val := by
  have ha := a.isLt
  have hb := b.isLt
  rw [← num_of (n := 8192) (m := 1024) _ (by omega) (by omega)]
  blk_simp [iblk]
  rw [V_main_arg2]
  refine congrArg _ (idx2_ext ?_ ?_)
  · blk_simp [at2]; show _ = 2048 * (t.val % 4) + a.val; simp; omega
  · blk_simp [at2]

theorem step2 (x : Vec Ideal S1408x1024 .f32) (x0 : Vec Ideal S2048x1408 .bf16) (x1 : Vec Ideal S2048x1024 .bf16) (a : Fin 1408) (b : Fin 1024) :
    k0_pay2 x x0 x1 (ix2 a b) = x (ix2 a b) + ∑ k : Fin 2048, x0 (ix2 k a) * x1 (ix2 k b) := by
  pointwise [k0_pay2]

theorem step3 (x : Vec Ideal S1408x1024 .f32) (x0 : Vec Ideal S2048x1408 .bf16) (x1 : Vec Ideal S2048x1024 .bf16) (a : Fin 1408) (b : Fin 1024) :
    k0_pay3 x x0 x1 (ix2 a b) = x (ix2 a b) + ∑ k : Fin 2048, x0 (ix2 k a) * x1 (ix2 k b) := by
  pointwise [k0_pay3]

theorem start (a : Fin 1408) (b : Fin 1024) : k0_pay1 (F := Ideal) (ix2 a b) = 0 := by
  pointwise [k0_pay1]

/-- The product of a point's blocks, the first half of the points reading the gate's gradient, the others the up one. -/
theorem term0 (t : Fin cfg0.N) (h : t.val < 8) (a : Fin 1408) (b : Fin 1024) (x0 : Mat 2048 1408) (x1 : Mat 2048 1024) (h0 : x0 = iblk m c 0 t) (h1 : x1 = iblk m c 2 t) :
    ∑ k : Fin 2048, x0 (ix2 k a) * x1 (ix2 k b)
      = ∑ k : Fin 2048, num (X m c) (2048 * (t.val % 4) + k.val) (1408 * (t.val / 4) + a.val) * num (D m c) (2048 * (t.val % 4) + k.val) b.val := by
  subst h0 h1
  exact Finset.sum_congr rfl fun k _ => congrArg₂ (· * ·) (block0 m c t h k a) (block2 m c t k b)

theorem term1 (t : Fin cfg0.N) (h : ¬t.val < 8) (a : Fin 1408) (b : Fin 1024) (x0 : Mat 2048 1408) (x1 : Mat 2048 1024) (h0 : x0 = iblk m c 1 t) (h1 : x1 = iblk m c 2 t) :
    ∑ k : Fin 2048, x0 (ix2 k a) * x1 (ix2 k b)
      = ∑ k : Fin 2048, num (X m c) (2048 * (t.val % 4) + k.val) (1408 * (t.val / 4) + a.val) * num (D m c) (2048 * (t.val % 4) + k.val) b.val := by
  subst h0 h1
  exact Finset.sum_congr rfl fun k _ => congrArg₂ (· * ·) (block1 m c t h k a) (block2 m c t k b)

theorem first (t : Fin cfg0.N) (h : t.val % 4 = 0) (a : Fin 1408) (b : Fin 1024) :
    (outsAt0 m c t.val t.isLt).2.2 (ix2 a b) = dots (X m c) (D m c) (2048 * (t.val % 4 + 1)) (1408 * (t.val / 4) + a.val) b.val := by
  rw [Nat.mul_add, dots_add, h, Nat.mul_zero, dots_zero, ← h]
  by_cases h8 : t.val < 8
  · rw [outsAt0_A m c t h h8 (by omega) (by omega)]
    frame_out
    rw [step2, start, term0 m c t h8 a b _ _ rfl rfl, h]
  · rw [outsAt0_D m c t h h8 (by omega) (by omega)]
    frame_out
    rw [step3, start, term1 m c t h8 a b _ _ rfl rfl, h]

theorem next (t : Fin cfg0.N) (h : ¬t.val % 4 = 0) (a : Fin 1408) (b : Fin 1024)
    (hold : (outsAt0 m c (t.val - 1) (Nat.lt_of_le_of_lt (Nat.sub_le _ _) t.isLt)).2.2 (ix2 a b)
      = dots (X m c) (D m c) (2048 * (t.val % 4)) (1408 * (t.val / 4) + a.val) b.val) :
    (outsAt0 m c t.val t.isLt).2.2 (ix2 a b) = dots (X m c) (D m c) (2048 * (t.val % 4 + 1)) (1408 * (t.val / 4) + a.val) b.val := by
  rw [Nat.mul_add, dots_add, ← hold]
  by_cases h8 : t.val < 8
  · rw [← term0 m c t h8 a b _ _ rfl rfl]
    by_cases h1 : t.val % 4 = 3
    · rw [outsAt0_C m c t h h8 (by omega) h1]
      frame_out
      simp only [read_unread_whole]
      exact step2 _ _ _ a b
    · rw [outsAt0_B m c t h h8 (by omega) h1]
      frame_out
      simp only [read_unread_whole]
      exact step2 _ _ _ a b
  · rw [← term1 m c t h8 a b _ _ rfl rfl]
    by_cases h1 : t.val % 4 = 3
    · rw [outsAt0_F m c t h h8 (by omega) h1]
      frame_out
      simp only [read_unread_whole]
      exact step3 _ _ _ a b
    · rw [outsAt0_E m c t h h8 (by omega) h1]
      frame_out
      simp only [read_unread_whole]
      exact step3 _ _ _ a b

/-- After each point the accumulator holds the product over the rows so far. -/
theorem sums (a : Fin 1408) (b : Fin 1024) : ∀ (n : ℕ) (h : n < cfg0.N),
    (outsAt0 m c n h).2.2 (ix2 a b) = dots (X m c) (D m c) (2048 * (n % 4 + 1)) (1408 * (n / 4) + a.val) b.val
  | 0, h => first m c ⟨0, h⟩ rfl a b
  | n + 1, h => by
    by_cases h0 : (n + 1) % 4 = 0
    · exact first m c ⟨n + 1, h⟩ h0 a b
    · refine next m c ⟨n + 1, h⟩ h0 a b ((sums a b n _).trans ?_)
      rw [show (n + 1) % 4 = n % 4 + 1 by omega, show (n + 1) / 4 = n / 4 by omega]

/-- What the last point of a run has added up. -/
theorem total0 (t : Fin cfg0.N) (h8 : t.val < 8) (h1 : t.val % 4 = 3) (a : Fin 1408) (b : Fin 1024) :
    k0_pay2 (outsAt0 m c (t.val - 1) (Nat.lt_of_le_of_lt (Nat.sub_le _ _) t.isLt)).2.2 (iblk m c 0 t) (iblk m c 2 t) (ix2 a b)
      = dots (X m c) (D m c) 8192 (1408 * (t.val / 4) + a.val) b.val := by
  have h := sums m c a b t.val t.isLt
  rw [h1] at h
  refine Eq.trans ?_ h
  rw [outsAt0_C m c t (by omega) h8 (by omega) h1]
  frame_out
  simp only [read_unread_whole]

/-- What the last point of a run has added up. -/
theorem total1 (t : Fin cfg0.N) (h8 : ¬t.val < 8) (h1 : t.val % 4 = 3) (a : Fin 1408) (b : Fin 1024) :
    k0_pay3 (outsAt0 m c (t.val - 1) (Nat.lt_of_le_of_lt (Nat.sub_le _ _) t.isLt)).2.2 (iblk m c 1 t) (iblk m c 2 t) (ix2 a b)
      = dots (X m c) (D m c) 8192 (1408 * (t.val / 4) + a.val) b.val := by
  have h := sums m c a b t.val t.isLt
  rw [h1] at h
  refine Eq.trans ?_ h
  rw [outsAt0_F m c t (by omega) h8 (by omega) h1]
  frame_out
  simp only [read_unread_whole]

theorem even (t : Fin cfg0.N) (h1 : t.val % 4 = 3) (b : Fin 704) (d : Fin 1024) :
    (outsAt0 m c t.val t.isLt).1 (ix3 0 b d) = dots (X m c) (D m c) 8192 ((2 * (t.val / 4) + 0) * 704 + b.val) d.val := by
  have hb := b.isLt
  by_cases h8 : t.val < 8
  · rw [outsAt0_C m c t (by omega) h8 (by omega) h1]
    frame_out
    simp only [read_unread_whole]
    pointwise [k0_pay4]
    rw [rows_of _ _ _ _ _ _ (by omega), total0 m c t h8 h1]
    congr 1; dsimp only; omega
  · rw [outsAt0_F m c t (by omega) h8 (by omega) h1]
    frame_out
    simp only [read_unread_whole]
    pointwise [k0_pay4]
    rw [rows_of _ _ _ _ _ _ (by omega), total1 m c t h8 h1]
    congr 1; dsimp only; omega

theorem odd (t : Fin cfg0.N) (h1 : t.val % 4 = 3) (b : Fin 704) (d : Fin 1024) :
    (outsAt0 m c t.val t.isLt).2.1 (ix3 0 b d) = dots (X m c) (D m c) 8192 ((2 * (t.val / 4) + 1) * 704 + b.val) d.val := by
  have hb := b.isLt
  by_cases h8 : t.val < 8
  · rw [outsAt0_C m c t (by omega) h8 (by omega) h1]
    frame_out
    simp only [read_unread_whole]
    pointwise [k0_pay5]
    rw [rows_of _ _ _ _ _ _ (by omega), total0 m c t h8 h1]
    congr 1; dsimp only; omega
  · rw [outsAt0_F m c t (by omega) h8 (by omega) h1]
    frame_out
    simp only [read_unread_whole]
    pointwise [k0_pay5]
    rw [rows_of _ _ _ _ _ _ (by omega), total1 m c t h8 h1]
    congr 1; dsimp only; omega

theorem array3 : (dats m 0 c).arrAt 3 cfg0.N = shards 704 0 (X m c) (D m c) := by
  refine (dats m 0 c).arrAt_eq_of_covers 3 _ (by decide +kernel) fun t hf y => ?_
  obtain ⟨b, d, rfl⟩ : ∃ (b : Fin 704) (d : Fin 1024), y = ix3 0 b d := ⟨y 1, y 2, by rw [← Fin.fin_one_eq_zero (y 0)]; exact (ix3_eta y).symm⟩
  blk_simp
  rw [after0_3, even m c t ((flush0_3 t).mp hf)]
  unfold shards
  blk_simp [at3]
  congr 1 <;> simp <;> omega

theorem array4 : (dats m 0 c).arrAt 4 cfg0.N = shards 704 1 (X m c) (D m c) := by
  refine (dats m 0 c).arrAt_eq_of_covers 4 _ (by decide +kernel) fun t hf y => ?_
  obtain ⟨b, d, rfl⟩ : ∃ (b : Fin 704) (d : Fin 1024), y = ix3 0 b d := ⟨y 1, y 2, by rw [← Fin.fin_one_eq_zero (y 0)]; exact (ix3_eta y).symm⟩
  blk_simp
  rw [after0_4, odd m c t ((flush0_4 t).mp hf)]
  unfold shards
  blk_simp [at4]
  congr 1 <;> simp <;> omega

open Cert.WgradGuRefIdeal.Read in
theorem cat (x y : Mat 8192 2816) (i : (⟨2, ![8192, 5632]⟩ : Shape).Idx) :
    val_main_v0 (F := Ideal) x y i = num (side 5632 x y) (i 0).val (i 1).val := by
  have h1 : (i 1).val < 5632 := (i 1).isLt
  obtain ⟨a, b, rfl⟩ : ∃ (a : Fin 8192) (b : Fin 5632), i = ix2 a b := ⟨i 0, i 1, (ix2_eta i).symm⟩
  rw [num_side _ _ (by exact a.isLt) h1]
  pointwise [val_main_v0]
  by_cases h : b.val < 2816
  · rw [dif_pos h, if_pos h]
    exact num_of x a.isLt h
  · rw [dif_neg h, if_neg h]
    exact num_of y a.isLt _

open Cert.WgradGuRefIdeal.Read in
theorem gradient (x y : Mat 8192 2816) (w : Mat 8192 1024) (i : (⟨2, ![5632, 1024]⟩ : Shape).Idx) :
    val_main_v7 (F := Ideal) x y w i = dots (side 5632 x y) w 8192 (i 0).val (i 1).val := by
  rw [val_main_v7_apply, val_main_v6_apply, val_main_v5_apply, dots, ← Fin.sum_univ_eq_sum_range fun s => num (side 5632 x y) s (i 0).val * num w s (i 1).val]
  refine Finset.sum_congr rfl fun k _ => ?_
  rw [← num_of w k.isLt (i 1).isLt]
  exact congrArg₂ (· * ·) (cat x y _) (congrArg w (idx2_ext rfl rfl))

open Cert.WgradGuRefIdeal.Read in
theorem value11 (x y : Mat 8192 2816) (w : Mat 8192 1024) : val_main_v11 (F := Ideal) x y w = shards 704 0 (side 5632 x y) w := by
  funext i
  have h0 : (i 0).val < 4 := (i 0).isLt
  have h1 : (i 1).val < 704 := (i 1).isLt
  have h2 : (i 2).val < 1024 := (i 2).isLt
  rw [val_main_v11_apply, val_main_v10_apply, val_main_v9_apply, val_main_v8_apply]
  refine (gradient x y w _).trans ?_
  unfold shards
  congr 1 <;> dsimp only <;> omega

open Cert.WgradGuRefIdeal.Read in
theorem value13 (x y : Mat 8192 2816) (w : Mat 8192 1024) : val_main_v13 (F := Ideal) x y w = shards 704 1 (side 5632 x y) w := by
  funext i
  have h0 : (i 0).val < 4 := (i 0).isLt
  have h1 : (i 1).val < 704 := (i 1).isLt
  have h2 : (i 2).val < 1024 := (i 2).isLt
  rw [val_main_v13_apply, val_main_v12_apply, val_main_v9_apply, val_main_v8_apply]
  refine (gradient x y w _).trans ?_
  unfold shards
  congr 1 <;> dsimp only <;> omega

end Cert.WgradGuIdeal.Product

end
-- ==== Proof.WgradOut.lean ====
/- The gradient of the mixers' output weights: the accumulator adds up the products of the token blocks, and the last
   point of a run stores its rows as shards. -/
module

public import proofs.«01_k».proof.Proof.Dense
public import proofs.«01_k».proof.Proof.Gen.WgradOutIdeal.Value
public import proofs.«01_k».proof.Proof.Gen.WgradOutRefIdeal.Read
public import Idealize.ShloMosaic.Lib.Pipeline.ValueKit
public import Idealize.ShloMosaic.Lib.Pipeline.ReadBack

@[expose] public section

noncomputable section

namespace Cert.WgradOutIdeal.Product

open Cert.WgradOutIdeal Cert.WgradOutIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, win0_0.index t = ![t.val % 4, 0] := by decide +kernel
theorem at1 : ∀ t : Fin cfg0.N, win0_1.index t = ![t.val % 4, 0] := by decide +kernel
theorem at2 : ∀ t : Fin cfg0.N, win0_2.index t = ![0, 0, 0] := by decide +kernel
theorem at3 : ∀ t : Fin cfg0.N, win0_3.index t = ![0, 0, 0] := by decide +kernel

theorem block0 (t : Fin cfg0.N) (a : Fin 2048) (b : Fin 1024) :
    iblk m c 0 t (ix2 a b) = num (n := 8192) (m := 1024) (m ((c : Thread nD τ).loc main_arg0)) (2048 * (t.val % 4) + a.val) (b.val) := by
  have hN : t.val < 4 := lt_of_lt_of_eq t.isLt (show cfg0.N = 4 from N_0)
  have ha := a.isLt
  have hb := b.isLt
  rw [← num_of (n := 8192) (m := 1024) _ (by omega) (by omega)]
  blk_simp [iblk]
  rw [V_main_arg0]
  refine congrArg _ (idx2_ext ?_ ?_)
  · blk_simp [at0]; show _ = 2048 * (t.val % 4) + a.val; simp; omega
  · blk_simp [at0]

theorem block1 (t : Fin cfg0.N) (a : Fin 2048) (b : Fin 1024) :
    iblk m c 1 t (ix2 a b) = num (n := 8192) (m := 1024) (m ((c : Thread nD τ).loc main_arg1)) (2048 * (t.val % 4) + a.val) b.val := by
  have ha := a.isLt
  have hb := b.isLt
  rw [← num_of (n := 8192) (m := 1024) _ (by omega) (by omega)]
  blk_simp [iblk]
  rw [V_main_arg1]
  refine congrArg _ (idx2_ext ?_ ?_)
  · blk_simp [at1]; show _ = 2048 * (t.val % 4) + a.val; simp; omega
  · blk_simp [at1]

theorem step (x : Vec Ideal S1024x1024 .f32) (x0 : Vec Ideal S2048x1024 .bf16) (x1 : Vec Ideal S2048x1024 .bf16) (a : Fin 1024) (b : Fin 1024) :
    k0_pay2 x x0 x1 (ix2 a b) = x (ix2 a b) + ∑ k : Fin 2048, x0 (ix2 k a) * x1 (ix2 k b) := by
  pointwise [k0_pay2]

theorem start (a : Fin 1024) (b : Fin 1024) : k0_pay1 (F := Ideal) (ix2 a b) = 0 := by
  pointwise [k0_pay1]

/-- The two arguments. -/
abbrev X : Mat 8192 1024 := m ((c : Thread nD τ).loc main_arg0)
abbrev D : Mat 8192 1024 := m ((c : Thread nD τ).loc main_arg1)

/-- The product of a point's blocks. -/
theorem term (t : Fin cfg0.N) (a : Fin 1024) (b : Fin 1024) (x0 : Mat 2048 1024) (x1 : Mat 2048 1024) (h0 : x0 = iblk m c 0 t) (h1 : x1 = iblk m c 1 t) :
    ∑ k : Fin 2048, x0 (ix2 k a) * x1 (ix2 k b)
      = ∑ k : Fin 2048, num (X m c) (2048 * (t.val % 4) + k.val) (a.val) * num (D m c) (2048 * (t.val % 4) + k.val) b.val := by
  subst h0 h1
  exact Finset.sum_congr rfl fun k _ => congrArg₂ (· * ·) (block0 m c t k a) (block1 m c t k b)

theorem first (t : Fin cfg0.N) (h : t.val % 4 = 0) (a : Fin 1024) (b : Fin 1024) :
    (outsAt0 m c t.val t.isLt).2.2 (ix2 a b) = dots (X m c) (D m c) (2048 * (t.val % 4 + 1)) (a.val) b.val := by
  rw [outsAt0_A m c t h (by omega)]
  frame_out
  rw [step, start, zero_add, term m c t a b _ _ rfl rfl, Nat.mul_add, dots_add, h, Nat.mul_zero, dots_zero, zero_add]

theorem next (t : Fin cfg0.N) (h : ¬t.val % 4 = 0) (a : Fin 1024) (b : Fin 1024)
    (hold : (outsAt0 m c (t.val - 1) (Nat.lt_of_le_of_lt (Nat.sub_le _ _) t.isLt)).2.2 (ix2 a b)
      = dots (X m c) (D m c) (2048 * (t.val % 4)) (a.val) b.val) :
    (outsAt0 m c t.val t.isLt).2.2 (ix2 a b) = dots (X m c) (D m c) (2048 * (t.val % 4 + 1)) (a.val) b.val := by
  rw [Nat.mul_add, dots_add, ← hold, ← term m c t a b _ _ rfl rfl]
  by_cases h1 : t.val % 4 = 3
  · rw [outsAt0_C m c t h h1]
    frame_out
    simp only [read_unread_whole]
    exact step _ _ _ a b
  · rw [outsAt0_B m c t h h1]
    frame_out
    simp only [read_unread_whole]
    exact step _ _ _ a b

/-- After each point the accumulator holds the product over the rows so far. -/
theorem sums (a : Fin 1024) (b : Fin 1024) : ∀ (n : ℕ) (h : n < cfg0.N),
    (outsAt0 m c n h).2.2 (ix2 a b) = dots (X m c) (D m c) (2048 * (n % 4 + 1)) (a.val) b.val
  | 0, h => first m c ⟨0, h⟩ rfl a b
  | n + 1, h => by
    by_cases h0 : (n + 1) % 4 = 0
    · exact first m c ⟨n + 1, h⟩ h0 a b
    · refine next m c ⟨n + 1, h⟩ h0 a b ((sums a b n _).trans ?_)
      rw [show (n + 1) % 4 = n % 4 + 1 by omega]

/-- What the last point of a run has added up. -/
theorem total (t : Fin cfg0.N) (h1 : t.val % 4 = 3) (a : Fin 1024) (b : Fin 1024) :
    k0_pay2 (outsAt0 m c (t.val - 1) (Nat.lt_of_le_of_lt (Nat.sub_le _ _) t.isLt)).2.2 (iblk m c 0 t) (iblk m c 1 t) (ix2 a b)
      = dots (X m c) (D m c) 8192 (a.val) b.val := by
  have h := sums m c a b t.val t.isLt
  rw [h1] at h
  refine Eq.trans ?_ h
  rw [outsAt0_C m c t (by omega) h1]
  frame_out
  simp only [read_unread_whole]

theorem even (t : Fin cfg0.N) (h1 : t.val % 4 = 3) (a : Fin 4) (b : Fin 128) (d : Fin 1024) :
    (outsAt0 m c t.val t.isLt).1 (ix3 a b d) = dots (X m c) (D m c) 8192 ((2 * a.val + 0) * 128 + b.val) d.val := by
  rw [outsAt0_C m c t (by omega) h1]
  frame_out
  simp only [read_unread_whole]
  have hb := b.isLt
  rcases (show a.val = 0 ∨ a.val = 1 ∨ a.val = 2 ∨ a.val = 3 by omega) with ha | ha | ha | ha
  · rw [slab_out _ _ _ _ _ _ (by omega), slab_out _ _ _ _ _ _ (by omega), slab_out _ _ _ _ _ _ (by omega), slab_in _ _ _ _ _ _ ha]
    pointwise [k0_pay7]
    rw [rows_of _ _ _ _ _ _ (by omega), total m c t h1]
    congr 1; dsimp only; omega
  · rw [slab_out _ _ _ _ _ _ (by omega), slab_out _ _ _ _ _ _ (by omega), slab_in _ _ _ _ _ _ ha]
    pointwise [k0_pay9]
    rw [rows_of _ _ _ _ _ _ (by omega), total m c t h1]
    congr 1; dsimp only; omega
  · rw [slab_out _ _ _ _ _ _ (by omega), slab_in _ _ _ _ _ _ ha]
    pointwise [k0_pay3, k0_pay11]
    rw [rows_of _ _ _ _ _ _ (by omega), total m c t h1]
    congr 1; dsimp only; omega
  · rw [slab_in _ _ _ _ _ _ ha]
    pointwise [k0_pay5]
    rw [rows_of _ _ _ _ _ _ (by omega), total m c t h1]
    congr 1; dsimp only; omega

theorem odd (t : Fin cfg0.N) (h1 : t.val % 4 = 3) (a : Fin 4) (b : Fin 128) (d : Fin 1024) :
    (outsAt0 m c t.val t.isLt).2.1 (ix3 a b d) = dots (X m c) (D m c) 8192 ((2 * a.val + 1) * 128 + b.val) d.val := by
  rw [outsAt0_C m c t (by omega) h1]
  frame_out
  simp only [read_unread_whole]
  have hb := b.isLt
  rcases (show a.val = 0 ∨ a.val = 1 ∨ a.val = 2 ∨ a.val = 3 by omega) with ha | ha | ha | ha
  · rw [slab_out _ _ _ _ _ _ (by omega), slab_out _ _ _ _ _ _ (by omega), slab_out _ _ _ _ _ _ (by omega), slab_in _ _ _ _ _ _ ha]
    pointwise [k0_pay8]
    rw [rows_of _ _ _ _ _ _ (by omega), total m c t h1]
    congr 1; dsimp only; omega
  · rw [slab_out _ _ _ _ _ _ (by omega), slab_out _ _ _ _ _ _ (by omega), slab_in _ _ _ _ _ _ ha]
    pointwise [k0_pay10]
    rw [rows_of _ _ _ _ _ _ (by omega), total m c t h1]
    congr 1; dsimp only; omega
  · rw [slab_out _ _ _ _ _ _ (by omega), slab_in _ _ _ _ _ _ ha]
    pointwise [k0_pay4]
    rw [rows_of _ _ _ _ _ _ (by omega), total m c t h1]
    congr 1; dsimp only; omega
  · rw [slab_in _ _ _ _ _ _ ha]
    pointwise [k0_pay6]
    rw [rows_of _ _ _ _ _ _ (by omega), total m c t h1]
    congr 1; dsimp only; omega

theorem array2 : (dats m 0 c).arrAt 2 cfg0.N = shards 128 0 (X m c) (D m c) := by
  refine (dats m 0 c).arrAt_eq_of_covers 2 _ (by decide +kernel) fun t hf y => ?_
  obtain ⟨a, b, d, rfl⟩ : ∃ (a : Fin 4) (b : Fin 128) (d : Fin 1024), y = ix3 a b d := ⟨y 0, y 1, y 2, (ix3_eta y).symm⟩
  blk_simp
  rw [after0_2, even m c t ((flush0_2 t).mp hf)]
  unfold shards
  blk_simp [at2]

theorem array3 : (dats m 0 c).arrAt 3 cfg0.N = shards 128 1 (X m c) (D m c) := by
  refine (dats m 0 c).arrAt_eq_of_covers 3 _ (by decide +kernel) fun t hf y => ?_
  obtain ⟨a, b, d, rfl⟩ : ∃ (a : Fin 4) (b : Fin 128) (d : Fin 1024), y = ix3 a b d := ⟨y 0, y 1, y 2, (ix3_eta y).symm⟩
  blk_simp
  rw [after0_3, odd m c t ((flush0_3 t).mp hf)]
  unfold shards
  blk_simp [at3]

open Cert.WgradOutRefIdeal.Read in
theorem gradient (x : Mat 8192 1024) (w : Mat 8192 1024) (i : (⟨2, ![1024, 1024]⟩ : Shape).Idx) :
    val_main_v5 (F := Ideal) x w i = dots x w 8192 (i 0).val (i 1).val := by
  rw [val_main_v5_apply, val_main_v4_apply, dots, ← Fin.sum_univ_eq_sum_range fun s => num x s (i 0).val * num w s (i 1).val]
  refine Finset.sum_congr rfl fun k _ => ?_
  rw [mul_comm, ← num_of x k.isLt (i 0).isLt, ← num_of w k.isLt (i 1).isLt]
  exact congrArg₂ (· * ·) (congrArg x (idx2_ext rfl rfl)) (congrArg w (idx2_ext rfl rfl))

open Cert.WgradOutRefIdeal.Read in
theorem value9 (x : Mat 8192 1024) (w : Mat 8192 1024) : val_main_v9 (F := Ideal) x w = shards 128 0 x w := by
  funext i
  have h0 : (i 0).val < 4 := (i 0).isLt
  have h1 : (i 1).val < 128 := (i 1).isLt
  have h2 : (i 2).val < 1024 := (i 2).isLt
  rw [val_main_v9_apply, val_main_v8_apply, val_main_v7_apply, val_main_v6_apply]
  refine (gradient x w _).trans ?_
  unfold shards
  congr 1 <;> dsimp only <;> omega

open Cert.WgradOutRefIdeal.Read in
theorem value11 (x : Mat 8192 1024) (w : Mat 8192 1024) : val_main_v11 (F := Ideal) x w = shards 128 1 x w := by
  funext i
  have h0 : (i 0).val < 4 := (i 0).isLt
  have h1 : (i 1).val < 128 := (i 1).isLt
  have h2 : (i 2).val < 1024 := (i 2).isLt
  rw [val_main_v11_apply, val_main_v10_apply, val_main_v7_apply, val_main_v6_apply]
  refine (gradient x w _).trans ?_
  unfold shards
  congr 1 <;> dsimp only <;> omega

end Cert.WgradOutIdeal.Product

end
-- ==== Proof.WgradIn.lean ====
/- The gradient of the mixers' input weights: the accumulator adds up the products of the token blocks, and the last
   point of a run stores them. -/
module

public import proofs.«01_k».proof.Proof.Dense
public import proofs.«01_k».proof.Proof.Gen.WgradInIdeal.Value
public import proofs.«01_k».proof.Proof.Gen.WgradInRefIdeal.Read
public import Idealize.ShloMosaic.Lib.Pipeline.ValueKit
public import Idealize.ShloMosaic.Lib.Pipeline.ReadBack

@[expose] public section

noncomputable section

namespace Cert.WgradInIdeal.Product

open Cert.WgradInIdeal Cert.WgradInIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, t.val < 8 → win0_0.index t = ![t.val % 4, t.val / 4] := by decide +kernel
theorem at1 : ∀ t : Fin cfg0.N, 8 ≤ t.val ∧ t.val < 12 → win0_1.index t = ![t.val % 4, 0] := by decide +kernel
theorem at2 : ∀ t : Fin cfg0.N, 12 ≤ t.val ∧ t.val < 16 → win0_2.index t = ![t.val % 4, 0] := by decide +kernel
theorem at3 : ∀ t : Fin cfg0.N, 16 ≤ t.val → win0_3.index t = ![t.val % 4, 0] := by decide +kernel
theorem at4 : ∀ t : Fin cfg0.N, win0_4.index t = ![t.val % 4, 0] := by decide +kernel
theorem at5 : ∀ t : Fin cfg0.N, win0_5.index t = ![t.val / 4, 0] := by decide +kernel

/-- Four matrices side by side. -/
abbrev four (x0 : Mat 8192 1024) (x1 x2 x3 : Mat 8192 512) : Mat 8192 2560 := side 2560 x0 (side 1536 x1 (side 1024 x2 x3))

theorem num_four (x0 : Mat 8192 1024) (x1 x2 x3 : Mat 8192 512) {i j : ℕ} (hi : i < 8192) (hj : j < 2560) :
    num (four x0 x1 x2 x3) i j = if j < 1024 then num x0 i j else if j - 1024 < 512 then num x1 i (j - 1024)
      else if j - 1024 - 512 < 512 then num x2 i (j - 1024 - 512) else num x3 i (j - 1024 - 512 - 512) := by
  rw [num_side _ _ hi hj]
  refine if_congr Iff.rfl rfl ?_
  by_cases h : j - 1024 < 1536
  · rw [num_side _ _ hi h]
    refine if_congr Iff.rfl rfl ?_
    by_cases h' : j - 1024 - 512 < 1024
    · rw [num_side _ _ hi h']
    · omega
  · omega

/-- The gradients of the mixers' inputs, side by side, and the tokens. -/
abbrev X : Mat 8192 2560 := four (m ((c : Thread nD τ).loc main_arg0)) (m ((c : Thread nD τ).loc main_arg1)) (m ((c : Thread nD τ).loc main_arg2)) (m ((c : Thread nD τ).loc main_arg3))
abbrev D : Mat 8192 1024 := m ((c : Thread nD τ).loc main_arg4)

theorem points (t : Fin cfg0.N) : t.val < 20 := lt_of_lt_of_eq t.isLt (show cfg0.N = 20 from N_0)

theorem block0 (t : Fin cfg0.N) (h : t.val < 8) (a : Fin 2048) (b : Fin 512) :
    iblk m c 0 t (ix2 a b) = num (X m c) (2048 * (t.val % 4) + a.val) (512 * (t.val / 4) + b.val) := by
  have hN := points t
  have ha := a.isLt
  have hb := b.isLt
  rw [num_four _ _ _ _ (by omega) (by omega), if_pos (by omega), ← num_of (n := 8192) (m := 1024) _ (by omega) (by omega)]
  blk_simp [iblk]
  rw [V_main_arg0]
  refine congrArg _ (idx2_ext ?_ ?_)
  · blk_simp [at0 t h]; show _ = 2048 * (t.val % 4) + a.val; first | omega | (simp; omega)
  · blk_simp [at0 t h]; show _ = 512 * (t.val / 4) + b.val; first | omega | (simp; omega)

theorem block1 (t : Fin cfg0.N) (h : 8 ≤ t.val ∧ t.val < 12) (a : Fin 2048) (b : Fin 512) :
    iblk m c 1 t (ix2 a b) = num (X m c) (2048 * (t.val % 4) + a.val) (512 * (t.val / 4) + b.val) := by
  have hN := points t
  have ha := a.isLt
  have hb := b.isLt
  rw [num_four _ _ _ _ (by omega) (by omega), if_neg (by omega), if_pos (by omega), ← num_of (n := 8192) (m := 512) _ (by omega) (by omega)]
  blk_simp [iblk]
  rw [V_main_arg1]
  refine congrArg _ (idx2_ext ?_ ?_)
  · blk_simp [at1 t h]; show _ = 2048 * (t.val % 4) + a.val; first | omega | (simp; omega)
  · blk_simp [at1 t h]; show _ = 512 * (t.val / 4) + b.val - 1024; first | omega | (simp; omega)

theorem block2 (t : Fin cfg0.N) (h : 12 ≤ t.val ∧ t.val < 16) (a : Fin 2048) (b : Fin 512) :
    iblk m c 2 t (ix2 a b) = num (X m c) (2048 * (t.val % 4) + a.val) (512 * (t.val / 4) + b.val) := by
  have hN := points t
  have ha := a.isLt
  have hb := b.isLt
  rw [num_four _ _ _ _ (by omega) (by omega), if_neg (by omega), if_neg (by omega), if_pos (by omega), ← num_of (n := 8192) (m := 512) _ (by omega) (by omega)]
  blk_simp [iblk]
  rw [V_main_arg2]
  refine congrArg _ (idx2_ext ?_ ?_)
  · blk_simp [at2 t h]; show _ = 2048 * (t.val % 4) + a.val; first | omega | (simp; omega)
  · blk_simp [at2 t h]; show _ = 512 * (t.val / 4) + b.val - 1024 - 512; first | omega | (simp; omega)

theorem block3 (t : Fin cfg0.N) (h : 16 ≤ t.val) (a : Fin 2048) (b : Fin 512) :
    iblk m c 3 t (ix2 a b) = num (X m c) (2048 * (t.val % 4) + a.val) (512 * (t.val / 4) + b.val) := by
  have hN := points t
  have ha := a.isLt
  have hb := b.isLt
  rw [num_four _ _ _ _ (by omega) (by omega), if_neg (by omega), if_neg (by omega), if_neg (by omega), ← num_of (n := 8192) (m := 512) _ (by omega) (by omega)]
  blk_simp [iblk]
  rw [V_main_arg3]
  refine congrArg _ (idx2_ext ?_ ?_)
  · blk_simp [at3 t h]; show _ = 2048 * (t.val % 4) + a.val; first | omega | (simp; omega)
  · blk_simp [at3 t h]; show _ = 512 * (t.val / 4) + b.val - 1024 - 512 - 512; first | omega | (simp; omega)

theorem block4 (t : Fin cfg0.N) (a : Fin 2048) (b : Fin 1024) :
    iblk m c 4 t (ix2 a b) = num (D m c) (2048 * (t.val % 4) + a.val) b.val := by
  have ha := a.isLt
  have hb := b.isLt
  rw [← num_of (n := 8192) (m := 1024) _ (by omega) (by omega)]
  blk_simp [iblk]
  rw [V_main_arg4]
  refine congrArg _ (idx2_ext ?_ ?_)
  · blk_simp [at4]; show _ = 2048 * (t.val % 4) + a.val; first | omega | (simp; omega)
  · blk_simp [at4]

theorem step0 (x : Vec Ideal S512x1024 .f32) (x0 : Vec Ideal S2048x512 .bf16) (x1 : Vec Ideal S2048x1024 .bf16) (a : Fin 512) (b : Fin 1024) :
    k0_pay2 x x0 x1 (ix2 a b) = x (ix2 a b) + ∑ k : Fin 2048, x0 (ix2 k a) * x1 (ix2 k b) := by
  pointwise [k0_pay2]

theorem step1 (x : Vec Ideal S512x1024 .f32) (x0 : Vec Ideal S2048x512 .bf16) (x1 : Vec Ideal S2048x1024 .bf16) (a : Fin 512) (b : Fin 1024) :
    k0_pay3 x x0 x1 (ix2 a b) = x (ix2 a b) + ∑ k : Fin 2048, x0 (ix2 k a) * x1 (ix2 k b) := by
  pointwise [k0_pay3]

theorem step2 (x : Vec Ideal S512x1024 .f32) (x0 : Vec Ideal S2048x512 .bf16) (x1 : Vec Ideal S2048x1024 .bf16) (a : Fin 512) (b : Fin 1024) :
    k0_pay4 x x0 x1 (ix2 a b) = x (ix2 a b) + ∑ k : Fin 2048, x0 (ix2 k a) * x1 (ix2 k b) := by
  pointwise [k0_pay4]

theorem step3 (x : Vec Ideal S512x1024 .f32) (x0 : Vec Ideal S2048x512 .bf16) (x1 : Vec Ideal S2048x1024 .bf16) (a : Fin 512) (b : Fin 1024) :
    k0_pay5 x x0 x1 (ix2 a b) = x (ix2 a b) + ∑ k : Fin 2048, x0 (ix2 k a) * x1 (ix2 k b) := by
  pointwise [k0_pay5]

theorem start (a : Fin 512) (b : Fin 1024) : k0_pay1 (F := Ideal) (ix2 a b) = 0 := by
  pointwise [k0_pay1]

/-- The product of a point's blocks. -/
theorem term (t : Fin cfg0.N) (a : Fin 512) (b : Fin 1024) (x0 : Mat 2048 512) (x1 : Mat 2048 1024)
    (h0 : ∀ k a, x0 (ix2 k a) = num (X m c) (2048 * (t.val % 4) + k.val) (512 * (t.val / 4) + a.val)) (h1 : x1 = iblk m c 4 t) :
    ∑ k : Fin 2048, x0 (ix2 k a) * x1 (ix2 k b)
      = ∑ k : Fin 2048, num (X m c) (2048 * (t.val % 4) + k.val) (512 * (t.val / 4) + a.val) * num (D m c) (2048 * (t.val % 4) + k.val) b.val := by
  subst h1
  exact Finset.sum_congr rfl fun k _ => congrArg₂ (· * ·) (h0 k a) (block4 m c t k b)

theorem pieces (t : Fin cfg0.N) : t.val < 8 ∨ (8 ≤ t.val ∧ t.val < 12) ∨ (12 ≤ t.val ∧ t.val < 16) ∨ 16 ≤ t.val := by omega

theorem first (t : Fin cfg0.N) (h : t.val % 4 = 0) (a : Fin 512) (b : Fin 1024) :
    (outsAt0 m c t.val t.isLt).2 (ix2 a b) = dots (X m c) (D m c) (2048 * (t.val % 4 + 1)) (512 * (t.val / 4) + a.val) b.val := by
  have hN := points t
  rw [Nat.mul_add, dots_add, h, Nat.mul_zero, dots_zero, ← h]
  rcases pieces t with hp | hp | hp | hp
  · rw [outsAt0_A m c t h (by omega) (by omega) (by omega) (by omega) (by omega)]
    frame_out
    rw [step0, start, term m c t a b _ _ (block0 m c t hp) rfl, h]
  · rw [outsAt0_D m c t h (by omega) (by omega) (by omega) (by omega) (by omega)]
    frame_out
    rw [step1, start, term m c t a b _ _ (block1 m c t hp) rfl, h]
  · rw [outsAt0_G m c t h (by omega) (by omega) (by omega) (by omega) (by omega)]
    frame_out
    rw [step2, start, term m c t a b _ _ (block2 m c t hp) rfl, h]
  · rw [outsAt0_J m c t h (by omega) (by omega) (by omega) (by omega) (by omega)]
    frame_out
    rw [step3, start, term m c t a b _ _ (block3 m c t hp) rfl, h]

theorem next (t : Fin cfg0.N) (h : ¬t.val % 4 = 0) (a : Fin 512) (b : Fin 1024)
    (hold : (outsAt0 m c (t.val - 1) (Nat.lt_of_le_of_lt (Nat.sub_le _ _) t.isLt)).2 (ix2 a b)
      = dots (X m c) (D m c) (2048 * (t.val % 4)) (512 * (t.val / 4) + a.val) b.val) :
    (outsAt0 m c t.val t.isLt).2 (ix2 a b) = dots (X m c) (D m c) (2048 * (t.val % 4 + 1)) (512 * (t.val / 4) + a.val) b.val := by
  have hN := points t
  rw [Nat.mul_add, dots_add, ← hold]
  rcases pieces t with hp | hp | hp | hp
  · rw [← term m c t a b _ _ (block0 m c t hp) rfl]
    by_cases h1 : t.val % 4 = 3
    · rw [outsAt0_C m c t h (by omega) (by omega) (by omega) (by omega) h1]
      frame_out
      simp only [read_unread_whole]
      exact step0 _ _ _ a b
    · rw [outsAt0_B m c t h (by omega) (by omega) (by omega) (by omega) h1]
      frame_out
      simp only [read_unread_whole]
      exact step0 _ _ _ a b
  · rw [← term m c t a b _ _ (block1 m c t hp) rfl]
    by_cases h1 : t.val % 4 = 3
    · rw [outsAt0_F m c t h (by omega) (by omega) (by omega) (by omega) h1]
      frame_out
      simp only [read_unread_whole]
      exact step1 _ _ _ a b
    · rw [outsAt0_E m c t h (by omega) (by omega) (by omega) (by omega) h1]
      frame_out
      simp only [read_unread_whole]
      exact step1 _ _ _ a b
  · rw [← term m c t a b _ _ (block2 m c t hp) rfl]
    by_cases h1 : t.val % 4 = 3
    · rw [outsAt0_I m c t h (by omega) (by omega) (by omega) (by omega) h1]
      frame_out
      simp only [read_unread_whole]
      exact step2 _ _ _ a b
    · rw [outsAt0_H m c t h (by omega) (by omega) (by omega) (by omega) h1]
      frame_out
      simp only [read_unread_whole]
      exact step2 _ _ _ a b
  · rw [← term m c t a b _ _ (block3 m c t hp) rfl]
    by_cases h1 : t.val % 4 = 3
    · rw [outsAt0_L m c t h (by omega) (by omega) (by omega) (by omega) h1]
      frame_out
      simp only [read_unread_whole]
      exact step3 _ _ _ a b
    · rw [outsAt0_K m c t h (by omega) (by omega) (by omega) (by omega) h1]
      frame_out
      simp only [read_unread_whole]
      exact step3 _ _ _ a b

/-- After each point the accumulator holds the product over the rows so far. -/
theorem sums (a : Fin 512) (b : Fin 1024) : ∀ (n : ℕ) (h : n < cfg0.N),
    (outsAt0 m c n h).2 (ix2 a b) = dots (X m c) (D m c) (2048 * (n % 4 + 1)) (512 * (n / 4) + a.val) b.val
  | 0, h => first m c ⟨0, h⟩ rfl a b
  | n + 1, h => by
    by_cases h0 : (n + 1) % 4 = 0
    · exact first m c ⟨n + 1, h⟩ h0 a b
    · refine next m c ⟨n + 1, h⟩ h0 a b ((sums a b n _).trans ?_)
      rw [show (n + 1) % 4 = n % 4 + 1 by omega, show (n + 1) / 4 = n / 4 by omega]

/-- The last point of a run stores what has been added up. -/
theorem out (t : Fin cfg0.N) (h1 : t.val % 4 = 3) (a : Fin 512) (b : Fin 1024) :
    (outsAt0 m c t.val t.isLt).1 (ix2 a b) = dots (X m c) (D m c) 8192 (512 * (t.val / 4) + a.val) b.val := by
  have hN := points t
  have h := sums m c a b t.val t.isLt
  rw [h1] at h
  refine Eq.trans ?_ h
  rcases pieces t with hp | hp | hp | hp
  · rw [outsAt0_C m c t (by omega) (by omega) (by omega) (by omega) (by omega) h1]
    frame_out
    rfl
  · rw [outsAt0_F m c t (by omega) (by omega) (by omega) (by omega) (by omega) h1]
    frame_out
    rfl
  · rw [outsAt0_I m c t (by omega) (by omega) (by omega) (by omega) (by omega) h1]
    frame_out
    rfl
  · rw [outsAt0_L m c t (by omega) (by omega) (by omega) (by omega) (by omega) h1]
    frame_out
    rfl

theorem array : (dats m 0 c).arrAt 5 cfg0.N = tmm (X m c) (D m c) := by
  refine (dats m 0 c).arrAt_eq_of_covers 5 _ (by decide +kernel) fun t hf y => ?_
  obtain ⟨a, b, rfl⟩ : ∃ (a : Fin 512) (b : Fin 1024), y = ix2 a b := ⟨y 0, y 1, (ix2_eta y).symm⟩
  blk_simp
  rw [after0_5, out m c t ((flush0_5 t).mp hf)]
  refine Eq.trans ?_ (tmm_at _ _ _ _).symm
  blk_simp [at5]
  congr 1 <;> simp <;> omega

open Cert.WgradInRefIdeal.Read in
theorem cat (x0 : Mat 8192 1024) (x1 x2 x3 : Mat 8192 512) (i : (⟨2, ![8192, 2560]⟩ : Shape).Idx) :
    val_main_v0 (F := Ideal) x0 x1 x2 x3 i = num (four x0 x1 x2 x3) (i 0).val (i 1).val := by
  have h1 : (i 1).val < 2560 := (i 1).isLt
  obtain ⟨a, b, rfl⟩ : ∃ (a : Fin 8192) (b : Fin 2560), i = ix2 a b := ⟨i 0, i 1, (ix2_eta i).symm⟩
  rw [num_four _ _ _ _ (by exact a.isLt) h1]
  pointwise [val_main_v0]
  by_cases h : b.val < 1024
  · rw [dif_pos h, if_pos h]
    exact num_of x0 a.isLt h
  rw [dif_neg h, if_neg h]
  by_cases h : b.val - 1024 < 512
  · rw [dif_pos h, if_pos h]
    exact num_of x1 a.isLt h
  rw [dif_neg h, if_neg h]
  by_cases h : b.val - 1024 - 512 < 512
  · rw [dif_pos h, if_pos h]
    exact num_of x2 a.isLt h
  rw [dif_neg h, if_neg h]
  exact num_of x3 a.isLt _

open Cert.WgradInRefIdeal.Read in
theorem gradient (x0 : Mat 8192 1024) (x1 x2 x3 : Mat 8192 512) (w : Mat 8192 1024) (i : (⟨2, ![2560, 1024]⟩ : Shape).Idx) :
    val_main_v7 (F := Ideal) x0 x1 x2 x3 w i = dots (four x0 x1 x2 x3) w 8192 (i 0).val (i 1).val := by
  rw [val_main_v7_apply, val_main_v6_apply, val_main_v5_apply, dots, ← Fin.sum_univ_eq_sum_range fun s => num (four x0 x1 x2 x3) s (i 0).val * num w s (i 1).val]
  refine Finset.sum_congr rfl fun k _ => ?_
  rw [← num_of w k.isLt (i 1).isLt]
  exact congrArg₂ (· * ·) (cat x0 x1 x2 x3 _) (congrArg w (idx2_ext rfl rfl))

open Cert.WgradInRefIdeal.Read in
theorem value (x0 : Mat 8192 1024) (x1 x2 x3 : Mat 8192 512) (w : Mat 8192 1024) : val_main_v8 (F := Ideal) x0 x1 x2 x3 w = tmm (four x0 x1 x2 x3) w := by
  funext i
  refine (gradient x0 x1 x2 x3 w i).trans ?_
  obtain ⟨a, b, rfl⟩ : ∃ (a : Fin 2560) (b : Fin 1024), i = ix2 a b := ⟨i 0, i 1, (ix2_eta i).symm⟩
  exact (tmm_at _ _ a b).symm

end Cert.WgradInIdeal.Product

end
-- ==== Proof.Proj.lean ====
/- The projection into the mixers: each block of rows is the product of the rows of the input and the weights, so the
   whole array is the product. -/
module

public import proofs.«01_k».proof.Proof.Dense
public import proofs.«01_k».proof.Proof.Gen.ProjIdeal.Value
public import proofs.«01_k».proof.Proof.Gen.ProjRefIdeal.Read
public import Idealize.ShloMosaic.Lib.Pipeline.ValueKit

@[expose] public section

noncomputable section

namespace Cert.ProjIdeal.Product

open Cert.ProjIdeal Cert.ProjIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, win0_0.index t = ![t.val, 0] := by decide +kernel
theorem at1 : ∀ t : Fin cfg0.N, win0_1.index t = ![0, 0] := by decide +kernel
theorem at2 : ∀ t : Fin cfg0.N, win0_2.index t = ![t.val, 0] := by decide +kernel

theorem block0 (t : Fin cfg0.N) (a b : Fin 1024) (h : 1024 * t.val + a.val < 8192) :
    iblk m c 0 t (ix2 a b) = m ((c : Thread nD τ).loc main_arg0) (ix2 ⟨1024 * t.val + a.val, h⟩ b) := by
  blk_simp [iblk]
  rw [V_main_arg0]
  refine congrArg _ (funext fun k => Fin.ext ?_)
  match k with
  | ⟨0, _⟩ => blk_simp [at0]; show _ = 1024 * t.val + a.val; simp; omega
  | ⟨1, _⟩ => blk_simp [at0]

theorem weights (a : Fin 2560) (b : Fin 1024) : V m c main_v1 (ix2 a b) = m ((c : Thread nD τ).loc main_arg1) (ix2 b a) := by
  show StableHlo.after (List.flatten [hostOps0]) (fun b => m (c, b)) (Proc.devRef .tc main_v1) (ix2 a b) = _
  simp only [hostOps0, List.flatten_cons, List.flatten_nil, List.append_nil]
  after_results
  pointwise []

theorem block1 (t : Fin cfg0.N) (a : Fin 2560) (b : Fin 1024) :
    iblk m c 1 t (ix2 a b) = m ((c : Thread nD τ).loc main_arg1) (ix2 b a) := by
  refine Eq.trans ?_ (weights m c a b)
  blk_simp [iblk]
  refine congrArg _ (funext fun k => Fin.ext ?_)
  match k with
  | ⟨0, _⟩ => blk_simp [at1]
  | ⟨1, _⟩ => blk_simp [at1]

theorem body (x0 : Vec Ideal S1024x1024 .bf16) (x1 : Vec Ideal S2560x1024 .bf16) (a : Fin 1024) (b : Fin 2560) :
    out0_2 x0 x1 (ix2 a b) = ∑ k : Fin 1024, x0 (ix2 a k) * x1 (ix2 b k) := by
  unfold out0_2
  rw [piece_in (N := 1024) (M := 2560) _ _ _ a b (Nat.zero_le _) a.isLt (Nat.zero_le _) b.isLt]
  pointwise [k0_pay1]

theorem array : (dats m 0 c).arrAt 2 cfg0.N = mm (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 1024) (b : Fin 2560), y = ix2 a b := ⟨y 0, y 1, (ix2_eta y).symm⟩
  have hN : t.val < 8 := lt_of_lt_of_eq t.isLt (show cfg0.N = 8 from N_0)
  have ha := a.isLt
  blk_simp
  rw [after0_2, body]
  refine (sum_mm (a := ⟨1024 * t.val + a.val, by omega⟩) (b := b) fun k => ?_).trans (congrArg _ (idx2_ext ?_ ?_))
  · rw [block0 m c t a k (by omega), block1]
  · blk_simp [at2]; show 1024 * t.val + a.val = _; simp; omega
  · blk_simp [at2]

theorem value (x : Mat 8192 1024) (w : Mat 1024 2560) : Cert.ProjRefIdeal.Read.val_main_v2 (F := Ideal) x w = mm x w := by
  funext i
  rw [Cert.ProjRefIdeal.Read.val_main_v2_apply, Cert.ProjRefIdeal.Read.val_main_v1_apply]
  exact Finset.sum_congr rfl fun k _ => congrArg₂ (· * ·) (congrArg x (idx2_ext rfl rfl)) (congrArg w (idx2_ext rfl rfl))

end Cert.ProjIdeal.Product

end
-- ==== Proof.DgradOut.lean ====
/- The gradient at the mixers' outputs: each block of rows is the product of the rows of the gradient and the transposed weights, so the
   whole array is the product. -/
module

public import proofs.«01_k».proof.Proof.Dense
public import proofs.«01_k».proof.Proof.Gen.DgradOutIdeal.Value
public import proofs.«01_k».proof.Proof.Gen.DgradOutRefIdeal.Read
public import Idealize.ShloMosaic.Lib.Pipeline.ValueKit

@[expose] public section

noncomputable section

namespace Cert.DgradOutIdeal.Product

open Cert.DgradOutIdeal Cert.DgradOutIdeal.Gen Idealize.ShloMosaic Idealize.ShloMosaic.TcCoe Idealize.ShloMosaic.Tactic Mix
open Cert.KernelIdeal.Stages (piece_in ld_at)

variable (m : (ℓ : Loc nD τ sig) → Buf (Elt Ideal) ℓ) (c : Dev nD)

theorem at0 : ∀ t : Fin cfg0.N, win0_0.index t = ![t.val, 0] := by decide +kernel
theorem at1 : ∀ t : Fin cfg0.N, win0_1.index t = ![0, 0] := by decide +kernel
theorem at2 : ∀ t : Fin cfg0.N, win0_2.index t = ![t.val, 0] := by decide +kernel

theorem block0 (t : Fin cfg0.N) (a b : Fin 1024) (h : 1024 * t.val + a.val < 8192) :
    iblk m c 0 t (ix2 a b) = m ((c : Thread nD τ).loc main_arg0) (ix2 ⟨1024 * t.val + a.val, h⟩ b) := by
  blk_simp [iblk]
  rw [V_main_arg0]
  refine congrArg _ (funext fun k => Fin.ext ?_)
  match k with
  | ⟨0, _⟩ => blk_simp [at0]; show _ = 1024 * t.val + a.val; simp; omega
  | ⟨1, _⟩ => blk_simp [at0]

theorem weights (a : Fin 1024) (b : Fin 1024) : V m c main_v0 (ix2 a b) = m ((c : Thread nD τ).loc main_arg1) (ix2 a b) := by
  show StableHlo.after (List.flatten [hostOps0]) (fun b => m (c, b)) (Proc.devRef .tc main_v0) (ix2 a b) = _
  simp only [hostOps0, List.flatten_cons, List.flatten_nil, List.append_nil]
  after_results
  pointwise []

theorem block1 (t : Fin cfg0.N) (a : Fin 1024) (b : Fin 1024) :
    iblk m c 1 t (ix2 a b) = m ((c : Thread nD τ).loc main_arg1) (ix2 a b) := by
  refine Eq.trans ?_ (weights m c a b)
  blk_simp [iblk]
  refine congrArg _ (funext fun k => Fin.ext ?_)
  match k with
  | ⟨0, _⟩ => blk_simp [at1]
  | ⟨1, _⟩ => blk_simp [at1]

theorem body (x0 : Vec Ideal S1024x1024 .bf16) (x1 : Vec Ideal S1024x1024 .bf16) (a : Fin 1024) (b : Fin 1024) :
    out0_2 x0 x1 (ix2 a b) = ∑ k : Fin 1024, x0 (ix2 a k) * x1 (ix2 b k) := by
  unfold out0_2
  rw [piece_in (N := 1024) (M := 1024) _ _ _ a b (Nat.zero_le _) a.isLt (Nat.zero_le _) b.isLt]
  pointwise [k0_pay1]

theorem array : (dats m 0 c).arrAt 2 cfg0.N = mmt (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, (ix2_eta y).symm⟩
  have hN : t.val < 8 := lt_of_lt_of_eq t.isLt (show cfg0.N = 8 from N_0)
  have ha := a.isLt
  blk_simp
  rw [after0_2, body]
  refine (sum_mmt (a := ⟨1024 * t.val + a.val, by omega⟩) (b := b) fun k => ?_).trans (congrArg _ (idx2_ext ?_ ?_))
  · rw [block0 m c t a k (by omega), block1]
  · blk_simp [at2]; show 1024 * t.val + a.val = _; simp; omega
  · blk_simp [at2]

theorem value (x : Mat 8192 1024) (w : Mat 1024 1024) : Cert.DgradOutRefIdeal.Read.val_main_v4 (F := Ideal) x w = mmt x w := by
  funext i
  rw [Cert.DgradOutRefIdeal.Read.val_main_v4_apply, Cert.DgradOutRefIdeal.Read.val_main_v3_apply]
  exact Finset.sum_congr rfl fun k _ => congrArg₂ (· * ·) (congrArg x (idx2_ext rfl rfl)) (congrArg w (idx2_ext rfl rfl))

end Cert.DgradOutIdeal.Product

end
-- ==== Proof.Norms.lean ====
/- The norms of the rows of a matrix, as the calls that end in norms and their references use them. -/
module

public import proofs.«01_k».proof.Proof.Dense

@[expose] public section

noncomputable section

namespace Mix

open Idealize.ShloMosaic Idealize.ShloMosaic.TcCoe

variable {n n' : ℕ}

/-- The mean square of a row of 1024 numbers, and the small constant both programs add. -/
def meanSq (v : Fin 1024 → EReal) : EReal := Ideal.div (∑ k, v k * v k) (Ideal.ofBits FTy.f32 1149239296#32) + Ideal.ofBits FTy.f32 897988541#32

/-- One over the root of the mean square. -/
def rms (v : Fin 1024 → EReal) : EReal := Ideal.rsqrt (meanSq v)

/-- Each row over the root of its mean square, times the row of scales `g`. -/
def normed (x : Mat n 1024) (g : Mat 1 1024) : Mat n 1024 := fun i => x i * rms (fun k => x (ix2 (i 0) k)) * g (ix2 0 (i 1))

/-- What is left after adding the norm of `x` to `h`. -/
def added (h x : Mat n 1024) (g : Mat 1 1024) : Mat n 1024 := fun i => h i + normed x g i

/-- The norm of a row depends on that row only. -/
theorem normed_row {x : Mat n 1024} {x' : Mat n' 1024} {g g' : Mat 1 1024} {a : Fin n} {a' : Fin n'} (hx : ∀ k, x (ix2 a k) = x' (ix2 a' k))
    (hg : ∀ k, g (ix2 0 k) = g' (ix2 0 k)) (b : Fin 1024) : normed x g (ix2 a b) = normed x' g' (ix2 a' b) := by
  show x (ix2 a b) * rms (fun k => x (ix2 a k)) * g (ix2 0 b) = x' (ix2 a' b) * rms (fun k => x' (ix2 a' k)) * g' (ix2 0 b)
  rw [hx b, hg b, funext hx]

theorem added_row {h x : Mat n 1024} {h' x' : Mat n' 1024} {g g' : Mat 1 1024} {a : Fin n} {a' : Fin n'} (hh : ∀ k, h (ix2 a k) = h' (ix2 a' k))
    (hx : ∀ k, x (ix2 a k) = x' (ix2 a' k)) (hg : ∀ k, g (ix2 0 k) = g' (ix2 0 k)) (b : Fin 1024) :
    added h x g (ix2 a b) = added h' x' g' (ix2 a' b) := congrArg₂ (· + ·) (hh b) (normed_row hx hg b)

/-! ### The gradient of a norm -/

/-- The gradient of a row `x` of a norm with scales `g` from the gradient `d` of its result, as the kernels form it. -/
def gradRow (x d g : Fin 1024 → EReal) (b : Fin 1024) : EReal :=
  rms x * (d b * g b - x b * (rms x * rms x * Ideal.div (∑ k, d k * g k * x k) (Ideal.ofBits FTy.f32 1149239296#32)))

/-- What half the gradient owes to the mean square, over an entry of the row, as the references form it. -/
def slope (x d g : Fin 1024 → EReal) : EReal :=
  Ideal.div ((∑ k, x k * (d k * g k)) * (Ideal.ofBits FTy.f32 3204448256#32 * Ideal.div (rms x) (meanSq x))) (Ideal.ofBits FTy.f32 1149239296#32)

theorem ofBits_1024 : Ideal.ofBits FTy.f32 1149239296#32 = ((1024 : ℝ) : EReal) := by
  simp [Ideal.ofBits, Ideal.ieee, -EReal.coe_mul]
  norm_num

theorem square_nonneg (a : EReal) : 0 ≤ a * a := by
  induction a with
  | bot => simp
  | top => simp
  | coe a => exact_mod_cast mul_self_nonneg a

/-- A mean square is infinite, or it is a positive real and every entry of the row is real. -/
theorem meanSq_cases (v : Fin 1024 → EReal) : meanSq v = ⊤ ∨ ∃ r : ℝ, 0 < r ∧ meanSq v = r ∧ ∀ b, ∃ x : ℝ, v b = x := by
  have h0 : 0 ≤ ∑ k, v k * v k := Finset.sum_nonneg fun k _ => square_nonneg (v k)
  have hb : ∀ b, v b * v b ≤ ∑ k, v k * v k := fun b => Finset.single_le_sum (fun k _ => square_nonneg (v k)) (Finset.mem_univ b)
  unfold meanSq
  rw [ofBits_1024, ofBits_eps]
  generalize ∑ k, v k * v k = s at h0 hb
  induction s with
  | bot => exact absurd h0 (by simp)
  | top => exact .inl (by rw [Ideal.div_coe (by norm_num), EReal.top_mul_coe_of_pos (by norm_num), EReal.top_add_coe])
  | coe s =>
    refine .inr ⟨s / 1024 + eps, add_pos_of_nonneg_of_pos (div_nonneg (by exact_mod_cast h0) (by norm_num)) eps_pos, ?_, fun b => ?_⟩
    · rw [div_real _ _ (by norm_num), EReal.coe_add]
    · have h := hb b
      generalize v b = x at h
      induction x with
      | bot => simp at h
      | top => simp at h
      | coe x => exact ⟨x, rfl⟩

theorem with_top (a : EReal) (x r : ℝ) (hr : 0 < r) : a * r + x * ⊥ + ⊥ * x = r * (a - x * ⊤) := by
  rcases lt_trichotomy x 0 with h | h | h
  · rw [EReal.coe_mul_bot_of_neg h, EReal.bot_mul_coe_of_neg h, EReal.coe_mul_top_of_neg h]
    induction a <;> simp [EReal.bot_mul_coe_of_pos hr, EReal.top_mul_coe_of_pos hr, EReal.coe_mul_top_of_pos hr, EReal.coe_mul_bot_of_pos hr]
    rw [← EReal.coe_mul, EReal.coe_add_top, EReal.top_add_top]
  · subst h
    simp [mul_comm]
  · rw [EReal.coe_mul_bot_of_pos h, EReal.bot_mul_coe_of_pos h, EReal.coe_mul_top_of_pos h]
    induction a <;> simp [EReal.coe_mul_bot_of_pos hr]

theorem with_bot (a : EReal) (x r : ℝ) (hr : 0 < r) : a * r + x * ⊤ + ⊤ * x = r * (a - x * ⊥) := by
  have h := with_top a (-x) r hr
  have e1 : ((-x : ℝ) : EReal) * ⊥ = x * ⊤ := by rw [EReal.coe_neg, neg_mul, ← mul_neg, EReal.neg_bot]
  have e2 : ((-x : ℝ) : EReal) * ⊤ = x * ⊥ := by rw [EReal.coe_neg, neg_mul, ← mul_neg, EReal.neg_top]
  rw [mul_comm ⊤, ← e1, ← e2, ← h, mul_comm ⊥]

theorem with_real (a : EReal) (x r p s : ℝ) (hr : 0 < r) (h : r * (x * p) = -(x * s + s * x)) :
    a * r + x * s + s * x = r * (a - x * p) := by
  induction a with
  | bot => simp [EReal.bot_mul_coe_of_pos hr, EReal.coe_mul_bot_of_pos hr]
  | top =>
    rw [EReal.top_mul_coe_of_pos hr, ← EReal.coe_mul, ← EReal.coe_mul, ← EReal.coe_mul]
    simp [EReal.coe_mul_top_of_pos hr, -EReal.coe_mul]
  | coe a =>
    norm_cast
    linear_combination h

/-- The two forms of the gradient agree, infinite entries included. -/
theorem gradRow_eq (x d g : Fin 1024 → EReal) (b : Fin 1024) :
    d b * g b * rms x + x b * slope x d g + slope x d g * x b = gradRow x d g b := by
  have hs : ∑ k, x k * (d k * g k) = ∑ k, d k * g k * x k := Finset.sum_congr rfl fun k _ => mul_comm _ _
  unfold gradRow slope
  rw [hs, ofBits_1024, ofBits_neg_half]
  generalize ∑ k, d k * g k * x k = s
  generalize d b * g b = a
  unfold rms
  rcases meanSq_cases x with h | ⟨v, hv, h, hx⟩
  · rw [h, Ideal.rsqrt_top]
    simp [Ideal.div]
  · obtain ⟨y, hy⟩ := hx b
    have hq : 0 < (Real.sqrt v)⁻¹ := inv_pos.2 (Real.sqrt_pos.2 hv)
    have hqv : (Real.sqrt v)⁻¹ * (Real.sqrt v)⁻¹ = 1 / v := by rw [← mul_inv, Real.mul_self_sqrt hv.le, one_div]
    rw [h, hy, rsqrt_real v hv, div_real _ _ hv.ne', ← EReal.coe_mul, ← EReal.coe_mul]
    generalize (Real.sqrt v)⁻¹ = r at hq hqv
    have hneg : -(1 / 2) * (r / v) < 0 := mul_neg_of_neg_of_pos (by norm_num) (div_pos hq hv)
    have hrr : 0 < r * r := mul_pos hq hq
    rw [Ideal.div_coe (by norm_num), Ideal.div_coe (by norm_num)]
    induction s with
    | bot => rw [EReal.bot_mul_coe_of_neg hneg, EReal.top_mul_coe_of_pos (by norm_num), EReal.bot_mul_coe_of_pos (by norm_num), EReal.coe_mul_bot_of_pos hrr]; exact with_bot a y r hq
    | top => rw [EReal.top_mul_coe_of_neg hneg, EReal.bot_mul_coe_of_pos (by norm_num), EReal.top_mul_coe_of_pos (by norm_num), EReal.coe_mul_top_of_pos hrr]; exact with_top a y r hq
    | coe s =>
      rw [← EReal.coe_mul, ← EReal.coe_mul, ← EReal.coe_mul, ← EReal.coe_mul]
      refine with_real a y r _ _ hq ?_
      rw [hqv]
      ring

/-- The gradient of a norm, row by row. -/
def grad (x d : Mat n 1024) (g : Mat 1 1024) : Mat n 1024 :=
  fun i => gradRow (fun k => x (ix2 (i 0) k)) (fun k => d (ix2 (i 0) k)) (fun k => g (ix2 0 k)) (i 1)

/-- The gradient of a row depends on that row only. -/
theorem grad_row {x d : Mat n 1024} {x' d' : Mat n' 1024} {g g' : Mat 1 1024} {a : Fin n} {a' : Fin n'} (hx : ∀ k, x (ix2 a k) = x' (ix2 a' k))
    (hd : ∀ k, d (ix2 a k) = d' (ix2 a' k)) (hg : ∀ k, g (ix2 0 k) = g' (ix2 0 k)) (b : Fin 1024) : grad x d g (ix2 a b) = grad x' d' g' (ix2 a' b) := by
  show gradRow (fun k => x (ix2 a k)) (fun k => d (ix2 a k)) (fun k => g (ix2 0 k)) b = gradRow (fun k => x' (ix2 a' k)) (fun k => d' (ix2 a' k)) (fun k => g' (ix2 0 k)) b
  rw [funext hx, funext hd, funext hg]

/-- Each row over the root of its mean square. -/
def unit (x : Mat n 1024) : Mat n 1024 := fun i => x i * rms (fun k => x (ix2 (i 0) k))

theorem unit_row {x : Mat n 1024} {x' : Mat n' 1024} {a : Fin n} {a' : Fin n'} (hx : ∀ k, x (ix2 a k) = x' (ix2 a' k)) (b : Fin 1024) :
    unit x (ix2 a b) = unit x' (ix2 a' b) := by
  show x (ix2 a b) * rms (fun k => x (ix2 a k)) = x' (ix2 a' b) * rms (fun k => x' (ix2 a' k))
  rw [hx b, funext hx]

/-- The gradient of the scales: the sum over the rows of the result's gradient times the row over its root mean square. -/
def gains (x d : Mat n 1024) : Mat 1 1024 := fun i => dots d (unit x) n (i 1).val (i 1).val
/-- The sum as the references form it. -/
theorem gains_at (x d : Mat n 1024) (i : (⟨2, ![1, 1024]⟩ : Shape).Idx) :
    ∑ a : Fin n, unit x (ix2 a (i 1)) * d (ix2 a (i 1)) = gains x d i := by
  refine Eq.trans ?_ (Fin.sum_univ_eq_sum_range (fun s => num d s (i 1).val * num (unit x) s (i 1).val) n)
  exact Finset.sum_congr rfl fun a _ => (mul_comm _ _).trans (congrArg₂ (· * ·) (num_at d a (i 1)) (num_at (unit x) a (i 1)))

end Mix

end
-- ==== Proof.MixOut.lean ====
/- The product after a mixer and the norms after it: as in the last product of the feed-forward block, each point forms one block
   of rows in one of two accumulators and stores the norms of the block before it. -/
module

public import proofs.«01_k».proof.Proof.Norms
public import proofs.«01_k».proof.Proof.Gen.MixOutIdeal.Value
public import proofs.«01_k».proof.Proof.Gen.MixOutRefIdeal.Read
public import Idealize.ShloMosaic.Lib.Pipeline.ValueKit
public import Idealize.ShloMosaic.Lib.Pipeline.ReadBack

@[expose] public section

noncomputable section

namespace Cert.MixOutIdeal.Product

open Cert.MixOutIdeal Cert.MixOutIdeal.Gen Idealize.ShloMosaic Idealize.ShloMosaic.TcCoe Idealize.ShloMosaic.Tactic Mix

theorem product (x : Vec Ideal S1024x1024 .bf16) (y : Vec Ideal S1024x1024 .bf16) (a : Fin 1024) (b : Fin 1024) :
    k0_pay4 x y (ix2 a b) = ∑ k : Fin 1024, x (ix2 a k) * y (ix2 k b) := by
  pointwise [k0_pay4]

theorem sum_norm (x h : Vec Ideal S1024x1024 .f32) (g : Vec Ideal S1x1024 .f32) (a : Fin 1024) (b : Fin 1024) :
    k0_pay5 x h g (ix2 a b) = added (n := 1024) h x g (ix2 a b) := by
  pointwise [k0_pay5]
  rfl

theorem next_norm (x h : Vec Ideal S1024x1024 .f32) (g g' : Vec Ideal S1x1024 .f32) (a : Fin 1024) (b : Fin 1024) :
    k0_pay6 x h g g' (ix2 a b) = normed (n := 1024) (added (n := 1024) h x g) g' (ix2 a b) := by
  refine Eq.trans ?_ (normed_row (x := (k0_pay5 x h g : Mat 1024 1024)) (fun k => sum_norm x h g a k) (fun _ => rfl) b)
  pointwise [k0_pay6]
  rfl

variable (m : (ℓ : Loc nD τ sig) → Buf (Elt Ideal) ℓ) (c : Dev nD)

theorem at0 : ∀ t : Fin cfg0.N, win0_0.index t = ![min t.val 7, 0] := by decide +kernel
theorem at1 : ∀ t : Fin cfg0.N, win0_1.index t = ![0, 0] := by decide +kernel
theorem at2 : ∀ t : Fin cfg0.N, win0_2.index t = ![t.val - 1, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![t.val - 1, 0] := by decide +kernel
theorem at6 : ∀ t : Fin cfg0.N, win0_6.index t = ![t.val - 1, 0] := by decide +kernel
theorem at7 : ∀ t : Fin cfg0.N, win0_7.index t = ![t.val - 1, 0] := by decide +kernel

theorem later5 : ∀ t : Fin cfg0.N, (cfg0.win 5).flush t = true → t.val ≠ 0 := by decide +kernel
theorem later6 : ∀ t : Fin cfg0.N, (cfg0.win 6).flush t = true → t.val ≠ 0 := by decide +kernel
theorem later7 : ∀ t : Fin cfg0.N, (cfg0.win 7).flush t = true → t.val ≠ 0 := by decide +kernel

abbrev X : Mat 8192 1024 := m ((c : Thread nD τ).loc main_arg0)
abbrev W : Mat 1024 1024 := m ((c : Thread nD τ).loc main_arg1)
abbrev H : Mat 8192 1024 := m ((c : Thread nD τ).loc main_arg2)
abbrev G : Mat 1 1024 := m ((c : Thread nD τ).loc main_arg3)
abbrev G' : Mat 1 1024 := m ((c : Thread nD τ).loc main_arg4)

theorem block0 (t : Fin cfg0.N) (a : Fin 1024) (b : Fin 1024) (h : 1024 * t.val + a.val < 8192) :
    iblk m c 0 t (ix2 a b) = X m c (ix2 ⟨1024 * t.val + a.val, h⟩ b) := by
  blk_simp [iblk]
  rw [V_main_arg0]
  refine congrArg _ (funext fun k => Fin.ext ?_)
  match k with
  | ⟨0, _⟩ => blk_simp [at0]; show _ = 1024 * t.val + a.val; simp; omega
  | ⟨1, _⟩ => blk_simp [at0]

theorem weights (i : S1024x1024.Idx) : V m c main_v0 i = W m c i := by
  show StableHlo.after (List.flatten [hostOps0]) (fun b => m (c, b)) (Proc.devRef .tc main_v0) i = _
  simp only [hostOps0, List.flatten_cons, List.flatten_nil, List.append_nil]
  after_results
  pointwise []

theorem block1 (t : Fin cfg0.N) (a : Fin 1024) (b : Fin 1024) : iblk m c 1 t (ix2 a b) = W m c (ix2 a b) := by
  refine Eq.trans ?_ (weights m c (ix2 a b))
  blk_simp [iblk]
  refine congrArg _ (funext fun k => Fin.ext ?_)
  match k with
  | ⟨0, _⟩ => blk_simp [at1]
  | ⟨1, _⟩ => blk_simp [at1]

theorem block2 (t : Fin cfg0.N) (a : Fin 1024) (b : Fin 1024) (h : 1024 * (t.val - 1) + a.val < 8192) :
    iblk m c 2 t (ix2 a b) = H m c (ix2 ⟨1024 * (t.val - 1) + a.val, h⟩ b) := by
  blk_simp [iblk]
  rw [V_main_arg2]
  refine congrArg _ (funext fun k => Fin.ext ?_)
  match k with
  | ⟨0, _⟩ => blk_simp [at2]; show _ = 1024 * (t.val - 1) + a.val; simp; omega
  | ⟨1, _⟩ => blk_simp [at2]

theorem block3 (t : Fin cfg0.N) (b : Fin 1024) : iblk m c 3 t (ix2 0 b) = G m c (ix2 0 b) := by
  blk_simp [iblk]
  rw [V_main_arg3]
  refine congrArg _ (funext fun k => Fin.ext ?_)
  match k with
  | ⟨0, _⟩ => blk_simp [at3]
  | ⟨1, _⟩ => blk_simp [at3]

theorem block4 (t : Fin cfg0.N) (b : Fin 1024) : iblk m c 4 t (ix2 0 b) = G' m c (ix2 0 b) := by
  blk_simp [iblk]
  rw [V_main_arg4]
  refine congrArg _ (funext fun k => Fin.ext ?_)
  match k with
  | ⟨0, _⟩ => blk_simp [at4]
  | ⟨1, _⟩ => blk_simp [at4]

/-- The product of a point's blocks: rows of the whole product. -/
theorem rows (t : Fin cfg0.N) (a : Fin 1024) (b : Fin 1024) (h : 1024 * t.val + a.val < 8192) (x0 : Mat 1024 1024) (x1 : Mat 1024 1024)
    (h0 : x0 = iblk m c 0 t) (h1 : x1 = iblk m c 1 t) :
    ∑ k : Fin 1024, x0 (ix2 a k) * x1 (ix2 k b) = mm (X m c) (W m c) (ix2 ⟨1024 * t.val + a.val, h⟩ b) := by
  subst h0 h1
  exact sum_mm fun k => congrArg₂ (· * ·) (block0 m c t a k h) (block1 m c t k b)

/-- After an even point the first accumulator holds that point's rows of the product. -/
theorem even (t : Fin cfg0.N) (ht : t.val % 2 = 0) (a : Fin 1024) (b : Fin 1024) (h : 1024 * t.val + a.val < 8192) :
    (outsAt0 m c t.val t.isLt).2.2.2.1 (ix2 a b) = mm (X m c) (W m c) (ix2 ⟨1024 * t.val + a.val, h⟩ b) := by
  refine Eq.trans ?_ (rows m c t a b h _ _ rfl rfl)
  by_cases h0 : t.val % 9 = 0
  · rw [outsAt0_A m c t h0 ht (by omega)]
    frame_out
    exact product _ _ a b
  · rw [outsAt0_C m c t h0 ht (by omega)]
    frame_out
    exact product _ _ a b

/-- After an odd point the second accumulator holds that point's rows of the product. -/
theorem odd (t : Fin cfg0.N) (ht : t.val % 2 = 1) (a : Fin 1024) (b : Fin 1024) (h : 1024 * t.val + a.val < 8192) :
    (outsAt0 m c t.val t.isLt).2.2.2.2 (ix2 a b) = mm (X m c) (W m c) (ix2 ⟨1024 * t.val + a.val, h⟩ b) := by
  refine Eq.trans ?_ (rows m c t a b h _ _ rfl rfl)
  rw [outsAt0_B m c t (by have := t.isLt; have : cfg0.N = 9 := N_0; omega) (by omega) ht]
  frame_out
  exact product _ _ a b

/-- What a point after the first stores, from the rows `z` of the product formed at the point before it. -/
def Stores (t : Fin cfg0.N) (z : Mat 1024 1024) : Prop :=
  (∀ a b, (outsAt0 m c t.val t.isLt).1 (ix2 a b) = z (ix2 a b))
  ∧ (∀ a b, (outsAt0 m c t.val t.isLt).2.1 (ix2 a b) = added (n := 1024) (iblk m c 2 t) z (iblk m c 3 t) (ix2 a b))
  ∧ ∀ a b, (outsAt0 m c t.val t.isLt).2.2.1 (ix2 a b) = normed (n := 1024) (added (n := 1024) (iblk m c 2 t) z (iblk m c 3 t)) (iblk m c 4 t) (ix2 a b)

theorem stores_odd (t : Fin cfg0.N) (ht : t.val % 2 = 1) : Stores m c t (outsAt0 m c (t.val - 1) (Nat.lt_of_le_of_lt (Nat.sub_le _ _) t.isLt)).2.2.2.1 := by
  have hN : t.val < 9 := lt_of_lt_of_eq t.isLt N_0
  refine ⟨fun a b => ?_, fun a b => ?_, fun a b => ?_⟩ <;> rw [outsAt0_B m c t (by omega) (by omega) ht] <;> frame_out <;> simp only [read_unread_whole]
  · pointwise [k0_pay11]
  · exact sum_norm _ _ _ a b
  · exact next_norm _ _ _ _ a b

theorem stores_even (t : Fin cfg0.N) (h0 : t.val ≠ 0) (ht : t.val % 2 = 0) :
    Stores m c t (outsAt0 m c (t.val - 1) (Nat.lt_of_le_of_lt (Nat.sub_le _ _) t.isLt)).2.2.2.2 := by
  have hN : t.val < 9 := lt_of_lt_of_eq t.isLt N_0
  refine ⟨fun a b => ?_, fun a b => ?_, fun a b => ?_⟩ <;> rw [outsAt0_C m c t (by omega) ht (by omega)] <;> frame_out <;> simp only [read_unread_whole]
  · pointwise [k0_pay7]
  · exact sum_norm _ _ _ a b
  · exact next_norm _ _ _ _ a b

theorem stores (t : Fin cfg0.N) (h0 : t.val ≠ 0) :
    ∃ z : Mat 1024 1024, (∀ (a : Fin 1024) (b : Fin 1024) (h : 1024 * (t.val - 1) + a.val < 8192), z (ix2 a b) = mm (X m c) (W m c) (ix2 ⟨1024 * (t.val - 1) + a.val, h⟩ b))
      ∧ Stores m c t z := by
  rcases (show t.val % 2 = 0 ∨ t.val % 2 = 1 by omega) with ht | ht
  · exact ⟨_, fun a b h => odd m c ⟨t.val - 1, Nat.lt_of_le_of_lt (Nat.sub_le _ _) t.isLt⟩ (show (t.val - 1) % 2 = 1 by omega) a b h, stores_even m c t h0 ht⟩
  · exact ⟨_, fun a b h => even m c ⟨t.val - 1, Nat.lt_of_le_of_lt (Nat.sub_le _ _) t.isLt⟩ (show (t.val - 1) % 2 = 0 by omega) a b h, stores_odd m c t ht⟩

/-- The stored rows are those of the whole arrays. -/
theorem stored (t : Fin cfg0.N) (h0 : t.val ≠ 0) (a : Fin 1024) (b : Fin 1024) (h : 1024 * (t.val - 1) + a.val < 8192) :
    (outsAt0 m c t.val t.isLt).1 (ix2 a b) = mm (X m c) (W m c) (ix2 ⟨1024 * (t.val - 1) + a.val, h⟩ b)
    ∧ (outsAt0 m c t.val t.isLt).2.1 (ix2 a b) = added (H m c) (mm (X m c) (W m c)) (G m c) (ix2 ⟨1024 * (t.val - 1) + a.val, h⟩ b)
    ∧ (outsAt0 m c t.val t.isLt).2.2.1 (ix2 a b) = normed (added (H m c) (mm (X m c) (W m c)) (G m c)) (G' m c) (ix2 ⟨1024 * (t.val - 1) + a.val, h⟩ b) := by
  obtain ⟨z, hz, s1, s2, s3⟩ := stores m c t h0
  have hs : ∀ k, added (n := 1024) (iblk m c 2 t) z (iblk m c 3 t) (ix2 a k) = added (H m c) (mm (X m c) (W m c)) (G m c) (ix2 ⟨1024 * (t.val - 1) + a.val, h⟩ k) :=
    added_row (fun k => block2 m c t a k h) (fun k => hz a k h) (fun k => block3 m c t k)
  exact ⟨(s1 a b).trans (hz a b h), (s2 a b).trans (hs b), (s3 a b).trans (normed_row hs (fun k => block4 m c t k) b)⟩

theorem array5 : (dats m 0 c).arrAt 5 cfg0.N = mm (X m c) (W m c) := by
  refine (dats m 0 c).arrAt_eq_of_covers 5 _ (by decide +kernel) fun t hf y => ?_
  obtain ⟨a, b, rfl⟩ : ∃ (a : Fin 1024) (b : Fin 1024), y = ix2 a b := ⟨y 0, y 1, (ix2_eta y).symm⟩
  have hN : t.val < 9 := lt_of_lt_of_eq t.isLt N_0
  have h0 := later5 t hf
  have ha := a.isLt
  blk_simp
  rw [after0_5, (stored m c t h0 a b (by omega)).1]
  refine congrArg _ (idx2_ext ?_ ?_)
  · blk_simp [at5]; show 1024 * (t.val - 1) + a.val = _; simp; omega
  · blk_simp [at5]

theorem array6 : (dats m 0 c).arrAt 6 cfg0.N = added (H m c) (mm (X m c) (W m c)) (G m c) := by
  refine (dats m 0 c).arrAt_eq_of_covers 6 _ (by decide +kernel) fun t hf y => ?_
  obtain ⟨a, b, rfl⟩ : ∃ (a : Fin 1024) (b : Fin 1024), y = ix2 a b := ⟨y 0, y 1, (ix2_eta y).symm⟩
  have hN : t.val < 9 := lt_of_lt_of_eq t.isLt N_0
  have h0 := later6 t hf
  have ha := a.isLt
  blk_simp
  rw [after0_6, (stored m c t h0 a b (by omega)).2.1]
  refine congrArg _ (idx2_ext ?_ ?_)
  · blk_simp [at6]; show 1024 * (t.val - 1) + a.val = _; simp; omega
  · blk_simp [at6]

theorem array7 : (dats m 0 c).arrAt 7 cfg0.N = normed (added (H m c) (mm (X m c) (W m c)) (G m c)) (G' m c) := by
  refine (dats m 0 c).arrAt_eq_of_covers 7 _ (by decide +kernel) fun t hf y => ?_
  obtain ⟨a, b, rfl⟩ : ∃ (a : Fin 1024) (b : Fin 1024), y = ix2 a b := ⟨y 0, y 1, (ix2_eta y).symm⟩
  have hN : t.val < 9 := lt_of_lt_of_eq t.isLt N_0
  have h0 := later7 t hf
  have ha := a.isLt
  blk_simp
  rw [after0_7, (stored m c t h0 a b (by omega)).2.2]
  refine congrArg _ (idx2_ext ?_ ?_)
  · blk_simp [at7]; show 1024 * (t.val - 1) + a.val = _; simp; omega
  · blk_simp [at7]

open Cert.MixOutRefIdeal.Read

variable (x : Mat 8192 1024) (w : Mat 1024 1024) (h : Mat 8192 1024) (g g' : Mat 1 1024)

theorem product_value : val_main_v1 (F := Ideal) x w = mm x w := by
  funext i
  rw [val_main_v1_apply]
  exact Finset.sum_congr rfl fun k _ => congrArg₂ (· * ·) (congrArg x (idx2_ext rfl rfl)) (congrArg w (idx2_ext rfl rfl))

theorem value15 : val_main_v15 (F := Ideal) x w = mm x w := product_value x w

theorem value14 : val_main_v14 (F := Ideal) x w h g = added h (mm x w) g := by
  funext i
  obtain ⟨a, b, rfl⟩ : ∃ (a : Fin 8192) (b : Fin 1024), i = ix2 a b := ⟨i 0, i 1, (ix2_eta i).symm⟩
  rw [← product_value]
  unfold val_main_v14 val_main_v13 val_main_v11 val_main_v10 val_main_v9 val_main_v8 val_main_v6 val_main_v4 val_main_v3 val_main_v2 val_main_v12 val_main_v5 val_main_v7 val_main_cst val_main_cst_0 val_main_cst_1
  generalize (val_main_v1 (F := Ideal) x w) = z
  pointwise []
  rfl

theorem value28 : val_main_v28 (F := Ideal) x w h g g' = normed (added h (mm x w) g) g' := by
  funext i
  obtain ⟨a, b, rfl⟩ : ∃ (a : Fin 8192) (b : Fin 1024), i = ix2 a b := ⟨i 0, i 1, (ix2_eta i).symm⟩
  rw [← value14]
  unfold val_main_v28 val_main_v27 val_main_v25 val_main_v24 val_main_v23 val_main_v22 val_main_v20 val_main_v18 val_main_v17 val_main_v16 val_main_v26 val_main_v19 val_main_v21 val_main_cst_2 val_main_cst_3 val_main_cst_4
  generalize (val_main_v14 (F := Ideal) x w h g) = z
  pointwise []
  rfl

end Cert.MixOutIdeal.Product

end
-- ==== Proof.FfnDown.lean ====
/- The last product of the feed-forward block and the norms after it: at each point the product of one block of rows is formed in
   one of two accumulators while the block before it is read from the other, normed and stored. -/
module

public import proofs.«01_k».proof.Proof.Norms
public import proofs.«01_k».proof.Proof.Gen.FfnDownIdeal.Value
public import proofs.«01_k».proof.Proof.Gen.FfnDownRefIdeal.Read
public import Idealize.ShloMosaic.Lib.Pipeline.ValueKit
public import Idealize.ShloMosaic.Lib.Pipeline.ReadBack

@[expose] public section

noncomputable section

namespace Cert.FfnDownIdeal.Product

open Cert.FfnDownIdeal Cert.FfnDownIdeal.Gen Idealize.ShloMosaic Idealize.ShloMosaic.TcCoe Idealize.ShloMosaic.Tactic Mix

theorem product (x : Vec Ideal S512x2816 .bf16) (y : Vec Ideal S2816x1024 .bf16) (a : Fin 512) (b : Fin 1024) :
    k0_pay4 x y (ix2 a b) = ∑ k : Fin 2816, x (ix2 a k) * y (ix2 k b) := by
  pointwise [k0_pay4]

theorem sum_norm (x h : Vec Ideal S512x1024 .f32) (g : Vec Ideal S1x1024 .f32) (a : Fin 512) (b : Fin 1024) :
    k0_pay5 x h g (ix2 a b) = added (n := 512) h x g (ix2 a b) := by
  pointwise [k0_pay5]
  rfl

theorem next_norm (x h : Vec Ideal S512x1024 .f32) (g g' : Vec Ideal S1x1024 .f32) (a : Fin 512) (b : Fin 1024) :
    k0_pay6 x h g g' (ix2 a b) = normed (n := 512) (added (n := 512) h x g) g' (ix2 a b) := by
  refine Eq.trans ?_ (normed_row (x := (k0_pay5 x h g : Mat 512 1024)) (fun k => sum_norm x h g a k) (fun _ => rfl) b)
  pointwise [k0_pay6]
  rfl

variable (m : (ℓ : Loc nD τ sig) → Buf (Elt Ideal) ℓ) (c : Dev nD)

theorem at0 : ∀ t : Fin cfg0.N, win0_0.index t = ![min t.val 15, 0] := by decide +kernel
theorem at1 : ∀ t : Fin cfg0.N, win0_1.index t = ![0, 0] := by decide +kernel
theorem at2 : ∀ t : Fin cfg0.N, win0_2.index t = ![t.val - 1, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![t.val - 1, 0] := by decide +kernel
theorem at6 : ∀ t : Fin cfg0.N, win0_6.index t = ![t.val - 1, 0] := by decide +kernel
theorem at7 : ∀ t : Fin cfg0.N, win0_7.index t = ![t.val - 1, 0] := by decide +kernel

theorem later5 : ∀ t : Fin cfg0.N, (cfg0.win 5).flush t = true → t.val ≠ 0 := by decide +kernel
theorem later6 : ∀ t : Fin cfg0.N, (cfg0.win 6).flush t = true → t.val ≠ 0 := by decide +kernel
theorem later7 : ∀ t : Fin cfg0.N, (cfg0.win 7).flush t = true → t.val ≠ 0 := by decide +kernel

abbrev X : Mat 8192 2816 := m ((c : Thread nD τ).loc main_arg0)
abbrev W : Mat 2816 1024 := m ((c : Thread nD τ).loc main_arg1)
abbrev H : Mat 8192 1024 := m ((c : Thread nD τ).loc main_arg2)
abbrev G : Mat 1 1024 := m ((c : Thread nD τ).loc main_arg3)
abbrev G' : Mat 1 1024 := m ((c : Thread nD τ).loc main_arg4)

theorem block0 (t : Fin cfg0.N) (a : Fin 512) (b : Fin 2816) (h : 512 * t.val + a.val < 8192) :
    iblk m c 0 t (ix2 a b) = X m c (ix2 ⟨512 * t.val + a.val, h⟩ b) := by
  blk_simp [iblk]
  rw [V_main_arg0]
  refine congrArg _ (funext fun k => Fin.ext ?_)
  match k with
  | ⟨0, _⟩ => blk_simp [at0]; show _ = 512 * t.val + a.val; simp; omega
  | ⟨1, _⟩ => blk_simp [at0]

theorem weights (i : S2816x1024.Idx) : V m c main_v0 i = W m c i := by
  show StableHlo.after (List.flatten [hostOps0]) (fun b => m (c, b)) (Proc.devRef .tc main_v0) i = _
  simp only [hostOps0, List.flatten_cons, List.flatten_nil, List.append_nil]
  after_results
  pointwise []

theorem block1 (t : Fin cfg0.N) (a : Fin 2816) (b : Fin 1024) : iblk m c 1 t (ix2 a b) = W m c (ix2 a b) := by
  refine Eq.trans ?_ (weights m c (ix2 a b))
  blk_simp [iblk]
  refine congrArg _ (funext fun k => Fin.ext ?_)
  match k with
  | ⟨0, _⟩ => blk_simp [at1]
  | ⟨1, _⟩ => blk_simp [at1]

theorem block2 (t : Fin cfg0.N) (a : Fin 512) (b : Fin 1024) (h : 512 * (t.val - 1) + a.val < 8192) :
    iblk m c 2 t (ix2 a b) = H m c (ix2 ⟨512 * (t.val - 1) + a.val, h⟩ b) := by
  blk_simp [iblk]
  rw [V_main_arg2]
  refine congrArg _ (funext fun k => Fin.ext ?_)
  match k with
  | ⟨0, _⟩ => blk_simp [at2]; show _ = 512 * (t.val - 1) + a.val; simp; omega
  | ⟨1, _⟩ => blk_simp [at2]

theorem block3 (t : Fin cfg0.N) (b : Fin 1024) : iblk m c 3 t (ix2 0 b) = G m c (ix2 0 b) := by
  blk_simp [iblk]
  rw [V_main_arg3]
  refine congrArg _ (funext fun k => Fin.ext ?_)
  match k with
  | ⟨0, _⟩ => blk_simp [at3]
  | ⟨1, _⟩ => blk_simp [at3]

theorem block4 (t : Fin cfg0.N) (b : Fin 1024) : iblk m c 4 t (ix2 0 b) = G' m c (ix2 0 b) := by
  blk_simp [iblk]
  rw [V_main_arg4]
  refine congrArg _ (funext fun k => Fin.ext ?_)
  match k with
  | ⟨0, _⟩ => blk_simp [at4]
  | ⟨1, _⟩ => blk_simp [at4]

/-- The product of a point's blocks: rows of the whole product. -/
theorem rows (t : Fin cfg0.N) (a : Fin 512) (b : Fin 1024) (h : 512 * t.val + a.val < 8192) (x0 : Mat 512 2816) (x1 : Mat 2816 1024)
    (h0 : x0 = iblk m c 0 t) (h1 : x1 = iblk m c 1 t) :
    ∑ k : Fin 2816, x0 (ix2 a k) * x1 (ix2 k b) = mm (X m c) (W m c) (ix2 ⟨512 * t.val + a.val, h⟩ b) := by
  subst h0 h1
  exact sum_mm fun k => congrArg₂ (· * ·) (block0 m c t a k h) (block1 m c t k b)

/-- After an even point the first accumulator holds that point's rows of the product. -/
theorem even (t : Fin cfg0.N) (ht : t.val % 2 = 0) (a : Fin 512) (b : Fin 1024) (h : 512 * t.val + a.val < 8192) :
    (outsAt0 m c t.val t.isLt).2.2.2.1 (ix2 a b) = mm (X m c) (W m c) (ix2 ⟨512 * t.val + a.val, h⟩ b) := by
  refine Eq.trans ?_ (rows m c t a b h _ _ rfl rfl)
  by_cases h0 : t.val % 17 = 0
  · rw [outsAt0_A m c t h0 ht (by omega)]
    frame_out
    exact product _ _ a b
  · rw [outsAt0_C m c t h0 ht (by omega)]
    frame_out
    exact product _ _ a b

/-- After an odd point the second accumulator holds that point's rows of the product. -/
theorem odd (t : Fin cfg0.N) (ht : t.val % 2 = 1) (a : Fin 512) (b : Fin 1024) (h : 512 * t.val + a.val < 8192) :
    (outsAt0 m c t.val t.isLt).2.2.2.2 (ix2 a b) = mm (X m c) (W m c) (ix2 ⟨512 * t.val + a.val, h⟩ b) := by
  refine Eq.trans ?_ (rows m c t a b h _ _ rfl rfl)
  rw [outsAt0_B m c t (by have := t.isLt; have : cfg0.N = 17 := N_0; omega) (by omega) ht]
  frame_out
  exact product _ _ a b

/-- What a point after the first stores, from the rows `z` of the product formed at the point before it. -/
def Stores (t : Fin cfg0.N) (z : Mat 512 1024) : Prop :=
  (∀ a b, (outsAt0 m c t.val t.isLt).1 (ix2 a b) = z (ix2 a b))
  ∧ (∀ a b, (outsAt0 m c t.val t.isLt).2.1 (ix2 a b) = added (n := 512) (iblk m c 2 t) z (iblk m c 3 t) (ix2 a b))
  ∧ ∀ a b, (outsAt0 m c t.val t.isLt).2.2.1 (ix2 a b) = normed (n := 512) (added (n := 512) (iblk m c 2 t) z (iblk m c 3 t)) (iblk m c 4 t) (ix2 a b)

theorem stores_odd (t : Fin cfg0.N) (ht : t.val % 2 = 1) : Stores m c t (outsAt0 m c (t.val - 1) (Nat.lt_of_le_of_lt (Nat.sub_le _ _) t.isLt)).2.2.2.1 := by
  have hN : t.val < 17 := lt_of_lt_of_eq t.isLt N_0
  refine ⟨fun a b => ?_, fun a b => ?_, fun a b => ?_⟩ <;> rw [outsAt0_B m c t (by omega) (by omega) ht] <;> frame_out <;> simp only [read_unread_whole]
  · pointwise [k0_pay11]
  · exact sum_norm _ _ _ a b
  · exact next_norm _ _ _ _ a b

theorem stores_even (t : Fin cfg0.N) (h0 : t.val ≠ 0) (ht : t.val % 2 = 0) :
    Stores m c t (outsAt0 m c (t.val - 1) (Nat.lt_of_le_of_lt (Nat.sub_le _ _) t.isLt)).2.2.2.2 := by
  have hN : t.val < 17 := lt_of_lt_of_eq t.isLt N_0
  refine ⟨fun a b => ?_, fun a b => ?_, fun a b => ?_⟩ <;> rw [outsAt0_C m c t (by omega) ht (by omega)] <;> frame_out <;> simp only [read_unread_whole]
  · pointwise [k0_pay7]
  · exact sum_norm _ _ _ a b
  · exact next_norm _ _ _ _ a b

theorem stores (t : Fin cfg0.N) (h0 : t.val ≠ 0) :
    ∃ z : Mat 512 1024, (∀ (a : Fin 512) (b : Fin 1024) (h : 512 * (t.val - 1) + a.val < 8192), z (ix2 a b) = mm (X m c) (W m c) (ix2 ⟨512 * (t.val - 1) + a.val, h⟩ b))
      ∧ Stores m c t z := by
  rcases (show t.val % 2 = 0 ∨ t.val % 2 = 1 by omega) with ht | ht
  · exact ⟨_, fun a b h => odd m c ⟨t.val - 1, Nat.lt_of_le_of_lt (Nat.sub_le _ _) t.isLt⟩ (show (t.val - 1) % 2 = 1 by omega) a b h, stores_even m c t h0 ht⟩
  · exact ⟨_, fun a b h => even m c ⟨t.val - 1, Nat.lt_of_le_of_lt (Nat.sub_le _ _) t.isLt⟩ (show (t.val - 1) % 2 = 0 by omega) a b h, stores_odd m c t ht⟩

/-- The stored rows are those of the whole arrays. -/
theorem stored (t : Fin cfg0.N) (h0 : t.val ≠ 0) (a : Fin 512) (b : Fin 1024) (h : 512 * (t.val - 1) + a.val < 8192) :
    (outsAt0 m c t.val t.isLt).1 (ix2 a b) = mm (X m c) (W m c) (ix2 ⟨512 * (t.val - 1) + a.val, h⟩ b)
    ∧ (outsAt0 m c t.val t.isLt).2.1 (ix2 a b) = added (H m c) (mm (X m c) (W m c)) (G m c) (ix2 ⟨512 * (t.val - 1) + a.val, h⟩ b)
    ∧ (outsAt0 m c t.val t.isLt).2.2.1 (ix2 a b) = normed (added (H m c) (mm (X m c) (W m c)) (G m c)) (G' m c) (ix2 ⟨512 * (t.val - 1) + a.val, h⟩ b) := by
  obtain ⟨z, hz, s1, s2, s3⟩ := stores m c t h0
  have hs : ∀ k, added (n := 512) (iblk m c 2 t) z (iblk m c 3 t) (ix2 a k) = added (H m c) (mm (X m c) (W m c)) (G m c) (ix2 ⟨512 * (t.val - 1) + a.val, h⟩ k) :=
    added_row (fun k => block2 m c t a k h) (fun k => hz a k h) (fun k => block3 m c t k)
  exact ⟨(s1 a b).trans (hz a b h), (s2 a b).trans (hs b), (s3 a b).trans (normed_row hs (fun k => block4 m c t k) b)⟩

theorem array5 : (dats m 0 c).arrAt 5 cfg0.N = mm (X m c) (W m c) := by
  refine (dats m 0 c).arrAt_eq_of_covers 5 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later5 t hf
  have ha := a.isLt
  blk_simp
  rw [after0_5, (stored m c t h0 a b (by omega)).1]
  refine congrArg _ (idx2_ext ?_ ?_)
  · blk_simp [at5]; show 512 * (t.val - 1) + a.val = _; simp; omega
  · blk_simp [at5]

theorem array6 : (dats m 0 c).arrAt 6 cfg0.N = added (H m c) (mm (X m c) (W m c)) (G m c) := by
  refine (dats m 0 c).arrAt_eq_of_covers 6 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later6 t hf
  have ha := a.isLt
  blk_simp
  rw [after0_6, (stored m c t h0 a b (by omega)).2.1]
  refine congrArg _ (idx2_ext ?_ ?_)
  · blk_simp [at6]; show 512 * (t.val - 1) + a.val = _; simp; omega
  · blk_simp [at6]

theorem array7 : (dats m 0 c).arrAt 7 cfg0.N = normed (added (H m c) (mm (X m c) (W m c)) (G m c)) (G' m c) := by
  refine (dats m 0 c).arrAt_eq_of_covers 7 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later7 t hf
  have ha := a.isLt
  blk_simp
  rw [after0_7, (stored m c t h0 a b (by omega)).2.2]
  refine congrArg _ (idx2_ext ?_ ?_)
  · blk_simp [at7]; show 512 * (t.val - 1) + a.val = _; simp; omega
  · blk_simp [at7]

open Cert.FfnDownRefIdeal.Read

variable (x : Mat 8192 2816) (w : Mat 2816 1024) (h : Mat 8192 1024) (g g' : Mat 1 1024)

theorem product_value : val_main_v1 (F := Ideal) x w = mm x w := by
  funext i
  rw [val_main_v1_apply]
  exact Finset.sum_congr rfl fun k _ => congrArg₂ (· * ·) (congrArg x (idx2_ext rfl rfl)) (congrArg w (idx2_ext rfl rfl))

theorem value15 : val_main_v15 (F := Ideal) x w = mm x w := product_value x w

theorem value14 : val_main_v14 (F := Ideal) x w h g = added h (mm x w) g := by
  funext i
  obtain ⟨a, b, rfl⟩ : ∃ (a : Fin 8192) (b : Fin 1024), i = ix2 a b := ⟨i 0, i 1, (ix2_eta i).symm⟩
  rw [← product_value]
  unfold val_main_v14 val_main_v13 val_main_v11 val_main_v10 val_main_v9 val_main_v8 val_main_v6 val_main_v4 val_main_v3 val_main_v2 val_main_v12 val_main_v5 val_main_v7 val_main_cst val_main_cst_0 val_main_cst_1
  generalize (val_main_v1 (F := Ideal) x w) = z
  pointwise []
  rfl

theorem value28 : val_main_v28 (F := Ideal) x w h g g' = normed (added h (mm x w) g) g' := by
  funext i
  obtain ⟨a, b, rfl⟩ : ∃ (a : Fin 8192) (b : Fin 1024), i = ix2 a b := ⟨i 0, i 1, (ix2_eta i).symm⟩
  rw [← value14]
  unfold val_main_v28 val_main_v27 val_main_v25 val_main_v24 val_main_v23 val_main_v22 val_main_v20 val_main_v18 val_main_v17 val_main_v16 val_main_v26 val_main_v19 val_main_v21 val_main_cst_2 val_main_cst_3 val_main_cst_4
  generalize (val_main_v14 (F := Ideal) x w h g) = z
  pointwise []
  rfl

end Cert.FfnDownIdeal.Product

end
-- ==== Proof.FfnDownLast.lean ====
/- The last product of the last layer's feed-forward block and the norm after it: at each point the product of one block of rows is formed in
   one of two accumulators while the block before it is read from the other, normed and stored. -/
module

public import proofs.«01_k».proof.Proof.Norms
public import proofs.«01_k».proof.Proof.Gen.FfnDownLastIdeal.Value
public import proofs.«01_k».proof.Proof.Gen.FfnDownLastRefIdeal.Read
public import Idealize.ShloMosaic.Lib.Pipeline.ValueKit
public import Idealize.ShloMosaic.Lib.Pipeline.ReadBack

@[expose] public section

noncomputable section

namespace Cert.FfnDownLastIdeal.Product

open Cert.FfnDownLastIdeal Cert.FfnDownLastIdeal.Gen Idealize.ShloMosaic Idealize.ShloMosaic.TcCoe Idealize.ShloMosaic.Tactic Mix

theorem product (x : Vec Ideal S512x2816 .bf16) (y : Vec Ideal S2816x1024 .bf16) (a : Fin 512) (b : Fin 1024) :
    k0_pay2 x y (ix2 a b) = ∑ k : Fin 2816, x (ix2 a k) * y (ix2 k b) := by
  pointwise [k0_pay2]

theorem sum_norm (x h : Vec Ideal S512x1024 .f32) (g : Vec Ideal S1x1024 .f32) (a : Fin 512) (b : Fin 1024) :
    k0_pay3 x h g (ix2 a b) = added (n := 512) h x g (ix2 a b) := by
  pointwise [k0_pay3]
  rfl

variable (m : (ℓ : Loc nD τ sig) → Buf (Elt Ideal) ℓ) (c : Dev nD)

theorem at0 : ∀ t : Fin cfg0.N, win0_0.index t = ![min t.val 15, 0] := by decide +kernel
theorem at1 : ∀ t : Fin cfg0.N, win0_1.index t = ![0, 0] := by decide +kernel
theorem at2 : ∀ t : Fin cfg0.N, win0_2.index t = ![t.val - 1, 0] := by decide +kernel
theorem at3 : ∀ t : Fin cfg0.N, win0_3.index t = ![0, 0] := by decide +kernel
theorem at4 : ∀ t : Fin cfg0.N, win0_4.index t = ![t.val - 1, 0] := by decide +kernel
theorem at5 : ∀ t : Fin cfg0.N, win0_5.index t = ![t.val - 1, 0] := by decide +kernel
theorem later4 : ∀ t : Fin cfg0.N, (cfg0.win 4).flush t = true → t.val ≠ 0 := by decide +kernel
theorem later5 : ∀ t : Fin cfg0.N, (cfg0.win 5).flush t = true → t.val ≠ 0 := by decide +kernel
abbrev X : Mat 8192 2816 := m ((c : Thread nD τ).loc main_arg0)
abbrev W : Mat 2816 1024 := m ((c : Thread nD τ).loc main_arg1)
abbrev H : Mat 8192 1024 := m ((c : Thread nD τ).loc main_arg2)
abbrev G : Mat 1 1024 := m ((c : Thread nD τ).loc main_arg3)

theorem block0 (t : Fin cfg0.N) (a : Fin 512) (b : Fin 2816) (h : 512 * t.val + a.val < 8192) :
    iblk m c 0 t (ix2 a b) = X m c (ix2 ⟨512 * t.val + a.val, h⟩ b) := by
  blk_simp [iblk]
  rw [V_main_arg0]
  refine congrArg _ (funext fun k => Fin.ext ?_)
  match k with
  | ⟨0, _⟩ => blk_simp [at0]; show _ = 512 * t.val + a.val; simp; omega
  | ⟨1, _⟩ => blk_simp [at0]

theorem weights (i : S2816x1024.Idx) : V m c main_v0 i = W m c i := by
  show StableHlo.after (List.flatten [hostOps0]) (fun b => m (c, b)) (Proc.devRef .tc main_v0) i = _
  simp only [hostOps0, List.flatten_cons, List.flatten_nil, List.append_nil]
  after_results
  pointwise []

theorem block1 (t : Fin cfg0.N) (a : Fin 2816) (b : Fin 1024) : iblk m c 1 t (ix2 a b) = W m c (ix2 a b) := by
  refine Eq.trans ?_ (weights m c (ix2 a b))
  blk_simp [iblk]
  refine congrArg _ (funext fun k => Fin.ext ?_)
  match k with
  | ⟨0, _⟩ => blk_simp [at1]
  | ⟨1, _⟩ => blk_simp [at1]

theorem block2 (t : Fin cfg0.N) (a : Fin 512) (b : Fin 1024) (h : 512 * (t.val - 1) + a.val < 8192) :
    iblk m c 2 t (ix2 a b) = H m c (ix2 ⟨512 * (t.val - 1) + a.val, h⟩ b) := by
  blk_simp [iblk]
  rw [V_main_arg2]
  refine congrArg _ (funext fun k => Fin.ext ?_)
  match k with
  | ⟨0, _⟩ => blk_simp [at2]; show _ = 512 * (t.val - 1) + a.val; simp; omega
  | ⟨1, _⟩ => blk_simp [at2]

theorem block3 (t : Fin cfg0.N) (b : Fin 1024) : iblk m c 3 t (ix2 0 b) = G m c (ix2 0 b) := by
  blk_simp [iblk]
  rw [V_main_arg3]
  refine congrArg _ (funext fun k => Fin.ext ?_)
  match k with
  | ⟨0, _⟩ => blk_simp [at3]
  | ⟨1, _⟩ => blk_simp [at3]

/-- The product of a point's blocks: rows of the whole product. -/
theorem rows (t : Fin cfg0.N) (a : Fin 512) (b : Fin 1024) (h : 512 * t.val + a.val < 8192) (x0 : Mat 512 2816) (x1 : Mat 2816 1024)
    (h0 : x0 = iblk m c 0 t) (h1 : x1 = iblk m c 1 t) :
    ∑ k : Fin 2816, x0 (ix2 a k) * x1 (ix2 k b) = mm (X m c) (W m c) (ix2 ⟨512 * t.val + a.val, h⟩ b) := by
  subst h0 h1
  exact sum_mm fun k => congrArg₂ (· * ·) (block0 m c t a k h) (block1 m c t k b)

/-- After an even point the first accumulator holds that point's rows of the product. -/
theorem even (t : Fin cfg0.N) (ht : t.val % 2 = 0) (a : Fin 512) (b : Fin 1024) (h : 512 * t.val + a.val < 8192) :
    (outsAt0 m c t.val t.isLt).2.2.1 (ix2 a b) = mm (X m c) (W m c) (ix2 ⟨512 * t.val + a.val, h⟩ b) := by
  refine Eq.trans ?_ (rows m c t a b h _ _ rfl rfl)
  by_cases h0 : t.val % 17 = 0
  · rw [outsAt0_A m c t h0 ht (by omega)]
    frame_out
    exact product _ _ a b
  · rw [outsAt0_C m c t h0 ht (by omega)]
    frame_out
    exact product _ _ a b

/-- After an odd point the second accumulator holds that point's rows of the product. -/
theorem odd (t : Fin cfg0.N) (ht : t.val % 2 = 1) (a : Fin 512) (b : Fin 1024) (h : 512 * t.val + a.val < 8192) :
    (outsAt0 m c t.val t.isLt).2.2.2 (ix2 a b) = mm (X m c) (W m c) (ix2 ⟨512 * t.val + a.val, h⟩ b) := by
  refine Eq.trans ?_ (rows m c t a b h _ _ rfl rfl)
  rw [outsAt0_B m c t (by have := t.isLt; have : cfg0.N = 17 := N_0; omega) (by omega) ht]
  frame_out
  exact product _ _ a b

/-- What a point after the first stores, from the rows `z` of the product formed at the point before it. -/
def Stores (t : Fin cfg0.N) (z : Mat 512 1024) : Prop :=
  (∀ a b, (outsAt0 m c t.val t.isLt).1 (ix2 a b) = z (ix2 a b))
  ∧ ∀ a b, (outsAt0 m c t.val t.isLt).2.1 (ix2 a b) = added (n := 512) (iblk m c 2 t) z (iblk m c 3 t) (ix2 a b)

theorem stores_odd (t : Fin cfg0.N) (ht : t.val % 2 = 1) : Stores m c t (outsAt0 m c (t.val - 1) (Nat.lt_of_le_of_lt (Nat.sub_le _ _) t.isLt)).2.2.1 := by
  have hN : t.val < 17 := lt_of_lt_of_eq t.isLt N_0
  refine ⟨fun a b => ?_, fun a b => ?_⟩ <;> rw [outsAt0_B m c t (by omega) (by omega) ht] <;> frame_out <;> simp only [read_unread_whole]
  · pointwise [k0_pay7]
  · exact sum_norm _ _ _ a b

theorem stores_even (t : Fin cfg0.N) (h0 : t.val ≠ 0) (ht : t.val % 2 = 0) :
    Stores m c t (outsAt0 m c (t.val - 1) (Nat.lt_of_le_of_lt (Nat.sub_le _ _) t.isLt)).2.2.2 := by
  have hN : t.val < 17 := lt_of_lt_of_eq t.isLt N_0
  refine ⟨fun a b => ?_, fun a b => ?_⟩ <;> rw [outsAt0_C m c t (by omega) ht (by omega)] <;> frame_out <;> simp only [read_unread_whole]
  · pointwise [k0_pay4]
  · exact sum_norm _ _ _ a b

theorem stores (t : Fin cfg0.N) (h0 : t.val ≠ 0) :
    ∃ z : Mat 512 1024, (∀ (a : Fin 512) (b : Fin 1024) (h : 512 * (t.val - 1) + a.val < 8192), z (ix2 a b) = mm (X m c) (W m c) (ix2 ⟨512 * (t.val - 1) + a.val, h⟩ b))
      ∧ Stores m c t z := by
  rcases (show t.val % 2 = 0 ∨ t.val % 2 = 1 by omega) with ht | ht
  · exact ⟨_, fun a b h => odd m c ⟨t.val - 1, Nat.lt_of_le_of_lt (Nat.sub_le _ _) t.isLt⟩ (show (t.val - 1) % 2 = 1 by omega) a b h, stores_even m c t h0 ht⟩
  · exact ⟨_, fun a b h => even m c ⟨t.val - 1, Nat.lt_of_le_of_lt (Nat.sub_le _ _) t.isLt⟩ (show (t.val - 1) % 2 = 0 by omega) a b h, stores_odd m c t ht⟩

/-- The stored rows are those of the whole arrays. -/
theorem stored (t : Fin cfg0.N) (h0 : t.val ≠ 0) (a : Fin 512) (b : Fin 1024) (h : 512 * (t.val - 1) + a.val < 8192) :
    (outsAt0 m c t.val t.isLt).1 (ix2 a b) = mm (X m c) (W m c) (ix2 ⟨512 * (t.val - 1) + a.val, h⟩ b)
    ∧ (outsAt0 m c t.val t.isLt).2.1 (ix2 a b) = added (H m c) (mm (X m c) (W m c)) (G m c) (ix2 ⟨512 * (t.val - 1) + a.val, h⟩ b) := by
  obtain ⟨z, hz, s1, s2⟩ := stores m c t h0
  have hs : ∀ k, added (n := 512) (iblk m c 2 t) z (iblk m c 3 t) (ix2 a k) = added (H m c) (mm (X m c) (W m c)) (G m c) (ix2 ⟨512 * (t.val - 1) + a.val, h⟩ k) :=
    added_row (fun k => block2 m c t a k h) (fun k => hz a k h) (fun k => block3 m c t k)
  exact ⟨(s1 a b).trans (hz a b h), (s2 a b).trans (hs b)⟩

theorem array4 : (dats m 0 c).arrAt 4 cfg0.N = mm (X m c) (W m c) := by
  refine (dats m 0 c).arrAt_eq_of_covers 4 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later4 t hf
  have ha := a.isLt
  blk_simp
  rw [after0_4, (stored m c t h0 a b (by omega)).1]
  refine congrArg _ (idx2_ext ?_ ?_)
  · blk_simp [at4]; show 512 * (t.val - 1) + a.val = _; simp; omega
  · blk_simp [at4]

theorem array5 : (dats m 0 c).arrAt 5 cfg0.N = added (H m c) (mm (X m c) (W m c)) (G m c) := by
  refine (dats m 0 c).arrAt_eq_of_covers 5 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later5 t hf
  have ha := a.isLt
  blk_simp
  rw [after0_5, (stored m c t h0 a b (by omega)).2]
  refine congrArg _ (idx2_ext ?_ ?_)
  · blk_simp [at5]; show 512 * (t.val - 1) + a.val = _; simp; omega
  · blk_simp [at5]

open Cert.FfnDownLastRefIdeal.Read

variable (x : Mat 8192 2816) (w : Mat 2816 1024) (h : Mat 8192 1024) (g : Mat 1 1024)

theorem product_value : val_main_v1 (F := Ideal) x w = mm x w := by
  funext i
  rw [val_main_v1_apply]
  exact Finset.sum_congr rfl fun k _ => congrArg₂ (· * ·) (congrArg x (idx2_ext rfl rfl)) (congrArg w (idx2_ext rfl rfl))

theorem value2 : val_main_v2 (F := Ideal) x w = mm x w := product_value x w

theorem value15 : val_main_v15 (F := Ideal) x w h g = added h (mm x w) g := by
  funext i
  obtain ⟨a, b, rfl⟩ : ∃ (a : Fin 8192) (b : Fin 1024), i = ix2 a b := ⟨i 0, i 1, (ix2_eta i).symm⟩
  rw [← product_value]
  unfold val_main_v15 val_main_v14 val_main_v12 val_main_v11 val_main_v10 val_main_v9 val_main_v7 val_main_v5 val_main_v4 val_main_v3 val_main_v13 val_main_v6 val_main_v8 val_main_cst val_main_cst_0 val_main_cst_1
  generalize (val_main_v1 (F := Ideal) x w) = z
  pointwise []
  rfl

end Cert.FfnDownLastIdeal.Product

end
-- ==== Proof.DgradGu.lean ====
/- The gradient through the gate and up product and the two norms before it: at each point the product of one block of rows is
   formed in one of two accumulators while the block before it is read from the other, taken back through the norms and stored, and
   the rows' shares of the scales' gradients are added up. -/
module

public import proofs.«01_k».proof.Proof.Norms
public import proofs.«01_k».proof.Proof.Gen.DgradGuIdeal.Value
public import proofs.«01_k».proof.Proof.Gen.DgradGuRefIdeal.Read
public import Idealize.ShloMosaic.Lib.Pipeline.ValueKit
public import Idealize.ShloMosaic.Lib.Pipeline.ReadBack

@[expose] public section

noncomputable section

namespace Cert.DgradGuIdeal.Product

open Cert.DgradGuIdeal Cert.DgradGuIdeal.Gen Idealize.ShloMosaic Idealize.ShloMosaic.TcCoe Idealize.ShloMosaic.Tactic Mix
open Cert.KernelIdeal.Stages (ld_at)

theorem product (x x' : Vec Ideal S512x2816 .bf16) (y y' : Vec Ideal S2816x1024 .bf16) (a : Fin 512) (b : Fin 1024) :
    k0_pay8 x y x' y' (ix2 a b) = ∑ k : Fin 2816, x (ix2 a k) * y (ix2 k b) + ∑ k : Fin 2816, x' (ix2 a k) * y' (ix2 k b) := by
  pointwise [k0_pay8]

/-- The rows' gradient, the residual's added. -/
abbrev through {n : ℕ} (x z : Mat n 1024) (g : Mat 1 1024) (h : Mat n 1024) : Mat n 1024 := fun i => grad x z g i + h i

abbrev first (z x h : Vec Ideal S512x1024 .f32) (g : Vec Ideal S1x1024 .f32) : Vec Ideal S512x1024 .f32 := k0_pay12 (k0_pay10 z x g) (k0_pay11 x) h

theorem first_norm (z x h : Vec Ideal S512x1024 .f32) (g : Vec Ideal S1x1024 .f32) (a : Fin 512) (b : Fin 1024) :
    first z x h g (ix2 a b) = through (n := 512) x z g h (ix2 a b) := by
  pointwise [k0_pay12, k0_pay10, k0_pay11, k0_pay9]
  rfl

theorem second_norm (z x h : Vec Ideal S512x1024 .f32) (g g' : Vec Ideal S1x1024 .f32) (p : Vec Ideal S512x1024 .bf16) (a : Fin 512) (b : Fin 1024) :
    k0_pay17 (k0_pay10 z x g) (k0_pay11 x) h p g' (ix2 a b) = grad (n := 512) p (through (n := 512) x z g h) g' (ix2 a b) := by
  refine Eq.trans ?_ (grad_row (x := (p : Mat 512 1024)) (d := (first z x h g : Mat 512 1024)) (fun _ => rfl) (fun k => first_norm z x h g a k) (fun _ => rfl) b)
  pointwise [k0_pay17, k0_pay14, k0_pay15]
  rfl

/-- What a point after the first adds to the sums. -/
theorem first_gain (i : grid0.Coords) (hi : Scalar.cmpi .sgt (BitVec.ofNat 32 (i 0).val) 0#32 = 1#1) (z x : Vec Ideal S512x1024 .f32) (s : Vec Ideal S1x1024 .f32) (b : Fin 1024) :
    k0_pay4 i (k0_pay13 z x (k0_pay9 x)) s (ix2 0 b) = s (ix2 0 b) + ∑ a : Fin 512, z (ix2 a b) * unit (n := 512) x (ix2 a b) := by
  pointwise [k0_pay4, k0_pay13, k0_pay9]
  rw [hi]
  rfl

theorem second_gain (i : grid0.Coords) (hi : Scalar.cmpi .sgt (BitVec.ofNat 32 (i 0).val) 0#32 = 1#1) (z x h : Vec Ideal S512x1024 .f32) (g s : Vec Ideal S1x1024 .f32)
    (p : Vec Ideal S512x1024 .bf16) (b : Fin 1024) :
    k0_pay5 i (k0_pay16 (k0_pay10 z x g) (k0_pay11 x) h p) s (ix2 0 b)
      = s (ix2 0 b) + ∑ a : Fin 512, through (n := 512) x z g h (ix2 a b) * unit (n := 512) p (ix2 a b) := by
  refine Eq.trans (b := s (ix2 0 b) + ∑ a : Fin 512, first z x h g (ix2 a b) * unit (n := 512) p (ix2 a b)) ?_
    (congrArg (s (ix2 0 b) + ·) (Finset.sum_congr rfl fun a _ => congrArg (· * unit (n := 512) p (ix2 a b)) (first_norm z x h g a b)))
  pointwise [k0_pay5, k0_pay16, k0_pay14, k0_pay15]
  rw [hi]
  rfl

/-- What the first point leaves in the sums. -/
theorem no_gain (i : grid0.Coords) (hi : Scalar.cmpi .sgt (BitVec.ofNat 32 (i 0).val) 0#32 = 0#1) (v : FVec Ideal S1x1024 .f32) (b : Fin 1024) :
    k0_pay4 i v (k0_pay2 (F := Ideal)) (ix2 0 b) = 0 ∧ k0_pay5 i v (k0_pay3 (F := Ideal)) (ix2 0 b) = 0 := by
  constructor
  · pointwise [k0_pay4, k0_pay2]
    rw [hi]
    simp [Scalar.select]
  · pointwise [k0_pay5, k0_pay3]
    rw [hi]
    simp [Scalar.select]

variable (m : (ℓ : Loc nD τ sig) → Buf (Elt Ideal) ℓ) (c : Dev nD)

theorem at0 : ∀ t : Fin cfg0.N, win0_0.index t = ![min t.val 15, 0] := by decide +kernel
theorem at1 : ∀ t : Fin cfg0.N, win0_1.index t = ![min t.val 15, 0] := by decide +kernel
theorem at2 : ∀ t : Fin cfg0.N, win0_2.index t = ![0, 0] := by decide +kernel
theorem at3 : ∀ t : Fin cfg0.N, win0_3.index t = ![t.val - 1, 0] := by decide +kernel
theorem at4 : ∀ t : Fin cfg0.N, win0_4.index t = ![t.val - 1, 0] := by decide +kernel
theorem at5 : ∀ t : Fin cfg0.N, win0_5.index t = ![t.val - 1, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![t.val - 1, 0] := by decide +kernel
theorem at9 : ∀ t : Fin cfg0.N, win0_9.index t = ![t.val - 1, 0] := by decide +kernel
theorem at10 : ∀ t : Fin cfg0.N, win0_10.index t = ![0, 0] := by decide +kernel
theorem at11 : ∀ t : Fin cfg0.N, win0_11.index t = ![0, 0] := by decide +kernel
theorem later8 : ∀ t : Fin cfg0.N, (cfg0.win 8).flush t = true → t.val ≠ 0 := by decide +kernel
theorem later9 : ∀ t : Fin cfg0.N, (cfg0.win 9).flush t = true → t.val ≠ 0 := by decide +kernel
theorem last10 : ∀ t : Fin cfg0.N, (cfg0.win 10).flush t = true → t.val = 16 := by decide +kernel
theorem last11 : ∀ t : Fin cfg0.N, (cfg0.win 11).flush t = true → t.val = 16 := by decide +kernel
theorem positive : ∀ t : Fin cfg0.N, t.val ≠ 0 → Scalar.cmpi .sgt (BitVec.ofNat 32 (grid0.coords t 0).val) 0#32 = 1#1 := by decide +kernel
theorem zero : ∀ t : Fin cfg0.N, t.val = 0 → Scalar.cmpi .sgt (BitVec.ofNat 32 (grid0.coords t 0).val) 0#32 = 0#1 := by decide +kernel

abbrev D : Mat 8192 2816 := m ((c : Thread nD τ).loc main_arg0)
abbrev E : Mat 8192 2816 := m ((c : Thread nD τ).loc main_arg1)
abbrev W : Mat 1024 5632 := m ((c : Thread nD τ).loc main_arg2)
abbrev X : Mat 8192 1024 := m ((c : Thread nD τ).loc main_arg3)
abbrev G : Mat 1 1024 := m ((c : Thread nD τ).loc main_arg4)
abbrev H : Mat 8192 1024 := m ((c : Thread nD τ).loc main_arg5)
abbrev P : Mat 8192 1024 := m ((c : Thread nD τ).loc main_arg6)
abbrev G' : Mat 1 1024 := m ((c : Thread nD τ).loc main_arg7)

/-- The gradient of the product's rows: the gates' gradients times the first columns of the weights and the ups' times the rest. -/
def both (d e : Mat 8192 2816) (w : Mat 1024 5632) : Mat 8192 1024 := fun i =>
  ∑ k : Fin 2816, d (ix2 (i 0) k) * num w (i 1).val k.val + ∑ k : Fin 2816, e (ix2 (i 0) k) * num w (i 1).val (2816 + k.val)

abbrev Z : Mat 8192 1024 := both (D m c) (E m c) (W m c)
abbrev Y : Mat 8192 1024 := through (X m c) (Z m c) (G m c) (H m c)

theorem block0 (t : Fin cfg0.N) (a : Fin 512) (b : Fin 2816) (h : 512 * t.val + a.val < 8192) :
    iblk m c 0 t (ix2 a b) = D m c (ix2 ⟨512 * t.val + a.val, h⟩ b) := by
  blk_simp [iblk]
  rw [V_main_arg0]
  refine congrArg _ (funext fun k => Fin.ext ?_)
  match k with
  | ⟨0, _⟩ => blk_simp [at0]; show _ = 512 * t.val + a.val; simp; omega
  | ⟨1, _⟩ => blk_simp [at0]

theorem block1 (t : Fin cfg0.N) (a : Fin 512) (b : Fin 2816) (h : 512 * t.val + a.val < 8192) :
    iblk m c 1 t (ix2 a b) = E m c (ix2 ⟨512 * t.val + a.val, h⟩ b) := by
  blk_simp [iblk]
  rw [V_main_arg1]
  refine congrArg _ (funext fun k => Fin.ext ?_)
  match k with
  | ⟨0, _⟩ => blk_simp [at1]; show _ = 512 * t.val + a.val; simp; omega
  | ⟨1, _⟩ => blk_simp [at1]

theorem weights (a : Fin 5632) (b : Fin 1024) : V m c main_v1 (ix2 a b) = W m c (ix2 b a) := by
  show StableHlo.after (List.flatten [hostOps0]) (fun b => m (c, b)) (Proc.devRef .tc main_v1) (ix2 a b) = _
  simp only [hostOps0, List.flatten_cons, List.flatten_nil, List.append_nil]
  after_results
  pointwise []

theorem block2 (t : Fin cfg0.N) (a : Fin 5632) (b : Fin 1024) : iblk m c 2 t (ix2 a b) = num (W m c) b.val a.val := by
  refine Eq.trans ?_ ((weights m c a b).trans (num_at _ _ _))
  blk_simp [iblk]
  refine congrArg _ (funext fun k => Fin.ext ?_)
  match k with
  | ⟨0, _⟩ => blk_simp [at2]
  | ⟨1, _⟩ => blk_simp [at2]

theorem block3 (t : Fin cfg0.N) (a : Fin 512) (b : Fin 1024) (h : 512 * (t.val - 1) + a.val < 8192) :
    iblk m c 3 t (ix2 a b) = X m c (ix2 ⟨512 * (t.val - 1) + a.val, h⟩ b) := by
  blk_simp [iblk]
  rw [V_main_arg3]
  refine congrArg _ (funext fun k => Fin.ext ?_)
  match k with
  | ⟨0, _⟩ => blk_simp [at3]; show _ = 512 * (t.val - 1) + a.val; simp; omega
  | ⟨1, _⟩ => blk_simp [at3]

theorem block4 (t : Fin cfg0.N) (a : Fin 512) (b : Fin 1024) (h : 512 * (t.val - 1) + a.val < 8192) :
    iblk m c 4 t (ix2 a b) = H m c (ix2 ⟨512 * (t.val - 1) + a.val, h⟩ b) := by
  blk_simp [iblk]
  rw [V_main_arg5]
  refine congrArg _ (funext fun k => Fin.ext ?_)
  match k with
  | ⟨0, _⟩ => blk_simp [at4]; show _ = 512 * (t.val - 1) + a.val; simp; omega
  | ⟨1, _⟩ => blk_simp [at4]

theorem block5 (t : Fin cfg0.N) (a : Fin 512) (b : Fin 1024) (h : 512 * (t.val - 1) + a.val < 8192) :
    iblk m c 5 t (ix2 a b) = P m c (ix2 ⟨512 * (t.val - 1) + a.val, h⟩ b) := by
  blk_simp [iblk]
  rw [V_main_arg6]
  refine congrArg _ (funext fun k => Fin.ext ?_)
  match k with
  | ⟨0, _⟩ => blk_simp [at5]; show _ = 512 * (t.val - 1) + a.val; simp; omega
  | ⟨1, _⟩ => blk_simp [at5]

theorem block6 (t : Fin cfg0.N) (b : Fin 1024) : iblk m c 6 t (ix2 0 b) = G m c (ix2 0 b) := by
  blk_simp [iblk]
  rw [V_main_arg4]
  refine congrArg _ (funext fun k => Fin.ext ?_)
  match k with
  | ⟨0, _⟩ => blk_simp [at6]
  | ⟨1, _⟩ => blk_simp [at6]

theorem block7 (t : Fin cfg0.N) (b : Fin 1024) : iblk m c 7 t (ix2 0 b) = G' m c (ix2 0 b) := by
  blk_simp [iblk]
  rw [V_main_arg7]
  refine congrArg _ (funext fun k => Fin.ext ?_)
  match k with
  | ⟨0, _⟩ => blk_simp [at7]
  | ⟨1, _⟩ => blk_simp [at7]

/-- The product of a point's blocks: rows of the whole product. -/
theorem rows (t : Fin cfg0.N) (a : Fin 512) (b : Fin 1024) (h : 512 * t.val + a.val < 8192) :
    k0_pay8 (iblk m c 0 t) (View.ld (iblk m c 2 t) (Rect.unit ![0, 0] ![2816, 1024] inb_S5632x1024_S2816x1024_0_0))
      (iblk m c 1 t) (View.ld (iblk m c 2 t) (Rect.unit ![2816, 0] ![2816, 1024] inb_S5632x1024_S2816x1024_2816_0)) (ix2 a b)
      = Z m c (ix2 ⟨512 * t.val + a.val, h⟩ b) := by
  refine (product _ _ _ _ a b).trans (congrArg₂ (· + ·) (Finset.sum_congr rfl fun k _ => congrArg₂ (· * ·) (block0 m c t a k h) ?_)
    (Finset.sum_congr rfl fun k _ => congrArg₂ (· * ·) (block1 m c t a k h) ?_))
  · rw [ld_at _ _ k b (by omega) (by omega), block2]
    simp
  · rw [ld_at _ _ k b (by omega) (by omega), block2]
    simp

/-- After an even point the first accumulator holds that point's rows of the product. -/
theorem even (t : Fin cfg0.N) (ht : t.val % 2 = 0) (a : Fin 512) (b : Fin 1024) (h : 512 * t.val + a.val < 8192) :
    (outsAt0 m c t.val t.isLt).2.2.2.2.1 (ix2 a b) = Z m c (ix2 ⟨512 * t.val + a.val, h⟩ b) := by
  refine Eq.trans ?_ (rows m c t a b h)
  by_cases h0 : t.val % 17 = 0
  · rw [outsAt0_A m c t h0 ht (by omega)]
    frame_out
    rfl
  · rw [outsAt0_C m c t h0 ht (by omega)]
    frame_out
    rfl

/-- After an odd point the second accumulator holds that point's rows of the product. -/
theorem odd (t : Fin cfg0.N) (ht : t.val % 2 = 1) (a : Fin 512) (b : Fin 1024) (h : 512 * t.val + a.val < 8192) :
    (outsAt0 m c t.val t.isLt).2.2.2.2.2 (ix2 a b) = Z m c (ix2 ⟨512 * t.val + a.val, h⟩ b) := by
  refine Eq.trans ?_ (rows m c t a b h)
  rw [outsAt0_B m c t (by have := t.isLt; have : cfg0.N = 17 := N_0; omega) (by omega) ht]
  frame_out
  rfl

/-- What the point before left. -/
abbrev before (t : Fin cfg0.N) := outsAt0 m c (t.val - 1) (Nat.lt_of_le_of_lt (Nat.sub_le _ _) t.isLt)

/-- What a point after the first stores, from the rows `z` of the product formed at the point before it. -/
def Stores (t : Fin cfg0.N) (z : Mat 512 1024) : Prop :=
  (∀ a b, (outsAt0 m c t.val t.isLt).1 (ix2 a b) = through (n := 512) (iblk m c 3 t) z (iblk m c 6 t) (iblk m c 4 t) (ix2 a b))
  ∧ (∀ a b, (outsAt0 m c t.val t.isLt).2.1 (ix2 a b)
      = grad (n := 512) (iblk m c 5 t) (through (n := 512) (iblk m c 3 t) z (iblk m c 6 t) (iblk m c 4 t)) (iblk m c 7 t) (ix2 a b))
  ∧ (∀ b, (outsAt0 m c t.val t.isLt).2.2.1 (ix2 0 b)
      = (before m c t).2.2.1 (ix2 0 b) + ∑ a : Fin 512, z (ix2 a b) * unit (n := 512) (iblk m c 3 t) (ix2 a b))
  ∧ ∀ b, (outsAt0 m c t.val t.isLt).2.2.2.1 (ix2 0 b)
      = (before m c t).2.2.2.1 (ix2 0 b) + ∑ a : Fin 512, through (n := 512) (iblk m c 3 t) z (iblk m c 6 t) (iblk m c 4 t) (ix2 a b) * unit (n := 512) (iblk m c 5 t) (ix2 a b)

theorem stores_odd (t : Fin cfg0.N) (ht : t.val % 2 = 1) : Stores m c t (before m c t).2.2.2.2.1 := by
  have hN : t.val < 17 := lt_of_lt_of_eq t.isLt N_0
  have hi := positive t (by omega)
  refine ⟨fun a b => ?_, fun a b => ?_, fun b => ?_, fun b => ?_⟩ <;> rw [outsAt0_B m c t (by omega) (by omega) ht] <;> frame_out <;> simp only [read_unread_whole]
  · exact first_norm _ _ _ _ a b
  · exact second_norm _ _ _ _ _ _ a b
  · exact first_gain _ hi _ _ _ b
  · exact second_gain _ hi _ _ _ _ _ _ b

theorem stores_even (t : Fin cfg0.N) (h0 : t.val ≠ 0) (ht : t.val % 2 = 0) : Stores m c t (before m c t).2.2.2.2.2 := by
  have hN : t.val < 17 := lt_of_lt_of_eq t.isLt N_0
  have hi := positive t h0
  refine ⟨fun a b => ?_, fun a b => ?_, fun b => ?_, fun b => ?_⟩ <;> rw [outsAt0_C m c t (by omega) ht (by omega)] <;> frame_out <;> simp only [read_unread_whole]
  · exact first_norm _ _ _ _ a b
  · exact second_norm _ _ _ _ _ _ a b
  · exact first_gain _ hi _ _ _ b
  · exact second_gain _ hi _ _ _ _ _ _ b

theorem stores (t : Fin cfg0.N) (h0 : t.val ≠ 0) :
    ∃ z : Mat 512 1024, (∀ (a : Fin 512) (b : Fin 1024) (h : 512 * (t.val - 1) + a.val < 8192), z (ix2 a b) = Z m c (ix2 ⟨512 * (t.val - 1) + a.val, h⟩ b))
      ∧ Stores m c t z := by
  rcases (show t.val % 2 = 0 ∨ t.val % 2 = 1 by omega) with ht | ht
  · exact ⟨_, fun a b h => odd m c ⟨t.val - 1, Nat.lt_of_le_of_lt (Nat.sub_le _ _) t.isLt⟩ (show (t.val - 1) % 2 = 1 by omega) a b h, stores_even m c t h0 ht⟩
  · exact ⟨_, fun a b h => even m c ⟨t.val - 1, Nat.lt_of_le_of_lt (Nat.sub_le _ _) t.isLt⟩ (show (t.val - 1) % 2 = 0 by omega) a b h, stores_odd m c t ht⟩

theorem through_row {z : Mat 512 1024} (t : Fin cfg0.N) (a : Fin 512) (h : 512 * (t.val - 1) + a.val < 8192)
    (hz : ∀ b, z (ix2 a b) = Z m c (ix2 ⟨512 * (t.val - 1) + a.val, h⟩ b)) (b : Fin 1024) :
    through (n := 512) (iblk m c 3 t) z (iblk m c 6 t) (iblk m c 4 t) (ix2 a b) = Y m c (ix2 ⟨512 * (t.val - 1) + a.val, h⟩ b) :=
  congrArg₂ (· + ·) (grad_row (fun k => block3 m c t a k h) hz (fun k => block6 m c t k) b) (block4 m c t a b h)

/-- The stored rows are those of the whole arrays. -/
theorem stored (t : Fin cfg0.N) (h0 : t.val ≠ 0) (a : Fin 512) (b : Fin 1024) (h : 512 * (t.val - 1) + a.val < 8192) :
    (outsAt0 m c t.val t.isLt).1 (ix2 a b) = Y m c (ix2 ⟨512 * (t.val - 1) + a.val, h⟩ b)
    ∧ (outsAt0 m c t.val t.isLt).2.1 (ix2 a b) = grad (P m c) (Y m c) (G' m c) (ix2 ⟨512 * (t.val - 1) + a.val, h⟩ b) := by
  obtain ⟨z, hz, s1, s2, -⟩ := stores m c t h0
  have hs := through_row m c t a h (fun b => hz a b h)
  exact ⟨(s1 a b).trans (hs b), (s2 a b).trans (grad_row (fun k => block5 m c t a k h) hs (fun k => block7 m c t k) b)⟩

/-- The sums after a point: over the rows stored so far. -/
theorem sums (b : Fin 1024) : ∀ (n : ℕ) (h : n < cfg0.N),
    (outsAt0 m c n h).2.2.1 (ix2 0 b) = dots (Z m c) (unit (X m c)) (512 * n) b.val b.val
    ∧ (outsAt0 m c n h).2.2.2.1 (ix2 0 b) = dots (Y m c) (unit (P m c)) (512 * n) b.val b.val
  | 0, h => by
    have hi := zero ⟨0, h⟩ rfl
    have e := outsAt0_A m c ⟨0, h⟩ rfl rfl (show ¬ 0 % 2 = 1 by decide)
    constructor
    · rw [show outsAt0 m c 0 h = _ from e]
      frame_out
      exact (no_gain _ hi _ b).1
    · rw [show outsAt0 m c 0 h = _ from e]
      frame_out
      exact (no_gain _ hi _ b).2
  | n + 1, h => by
    have hN : n + 1 < 17 := lt_of_lt_of_eq h N_0
    obtain ⟨z, hz, -, -, s3, s4⟩ := stores m c ⟨n + 1, h⟩ (Nat.succ_ne_zero n)
    have hr : ∀ a : Fin 512, 512 * n + a.val < 8192 := fun a => by have := a.isLt; omega
    obtain ⟨i3, i4⟩ := sums b n (Nat.lt_of_succ_lt h)
    rw [Nat.mul_succ, dots_add, dots_add]
    refine ⟨s3 b |>.trans (congrArg₂ (· + ·) i3 (Finset.sum_congr rfl fun a _ => congrArg₂ (· * ·) ((hz a b (hr a)).trans (num_of _ _ _)) ?_)),
      s4 b |>.trans (congrArg₂ (· + ·) i4 (Finset.sum_congr rfl fun a _ => congrArg₂ (· * ·) ((through_row m c ⟨n + 1, h⟩ a (hr a) (fun b => hz a b (hr a)) b).trans (num_of _ _ _)) ?_))⟩
    · exact (unit_row (fun k => block3 m c ⟨n + 1, h⟩ a k (hr a)) b).trans (num_of _ _ _)
    · exact (unit_row (fun k => block5 m c ⟨n + 1, h⟩ a k (hr a)) b).trans (num_of _ _ _)

theorem array8 : (dats m 0 c).arrAt 8 cfg0.N = Y m c := by
  refine (dats m 0 c).arrAt_eq_of_covers 8 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later8 t hf
  have ha := a.isLt
  blk_simp
  rw [after0_8, (stored m c t h0 a b (by omega)).1]
  refine congrArg _ (idx2_ext ?_ ?_)
  · blk_simp [at8]; show 512 * (t.val - 1) + a.val = _; simp; omega
  · blk_simp [at8]

theorem array9 : (dats m 0 c).arrAt 9 cfg0.N = grad (P m c) (Y m c) (G' m c) := by
  refine (dats m 0 c).arrAt_eq_of_covers 9 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later9 t hf
  have ha := a.isLt
  blk_simp
  rw [after0_9, (stored m c t h0 a b (by omega)).2]
  refine congrArg _ (idx2_ext ?_ ?_)
  · blk_simp [at9]; show 512 * (t.val - 1) + a.val = _; simp; omega
  · blk_simp [at9]

theorem array10 : (dats m 0 c).arrAt 10 cfg0.N = gains (X m c) (Z m c) := by
  refine (dats m 0 c).arrAt_eq_of_covers 10 _ (by decide +kernel) fun t hf y => ?_
  obtain ⟨a, b, rfl⟩ : ∃ (a : Fin 1) (b : Fin 1024), y = ix2 a b := ⟨y 0, y 1, (ix2_eta y).symm⟩
  obtain rfl : a = 0 := Subsingleton.elim _ _
  have h := last10 t hf
  blk_simp
  rw [after0_10, (sums m c b t.val t.isLt).1, h]
  show _ = dots _ _ 8192 _ _
  blk_simp [at10]

theorem array11 : (dats m 0 c).arrAt 11 cfg0.N = gains (P m c) (Y m c) := by
  refine (dats m 0 c).arrAt_eq_of_covers 11 _ (by decide +kernel) fun t hf y => ?_
  obtain ⟨a, b, rfl⟩ : ∃ (a : Fin 1) (b : Fin 1024), y = ix2 a b := ⟨y 0, y 1, (ix2_eta y).symm⟩
  obtain rfl : a = 0 := Subsingleton.elim _ _
  have h := last11 t hf
  blk_simp
  rw [after0_11, (sums m c b t.val t.isLt).2, h]
  show _ = dots _ _ 8192 _ _
  blk_simp [at11]

open Cert.DgradGuRefIdeal.Read

variable (d e : Mat 8192 2816) (w : Mat 1024 5632) (x : Mat 8192 1024) (g : Mat 1 1024) (h p : Mat 8192 1024) (g' : Mat 1 1024)

theorem value18 : val_main_v18 (F := Ideal) d e w = both d e w := by
  funext i
  obtain ⟨a, b, rfl⟩ : ∃ (a : Fin 8192) (b : Fin 1024), i = ix2 a b := ⟨i 0, i 1, (ix2_eta i).symm⟩
  unfold val_main_v18 val_main_v17 val_main_v0
  pointwise []
  exact congrArg₂ (· + ·) (Finset.sum_congr rfl fun k _ => congrArg (d (ix2 a k) * ·) (num_at _ _ _))
    (Finset.sum_congr rfl fun k _ => congrArg (e (ix2 a k) * ·) (num_at _ _ _))

theorem value32 (a : Fin 8192) : val_main_v32 (F := Ideal) d e w x g (ix1 a)
    = slope (fun k => x (ix2 a k)) (fun k => both d e w (ix2 a k)) (fun k => g (ix2 0 k)) := by
  rw [val_main_v32_apply, ← value18]
  refine Eq.trans (b := val_main_v31 (F := Ideal) d e w x g (ix2 a 0)) ?_ ?_
  · generalize val_main_v31 (F := Ideal) d e w x g = z
    unfold val_main_cst_6
    pointwise []
    rw [Fin.sum_univ_one]
    exact congrArg z (idx2_ext rfl rfl)
  · unfold val_main_v31 val_main_v30 val_main_v29 val_main_v26 val_main_v25 val_main_v24 val_main_v23 val_main_v22 val_main_v11 val_main_v10 val_main_v9 val_main_v8 val_main_v7 val_main_v6 val_main_v5 val_main_v4 val_main_v3 val_main_v2 val_main_v1 val_main_cst val_main_cst_1 val_main_cst_2 val_main_cst_4 val_main_cst_5
    generalize val_main_v18 (F := Ideal) d e w = z
    pointwise []
    rfl

theorem value38 : val_main_v38 (F := Ideal) d e w x g h = through x (both d e w) g h := by
  funext i
  obtain ⟨a, b, rfl⟩ : ∃ (a : Fin 8192) (b : Fin 1024), i = ix2 a b := ⟨i 0, i 1, (ix2_eta i).symm⟩
  refine Eq.trans ?_ (congrArg (· + h (ix2 a b)) (gradRow_eq (fun k => x (ix2 a k)) (fun k => both d e w (ix2 a k)) (fun k => g (ix2 0 k)) b))
  rw [← value32, ← value18]
  unfold val_main_v38 val_main_v37 val_main_v36 val_main_v35 val_main_v34 val_main_v33 val_main_v28 val_main_v27
  generalize val_main_v32 (F := Ideal) d e w x g = s
  unfold val_main_v23 val_main_v22 val_main_v8 val_main_v7 val_main_v6 val_main_v5 val_main_v4 val_main_v3 val_main_v2 val_main_v1 val_main_cst val_main_cst_1
  generalize val_main_v18 (F := Ideal) d e w = z
  pointwise []
  rfl

theorem value21 : val_main_v21 (F := Ideal) d e w x = gains x (both d e w) := by
  funext i
  obtain ⟨a, b, rfl⟩ : ∃ (a : Fin 1) (b : Fin 1024), i = ix2 a b := ⟨i 0, i 1, (ix2_eta i).symm⟩
  obtain rfl : a = 0 := Subsingleton.elim _ _
  refine Eq.trans ?_ (gains_at x (both d e w) (ix2 0 b))
  rw [← value18]
  unfold val_main_v21 val_main_v20 val_main_v19 val_main_v13 val_main_v12 val_main_v8 val_main_v7 val_main_v6 val_main_v5 val_main_v4 val_main_v3 val_main_v2 val_main_v1 val_main_cst val_main_cst_1 val_main_cst_3
  generalize val_main_v18 (F := Ideal) d e w = z
  pointwise []
  rfl

theorem value68 (a : Fin 8192) : val_main_v68 (F := Ideal) d e w x g h p g' (ix1 a)
    = slope (fun k => p (ix2 a k)) (fun k => through x (both d e w) g h (ix2 a k)) (fun k => g' (ix2 0 k)) := by
  rw [val_main_v68_apply, ← value38]
  refine Eq.trans (b := val_main_v67 (F := Ideal) d e w x g h p g' (ix2 a 0)) ?_ ?_
  · generalize val_main_v67 (F := Ideal) d e w x g h p g' = z
    unfold val_main_cst_14
    pointwise []
    rw [Fin.sum_univ_one]
    exact congrArg z (idx2_ext rfl rfl)
  · unfold val_main_v67 val_main_v66 val_main_v65 val_main_v62 val_main_v61 val_main_v60 val_main_v59 val_main_v58 val_main_v50 val_main_v49 val_main_v48 val_main_v47 val_main_v46 val_main_v45 val_main_v44 val_main_v43 val_main_v42 val_main_v41 val_main_v40 val_main_v39 val_main_cst_7 val_main_cst_8 val_main_cst_9 val_main_cst_10 val_main_cst_12 val_main_cst_13
    generalize val_main_v38 (F := Ideal) d e w x g h = z
    pointwise []
    rfl

theorem value74 : val_main_v74 (F := Ideal) d e w x g h p g' = grad p (through x (both d e w) g h) g' := by
  funext i
  obtain ⟨a, b, rfl⟩ : ∃ (a : Fin 8192) (b : Fin 1024), i = ix2 a b := ⟨i 0, i 1, (ix2_eta i).symm⟩
  refine Eq.trans ?_ (gradRow_eq (fun k => p (ix2 a k)) (fun k => through x (both d e w) g h (ix2 a k)) (fun k => g' (ix2 0 k)) b)
  rw [← value68, ← value38]
  unfold val_main_v74 val_main_v73 val_main_v72 val_main_v71 val_main_v70 val_main_v69 val_main_v64 val_main_v63
  generalize val_main_v68 (F := Ideal) d e w x g h p g' = s
  unfold val_main_v59 val_main_v58 val_main_v47 val_main_v46 val_main_v45 val_main_v44 val_main_v43 val_main_v42 val_main_v41 val_main_v40 val_main_v39 val_main_cst_7 val_main_cst_8 val_main_cst_9
  generalize val_main_v38 (F := Ideal) d e w x g h = z
  pointwise []
  rfl

theorem value57 : val_main_v57 (F := Ideal) d e w x g h p = gains p (through x (both d e w) g h) := by
  funext i
  obtain ⟨a, b, rfl⟩ : ∃ (a : Fin 1) (b : Fin 1024), i = ix2 a b := ⟨i 0, i 1, (ix2_eta i).symm⟩
  obtain rfl : a = 0 := Subsingleton.elim _ _
  refine Eq.trans ?_ (gains_at p (through x (both d e w) g h) (ix2 0 b))
  rw [← value38]
  unfold val_main_v57 val_main_v56 val_main_v55 val_main_v52 val_main_v51 val_main_v47 val_main_v46 val_main_v45 val_main_v44 val_main_v43 val_main_v42 val_main_v41 val_main_v40 val_main_v39 val_main_cst_7 val_main_cst_8 val_main_cst_9 val_main_cst_11
  generalize val_main_v38 (F := Ideal) d e w x g h = z
  pointwise []
  rfl

end Cert.DgradGuIdeal.Product

end
-- ==== Proof.DgradInOdd.lean ====
/- The body of the call's kernel run whole at an odd point of the grid. -/
module

public import proofs.«01_k».proof.Proof.Gen.DgradInIdeal.Frame.RunA

@[expose] public section

set_option maxRecDepth 16384

noncomputable section

namespace Cert.DgradInIdeal.Whole

open Cert.DgradInIdeal Cert.DgradInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1456000 in
/-- The body at an odd point: the pieces its stores leave in the four results' buffers and in the second accumulator, and the
    proof that the body runs on whole buffers, the inputs' at their contents, and leaves those pieces written. The witness is
    what the run finds. -/
noncomputable def kernelRun0_B (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S2560x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : ¬cond0_1 i) (hc2 : cond0_2 i)
    (x0 : Vec F S512x1024 .bf16) (x1 : Vec F S512x512 .bf16) (x2 : Vec F S512x512 .bf16) (x3 : Vec F S512x512 .bf16) (x4 : Vec F S2560x1024 .bf16) (x5 : Vec F S512x1024 .f32) (x6 : Vec F S512x1024 .f32) (x7 : Vec F S512x1024 .bf16) (x8 : Vec F S1x1024 .f32) (x9 : Vec F S1x1024 .f32) (xo12 : Vec F S1x1024 .f32) (xo13 : Vec F S1x1024 .f32) (xs0 : Vec F S512x1024 .f32) :
    Σ' (L10 : List (View.Piece (Elt F) S512x1024 .f32)), Σ' (L11 : List (View.Piece (Elt F) S512x1024 .bf16)), Σ' (L12 : List (View.Piece (Elt F) S1x1024 .f32)), Σ' (L13 : List (View.Piece (Elt F) S1x1024 .f32)), Σ' (LS0 : List (View.Piece (Elt F) S512x1024 .f32)), { LS1 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xo12 ∗ owns (c : Thread nD τ) arg14 fullShare xo13 ∗ owns (c : Thread nD τ) arg15 fullShare xs0 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xs0 ∗ (∃ f, arg16.view.loc (c : Thread nD τ) ↦[arg16.view.set]{fullShare} arg16.view.writes (Elt F) f LS1)) -∗ K ⟨⟩))
          ⊢ wp frame (wpE (defs₀ (F := F)) Variants.none c none) E (cc0_dgrad_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, [], ?_, fun E K => ?run⟩
  case run =>
    simp only [cc0_dgrad_in_eq_skeleton]; unfold cc0_dgrad_in_skel
    rw [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg14.eq_unread hf13; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [HS0]
    · iexists _; isplitr; · ipureintro; exact harg15.read_unread _
      iexact HS0
    iexists _; iexact HS1

end Cert.DgradInIdeal.Whole

end
-- ==== Proof.DgradInEven.lean ====
/- The body of the call's kernel run whole at an even point of the grid after the first. -/
module

public import proofs.«01_k».proof.Proof.Gen.DgradInIdeal.Frame.RunA

@[expose] public section

set_option maxRecDepth 16384

noncomputable section

namespace Cert.DgradInIdeal.Whole

open Cert.DgradInIdeal Cert.DgradInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1456000 in
/-- The body at an even point after the first: the pieces its stores leave in the four results' buffers and in the first
    accumulator, and the proof that the body runs and leaves those pieces written. -/
noncomputable def kernelRun0_C (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S2560x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (hc2 : ¬cond0_2 i)
    (x0 : Vec F S512x1024 .bf16) (x1 : Vec F S512x512 .bf16) (x2 : Vec F S512x512 .bf16) (x3 : Vec F S512x512 .bf16) (x4 : Vec F S2560x1024 .bf16) (x5 : Vec F S512x1024 .f32) (x6 : Vec F S512x1024 .f32) (x7 : Vec F S512x1024 .bf16) (x8 : Vec F S1x1024 .f32) (x9 : Vec F S1x1024 .f32) (xo12 : Vec F S1x1024 .f32) (xo13 : Vec F S1x1024 .f32) (xs1 : Vec F S512x1024 .f32) :
    Σ' (L10 : List (View.Piece (Elt F) S512x1024 .f32)), Σ' (L11 : List (View.Piece (Elt F) S512x1024 .bf16)), Σ' (L12 : List (View.Piece (Elt F) S1x1024 .f32)), Σ' (L13 : List (View.Piece (Elt F) S1x1024 .f32)), Σ' (LS0 : List (View.Piece (Elt F) S512x1024 .f32)), { LS1 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xo12 ∗ owns (c : Thread nD τ) arg14 fullShare xo13 ∗ (∃ d, owns (c : Thread nD τ) arg15 fullShare d) ∗ owns (c : Thread nD τ) arg16 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ owns (c : Thread nD τ) arg16 fullShare xs1) -∗ K ⟨⟩))
          ⊢ wp frame (wpE (defs₀ (F := F)) Variants.none c none) E (cc0_dgrad_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, [], fun E K => ?run⟩
  case run =>
    simp only [cc0_dgrad_in_eq_skeleton]; unfold cc0_dgrad_in_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg14.eq_unread hf13; obtain rfl := harg16.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [HS0]; · iexists _; iexact HS0
    iexists _; isplitr; · ipureintro; exact harg16.read_unread _
    iexact HS1

end Cert.DgradInIdeal.Whole

end
-- ==== Proof.DgradInCases.lean ====
/- What the kernel's body leaves in the results' buffers and in the two accumulators, at the first point, at an odd point and at an
   even one: the pieces of its run cover each buffer, which therefore holds what they write. -/
module

public import proofs.«01_k».proof.Proof.DgradInOdd
public import proofs.«01_k».proof.Proof.DgradInEven

@[expose] public section

set_option maxRecDepth 16384

noncomputable section

namespace Cert.DgradInIdeal.Whole

open Cert.DgradInIdeal Cert.DgradInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .vmem S512x1024 .bf16) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S2560x1024 .bf16) (harg5 : arg5.IsWhole)
    (arg6 : Memref sig .tc .vmem S512x1024 .f32) (harg6 : arg6.IsWhole)
    (arg7 : Memref sig .tc .vmem S512x1024 .f32) (harg7 : arg7.IsWhole)
    (arg8 : Memref sig .tc .vmem S512x1024 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S1x1024 .f32) (harg14 : arg14.IsWhole)
    (arg15 : Memref sig .tc .vmem S512x1024 .f32) (harg15 : arg15.IsWhole)
    (arg16 : Memref sig .tc .vmem S512x1024 .f32) (harg16 : arg16.IsWhole)

section

variable (hc0 : cond0_0 i) (hc1 : cond0_1 i) (hc2 : ¬cond0_2 i)
    (x0 : Vec F S512x1024 .bf16) (x1 x2 x3 : Vec F S512x512 .bf16) (x4 : Vec F S2560x1024 .bf16) (x5 x6 : Vec F S512x1024 .f32)
    (x7 : Vec F S512x1024 .bf16) (x8 x9 : Vec F S1x1024 .f32)

theorem cover0_A_10 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).1 S32x1024.size (by sl_kernel_rfl) y

/-- What the first point leaves in result 10's buffer. -/
def out0_A_10 : Vec F S512x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).1)

theorem cover0_A_11 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.1 S32x1024.size (by sl_kernel_rfl) y

/-- What the first point leaves in result 11's buffer. -/
def out0_A_11 : Vec F S512x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.1)

theorem cover0_A_12 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.1 S1x1024.size (by sl_kernel_rfl) y

/-- What the first point leaves in result 12's buffer. -/
def out0_A_12 : Vec F S1x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.1)

theorem cover0_A_13 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.1 S1x1024.size (by sl_kernel_rfl) y

/-- What the first point leaves in result 13's buffer. -/
def out0_A_13 : Vec F S1x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.1)

theorem scover0_A_0 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.1 S512x1024.size (by sl_kernel_rfl) y

/-- What the first point leaves in the first accumulator. -/
def sout0_A_0 : Vec F S512x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.1)

theorem scover0_A_1 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.2.1 S512x1024.size (by sl_kernel_rfl) y

/-- What the first point leaves in the second accumulator. -/
def sout0_A_1 : Vec F S512x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.2.1)

end

section

variable (hc0 : ¬cond0_0 i) (hc1 : ¬cond0_1 i) (hc2 : cond0_2 i)
    (x0 : Vec F S512x1024 .bf16) (x1 x2 x3 : Vec F S512x512 .bf16) (x4 : Vec F S2560x1024 .bf16) (x5 x6 : Vec F S512x1024 .f32)
    (x7 : Vec F S512x1024 .bf16) (x8 x9 : Vec F S1x1024 .f32) (xo12 xo13 : Vec F S1x1024 .f32) (xs0 : Vec F S512x1024 .f32)

theorem cover0_B_10 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).1 S32x1024.size (by sl_kernel_rfl) y

/-- What an odd point leaves in result 10's buffer. -/
def out0_B_10 : Vec F S512x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).1)

theorem cover0_B_11 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.1 S32x1024.size (by sl_kernel_rfl) y

/-- What an odd point leaves in result 11's buffer. -/
def out0_B_11 : Vec F S512x1024 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.1)

theorem cover0_B_12 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.1 S1x1024.size (by sl_kernel_rfl) y

/-- What an odd point leaves in result 12's buffer. -/
def out0_B_12 : Vec F S1x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.1)

theorem cover0_B_13 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.1 S1x1024.size (by sl_kernel_rfl) y

/-- What an odd point leaves in result 13's buffer. -/
def out0_B_13 : Vec F S1x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.1)

theorem scover0_B_1 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.2.2.1 S512x1024.size (by sl_kernel_rfl) y

/-- What an odd point leaves in the second accumulator. -/
def sout0_B_1 : Vec F S512x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs0).2.2.2.2.2.1)

end

section

variable (hc0 : ¬cond0_0 i) (hc1 : cond0_1 i) (hc2 : ¬cond0_2 i)
    (x0 : Vec F S512x1024 .bf16) (x1 x2 x3 : Vec F S512x512 .bf16) (x4 : Vec F S2560x1024 .bf16) (x5 x6 : Vec F S512x1024 .f32)
    (x7 : Vec F S512x1024 .bf16) (x8 x9 : Vec F S1x1024 .f32) (xo12 xo13 : Vec F S1x1024 .f32) (xs1 : Vec F S512x1024 .f32)

theorem cover0_C_10 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).1 S32x1024.size (by sl_kernel_rfl) y

/-- What an even point after the first leaves in result 10's buffer. -/
def out0_C_10 : Vec F S512x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).1)

theorem cover0_C_11 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.1 S32x1024.size (by sl_kernel_rfl) y

/-- What an even point after the first leaves in result 11's buffer. -/
def out0_C_11 : Vec F S512x1024 .bf16 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.1)

theorem cover0_C_12 (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.1 S1x1024.size (by sl_kernel_rfl) y

/-- What an even point after the first leaves in result 12's buffer. -/
def out0_C_12 : Vec F S1x1024 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.1)

theorem cover0_C_13 (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.1 S1x1024.size (by sl_kernel_rfl) y

/-- What an even point after the first leaves in result 13's buffer. -/
def out0_C_13 : Vec F S1x1024 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.1)

theorem scover0_C_0 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.2.1 S512x1024.size (by sl_kernel_rfl) y

/-- What an even point after the first leaves in the first accumulator. -/
def sout0_C_0 : Vec F S512x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo12 xo13 xs1).2.2.2.2.1)

end

end Cert.DgradInIdeal.Whole

end
-- ==== Proof.DgradInRun.lean ====
/- The whole run of the call: what every buffer holds after each point of the grid, the body's proof at each point, and what the
   arrays hold when the run ends. -/
module

public import proofs.«01_k».proof.Proof.DgradInCases
public import Idealize.ShloMosaic.Lib.Claim
public import Idealize.ShloMosaic.Lib.Pipeline.Value

@[expose] public section

set_option maxRecDepth 16384

noncomputable section

namespace Cert.DgradInIdeal.Whole

open Cert.DgradInIdeal Cert.DgradInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' buffers, in order, and the two accumulators. -/
abbrev Held (F : FTy → Type) : Type := Vec F S512x1024 .f32 × Vec F S512x1024 .bf16 × Vec F S1x1024 .f32 × Vec F S1x1024 .f32 × Vec F S512x1024 .f32 × Vec F S512x1024 .f32

/-- What the first point leaves. -/
abbrev atA (c : Dev nD) (t : Fin cfg0.N) (h0 : t.val % 17 = 0) (h1 : t.val % 2 = 0) (h2 : ¬t.val % 2 = 1) : Held F :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t),
   out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t),
   out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t),
   out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t))

/-- What an odd point leaves, over what the point before left. -/
abbrev atB (c : Dev nD) (t : Fin cfg0.N) (h0 : ¬t.val % 17 = 0) (h1 : ¬t.val % 2 = 0) (h2 : t.val % 2 = 1) (p : Held F) : Held F :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1,
   out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1,
   out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1,
   out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1,
   p.2.2.2.2.1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1)

/-- What an even point after the first leaves, over what the point before left. -/
abbrev atC (c : Dev nD) (t : Fin cfg0.N) (h0 : ¬t.val % 17 = 0) (h1 : t.val % 2 = 0) (h2 : ¬t.val % 2 = 1) (p : Held F) : Held F :=
  (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.2,
   out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.2,
   out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.2,
   out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.2,
   p.2.2.2.2.2)

/-- What the buffers hold after the body at each point, in the grid's order. -/
def outsAt0 (c : Dev nD) : (n : ℕ) → n < cfg0.N → Held F
  | 0, hn => atA m c ⟨0, hn⟩ (Nat.zero_mod _) (Nat.zero_mod _) (show ¬0 % 2 = 1 by decide)
  | n + 1, hn =>
    if h0 : (n + 1) % 17 = 0 then
      False.elim (by have hN : n + 1 < 17 := lt_of_lt_of_eq hn (show cfg0.N = 17 from N_0); omega)
    else
      if h1 : (n + 1) % 2 = 0 then
        atC m c ⟨n + 1, hn⟩ h0 h1 (by dsimp only; omega) (outsAt0 c n (Nat.lt_of_succ_lt hn))
      else
        atB m c ⟨n + 1, hn⟩ h0 h1 (by dsimp only; omega) (outsAt0 c n (Nat.lt_of_succ_lt hn))

theorem outsAt0_A (c : Dev nD) (t : Fin cfg0.N) (h0 : t.val % 17 = 0) (h1 : t.val % 2 = 0) (h2 : ¬t.val % 2 = 1) :
    outsAt0 m c t.val t.isLt = atA m c t h0 h1 h2 := by
  obtain ⟨n, hn⟩ := t
  cases n with
  | zero => exact rfl
  | succ n => exact absurd h0 (by have hN : n + 1 < 17 := lt_of_lt_of_eq hn (show cfg0.N = 17 from N_0); dsimp only; omega)

theorem outsAt0_B (c : Dev nD) (t : Fin cfg0.N) (h0 : ¬t.val % 17 = 0) (h1 : ¬t.val % 2 = 0) (h2 : t.val % 2 = 1) :
    outsAt0 m c t.val t.isLt = atB m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 17 = 0) (h1 : t.val % 2 = 0) (h2 : ¬t.val % 2 = 1) :
    outsAt0 m c t.val t.isLt = atC m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The invariant before a point: before the first every scratch buffer holds anything, afterwards the accumulators hold what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After a point the accumulators hold what it left. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-- The call's data: the arrays as the run finds them, after each point the inputs' buffers at their blocks and the results' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel

/-- Every point stores into the sums' buffers. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ :=
  fun t _ hi _ => absurd ((live12 t).symm.trans hi) Bool.false_ne_true

theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ :=
  fun t _ hi _ => absurd ((live13 t).symm.trans hi) Bool.false_ne_true

/-- A point after the first finds in the sums' buffers what the point before left. -/
theorem before0_12_B (c : Dev nD) (t : Fin cfg0.N) (h0 : ¬t.val % 17 = 0) (h1 : ¬t.val % 2 = 0) (h2 : t.val % 2 = 1) (d) :
    (dats m 0 c).before 12 t d = (outsAt0 m c (t.val - 1) (Nat.lt_of_le_of_lt (Nat.sub_le _ _) t.isLt)).2.2.1 := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h)) ((hcond0_2 t).mpr h2)]; exact Bool.false_ne_true)]
  dsimp only [dats]
theorem before0_13_B (c : Dev nD) (t : Fin cfg0.N) (h0 : ¬t.val % 17 = 0) (h1 : ¬t.val % 2 = 0) (h2 : t.val % 2 = 1) (d) :
    (dats m 0 c).before 13 t d = (outsAt0 m c (t.val - 1) (Nat.lt_of_le_of_lt (Nat.sub_le _ _) t.isLt)).2.2.2.1 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h)) ((hcond0_2 t).mpr h2)]; exact Bool.false_ne_true)]
  dsimp only [dats]
theorem before0_12_C (c : Dev nD) (t : Fin cfg0.N) (h0 : ¬t.val % 17 = 0) (h1 : t.val % 2 = 0) (h2 : ¬t.val % 2 = 1) (d) :
    (dats m 0 c).before 12 t d = (outsAt0 m c (t.val - 1) (Nat.lt_of_le_of_lt (Nat.sub_le _ _) t.isLt)).2.2.1 := by
  rw [Dat.before_out_traj _ 12 rfl (fun _ _ => rfl) (hcarry0_12 m c) t.val t rfl d,
    if_neg (by rw [notFresh0_12_C t (fun h => h0 ((hcond0_0 t).mp h)) ((hcond0_1 t).mpr h1) (fun h => h2 ((hcond0_2 t).mp h))]; exact Bool.false_ne_true)]
  dsimp only [dats]
theorem before0_13_C (c : Dev nD) (t : Fin cfg0.N) (h0 : ¬t.val % 17 = 0) (h1 : t.val % 2 = 0) (h2 : ¬t.val % 2 = 1) (d) :
    (dats m 0 c).before 13 t d = (outsAt0 m c (t.val - 1) (Nat.lt_of_le_of_lt (Nat.sub_le _ _) t.isLt)).2.2.2.1 := by
  rw [Dat.before_out_traj _ 13 rfl (fun _ _ => rfl) (hcarry0_13 m c) t.val t rfl d,
    if_neg (by rw [notFresh0_13_C t (fun h => h0 ((hcond0_0 t).mp h)) ((hcond0_1 t).mpr h1) (fun h => h2 ((hcond0_2 t).mp h))]; exact Bool.false_ne_true)]
  dsimp only [dats]

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t = owns (c : Thread nD τ) (ms0_10 t) fullShare ((dats m 0 c).after 10 t) := by
  unfold Dat.leavesExact; rw [live10 t]
theorem leaves0_11 (c : Dev nD) (t : Fin cfg0.N) : (dats m 0 c).leavesExact 11 t = owns (c : Thread nD τ) (ms0_11 t) fullShare ((dats m 0 c).after 11 t) := by
  unfold Dat.leavesExact; rw [live11 t]
theorem leaves0_12 (c : Dev nD) (t : Fin cfg0.N) : (dats m 0 c).leavesExact 12 t = owns (c : Thread nD τ) (ms0_12 t) fullShare ((dats m 0 c).after 12 t) := by
  unfold Dat.leavesExact; rw [live12 t]
theorem leaves0_13 (c : Dev nD) (t : Fin cfg0.N) : (dats m 0 c).leavesExact 13 t = owns (c : Thread nD τ) (ms0_13 t) fullShare ((dats m 0 c).after 13 t) := by
  unfold Dat.leavesExact; rw [live13 t]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 19200000 in
/-- The body at any point, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : t.val % 2 = 0
    · by_cases h2 : t.val % 2 = 1
      · exfalso; omega
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13]
        by_cases hz : t.val = 0
        · rw [PhiS_castSucc m c t, PhiS_zero m c _ _ hz, PhiA0_eq]
          rw [outsAt0_A m c t h0 h1 h2]; dsimp only [atA]
          unfold out0_A_10 out0_A_11 out0_A_12 out0_A_13 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _)
          unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _)
        · exfalso; have hN : t.val < 17 := lt_of_lt_of_eq t.isLt (show cfg0.N = 17 from N_0); omega
    · exfalso; omega
  · by_cases h1 : t.val % 2 = 0
    · by_cases h2 : t.val % 2 = 1
      · exfalso; omega
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13]
        by_cases hz : t.val = 0
        · exfalso; have hN : t.val < 17 := lt_of_lt_of_eq t.isLt (show cfg0.N = 17 from N_0); omega
        · rw [PhiS_castSucc m c t, PhiS_pos m c _ _ hz]
          rw [outsAt0_C m c t h0 h1 h2]; dsimp only [atC]
          simp only [before0_12_C m c t h0 h1 h2, before0_13_C m c t h0 h1 h2]
          unfold out0_C_10 out0_C_11 out0_C_12 out0_C_13 sout0_C_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexact H12
          isplitl [H13]; · iexact H13
          isplitl [HS0]; · iexists _; iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
    · by_cases h2 : t.val % 2 = 1
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13]
        by_cases hz : t.val = 0
        · exfalso; have hN : t.val < 17 := lt_of_lt_of_eq t.isLt (show cfg0.N = 17 from N_0); omega
        · rw [PhiS_castSucc m c t, PhiS_pos m c _ _ hz]
          rw [outsAt0_B m c t h0 h1 h2]; dsimp only [atB]
          simp only [before0_12_B m c t h0 h1 h2, before0_13_B m c t h0 h1 h2]
          unfold out0_B_10 out0_B_11 out0_B_12 out0_B_13 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexact H12
          isplitl [H13]; · iexact H13
          isplitl [HS0]; · iexact HS0
          isplitl [HS1]; · iexists _; iexact HS1
          iintro ⟨H0, H1, H2, H3, H4, H5, H6, H7, H8, H9, ⟨%e10, H10⟩, ⟨%e11, H11⟩, ⟨%e12, H12⟩, ⟨%e13, H13⟩, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

/-- The body's proof, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 17 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: it ends, and every array of the call holds what the data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- and so does every semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The run with each result named, the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 10 cfg0.N
      ∧ r.2.mem ((c : Thread nD τ).loc main_v2_1) = (dats m 0 c).arrAt 11 cfg0.N
      ∧ r.2.mem ((c : Thread nD τ).loc main_v2_2) = (dats m 0 c).arrAt 12 cfg0.N
      ∧ r.2.mem ((c : Thread nD τ).loc main_v2_3) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h.1 c).1 10, (h.1 c).1 11, (h.1 c).1 12, (h.1 c).1 13, h.2 c⟩) (θ_run_and (run_main m ρ) (unchanged m ρ))

end Cert.DgradInIdeal.Whole

end
-- ==== Proof.DgradIn.lean ====
/- The gradient through the mixers' input product and the two norms before it: at each point the product of one block of rows is
   formed in one of two accumulators while the block before it is read from the other in pieces of 32 rows, taken back through the
   norms and stored, and the rows' shares of the scales' gradients are added up. -/
module

public import proofs.«01_k».proof.Proof.Norms
public import proofs.«01_k».proof.Proof.DgradInRun
public import proofs.«01_k».proof.Proof.Gen.DgradInRefIdeal.Read
public import Idealize.ShloMosaic.Lib.Pipeline.ValueKit
public import Idealize.ShloMosaic.Lib.Pipeline.ReadBack

@[expose] public section

noncomputable section

namespace Cert.DgradInIdeal.Product

open Cert.DgradInIdeal Cert.DgradInIdeal.Gen Cert.DgradInIdeal.Whole Idealize.ShloMosaic Idealize.ShloMosaic.TcCoe Idealize.ShloMosaic.Tactic Mix
open Cert.KernelIdeal.Stages (ld_at)

theorem product (x : Vec Ideal S512x1024 .bf16) (y : Vec Ideal S1024x1024 .bf16) (x1 x2 x3 : Vec Ideal S512x512 .bf16) (y1 y2 y3 : Vec Ideal S512x1024 .bf16)
    (a : Fin 512) (b : Fin 1024) :
    k0_pay6 x y x1 y1 x2 y2 x3 y3 (ix2 a b) = ∑ k : Fin 1024, x (ix2 a k) * y (ix2 k b) + ∑ k : Fin 512, x1 (ix2 a k) * y1 (ix2 k b)
      + ∑ k : Fin 512, x2 (ix2 a k) * y2 (ix2 k b) + ∑ k : Fin 512, x3 (ix2 a k) * y3 (ix2 k b) := by
  pointwise [k0_pay6]

/-- The rows' gradient, the residual's added. -/
abbrev through {n : ℕ} (x z : Mat n 1024) (g : Mat 1 1024) (h : Mat n 1024) : Mat n 1024 := fun i => grad x z g i + h i

/-! ### A piece of 32 rows -/

/-- The rows' gradient. -/
def first (z x h : Vec Ideal S32x1024 .f32) (g : Vec Ideal S1x1024 .f32) : Vec Ideal S32x1024 .f32 := k0_pay10 z x (k0_pay7 x) k0_pay8 g h

/-- The gradient of the rows before. -/
def second (z x h : Vec Ideal S32x1024 .f32) (g : Vec Ideal S1x1024 .f32) (p : Vec Ideal S32x1024 .bf16) (g' : Vec Ideal S1x1024 .f32) : Vec Ideal S32x1024 .bf16 :=
  k0_pay16 (k0_pay12 p) (k0_pay13 p) (k0_pay14 z x (k0_pay7 x) k0_pay8 g h g') (k0_pay15 z x (k0_pay7 x) k0_pay8 g h p g')

/-- What the rows add to the gradients of the two scales. -/
def share (z x : Vec Ideal S32x1024 .f32) : FVec Ideal S1x1024 .f32 := k0_pay11 z x (k0_pay7 x) k0_pay8
def share' (d : Vec Ideal S32x1024 .f32) (p : Vec Ideal S32x1024 .bf16) : FVec Ideal S1x1024 .f32 := k0_pay11 d (k0_pay12 p) (k0_pay7 (k0_pay12 p)) k0_pay8

theorem first_norm (z x h : Vec Ideal S32x1024 .f32) (g : Vec Ideal S1x1024 .f32) (a : Fin 32) (b : Fin 1024) :
    first z x h g (ix2 a b) = through (n := 32) x z g h (ix2 a b) := by
  pointwise [first, k0_pay10, k0_pay9, k0_pay8, k0_pay7]
  rfl

theorem second_norm (z x h : Vec Ideal S32x1024 .f32) (g g' : Vec Ideal S1x1024 .f32) (p : Vec Ideal S32x1024 .bf16) (a : Fin 32) (b : Fin 1024) :
    second z x h g p g' (ix2 a b) = grad (n := 32) p (through (n := 32) x z g h) g' (ix2 a b) := by
  refine Eq.trans ?_ (grad_row (x := (p : Mat 32 1024)) (d := (first z x h g : Mat 32 1024)) (fun _ => rfl) (fun k => first_norm z x h g a k) (fun _ => rfl) b)
  pointwise [second, k0_pay16, k0_pay15, k0_pay14, k0_pay13, k0_pay12]
  rfl

theorem share_at (z x : Vec Ideal S32x1024 .f32) (b : Fin 1024) : share z x (ix2 0 b) = ∑ a : Fin 32, z (ix2 a b) * unit (n := 32) x (ix2 a b) := by
  pointwise [share, k0_pay11, k0_pay9, k0_pay8, k0_pay7]
  rfl

/-! ### The sixteen pieces of a block -/

theorem fits (k : Fin 16) : ∀ a, (![32 * k.val, 0] : Fin 2 → ℕ) a + S32x1024.size a ≤ S512x1024.size a := fun a => by
  have := k.isLt
  fin_cases a
  · show 32 * k.val + 32 ≤ 512
    omega
  · exact le_rfl

abbrev piece {e : EltTy} (v : Vec Ideal S512x1024 e) (k : Fin 16) : Vec Ideal S32x1024 e := View.ld v (Rect.unit ![32 * k.val, 0] S32x1024.size (fits k))

theorem row_lt (k : Fin 16) (a : Fin 32) : 32 * k.val + a.val < 512 := by omega

theorem piece_at {e : EltTy} (v : Vec Ideal S512x1024 e) (k : Fin 16) (a : Fin 32) (b : Fin 1024) : piece v k (ix2 a b) = v (ix2 ⟨32 * k.val + a.val, row_lt k a⟩ b) :=
  (ld_at (N := 512) (M := 1024) (fits k) v a b (row_lt k a) (by omega)).trans (congrArg v (idx2_ext rfl (Nat.zero_add _)))

/-- The total of sixteen pieces' shares, in order. -/
def total (s : Fin 16 → FVec Ideal S1x1024 .f32) : FVec Ideal S1x1024 .f32 :=
  addf (addf (addf (addf (addf (addf (addf (addf (addf (addf (addf (addf (addf (addf (addf (addf (k0_pay2 (F := Ideal)) (s 0)) (s 1)) (s 2)) (s 3)) (s 4)) (s 5)) (s 6)) (s 7)) (s 8)) (s 9)) (s 10)) (s 11)) (s 12)) (s 13)) (s 14)) (s 15)

theorem total_at (s : Fin 16 → FVec Ideal S1x1024 .f32) (b : Fin 1024) : total s (ix2 0 b) = ∑ k : Fin 16, s k (ix2 0 b) := by
  have h : total s (ix2 0 b) = s 0 (ix2 0 b) + s 1 (ix2 0 b) + s 2 (ix2 0 b) + s 3 (ix2 0 b) + s 4 (ix2 0 b) + s 5 (ix2 0 b) + s 6 (ix2 0 b) + s 7 (ix2 0 b) + s 8 (ix2 0 b) + s 9 (ix2 0 b) + s 10 (ix2 0 b) + s 11 (ix2 0 b) + s 12 (ix2 0 b) + s 13 (ix2 0 b) + s 14 (ix2 0 b) + s 15 (ix2 0 b) := by
    pointwise [total, k0_pay2]
  rw [h]
  simp only [Fin.sum_univ_castSucc, Fin.sum_univ_zero, zero_add]
  rfl

theorem sum_pieces (f : Fin 512 → EReal) : ∑ k : Fin 16, ∑ a : Fin 32, f ⟨32 * k.val + a.val, row_lt k a⟩ = ∑ a : Fin 512, f a := by
  rw [← Fintype.sum_prod_type' (f := fun (k : Fin 16) (a : Fin 32) => f ⟨32 * k.val + a.val, row_lt k a⟩)]
  exact Fintype.sum_equiv (finProdFinEquiv (m := 16) (n := 32)) _ _ fun ⟨k, a⟩ => congrArg f (Fin.ext (by simp [finProdFinEquiv]; omega))

section Block

variable (z x h : Vec Ideal S512x1024 .f32) (g g' : Vec Ideal S1x1024 .f32) (p : Vec Ideal S512x1024 .bf16)

theorem through_piece (k : Fin 16) (a : Fin 32) (b : Fin 1024) :
    through (n := 32) (piece x k) (piece z k) g (piece h k) (ix2 a b) = through (n := 512) x z g h (ix2 ⟨32 * k.val + a.val, row_lt k a⟩ b) :=
  congrArg₂ (· + ·) (grad_row (fun c => piece_at x k a c) (fun c => piece_at z k a c) (fun _ => rfl) b) (piece_at h k a b)

theorem first_piece (k : Fin 16) (i : S32x1024.Idx) (j : S512x1024.Idx) (h0 : (j 0 : ℕ) = 32 * k.val + (i 0 : ℕ)) (h1 : (j 1 : ℕ) = (i 1 : ℕ)) :
    first (piece z k) (piece x k) (piece h k) g i = through (n := 512) x z g h j := by
  obtain ⟨a, b, rfl⟩ : ∃ (a : Fin 32) (b : Fin 1024), i = ix2 a b := ⟨i 0, i 1, (ix2_eta i).symm⟩
  refine ((first_norm _ _ _ _ a b).trans (through_piece z x h g k a b)).trans (congrArg (through (n := 512) x z g h) ?_)
  exact idx2_ext h0.symm h1.symm

theorem second_piece (k : Fin 16) (i : S32x1024.Idx) (j : S512x1024.Idx) (h0 : (j 0 : ℕ) = 32 * k.val + (i 0 : ℕ)) (h1 : (j 1 : ℕ) = (i 1 : ℕ)) :
    second (piece z k) (piece x k) (piece h k) g (piece p k) g' i = grad (n := 512) p (through (n := 512) x z g h) g' j := by
  obtain ⟨a, b, rfl⟩ : ∃ (a : Fin 32) (b : Fin 1024), i = ix2 a b := ⟨i 0, i 1, (ix2_eta i).symm⟩
  refine ((second_norm _ _ _ _ _ _ a b).trans (grad_row (fun c => piece_at p k a c) (fun c => through_piece z x h g k a c) (fun _ => rfl) b)).trans
    (congrArg (grad (n := 512) p (through (n := 512) x z g h) g') ?_)
  exact idx2_ext h0.symm h1.symm

theorem share_total (b : Fin 1024) :
    total (fun k => share (piece z k) (piece x k)) (ix2 0 b) = ∑ a : Fin 512, z (ix2 a b) * unit (n := 512) x (ix2 a b) := by
  refine (total_at _ b).trans (Eq.trans ?_ (sum_pieces fun a => z (ix2 a b) * unit (n := 512) x (ix2 a b)))
  exact Finset.sum_congr rfl fun k _ => (share_at _ _ b).trans (Finset.sum_congr rfl fun a _ =>
    congrArg₂ (· * ·) (piece_at z k a b) (unit_row (fun c => piece_at x k a c) b))

theorem share'_total (b : Fin 1024) :
    total (fun k => share' (first (piece z k) (piece x k) (piece h k) g) (piece p k)) (ix2 0 b)
      = ∑ a : Fin 512, through (n := 512) x z g h (ix2 a b) * unit (n := 512) p (ix2 a b) := by
  refine (total_at _ b).trans (Eq.trans ?_ (sum_pieces fun a => through (n := 512) x z g h (ix2 a b) * unit (n := 512) p (ix2 a b)))
  exact Finset.sum_congr rfl fun k _ => (share_at _ _ b).trans (Finset.sum_congr rfl fun a _ =>
    congrArg₂ (· * ·) ((first_norm _ _ _ _ a b).trans (through_piece z x h g k a b)) (unit_row (fun c => piece_at p k a c) b))

end Block

/-- What a point after the first adds to the sums. -/
theorem gain (i : grid0.Coords) (hi : Scalar.cmpi .sgt (BitVec.ofNat 32 (i 0).val) 0#32 = 1#1) (v s : FVec Ideal S1x1024 .f32) (b : Fin 1024) :
    k0_pay4 i v (k0_pay170 s) 0#32 (ix2 0 b) = s (ix2 0 b) + v (ix2 0 b) := by
  pointwise [k0_pay4, k0_pay170]
  rw [hi]
  rfl

/-- What the first point leaves in the sums. -/
theorem no_gain (i : grid0.Coords) (hi : Scalar.cmpi .sgt (BitVec.ofNat 32 (i 0).val) 0#32 = 0#1) (v : FVec Ideal S1x1024 .f32) (b : Fin 1024) :
    k0_pay4 i v (k0_pay2 (F := Ideal)) 0#32 (ix2 0 b) = 0 := by
  pointwise [k0_pay4, k0_pay2]
  rw [hi]
  simp [Scalar.select]

variable (m : (ℓ : Loc nD τ sig) → Buf (Elt Ideal) ℓ) (c : Dev nD)

theorem at0 : ∀ t : Fin cfg0.N, win0_0.index t = ![min t.val 15, 0] := by decide +kernel
theorem at1 : ∀ t : Fin cfg0.N, win0_1.index t = ![min t.val 15, 0] := by decide +kernel
theorem at2 : ∀ t : Fin cfg0.N, win0_2.index t = ![min t.val 15, 0] := by decide +kernel
theorem at3 : ∀ t : Fin cfg0.N, win0_3.index t = ![min t.val 15, 0] := by decide +kernel
theorem at4 : ∀ t : Fin cfg0.N, win0_4.index t = ![0, 0] := by decide +kernel
theorem at5 : ∀ t : Fin cfg0.N, win0_5.index t = ![t.val - 1, 0] := by decide +kernel
theorem at6 : ∀ t : Fin cfg0.N, win0_6.index t = ![t.val - 1, 0] := by decide +kernel
theorem at7 : ∀ t : Fin cfg0.N, win0_7.index t = ![t.val - 1, 0] := by decide +kernel
theorem at8 : ∀ t : Fin cfg0.N, win0_8.index t = ![0, 0] := by decide +kernel
theorem at9 : ∀ t : Fin cfg0.N, win0_9.index t = ![0, 0] := by decide +kernel
theorem at10 : ∀ t : Fin cfg0.N, win0_10.index t = ![t.val - 1, 0] := by decide +kernel
theorem at11 : ∀ t : Fin cfg0.N, win0_11.index t = ![t.val - 1, 0] := by decide +kernel
theorem at12 : ∀ t : Fin cfg0.N, win0_12.index t = ![0, 0] := by decide +kernel
theorem at13 : ∀ t : Fin cfg0.N, win0_13.index t = ![0, 0] := by decide +kernel
theorem later10 : ∀ t : Fin cfg0.N, (cfg0.win 10).flush t = true → t.val ≠ 0 := by decide +kernel
theorem later11 : ∀ t : Fin cfg0.N, (cfg0.win 11).flush t = true → t.val ≠ 0 := by decide +kernel
theorem last12 : ∀ t : Fin cfg0.N, (cfg0.win 12).flush t = true → t.val = 16 := by decide +kernel
theorem last13 : ∀ t : Fin cfg0.N, (cfg0.win 13).flush t = true → t.val = 16 := by decide +kernel
theorem positive : ∀ t : Fin cfg0.N, t.val ≠ 0 → Scalar.cmpi .sgt (BitVec.ofNat 32 (grid0.coords t 0).val) 0#32 = 1#1 := by decide +kernel
theorem zero : ∀ t : Fin cfg0.N, t.val = 0 → Scalar.cmpi .sgt (BitVec.ofNat 32 (grid0.coords t 0).val) 0#32 = 0#1 := by decide +kernel

abbrev D : Mat 8192 1024 := m ((c : Thread nD τ).loc main_arg0)
abbrev E : Mat 8192 512 := m ((c : Thread nD τ).loc main_arg1)
abbrev E' : Mat 8192 512 := m ((c : Thread nD τ).loc main_arg2)
abbrev E'' : Mat 8192 512 := m ((c : Thread nD τ).loc main_arg3)
abbrev W : Mat 1024 2560 := m ((c : Thread nD τ).loc main_arg4)
abbrev X : Mat 8192 1024 := m ((c : Thread nD τ).loc main_arg5)
abbrev G : Mat 1 1024 := m ((c : Thread nD τ).loc main_arg6)
abbrev H : Mat 8192 1024 := m ((c : Thread nD τ).loc main_arg7)
abbrev P : Mat 8192 1024 := m ((c : Thread nD τ).loc main_arg8)
abbrev G' : Mat 1 1024 := m ((c : Thread nD τ).loc main_arg9)

/-- The gradient of the product's rows: each mixer's gradients times its own columns of the weights. -/
def all (d : Mat 8192 1024) (e e' e'' : Mat 8192 512) (w : Mat 1024 2560) : Mat 8192 1024 := fun i =>
  ∑ k : Fin 1024, d (ix2 (i 0) k) * num w (i 1).val k.val + ∑ k : Fin 512, e (ix2 (i 0) k) * num w (i 1).val (1024 + k.val)
    + ∑ k : Fin 512, e' (ix2 (i 0) k) * num w (i 1).val (1536 + k.val) + ∑ k : Fin 512, e'' (ix2 (i 0) k) * num w (i 1).val (2048 + k.val)

abbrev Z : Mat 8192 1024 := all (D m c) (E m c) (E' m c) (E'' m c) (W m c)
abbrev Y : Mat 8192 1024 := through (X m c) (Z m c) (G m c) (H m c)

theorem block0 (t : Fin cfg0.N) (a : Fin 512) (b : Fin 1024) (h : 512 * t.val + a.val < 8192) :
    iblk m c 0 t (ix2 a b) = D m c (ix2 ⟨512 * t.val + a.val, h⟩ b) := by
  blk_simp [iblk]
  rw [V_main_arg0]
  refine congrArg _ (funext fun k => Fin.ext ?_)
  match k with
  | ⟨0, _⟩ => blk_simp [at0]; show _ = 512 * t.val + a.val; simp; omega
  | ⟨1, _⟩ => blk_simp [at0]

theorem block1 (t : Fin cfg0.N) (a : Fin 512) (b : Fin 512) (h : 512 * t.val + a.val < 8192) :
    iblk m c 1 t (ix2 a b) = E m c (ix2 ⟨512 * t.val + a.val, h⟩ b) := by
  blk_simp [iblk]
  rw [V_main_arg1]
  refine congrArg _ (funext fun k => Fin.ext ?_)
  match k with
  | ⟨0, _⟩ => blk_simp [at1]; show _ = 512 * t.val + a.val; simp; omega
  | ⟨1, _⟩ => blk_simp [at1]

theorem block2 (t : Fin cfg0.N) (a : Fin 512) (b : Fin 512) (h : 512 * t.val + a.val < 8192) :
    iblk m c 2 t (ix2 a b) = E' m c (ix2 ⟨512 * t.val + a.val, h⟩ b) := by
  blk_simp [iblk]
  rw [V_main_arg2]
  refine congrArg _ (funext fun k => Fin.ext ?_)
  match k with
  | ⟨0, _⟩ => blk_simp [at2]; show _ = 512 * t.val + a.val; simp; omega
  | ⟨1, _⟩ => blk_simp [at2]

theorem block3 (t : Fin cfg0.N) (a : Fin 512) (b : Fin 512) (h : 512 * t.val + a.val < 8192) :
    iblk m c 3 t (ix2 a b) = E'' m c (ix2 ⟨512 * t.val + a.val, h⟩ b) := by
  blk_simp [iblk]
  rw [V_main_arg3]
  refine congrArg _ (funext fun k => Fin.ext ?_)
  match k with
  | ⟨0, _⟩ => blk_simp [at3]; show _ = 512 * t.val + a.val; simp; omega
  | ⟨1, _⟩ => blk_simp [at3]

theorem weights (a : Fin 2560) (b : Fin 1024) : V m c main_v1 (ix2 a b) = W m c (ix2 b a) := by
  show StableHlo.after (List.flatten [hostOps0]) (fun b => m (c, b)) (Proc.devRef .tc main_v1) (ix2 a b) = _
  simp only [hostOps0, List.flatten_cons, List.flatten_nil, List.append_nil]
  after_results
  pointwise []

theorem block4 (t : Fin cfg0.N) (a : Fin 2560) (b : Fin 1024) : iblk m c 4 t (ix2 a b) = num (W m c) b.val a.val := by
  refine Eq.trans ?_ ((weights m c a b).trans (num_at _ _ _))
  blk_simp [iblk]
  refine congrArg _ (funext fun k => Fin.ext ?_)
  match k with
  | ⟨0, _⟩ => blk_simp [at4]
  | ⟨1, _⟩ => blk_simp [at4]

theorem block5 (t : Fin cfg0.N) (a : Fin 512) (b : Fin 1024) (h : 512 * (t.val - 1) + a.val < 8192) :
    iblk m c 5 t (ix2 a b) = X m c (ix2 ⟨512 * (t.val - 1) + a.val, h⟩ b) := by
  blk_simp [iblk]
  rw [V_main_arg5]
  refine congrArg _ (funext fun k => Fin.ext ?_)
  match k with
  | ⟨0, _⟩ => blk_simp [at5]; show _ = 512 * (t.val - 1) + a.val; simp; omega
  | ⟨1, _⟩ => blk_simp [at5]

theorem block6 (t : Fin cfg0.N) (a : Fin 512) (b : Fin 1024) (h : 512 * (t.val - 1) + a.val < 8192) :
    iblk m c 6 t (ix2 a b) = H m c (ix2 ⟨512 * (t.val - 1) + a.val, h⟩ b) := by
  blk_simp [iblk]
  rw [V_main_arg7]
  refine congrArg _ (funext fun k => Fin.ext ?_)
  match k with
  | ⟨0, _⟩ => blk_simp [at6]; show _ = 512 * (t.val - 1) + a.val; simp; omega
  | ⟨1, _⟩ => blk_simp [at6]

theorem block7 (t : Fin cfg0.N) (a : Fin 512) (b : Fin 1024) (h : 512 * (t.val - 1) + a.val < 8192) :
    iblk m c 7 t (ix2 a b) = P m c (ix2 ⟨512 * (t.val - 1) + a.val, h⟩ b) := by
  blk_simp [iblk]
  rw [V_main_arg8]
  refine congrArg _ (funext fun k => Fin.ext ?_)
  match k with
  | ⟨0, _⟩ => blk_simp [at7]; show _ = 512 * (t.val - 1) + a.val; simp; omega
  | ⟨1, _⟩ => blk_simp [at7]

theorem block8 (t : Fin cfg0.N) (b : Fin 1024) : iblk m c 8 t (ix2 0 b) = G m c (ix2 0 b) := by
  blk_simp [iblk]
  rw [V_main_arg6]
  refine congrArg _ (funext fun k => Fin.ext ?_)
  match k with
  | ⟨0, _⟩ => blk_simp [at8]
  | ⟨1, _⟩ => blk_simp [at8]

theorem block9 (t : Fin cfg0.N) (b : Fin 1024) : iblk m c 9 t (ix2 0 b) = G' m c (ix2 0 b) := by
  blk_simp [iblk]
  rw [V_main_arg9]
  refine congrArg _ (funext fun k => Fin.ext ?_)
  match k with
  | ⟨0, _⟩ => blk_simp [at9]
  | ⟨1, _⟩ => blk_simp [at9]

/-- The product of a point's blocks: rows of the whole product. -/
theorem rows (t : Fin cfg0.N) (a : Fin 512) (b : Fin 1024) (h : 512 * t.val + a.val < 8192) :
    k0_pay6 (iblk m c 0 t) (View.ld (iblk m c 4 t) (Rect.unit ![0, 0] ![1024, 1024] inb_S2560x1024_S1024x1024_0_0))
      (iblk m c 1 t) (View.ld (iblk m c 4 t) (Rect.unit ![1024, 0] ![512, 1024] inb_S2560x1024_S512x1024_1024_0))
      (iblk m c 2 t) (View.ld (iblk m c 4 t) (Rect.unit ![1536, 0] ![512, 1024] inb_S2560x1024_S512x1024_1536_0))
      (iblk m c 3 t) (View.ld (iblk m c 4 t) (Rect.unit ![2048, 0] ![512, 1024] inb_S2560x1024_S512x1024_2048_0)) (ix2 a b)
      = Z m c (ix2 ⟨512 * t.val + a.val, h⟩ b) := by
  refine (product _ _ _ _ _ _ _ _ a b).trans (congrArg₂ (· + ·) (congrArg₂ (· + ·) (congrArg₂ (· + ·)
    (Finset.sum_congr rfl fun k _ => congrArg₂ (· * ·) (block0 m c t a k h) ?_)
    (Finset.sum_congr rfl fun k _ => congrArg₂ (· * ·) (block1 m c t a k h) ?_))
    (Finset.sum_congr rfl fun k _ => congrArg₂ (· * ·) (block2 m c t a k h) ?_))
    (Finset.sum_congr rfl fun k _ => congrArg₂ (· * ·) (block3 m c t a k h) ?_))
  all_goals
    rw [ld_at _ _ k b (by omega) (by omega), block4]
    simp

/-- After an even point the first accumulator holds that point's rows of the product. -/
theorem even (t : Fin cfg0.N) (ht : t.val % 2 = 0) (a : Fin 512) (b : Fin 1024) (h : 512 * t.val + a.val < 8192) :
    (outsAt0 m c t.val t.isLt).2.2.2.2.1 (ix2 a b) = Z m c (ix2 ⟨512 * t.val + a.val, h⟩ b) := by
  refine Eq.trans ?_ (rows m c t a b h)
  by_cases h0 : t.val % 17 = 0
  · rw [outsAt0_A m c t h0 ht (by omega)]
    frame_out
    rfl
  · rw [outsAt0_C m c t h0 ht (by omega)]
    frame_out
    rfl

/-- After an odd point the second accumulator holds that point's rows of the product. -/
theorem odd (t : Fin cfg0.N) (ht : t.val % 2 = 1) (a : Fin 512) (b : Fin 1024) (h : 512 * t.val + a.val < 8192) :
    (outsAt0 m c t.val t.isLt).2.2.2.2.2 (ix2 a b) = Z m c (ix2 ⟨512 * t.val + a.val, h⟩ b) := by
  refine Eq.trans ?_ (rows m c t a b h)
  rw [outsAt0_B m c t (by have := t.isLt; have : cfg0.N = 17 := N_0; omega) (by omega) ht]
  frame_out
  rfl

/-- What the point before left. -/
abbrev before (t : Fin cfg0.N) := outsAt0 m c (t.val - 1) (Nat.lt_of_le_of_lt (Nat.sub_le _ _) t.isLt)

/-- What a point after the first stores, from the rows `z` of the product formed at the point before it. -/
def Stores (t : Fin cfg0.N) (z : Mat 512 1024) : Prop :=
  (∀ a b, (outsAt0 m c t.val t.isLt).1 (ix2 a b) = through (n := 512) (iblk m c 5 t) z (iblk m c 8 t) (iblk m c 6 t) (ix2 a b))
  ∧ (∀ a b, (outsAt0 m c t.val t.isLt).2.1 (ix2 a b)
      = grad (n := 512) (iblk m c 7 t) (through (n := 512) (iblk m c 5 t) z (iblk m c 8 t) (iblk m c 6 t)) (iblk m c 9 t) (ix2 a b))
  ∧ (∀ b, (outsAt0 m c t.val t.isLt).2.2.1 (ix2 0 b)
      = (before m c t).2.2.1 (ix2 0 b) + ∑ a : Fin 512, z (ix2 a b) * unit (n := 512) (iblk m c 5 t) (ix2 a b))
  ∧ ∀ b, (outsAt0 m c t.val t.isLt).2.2.2.1 (ix2 0 b)
      = (before m c t).2.2.2.1 (ix2 0 b) + ∑ a : Fin 512, through (n := 512) (iblk m c 5 t) z (iblk m c 8 t) (iblk m c 6 t) (ix2 a b) * unit (n := 512) (iblk m c 7 t) (ix2 a b)

set_option maxHeartbeats 19200000 in
theorem stores_odd (t : Fin cfg0.N) (ht : t.val % 2 = 1) : Stores m c t (before m c t).2.2.2.2.1 := by
  have hN : t.val < 17 := lt_of_lt_of_eq t.isLt N_0
  have hi := positive t (by omega)
  refine ⟨fun a b => ?_, fun a b => ?_, fun b => ?_, fun b => ?_⟩ <;> rw [outsAt0_B m c t (by omega) (by omega) ht] <;> dsimp only [atB] <;> frame_out <;> try simp only [read_unread_whole]
  · canon_tiles i h
    · exact first_piece (before m c t).2.2.2.2.1 (iblk m c 5 t) (iblk m c 6 t) (iblk m c 8 t) 15 i _ h0 h1
    · exact first_piece (before m c t).2.2.2.2.1 (iblk m c 5 t) (iblk m c 6 t) (iblk m c 8 t) 14 i _ h0 h1
    · exact first_piece (before m c t).2.2.2.2.1 (iblk m c 5 t) (iblk m c 6 t) (iblk m c 8 t) 13 i _ h0 h1
    · exact first_piece (before m c t).2.2.2.2.1 (iblk m c 5 t) (iblk m c 6 t) (iblk m c 8 t) 12 i _ h0 h1
    · exact first_piece (before m c t).2.2.2.2.1 (iblk m c 5 t) (iblk m c 6 t) (iblk m c 8 t) 11 i _ h0 h1
    · exact first_piece (before m c t).2.2.2.2.1 (iblk m c 5 t) (iblk m c 6 t) (iblk m c 8 t) 10 i _ h0 h1
    · exact first_piece (before m c t).2.2.2.2.1 (iblk m c 5 t) (iblk m c 6 t) (iblk m c 8 t) 9 i _ h0 h1
    · exact first_piece (before m c t).2.2.2.2.1 (iblk m c 5 t) (iblk m c 6 t) (iblk m c 8 t) 8 i _ h0 h1
    · exact first_piece (before m c t).2.2.2.2.1 (iblk m c 5 t) (iblk m c 6 t) (iblk m c 8 t) 7 i _ h0 h1
    · exact first_piece (before m c t).2.2.2.2.1 (iblk m c 5 t) (iblk m c 6 t) (iblk m c 8 t) 6 i _ h0 h1
    · exact first_piece (before m c t).2.2.2.2.1 (iblk m c 5 t) (iblk m c 6 t) (iblk m c 8 t) 5 i _ h0 h1
    · exact first_piece (before m c t).2.2.2.2.1 (iblk m c 5 t) (iblk m c 6 t) (iblk m c 8 t) 4 i _ h0 h1
    · exact first_piece (before m c t).2.2.2.2.1 (iblk m c 5 t) (iblk m c 6 t) (iblk m c 8 t) 3 i _ h0 h1
    · exact first_piece (before m c t).2.2.2.2.1 (iblk m c 5 t) (iblk m c 6 t) (iblk m c 8 t) 2 i _ h0 h1
    · exact first_piece (before m c t).2.2.2.2.1 (iblk m c 5 t) (iblk m c 6 t) (iblk m c 8 t) 1 i _ h0 h1
    · exact first_piece (before m c t).2.2.2.2.1 (iblk m c 5 t) (iblk m c 6 t) (iblk m c 8 t) 0 i _ (h0.trans (Nat.zero_add _).symm) h1
  · canon_tiles i h
    · exact second_piece (before m c t).2.2.2.2.1 (iblk m c 5 t) (iblk m c 6 t) (iblk m c 8 t) (iblk m c 9 t) (iblk m c 7 t) 15 i _ h0 h1
    · exact second_piece (before m c t).2.2.2.2.1 (iblk m c 5 t) (iblk m c 6 t) (iblk m c 8 t) (iblk m c 9 t) (iblk m c 7 t) 14 i _ h0 h1
    · exact second_piece (before m c t).2.2.2.2.1 (iblk m c 5 t) (iblk m c 6 t) (iblk m c 8 t) (iblk m c 9 t) (iblk m c 7 t) 13 i _ h0 h1
    · exact second_piece (before m c t).2.2.2.2.1 (iblk m c 5 t) (iblk m c 6 t) (iblk m c 8 t) (iblk m c 9 t) (iblk m c 7 t) 12 i _ h0 h1
    · exact second_piece (before m c t).2.2.2.2.1 (iblk m c 5 t) (iblk m c 6 t) (iblk m c 8 t) (iblk m c 9 t) (iblk m c 7 t) 11 i _ h0 h1
    · exact second_piece (before m c t).2.2.2.2.1 (iblk m c 5 t) (iblk m c 6 t) (iblk m c 8 t) (iblk m c 9 t) (iblk m c 7 t) 10 i _ h0 h1
    · exact second_piece (before m c t).2.2.2.2.1 (iblk m c 5 t) (iblk m c 6 t) (iblk m c 8 t) (iblk m c 9 t) (iblk m c 7 t) 9 i _ h0 h1
    · exact second_piece (before m c t).2.2.2.2.1 (iblk m c 5 t) (iblk m c 6 t) (iblk m c 8 t) (iblk m c 9 t) (iblk m c 7 t) 8 i _ h0 h1
    · exact second_piece (before m c t).2.2.2.2.1 (iblk m c 5 t) (iblk m c 6 t) (iblk m c 8 t) (iblk m c 9 t) (iblk m c 7 t) 7 i _ h0 h1
    · exact second_piece (before m c t).2.2.2.2.1 (iblk m c 5 t) (iblk m c 6 t) (iblk m c 8 t) (iblk m c 9 t) (iblk m c 7 t) 6 i _ h0 h1
    · exact second_piece (before m c t).2.2.2.2.1 (iblk m c 5 t) (iblk m c 6 t) (iblk m c 8 t) (iblk m c 9 t) (iblk m c 7 t) 5 i _ h0 h1
    · exact second_piece (before m c t).2.2.2.2.1 (iblk m c 5 t) (iblk m c 6 t) (iblk m c 8 t) (iblk m c 9 t) (iblk m c 7 t) 4 i _ h0 h1
    · exact second_piece (before m c t).2.2.2.2.1 (iblk m c 5 t) (iblk m c 6 t) (iblk m c 8 t) (iblk m c 9 t) (iblk m c 7 t) 3 i _ h0 h1
    · exact second_piece (before m c t).2.2.2.2.1 (iblk m c 5 t) (iblk m c 6 t) (iblk m c 8 t) (iblk m c 9 t) (iblk m c 7 t) 2 i _ h0 h1
    · exact second_piece (before m c t).2.2.2.2.1 (iblk m c 5 t) (iblk m c 6 t) (iblk m c 8 t) (iblk m c 9 t) (iblk m c 7 t) 1 i _ h0 h1
    · exact second_piece (before m c t).2.2.2.2.1 (iblk m c 5 t) (iblk m c 6 t) (iblk m c 8 t) (iblk m c 9 t) (iblk m c 7 t) 0 i _ (h0.trans (Nat.zero_add _).symm) h1
  · refine Eq.trans (b := k0_pay4 (grid0.coords t) (total fun k => share (piece (before m c t).2.2.2.2.1 k) (piece (iblk m c 5 t) k)) (k0_pay170 (before m c t).2.2.1) 0#32 (ix2 0 b))
      (congrFun ?_ _) ((gain _ hi _ _ b).trans (congrArg (_ + ·) (share_total _ _ b)))
    refine congrArg₂ addf rfl (congrArg₂ (Scalar.select _) ?_ rfl)
    unfold total
    repeat refine congrArg₂ addf ?_ ?_
    all_goals rfl
  · refine Eq.trans (b := k0_pay4 (grid0.coords t) (total fun k => share' (first (piece (before m c t).2.2.2.2.1 k) (piece (iblk m c 5 t) k) (piece (iblk m c 6 t) k) (iblk m c 8 t)) (piece (iblk m c 7 t) k))
      (k0_pay170 (before m c t).2.2.2.1) 0#32 (ix2 0 b)) (congrFun ?_ _) ((gain _ hi _ _ b).trans (congrArg (_ + ·) (share'_total _ _ _ _ _ b)))
    refine congrArg₂ addf rfl (congrArg₂ (Scalar.select _) ?_ rfl)
    unfold total
    repeat refine congrArg₂ addf ?_ ?_
    all_goals rfl

set_option maxHeartbeats 19200000 in
theorem stores_even (t : Fin cfg0.N) (h0 : t.val ≠ 0) (ht : t.val % 2 = 0) : Stores m c t (before m c t).2.2.2.2.2 := by
  have hN : t.val < 17 := lt_of_lt_of_eq t.isLt N_0
  have hi := positive t (by omega)
  refine ⟨fun a b => ?_, fun a b => ?_, fun b => ?_, fun b => ?_⟩ <;> rw [outsAt0_C m c t (by omega) ht (by omega)] <;> dsimp only [atC] <;> frame_out <;> try simp only [read_unread_whole]
  · canon_tiles i h
    · exact first_piece (before m c t).2.2.2.2.2 (iblk m c 5 t) (iblk m c 6 t) (iblk m c 8 t) 15 i _ h0 h1
    · exact first_piece (before m c t).2.2.2.2.2 (iblk m c 5 t) (iblk m c 6 t) (iblk m c 8 t) 14 i _ h0 h1
    · exact first_piece (before m c t).2.2.2.2.2 (iblk m c 5 t) (iblk m c 6 t) (iblk m c 8 t) 13 i _ h0 h1
    · exact first_piece (before m c t).2.2.2.2.2 (iblk m c 5 t) (iblk m c 6 t) (iblk m c 8 t) 12 i _ h0 h1
    · exact first_piece (before m c t).2.2.2.2.2 (iblk m c 5 t) (iblk m c 6 t) (iblk m c 8 t) 11 i _ h0 h1
    · exact first_piece (before m c t).2.2.2.2.2 (iblk m c 5 t) (iblk m c 6 t) (iblk m c 8 t) 10 i _ h0 h1
    · exact first_piece (before m c t).2.2.2.2.2 (iblk m c 5 t) (iblk m c 6 t) (iblk m c 8 t) 9 i _ h0 h1
    · exact first_piece (before m c t).2.2.2.2.2 (iblk m c 5 t) (iblk m c 6 t) (iblk m c 8 t) 8 i _ h0 h1
    · exact first_piece (before m c t).2.2.2.2.2 (iblk m c 5 t) (iblk m c 6 t) (iblk m c 8 t) 7 i _ h0 h1
    · exact first_piece (before m c t).2.2.2.2.2 (iblk m c 5 t) (iblk m c 6 t) (iblk m c 8 t) 6 i _ h0 h1
    · exact first_piece (before m c t).2.2.2.2.2 (iblk m c 5 t) (iblk m c 6 t) (iblk m c 8 t) 5 i _ h0 h1
    · exact first_piece (before m c t).2.2.2.2.2 (iblk m c 5 t) (iblk m c 6 t) (iblk m c 8 t) 4 i _ h0 h1
    · exact first_piece (before m c t).2.2.2.2.2 (iblk m c 5 t) (iblk m c 6 t) (iblk m c 8 t) 3 i _ h0 h1
    · exact first_piece (before m c t).2.2.2.2.2 (iblk m c 5 t) (iblk m c 6 t) (iblk m c 8 t) 2 i _ h0 h1
    · exact first_piece (before m c t).2.2.2.2.2 (iblk m c 5 t) (iblk m c 6 t) (iblk m c 8 t) 1 i _ h0 h1
    · exact first_piece (before m c t).2.2.2.2.2 (iblk m c 5 t) (iblk m c 6 t) (iblk m c 8 t) 0 i _ (h0.trans (Nat.zero_add _).symm) h1
  · canon_tiles i h
    · exact second_piece (before m c t).2.2.2.2.2 (iblk m c 5 t) (iblk m c 6 t) (iblk m c 8 t) (iblk m c 9 t) (iblk m c 7 t) 15 i _ h0 h1
    · exact second_piece (before m c t).2.2.2.2.2 (iblk m c 5 t) (iblk m c 6 t) (iblk m c 8 t) (iblk m c 9 t) (iblk m c 7 t) 14 i _ h0 h1
    · exact second_piece (before m c t).2.2.2.2.2 (iblk m c 5 t) (iblk m c 6 t) (iblk m c 8 t) (iblk m c 9 t) (iblk m c 7 t) 13 i _ h0 h1
    · exact second_piece (before m c t).2.2.2.2.2 (iblk m c 5 t) (iblk m c 6 t) (iblk m c 8 t) (iblk m c 9 t) (iblk m c 7 t) 12 i _ h0 h1
    · exact second_piece (before m c t).2.2.2.2.2 (iblk m c 5 t) (iblk m c 6 t) (iblk m c 8 t) (iblk m c 9 t) (iblk m c 7 t) 11 i _ h0 h1
    · exact second_piece (before m c t).2.2.2.2.2 (iblk m c 5 t) (iblk m c 6 t) (iblk m c 8 t) (iblk m c 9 t) (iblk m c 7 t) 10 i _ h0 h1
    · exact second_piece (before m c t).2.2.2.2.2 (iblk m c 5 t) (iblk m c 6 t) (iblk m c 8 t) (iblk m c 9 t) (iblk m c 7 t) 9 i _ h0 h1
    · exact second_piece (before m c t).2.2.2.2.2 (iblk m c 5 t) (iblk m c 6 t) (iblk m c 8 t) (iblk m c 9 t) (iblk m c 7 t) 8 i _ h0 h1
    · exact second_piece (before m c t).2.2.2.2.2 (iblk m c 5 t) (iblk m c 6 t) (iblk m c 8 t) (iblk m c 9 t) (iblk m c 7 t) 7 i _ h0 h1
    · exact second_piece (before m c t).2.2.2.2.2 (iblk m c 5 t) (iblk m c 6 t) (iblk m c 8 t) (iblk m c 9 t) (iblk m c 7 t) 6 i _ h0 h1
    · exact second_piece (before m c t).2.2.2.2.2 (iblk m c 5 t) (iblk m c 6 t) (iblk m c 8 t) (iblk m c 9 t) (iblk m c 7 t) 5 i _ h0 h1
    · exact second_piece (before m c t).2.2.2.2.2 (iblk m c 5 t) (iblk m c 6 t) (iblk m c 8 t) (iblk m c 9 t) (iblk m c 7 t) 4 i _ h0 h1
    · exact second_piece (before m c t).2.2.2.2.2 (iblk m c 5 t) (iblk m c 6 t) (iblk m c 8 t) (iblk m c 9 t) (iblk m c 7 t) 3 i _ h0 h1
    · exact second_piece (before m c t).2.2.2.2.2 (iblk m c 5 t) (iblk m c 6 t) (iblk m c 8 t) (iblk m c 9 t) (iblk m c 7 t) 2 i _ h0 h1
    · exact second_piece (before m c t).2.2.2.2.2 (iblk m c 5 t) (iblk m c 6 t) (iblk m c 8 t) (iblk m c 9 t) (iblk m c 7 t) 1 i _ h0 h1
    · exact second_piece (before m c t).2.2.2.2.2 (iblk m c 5 t) (iblk m c 6 t) (iblk m c 8 t) (iblk m c 9 t) (iblk m c 7 t) 0 i _ (h0.trans (Nat.zero_add _).symm) h1
  · refine Eq.trans (b := k0_pay4 (grid0.coords t) (total fun k => share (piece (before m c t).2.2.2.2.2 k) (piece (iblk m c 5 t) k)) (k0_pay170 (before m c t).2.2.1) 0#32 (ix2 0 b))
      (congrFun ?_ _) ((gain _ hi _ _ b).trans (congrArg (_ + ·) (share_total _ _ b)))
    refine congrArg₂ addf rfl (congrArg₂ (Scalar.select _) ?_ rfl)
    unfold total
    repeat refine congrArg₂ addf ?_ ?_
    all_goals rfl
  · refine Eq.trans (b := k0_pay4 (grid0.coords t) (total fun k => share' (first (piece (before m c t).2.2.2.2.2 k) (piece (iblk m c 5 t) k) (piece (iblk m c 6 t) k) (iblk m c 8 t)) (piece (iblk m c 7 t) k))
      (k0_pay170 (before m c t).2.2.2.1) 0#32 (ix2 0 b)) (congrFun ?_ _) ((gain _ hi _ _ b).trans (congrArg (_ + ·) (share'_total _ _ _ _ _ b)))
    refine congrArg₂ addf rfl (congrArg₂ (Scalar.select _) ?_ rfl)
    unfold total
    repeat refine congrArg₂ addf ?_ ?_
    all_goals rfl

theorem stores (t : Fin cfg0.N) (h0 : t.val ≠ 0) :
    ∃ z : Mat 512 1024, (∀ (a : Fin 512) (b : Fin 1024) (h : 512 * (t.val - 1) + a.val < 8192), z (ix2 a b) = Z m c (ix2 ⟨512 * (t.val - 1) + a.val, h⟩ b))
      ∧ Stores m c t z := by
  rcases (show t.val % 2 = 0 ∨ t.val % 2 = 1 by omega) with ht | ht
  · exact ⟨_, fun a b h => odd m c ⟨t.val - 1, Nat.lt_of_le_of_lt (Nat.sub_le _ _) t.isLt⟩ (show (t.val - 1) % 2 = 1 by omega) a b h, stores_even m c t h0 ht⟩
  · exact ⟨_, fun a b h => even m c ⟨t.val - 1, Nat.lt_of_le_of_lt (Nat.sub_le _ _) t.isLt⟩ (show (t.val - 1) % 2 = 0 by omega) a b h, stores_odd m c t ht⟩

theorem through_row {z : Mat 512 1024} (t : Fin cfg0.N) (a : Fin 512) (h : 512 * (t.val - 1) + a.val < 8192)
    (hz : ∀ b, z (ix2 a b) = Z m c (ix2 ⟨512 * (t.val - 1) + a.val, h⟩ b)) (b : Fin 1024) :
    through (n := 512) (iblk m c 5 t) z (iblk m c 8 t) (iblk m c 6 t) (ix2 a b) = Y m c (ix2 ⟨512 * (t.val - 1) + a.val, h⟩ b) :=
  congrArg₂ (· + ·) (grad_row (fun k => block5 m c t a k h) hz (fun k => block8 m c t k) b) (block6 m c t a b h)

/-- The stored rows are those of the whole arrays. -/
theorem stored (t : Fin cfg0.N) (h0 : t.val ≠ 0) (a : Fin 512) (b : Fin 1024) (h : 512 * (t.val - 1) + a.val < 8192) :
    (outsAt0 m c t.val t.isLt).1 (ix2 a b) = Y m c (ix2 ⟨512 * (t.val - 1) + a.val, h⟩ b)
    ∧ (outsAt0 m c t.val t.isLt).2.1 (ix2 a b) = grad (P m c) (Y m c) (G' m c) (ix2 ⟨512 * (t.val - 1) + a.val, h⟩ b) := by
  obtain ⟨z, hz, s1, s2, -⟩ := stores m c t h0
  have hs := through_row m c t a h (fun b => hz a b h)
  exact ⟨(s1 a b).trans (hs b), (s2 a b).trans (grad_row (fun k => block7 m c t a k h) hs (fun k => block9 m c t k) b)⟩

/-- The sums after a point: over the rows stored so far. -/
theorem sums (b : Fin 1024) : ∀ (n : ℕ) (h : n < cfg0.N),
    (outsAt0 m c n h).2.2.1 (ix2 0 b) = dots (Z m c) (unit (X m c)) (512 * n) b.val b.val
    ∧ (outsAt0 m c n h).2.2.2.1 (ix2 0 b) = dots (Y m c) (unit (P m c)) (512 * n) b.val b.val
  | 0, h => by
    have hi := zero ⟨0, h⟩ rfl
    have e := outsAt0_A m c ⟨0, h⟩ rfl rfl (show ¬ 0 % 2 = 1 by decide)
    constructor
    · rw [show outsAt0 m c 0 h = _ from e]
      frame_out
      exact no_gain _ hi _ b
    · rw [show outsAt0 m c 0 h = _ from e]
      frame_out
      exact no_gain _ hi _ b
  | n + 1, h => by
    have hN : n + 1 < 17 := lt_of_lt_of_eq h N_0
    obtain ⟨z, hz, -, -, s3, s4⟩ := stores m c ⟨n + 1, h⟩ (Nat.succ_ne_zero n)
    have hr : ∀ a : Fin 512, 512 * n + a.val < 8192 := fun a => by have := a.isLt; omega
    obtain ⟨i3, i4⟩ := sums b n (Nat.lt_of_succ_lt h)
    rw [Nat.mul_succ, dots_add, dots_add]
    refine ⟨s3 b |>.trans (congrArg₂ (· + ·) i3 (Finset.sum_congr rfl fun a _ => congrArg₂ (· * ·) ((hz a b (hr a)).trans (num_of _ _ _)) ?_)),
      s4 b |>.trans (congrArg₂ (· + ·) i4 (Finset.sum_congr rfl fun a _ => congrArg₂ (· * ·) ((through_row m c ⟨n + 1, h⟩ a (hr a) (fun b => hz a b (hr a)) b).trans (num_of _ _ _)) ?_))⟩
    · exact (unit_row (fun k => block5 m c ⟨n + 1, h⟩ a k (hr a)) b).trans (num_of _ _ _)
    · exact (unit_row (fun k => block7 m c ⟨n + 1, h⟩ a k (hr a)) b).trans (num_of _ _ _)

theorem array10 : (dats m 0 c).arrAt 10 cfg0.N = Y m c := by
  refine (dats m 0 c).arrAt_eq_of_covers 10 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later10 t hf
  have ha := a.isLt
  blk_simp
  rw [after0_10, (stored m c t h0 a b (by omega)).1]
  refine congrArg _ (idx2_ext ?_ ?_)
  · blk_simp [at10]; show 512 * (t.val - 1) + a.val = _; simp; omega
  · blk_simp [at10]

theorem array11 : (dats m 0 c).arrAt 11 cfg0.N = grad (P m c) (Y m c) (G' m c) := by
  refine (dats m 0 c).arrAt_eq_of_covers 11 _ (by decide +kernel) fun t hf y => ?_
  obtain ⟨a, b, rfl⟩ : ∃ (a : Fin 512) (b : Fin 1024), y = ix2 a b := ⟨y 0, y 1, (ix2_eta y).symm⟩
  have hN : t.val < 17 := lt_of_lt_of_eq t.isLt N_0
  have h0 := later11 t hf
  have ha := a.isLt
  blk_simp
  rw [after0_11, (stored m c t h0 a b (by omega)).2]
  refine congrArg _ (idx2_ext ?_ ?_)
  · blk_simp [at11]; show 512 * (t.val - 1) + a.val = _; simp; omega
  · blk_simp [at11]

theorem array12 : (dats m 0 c).arrAt 12 cfg0.N = gains (X m c) (Z m c) := by
  refine (dats m 0 c).arrAt_eq_of_covers 12 _ (by decide +kernel) fun t hf y => ?_
  obtain ⟨a, b, rfl⟩ : ∃ (a : Fin 1) (b : Fin 1024), y = ix2 a b := ⟨y 0, y 1, (ix2_eta y).symm⟩
  obtain rfl : a = 0 := Subsingleton.elim _ _
  have h := last12 t hf
  blk_simp
  rw [after0_12, (sums m c b t.val t.isLt).1, h]
  show _ = dots _ _ 8192 _ _
  blk_simp [at12]

theorem array13 : (dats m 0 c).arrAt 13 cfg0.N = gains (P m c) (Y m c) := by
  refine (dats m 0 c).arrAt_eq_of_covers 13 _ (by decide +kernel) fun t hf y => ?_
  obtain ⟨a, b, rfl⟩ : ∃ (a : Fin 1) (b : Fin 1024), y = ix2 a b := ⟨y 0, y 1, (ix2_eta y).symm⟩
  obtain rfl : a = 0 := Subsingleton.elim _ _
  have h := last13 t hf
  blk_simp
  rw [after0_13, (sums m c b t.val t.isLt).2, h]
  show _ = dots _ _ 8192 _ _
  blk_simp [at13]

open Cert.DgradInRefIdeal.Read

variable (d : Mat 8192 1024) (e e' e'' : Mat 8192 512) (w : Mat 1024 2560) (x : Mat 8192 1024) (g : Mat 1 1024) (h p : Mat 8192 1024) (g' : Mat 1 1024)

theorem sum_parts (f : Fin 2560 → EReal) : ∑ k, f k = ∑ k : Fin 1024, f ⟨k.val, by omega⟩ + ∑ k : Fin 512, f ⟨1024 + k.val, by omega⟩
    + ∑ k : Fin 512, f ⟨1536 + k.val, by omega⟩ + ∑ k : Fin 512, f ⟨2048 + k.val, by omega⟩ :=
  (Fin.sum_univ_add (a := 2048) (b := 512) f).trans (congrArg (· + _) ((Fin.sum_univ_add (a := 1536) (b := 512) _).trans
    (congrArg (· + _) (Fin.sum_univ_add (a := 1024) (b := 512) _))))

theorem value18 : val_main_v18 (F := Ideal) d e e' e'' w = all d e e' e'' w := by
  funext i
  obtain ⟨a, b, rfl⟩ : ∃ (a : Fin 8192) (b : Fin 1024), i = ix2 a b := ⟨i 0, i 1, (ix2_eta i).symm⟩
  unfold val_main_v18 val_main_v17 val_main_v0
  pointwise []
  refine (sum_parts _).trans (congrArg₂ (· + ·) (congrArg₂ (· + ·) (congrArg₂ (· + ·)
    (Finset.sum_congr rfl fun k _ => congrArg₂ (· * ·) ?_ (num_of w b.isLt _))
    (Finset.sum_congr rfl fun k _ => congrArg₂ (· * ·) ?_ (num_of w b.isLt _)))
    (Finset.sum_congr rfl fun k _ => congrArg₂ (· * ·) ?_ (num_of w b.isLt _)))
    (Finset.sum_congr rfl fun k _ => congrArg₂ (· * ·) ?_ (num_of w b.isLt _)))
  · exact dif_pos k.isLt
  · dsimp only
    rw [dif_neg (by omega), dif_pos (by omega)]
    exact congrArg (fun x => e (ix2 a x)) (Fin.ext (by dsimp only; omega))
  · dsimp only
    rw [dif_neg (by omega), dif_neg (by omega), dif_pos (by omega)]
    exact congrArg (fun x => e' (ix2 a x)) (Fin.ext (by dsimp only; omega))
  · dsimp only
    rw [dif_neg (by omega), dif_neg (by omega), dif_neg (by omega)]
    exact congrArg (fun x => e'' (ix2 a x)) (Fin.ext (by dsimp only; omega))

theorem value32 (a : Fin 8192) : val_main_v32 (F := Ideal) d e e' e'' w x g (ix1 a)
    = slope (fun k => x (ix2 a k)) (fun k => all d e e' e'' w (ix2 a k)) (fun k => g (ix2 0 k)) := by
  rw [val_main_v32_apply, ← value18]
  refine Eq.trans (b := val_main_v31 (F := Ideal) d e e' e'' w x g (ix2 a 0)) ?_ ?_
  · generalize val_main_v31 (F := Ideal) d e e' e'' w x g = z
    unfold val_main_cst_6
    pointwise []
    rw [Fin.sum_univ_one]
    exact congrArg z (idx2_ext rfl rfl)
  · unfold val_main_v31 val_main_v30 val_main_v29 val_main_v26 val_main_v25 val_main_v24 val_main_v23 val_main_v22 val_main_v11 val_main_v10 val_main_v9 val_main_v8 val_main_v7 val_main_v6 val_main_v5 val_main_v4 val_main_v3 val_main_v2 val_main_v1 val_main_cst val_main_cst_1 val_main_cst_2 val_main_cst_4 val_main_cst_5
    generalize val_main_v18 (F := Ideal) d e e' e'' w = z
    pointwise []
    rfl

theorem value38 : val_main_v38 (F := Ideal) d e e' e'' w x g h = through x (all d e e' e'' w) g h := by
  funext i
  obtain ⟨a, b, rfl⟩ : ∃ (a : Fin 8192) (b : Fin 1024), i = ix2 a b := ⟨i 0, i 1, (ix2_eta i).symm⟩
  refine Eq.trans ?_ (congrArg (· + h (ix2 a b)) (gradRow_eq (fun k => x (ix2 a k)) (fun k => all d e e' e'' w (ix2 a k)) (fun k => g (ix2 0 k)) b))
  rw [← value32, ← value18]
  unfold val_main_v38 val_main_v37 val_main_v36 val_main_v35 val_main_v34 val_main_v33 val_main_v28 val_main_v27
  generalize val_main_v32 (F := Ideal) d e e' e'' w x g = s
  unfold val_main_v23 val_main_v22 val_main_v8 val_main_v7 val_main_v6 val_main_v5 val_main_v4 val_main_v3 val_main_v2 val_main_v1 val_main_cst val_main_cst_1
  generalize val_main_v18 (F := Ideal) d e e' e'' w = z
  pointwise []
  rfl

theorem value21 : val_main_v21 (F := Ideal) d e e' e'' w x = gains x (all d e e' e'' w) := by
  funext i
  obtain ⟨a, b, rfl⟩ : ∃ (a : Fin 1) (b : Fin 1024), i = ix2 a b := ⟨i 0, i 1, (ix2_eta i).symm⟩
  obtain rfl : a = 0 := Subsingleton.elim _ _
  refine Eq.trans ?_ (gains_at x (all d e e' e'' w) (ix2 0 b))
  rw [← value18]
  unfold val_main_v21 val_main_v20 val_main_v19 val_main_v13 val_main_v12 val_main_v8 val_main_v7 val_main_v6 val_main_v5 val_main_v4 val_main_v3 val_main_v2 val_main_v1 val_main_cst val_main_cst_1 val_main_cst_3
  generalize val_main_v18 (F := Ideal) d e e' e'' w = z
  pointwise []
  rfl

theorem value68 (a : Fin 8192) : val_main_v68 (F := Ideal) d e e' e'' w x g h p g' (ix1 a)
    = slope (fun k => p (ix2 a k)) (fun k => through x (all d e e' e'' w) g h (ix2 a k)) (fun k => g' (ix2 0 k)) := by
  rw [val_main_v68_apply, ← value38]
  refine Eq.trans (b := val_main_v67 (F := Ideal) d e e' e'' w x g h p g' (ix2 a 0)) ?_ ?_
  · generalize val_main_v67 (F := Ideal) d e e' e'' w x g h p g' = z
    unfold val_main_cst_14
    pointwise []
    rw [Fin.sum_univ_one]
    exact congrArg z (idx2_ext rfl rfl)
  · unfold val_main_v67 val_main_v66 val_main_v65 val_main_v62 val_main_v61 val_main_v60 val_main_v59 val_main_v58 val_main_v50 val_main_v49 val_main_v48 val_main_v47 val_main_v46 val_main_v45 val_main_v44 val_main_v43 val_main_v42 val_main_v41 val_main_v40 val_main_v39 val_main_cst_7 val_main_cst_8 val_main_cst_9 val_main_cst_10 val_main_cst_12 val_main_cst_13
    generalize val_main_v38 (F := Ideal) d e e' e'' w x g h = z
    pointwise []
    rfl

theorem value74 : val_main_v74 (F := Ideal) d e e' e'' w x g h p g' = grad p (through x (all d e e' e'' w) g h) g' := by
  funext i
  obtain ⟨a, b, rfl⟩ : ∃ (a : Fin 8192) (b : Fin 1024), i = ix2 a b := ⟨i 0, i 1, (ix2_eta i).symm⟩
  refine Eq.trans ?_ (gradRow_eq (fun k => p (ix2 a k)) (fun k => through x (all d e e' e'' w) g h (ix2 a k)) (fun k => g' (ix2 0 k)) b)
  rw [← value68, ← value38]
  unfold val_main_v74 val_main_v73 val_main_v72 val_main_v71 val_main_v70 val_main_v69 val_main_v64 val_main_v63
  generalize val_main_v68 (F := Ideal) d e e' e'' w x g h p g' = s
  unfold val_main_v59 val_main_v58 val_main_v47 val_main_v46 val_main_v45 val_main_v44 val_main_v43 val_main_v42 val_main_v41 val_main_v40 val_main_v39 val_main_cst_7 val_main_cst_8 val_main_cst_9
  generalize val_main_v38 (F := Ideal) d e e' e'' w x g h = z
  pointwise []
  rfl

theorem value57 : val_main_v57 (F := Ideal) d e e' e'' w x g h p = gains p (through x (all d e e' e'' w) g h) := by
  funext i
  obtain ⟨a, b, rfl⟩ : ∃ (a : Fin 1) (b : Fin 1024), i = ix2 a b := ⟨i 0, i 1, (ix2_eta i).symm⟩
  obtain rfl : a = 0 := Subsingleton.elim _ _
  refine Eq.trans ?_ (gains_at p (through x (all d e e' e'' w) g h) (ix2 0 b))
  rw [← value38]
  unfold val_main_v57 val_main_v56 val_main_v55 val_main_v52 val_main_v51 val_main_v47 val_main_v46 val_main_v45 val_main_v44 val_main_v43 val_main_v42 val_main_v41 val_main_v40 val_main_v39 val_main_cst_7 val_main_cst_8 val_main_cst_9 val_main_cst_11
  generalize val_main_v38 (F := Ideal) d e e' e'' w x g h = z
  pointwise []
  rfl

end Cert.DgradInIdeal.Product

end
-- ==== Proof.Products.lean ====
/- The programs of the products of matrices: their references leave the arguments unchanged, and the two programs of each
   end with the same arrays. -/
module

public import proofs.«01_k».proof.Proof.WgradDown
public import proofs.«01_k».proof.Proof.WgradGu
public import proofs.«01_k».proof.Proof.WgradOut
public import proofs.«01_k».proof.Proof.WgradIn
public import proofs.«01_k».proof.Proof.Proj
public import proofs.«01_k».proof.Proof.DgradOut
public import proofs.«01_k».proof.Proof.MixOut
public import proofs.«01_k».proof.Proof.FfnDown
public import proofs.«01_k».proof.Proof.FfnDownLast
public import proofs.«01_k».proof.Proof.DgradGu
public import proofs.«01_k».proof.Proof.DgradIn
public import proofs.«01_k».proof.Defs
public import proofs.«01_k».proof.Proof.Gen.WgradDownRefIdeal.Run
public import proofs.«01_k».proof.Proof.Gen.WgradGuRefIdeal.Run
public import proofs.«01_k».proof.Proof.Gen.WgradOutRefIdeal.Run
public import proofs.«01_k».proof.Proof.Gen.WgradInRefIdeal.Run
public import proofs.«01_k».proof.Proof.Gen.ProjRefIdeal.Run
public import proofs.«01_k».proof.Proof.Gen.DgradOutRefIdeal.Run
public import proofs.«01_k».proof.Proof.Gen.MixOutRefIdeal.Run
public import proofs.«01_k».proof.Proof.Gen.FfnDownRefIdeal.Run
public import proofs.«01_k».proof.Proof.Gen.FfnDownLastRefIdeal.Run
public import proofs.«01_k».proof.Proof.Gen.DgradGuRefIdeal.Run
public import proofs.«01_k».proof.Proof.Gen.DgradInRefIdeal.Run
public import Idealize.ShloMosaic.Adequacy
public import Idealize.ShloMosaic.Init

@[expose] public section

noncomputable section

namespace Cert.Proof

open Idealize.ShloMosaic Idealize.ShloMosaic.TcCoe Idealize.SL.Sem Mix

theorem wgrad_down_frame : Cert.quiescent_WgradDownRefIdeal (hWgradDownRefIdeal := Cert.WgradDownRefIdeal.Gen.facts) := fun m g _ =>
  (θ_run Cert.WgradDownRefIdeal.defs _ _).mono (fun r h => ⟨fun c => (h c).2.2, sem_eq_zero_of_no_sems (by decide) r.2⟩) (Cert.WgradDownRefIdeal.Value.run (F := Ideal) m g)

theorem wgrad_down_same : Cert.algebraic_WgradDownIdeal_WgradDownRefIdeal (hWgradDownIdeal := Cert.WgradDownIdeal.Gen.facts) (hWgradDownRefIdeal := Cert.WgradDownRefIdeal.Gen.facts) := by
  intro m g m' g' _ hargs
  refine ⟨fun c => shards (k := 8192) (n := 2816) (m := 1024) 352 0 (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)), fun c => shards (k := 8192) (n := 2816) (m := 1024) 352 1 (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)), ?_, ?_⟩
  · refine (θ_run Cert.WgradDownIdeal.defs _ _).mono (fun r h c => ?_) (Cert.WgradDownIdeal.Value.run_blocks (F := Ideal) m g)
    obtain ⟨h0, h1, ha⟩ := h c
    exact ⟨h0.trans (Cert.WgradDownIdeal.Product.array2 m c), h1.trans (Cert.WgradDownIdeal.Product.array3 m c), ha⟩
  · refine (θ_run Cert.WgradDownRefIdeal.defs _ _).mono (fun r h c => ?_) (Cert.WgradDownRefIdeal.Value.run (F := Ideal) m' g')
    obtain ⟨h0, h1, ha⟩ := h c
    obtain ⟨e0, e1⟩ := hargs c
    exact ⟨h0.trans ((Cert.WgradDownRefIdeal.Read.val_main_v9_eq (F := Ideal) _ _).trans ((Cert.WgradDownIdeal.Product.value9 _ _).trans (congrArg₂ _ e0 e1))),
      h1.trans ((Cert.WgradDownRefIdeal.Read.val_main_v11_eq (F := Ideal) _ _).trans ((Cert.WgradDownIdeal.Product.value11 _ _).trans (congrArg₂ _ e0 e1))), ha⟩

theorem wgrad_gu_frame : Cert.quiescent_WgradGuRefIdeal (hWgradGuRefIdeal := Cert.WgradGuRefIdeal.Gen.facts) := fun m g _ =>
  (θ_run Cert.WgradGuRefIdeal.defs _ _).mono (fun r h => ⟨fun c => (h c).2.2, sem_eq_zero_of_no_sems (by decide) r.2⟩) (Cert.WgradGuRefIdeal.Value.run (F := Ideal) m g)

theorem wgrad_gu_same : Cert.algebraic_WgradGuIdeal_WgradGuRefIdeal (hWgradGuIdeal := Cert.WgradGuIdeal.Gen.facts) (hWgradGuRefIdeal := Cert.WgradGuRefIdeal.Gen.facts) := by
  intro m g m' g' _ hargs
  refine ⟨fun c => shards (k := 8192) (n := 5632) (m := 1024) 704 0 (side (n := 8192) (p := 2816) (q := 2816) 5632 (m ((c.tc : Thread Cert.WgradGuIdeal.nD Cert.WgradGuIdeal.τ).loc Cert.WgradGuIdeal.main_arg0)) (m ((c.tc : Thread Cert.WgradGuIdeal.nD Cert.WgradGuIdeal.τ).loc Cert.WgradGuIdeal.main_arg1))) (m ((c.tc : Thread Cert.WgradGuIdeal.nD Cert.WgradGuIdeal.τ).loc Cert.WgradGuIdeal.main_arg2)), fun c => shards (k := 8192) (n := 5632) (m := 1024) 704 1 (side (n := 8192) (p := 2816) (q := 2816) 5632 (m ((c.tc : Thread Cert.WgradGuIdeal.nD Cert.WgradGuIdeal.τ).loc Cert.WgradGuIdeal.main_arg0)) (m ((c.tc : Thread Cert.WgradGuIdeal.nD Cert.WgradGuIdeal.τ).loc Cert.WgradGuIdeal.main_arg1))) (m ((c.tc : Thread Cert.WgradGuIdeal.nD Cert.WgradGuIdeal.τ).loc Cert.WgradGuIdeal.main_arg2)), ?_, ?_⟩
  · refine (θ_run Cert.WgradGuIdeal.defs _ _).mono (fun r h c => ?_) (Cert.WgradGuIdeal.Value.run_blocks (F := Ideal) m g)
    obtain ⟨h0, h1, ha⟩ := h c
    exact ⟨h0.trans (Cert.WgradGuIdeal.Product.array3 m c), h1.trans (Cert.WgradGuIdeal.Product.array4 m c), ha⟩
  · refine (θ_run Cert.WgradGuRefIdeal.defs _ _).mono (fun r h c => ?_) (Cert.WgradGuRefIdeal.Value.run (F := Ideal) m' g')
    obtain ⟨h0, h1, ha⟩ := h c
    obtain ⟨e0, e1, e2⟩ := hargs c
    exact ⟨h0.trans ((Cert.WgradGuRefIdeal.Read.val_main_v11_eq (F := Ideal) _ _ _).trans ((Cert.WgradGuIdeal.Product.value11 _ _ _).trans (congrArg₂ _ (congrArg₂ _ e0 e1) e2))),
      h1.trans ((Cert.WgradGuRefIdeal.Read.val_main_v13_eq (F := Ideal) _ _ _).trans ((Cert.WgradGuIdeal.Product.value13 _ _ _).trans (congrArg₂ _ (congrArg₂ _ e0 e1) e2))), ha⟩

theorem wgrad_out_frame : Cert.quiescent_WgradOutRefIdeal (hWgradOutRefIdeal := Cert.WgradOutRefIdeal.Gen.facts) := fun m g _ =>
  (θ_run Cert.WgradOutRefIdeal.defs _ _).mono (fun r h => ⟨fun c => (h c).2.2, sem_eq_zero_of_no_sems (by decide) r.2⟩) (Cert.WgradOutRefIdeal.Value.run (F := Ideal) m g)

theorem wgrad_out_same : Cert.algebraic_WgradOutIdeal_WgradOutRefIdeal (hWgradOutIdeal := Cert.WgradOutIdeal.Gen.facts) (hWgradOutRefIdeal := Cert.WgradOutRefIdeal.Gen.facts) := by
  intro m g m' g' _ hargs
  refine ⟨fun c => shards (k := 8192) (n := 1024) (m := 1024) 128 0 (m ((c.tc : Thread Cert.WgradOutIdeal.nD Cert.WgradOutIdeal.τ).loc Cert.WgradOutIdeal.main_arg0)) (m ((c.tc : Thread Cert.WgradOutIdeal.nD Cert.WgradOutIdeal.τ).loc Cert.WgradOutIdeal.main_arg1)), fun c => shards (k := 8192) (n := 1024) (m := 1024) 128 1 (m ((c.tc : Thread Cert.WgradOutIdeal.nD Cert.WgradOutIdeal.τ).loc Cert.WgradOutIdeal.main_arg0)) (m ((c.tc : Thread Cert.WgradOutIdeal.nD Cert.WgradOutIdeal.τ).loc Cert.WgradOutIdeal.main_arg1)), ?_, ?_⟩
  · refine (θ_run Cert.WgradOutIdeal.defs _ _).mono (fun r h c => ?_) (Cert.WgradOutIdeal.Value.run_blocks (F := Ideal) m g)
    obtain ⟨h0, h1, ha⟩ := h c
    exact ⟨h0.trans (Cert.WgradOutIdeal.Product.array2 m c), h1.trans (Cert.WgradOutIdeal.Product.array3 m c), ha⟩
  · refine (θ_run Cert.WgradOutRefIdeal.defs _ _).mono (fun r h c => ?_) (Cert.WgradOutRefIdeal.Value.run (F := Ideal) m' g')
    obtain ⟨h0, h1, ha⟩ := h c
    obtain ⟨e0, e1⟩ := hargs c
    exact ⟨h0.trans ((Cert.WgradOutRefIdeal.Read.val_main_v9_eq (F := Ideal) _ _).trans ((Cert.WgradOutIdeal.Product.value9 _ _).trans (congrArg₂ _ e0 e1))),
      h1.trans ((Cert.WgradOutRefIdeal.Read.val_main_v11_eq (F := Ideal) _ _).trans ((Cert.WgradOutIdeal.Product.value11 _ _).trans (congrArg₂ _ e0 e1))), ha⟩

theorem wgrad_in_frame : Cert.quiescent_WgradInRefIdeal (hWgradInRefIdeal := Cert.WgradInRefIdeal.Gen.facts) := fun m g _ =>
  (θ_run Cert.WgradInRefIdeal.defs _ _).mono (fun r h => ⟨fun c => (h c).2, sem_eq_zero_of_no_sems (by decide) r.2⟩) (Cert.WgradInRefIdeal.Value.run (F := Ideal) m g)

theorem wgrad_in_same : Cert.algebraic_WgradInIdeal_WgradInRefIdeal (hWgradInIdeal := Cert.WgradInIdeal.Gen.facts) (hWgradInRefIdeal := Cert.WgradInRefIdeal.Gen.facts) := by
  intro m g m' g' _ hargs
  refine ⟨fun c => tmm (k := 8192) (n := 2560) (m := 1024) (Cert.WgradInIdeal.Product.four (m ((c.tc : Thread Cert.WgradInIdeal.nD Cert.WgradInIdeal.τ).loc Cert.WgradInIdeal.main_arg0)) (m ((c.tc : Thread Cert.WgradInIdeal.nD Cert.WgradInIdeal.τ).loc Cert.WgradInIdeal.main_arg1)) (m ((c.tc : Thread Cert.WgradInIdeal.nD Cert.WgradInIdeal.τ).loc Cert.WgradInIdeal.main_arg2)) (m ((c.tc : Thread Cert.WgradInIdeal.nD Cert.WgradInIdeal.τ).loc Cert.WgradInIdeal.main_arg3))) (m ((c.tc : Thread Cert.WgradInIdeal.nD Cert.WgradInIdeal.τ).loc Cert.WgradInIdeal.main_arg4)), ?_, ?_⟩
  · refine (θ_run Cert.WgradInIdeal.defs _ _).mono (fun r h c => ?_) (Cert.WgradInIdeal.Value.run_blocks (F := Ideal) m g)
    obtain ⟨h0, ha⟩ := h c
    exact ⟨h0.trans (Cert.WgradInIdeal.Product.array m c), ha⟩
  · refine (θ_run Cert.WgradInRefIdeal.defs _ _).mono (fun r h c => ?_) (Cert.WgradInRefIdeal.Value.run (F := Ideal) m' g')
    obtain ⟨h0, ha⟩ := h c
    obtain ⟨e0, e1, e2, e3, e4⟩ := hargs c
    exact ⟨h0.trans ((Cert.WgradInRefIdeal.Read.val_main_v8_eq (F := Ideal) _ _ _ _ _).trans ((Cert.WgradInIdeal.Product.value _ _ _ _ _).trans (congrArg₂ _ (e0 ▸ e1 ▸ e2 ▸ e3 ▸ rfl) e4))), ha⟩

theorem proj_frame : Cert.quiescent_ProjRefIdeal (hProjRefIdeal := Cert.ProjRefIdeal.Gen.facts) := fun m g _ =>
  (θ_run Cert.ProjRefIdeal.defs _ _).mono (fun r h => ⟨fun c => (h c).2, sem_eq_zero_of_no_sems (by decide) r.2⟩) (Cert.ProjRefIdeal.Value.run (F := Ideal) m g)

theorem proj_same : Cert.algebraic_ProjIdeal_ProjRefIdeal (hProjIdeal := Cert.ProjIdeal.Gen.facts) (hProjRefIdeal := Cert.ProjRefIdeal.Gen.facts) := by
  intro m g m' g' _ hargs
  refine ⟨fun c => mm (n := 8192) (k := 1024) (m := 2560) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), ?_, ?_⟩
  · refine (θ_run Cert.ProjIdeal.defs _ _).mono (fun r h c => ?_) (Cert.ProjIdeal.Value.run_blocks (F := Ideal) m g)
    obtain ⟨h0, ha⟩ := h c
    exact ⟨h0.trans (Cert.ProjIdeal.Product.array m c), ha⟩
  · refine (θ_run Cert.ProjRefIdeal.defs _ _).mono (fun r h c => ?_) (Cert.ProjRefIdeal.Value.run (F := Ideal) m' g')
    obtain ⟨h0, ha⟩ := h c
    obtain ⟨e0, e1⟩ := hargs c
    exact ⟨h0.trans ((Cert.ProjRefIdeal.Read.val_main_v2_eq (F := Ideal) _ _).trans ((Cert.ProjIdeal.Product.value _ _).trans (congrArg₂ _ e0 e1))), ha⟩

theorem dgrad_out_frame : Cert.quiescent_DgradOutRefIdeal (hDgradOutRefIdeal := Cert.DgradOutRefIdeal.Gen.facts) := fun m g _ =>
  (θ_run Cert.DgradOutRefIdeal.defs _ _).mono (fun r h => ⟨fun c => (h c).2, sem_eq_zero_of_no_sems (by decide) r.2⟩) (Cert.DgradOutRefIdeal.Value.run (F := Ideal) m g)

theorem dgrad_out_same : Cert.algebraic_DgradOutIdeal_DgradOutRefIdeal (hDgradOutIdeal := Cert.DgradOutIdeal.Gen.facts) (hDgradOutRefIdeal := Cert.DgradOutRefIdeal.Gen.facts) := by
  intro m g m' g' _ hargs
  refine ⟨fun c => mmt (n := 8192) (k := 1024) (m := 1024) (m ((c.tc : Thread Cert.DgradOutIdeal.nD Cert.DgradOutIdeal.τ).loc Cert.DgradOutIdeal.main_arg0)) (m ((c.tc : Thread Cert.DgradOutIdeal.nD Cert.DgradOutIdeal.τ).loc Cert.DgradOutIdeal.main_arg1)), ?_, ?_⟩
  · refine (θ_run Cert.DgradOutIdeal.defs _ _).mono (fun r h c => ?_) (Cert.DgradOutIdeal.Value.run_blocks (F := Ideal) m g)
    obtain ⟨h0, ha⟩ := h c
    exact ⟨h0.trans (Cert.DgradOutIdeal.Product.array m c), ha⟩
  · refine (θ_run Cert.DgradOutRefIdeal.defs _ _).mono (fun r h c => ?_) (Cert.DgradOutRefIdeal.Value.run (F := Ideal) m' g')
    obtain ⟨h0, ha⟩ := h c
    obtain ⟨e0, e1⟩ := hargs c
    exact ⟨h0.trans ((Cert.DgradOutRefIdeal.Read.val_main_v4_eq (F := Ideal) _ _).trans ((Cert.DgradOutIdeal.Product.value _ _).trans (congrArg₂ _ e0 e1))), ha⟩

theorem mix_out_frame : Cert.quiescent_MixOutRefIdeal (hMixOutRefIdeal := Cert.MixOutRefIdeal.Gen.facts) := fun m g _ =>
  (θ_run Cert.MixOutRefIdeal.defs _ _).mono (fun r h => ⟨fun c => (h c).2.2.2, sem_eq_zero_of_no_sems (by decide) r.2⟩) (Cert.MixOutRefIdeal.Value.run (F := Ideal) m g)

theorem mix_out_same : Cert.algebraic_MixOutIdeal_MixOutRefIdeal (hMixOutIdeal := Cert.MixOutIdeal.Gen.facts) (hMixOutRefIdeal := Cert.MixOutRefIdeal.Gen.facts) := by
  intro m g m' g' _ hargs
  refine ⟨fun c => (mm (n := 8192) (k := 1024) (m := 1024) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1))), fun c => (added (n := 8192) (m ((c.tc : Thread Cert.MixOutIdeal.nD Cert.MixOutIdeal.τ).loc Cert.MixOutIdeal.main_arg2)) (mm (n := 8192) (k := 1024) (m := 1024) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1))) (m ((c.tc : Thread Cert.MixOutIdeal.nD Cert.MixOutIdeal.τ).loc Cert.MixOutIdeal.main_arg3))), fun c => normed (n := 8192) (added (n := 8192) (m ((c.tc : Thread Cert.MixOutIdeal.nD Cert.MixOutIdeal.τ).loc Cert.MixOutIdeal.main_arg2)) (mm (n := 8192) (k := 1024) (m := 1024) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1))) (m ((c.tc : Thread Cert.MixOutIdeal.nD Cert.MixOutIdeal.τ).loc Cert.MixOutIdeal.main_arg3))) (m ((c.tc : Thread Cert.MixOutIdeal.nD Cert.MixOutIdeal.τ).loc Cert.MixOutIdeal.main_arg4)), ?_, ?_⟩
  · refine (θ_run Cert.MixOutIdeal.defs _ _).mono (fun r h c => ?_) (Cert.MixOutIdeal.Value.run_blocks (F := Ideal) m g)
    obtain ⟨h0, h1, h2, ha⟩ := h c
    exact ⟨h0.trans (Cert.MixOutIdeal.Product.array5 m c), h1.trans (Cert.MixOutIdeal.Product.array6 m c), h2.trans (Cert.MixOutIdeal.Product.array7 m c), ha⟩
  · refine (θ_run Cert.MixOutRefIdeal.defs _ _).mono (fun r h c => ?_) (Cert.MixOutRefIdeal.Value.run (F := Ideal) m' g')
    obtain ⟨h0, h1, h2, ha⟩ := h c
    obtain ⟨e0, e1, e2, e3, e4⟩ := hargs c
    exact ⟨h0.trans ((Cert.MixOutRefIdeal.Read.val_main_v15_eq (F := Ideal) _ _).trans ((Cert.MixOutIdeal.Product.value15 _ _).trans (congrArg₂ _ e0 e1))),
      h1.trans ((Cert.MixOutRefIdeal.Read.val_main_v14_eq (F := Ideal) _ _ _ _).trans ((Cert.MixOutIdeal.Product.value14 _ _ _ _).trans (e0 ▸ e1 ▸ e2 ▸ e3 ▸ rfl))),
      h2.trans ((Cert.MixOutRefIdeal.Read.val_main_v28_eq (F := Ideal) _ _ _ _ _).trans ((Cert.MixOutIdeal.Product.value28 _ _ _ _ _).trans (e0 ▸ e1 ▸ e2 ▸ e3 ▸ e4 ▸ rfl))), ha⟩

theorem ffn_down_frame : Cert.quiescent_FfnDownRefIdeal (hFfnDownRefIdeal := Cert.FfnDownRefIdeal.Gen.facts) := fun m g _ =>
  (θ_run Cert.FfnDownRefIdeal.defs _ _).mono (fun r h => ⟨fun c => (h c).2.2.2, sem_eq_zero_of_no_sems (by decide) r.2⟩) (Cert.FfnDownRefIdeal.Value.run (F := Ideal) m g)

theorem ffn_down_same : Cert.algebraic_FfnDownIdeal_FfnDownRefIdeal (hFfnDownIdeal := Cert.FfnDownIdeal.Gen.facts) (hFfnDownRefIdeal := Cert.FfnDownRefIdeal.Gen.facts) := by
  intro m g m' g' _ hargs
  refine ⟨fun c => (mm (n := 8192) (k := 2816) (m := 1024) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1))), fun c => (added (n := 8192) (m ((c.tc : Thread Cert.FfnDownIdeal.nD Cert.FfnDownIdeal.τ).loc Cert.FfnDownIdeal.main_arg2)) (mm (n := 8192) (k := 2816) (m := 1024) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1))) (m ((c.tc : Thread Cert.FfnDownIdeal.nD Cert.FfnDownIdeal.τ).loc Cert.FfnDownIdeal.main_arg3))), fun c => normed (n := 8192) (added (n := 8192) (m ((c.tc : Thread Cert.FfnDownIdeal.nD Cert.FfnDownIdeal.τ).loc Cert.FfnDownIdeal.main_arg2)) (mm (n := 8192) (k := 2816) (m := 1024) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1))) (m ((c.tc : Thread Cert.FfnDownIdeal.nD Cert.FfnDownIdeal.τ).loc Cert.FfnDownIdeal.main_arg3))) (m ((c.tc : Thread Cert.FfnDownIdeal.nD Cert.FfnDownIdeal.τ).loc Cert.FfnDownIdeal.main_arg4)), ?_, ?_⟩
  · refine (θ_run Cert.FfnDownIdeal.defs _ _).mono (fun r h c => ?_) (Cert.FfnDownIdeal.Value.run_blocks (F := Ideal) m g)
    obtain ⟨h0, h1, h2, ha⟩ := h c
    exact ⟨h0.trans (Cert.FfnDownIdeal.Product.array5 m c), h1.trans (Cert.FfnDownIdeal.Product.array6 m c), h2.trans (Cert.FfnDownIdeal.Product.array7 m c), ha⟩
  · refine (θ_run Cert.FfnDownRefIdeal.defs _ _).mono (fun r h c => ?_) (Cert.FfnDownRefIdeal.Value.run (F := Ideal) m' g')
    obtain ⟨h0, h1, h2, ha⟩ := h c
    obtain ⟨e0, e1, e2, e3, e4⟩ := hargs c
    exact ⟨h0.trans ((Cert.FfnDownRefIdeal.Read.val_main_v15_eq (F := Ideal) _ _).trans ((Cert.FfnDownIdeal.Product.value15 _ _).trans (congrArg₂ _ e0 e1))),
      h1.trans ((Cert.FfnDownRefIdeal.Read.val_main_v14_eq (F := Ideal) _ _ _ _).trans ((Cert.FfnDownIdeal.Product.value14 _ _ _ _).trans (e0 ▸ e1 ▸ e2 ▸ e3 ▸ rfl))),
      h2.trans ((Cert.FfnDownRefIdeal.Read.val_main_v28_eq (F := Ideal) _ _ _ _ _).trans ((Cert.FfnDownIdeal.Product.value28 _ _ _ _ _).trans (e0 ▸ e1 ▸ e2 ▸ e3 ▸ e4 ▸ rfl))), ha⟩

theorem ffn_down_last_frame : Cert.quiescent_FfnDownLastRefIdeal (hFfnDownLastRefIdeal := Cert.FfnDownLastRefIdeal.Gen.facts) := fun m g _ =>
  (θ_run Cert.FfnDownLastRefIdeal.defs _ _).mono (fun r h => ⟨fun c => (h c).2.2, sem_eq_zero_of_no_sems (by decide) r.2⟩) (Cert.FfnDownLastRefIdeal.Value.run (F := Ideal) m g)

theorem ffn_down_last_same : Cert.algebraic_FfnDownLastIdeal_FfnDownLastRefIdeal (hFfnDownLastIdeal := Cert.FfnDownLastIdeal.Gen.facts) (hFfnDownLastRefIdeal := Cert.FfnDownLastRefIdeal.Gen.facts) := by
  intro m g m' g' _ hargs
  refine ⟨fun c => (mm (n := 8192) (k := 2816) (m := 1024) (m ((c.tc : Thread Cert.FfnDownLastIdeal.nD Cert.FfnDownLastIdeal.τ).loc Cert.FfnDownLastIdeal.main_arg0)) (m ((c.tc : Thread Cert.FfnDownLastIdeal.nD Cert.FfnDownLastIdeal.τ).loc Cert.FfnDownLastIdeal.main_arg1))), fun c => (added (n := 8192) (m ((c.tc : Thread Cert.FfnDownLastIdeal.nD Cert.FfnDownLastIdeal.τ).loc Cert.FfnDownLastIdeal.main_arg2)) (mm (n := 8192) (k := 2816) (m := 1024) (m ((c.tc : Thread Cert.FfnDownLastIdeal.nD Cert.FfnDownLastIdeal.τ).loc Cert.FfnDownLastIdeal.main_arg0)) (m ((c.tc : Thread Cert.FfnDownLastIdeal.nD Cert.FfnDownLastIdeal.τ).loc Cert.FfnDownLastIdeal.main_arg1))) (m ((c.tc : Thread Cert.FfnDownLastIdeal.nD Cert.FfnDownLastIdeal.τ).loc Cert.FfnDownLastIdeal.main_arg3))), ?_, ?_⟩
  · refine (θ_run Cert.FfnDownLastIdeal.defs _ _).mono (fun r h c => ?_) (Cert.FfnDownLastIdeal.Value.run_blocks (F := Ideal) m g)
    obtain ⟨h0, h1, ha⟩ := h c
    exact ⟨h0.trans (Cert.FfnDownLastIdeal.Product.array4 m c), h1.trans (Cert.FfnDownLastIdeal.Product.array5 m c), ha⟩
  · refine (θ_run Cert.FfnDownLastRefIdeal.defs _ _).mono (fun r h c => ?_) (Cert.FfnDownLastRefIdeal.Value.run (F := Ideal) m' g')
    obtain ⟨h0, h1, ha⟩ := h c
    obtain ⟨e0, e1, e2, e3⟩ := hargs c
    exact ⟨h0.trans ((Cert.FfnDownLastRefIdeal.Read.val_main_v2_eq (F := Ideal) _ _).trans ((Cert.FfnDownLastIdeal.Product.value2 _ _).trans (congrArg₂ _ e0 e1))),
      h1.trans ((Cert.FfnDownLastRefIdeal.Read.val_main_v15_eq (F := Ideal) _ _ _ _).trans ((Cert.FfnDownLastIdeal.Product.value15 _ _ _ _).trans (e0 ▸ e1 ▸ e2 ▸ e3 ▸ rfl))), ha⟩

theorem dgrad_gu_frame : Cert.quiescent_DgradGuRefIdeal (hDgradGuRefIdeal := Cert.DgradGuRefIdeal.Gen.facts) := fun m g _ =>
  (θ_run Cert.DgradGuRefIdeal.defs _ _).mono (fun r h => ⟨fun c => (h c).2.2.2.2, sem_eq_zero_of_no_sems (by decide) r.2⟩) (Cert.DgradGuRefIdeal.Value.run (F := Ideal) m g)

theorem dgrad_gu_same : Cert.algebraic_DgradGuIdeal_DgradGuRefIdeal (hDgradGuIdeal := Cert.DgradGuIdeal.Gen.facts) (hDgradGuRefIdeal := Cert.DgradGuRefIdeal.Gen.facts) := by
  intro m g m' g' _ hargs
  refine ⟨fun c => (Cert.DgradGuIdeal.Product.through (n := 8192) (m ((c.tc : Thread Cert.DgradGuIdeal.nD Cert.DgradGuIdeal.τ).loc Cert.DgradGuIdeal.main_arg3)) (Cert.DgradGuIdeal.Product.both (m ((c.tc : Thread Cert.DgradGuIdeal.nD Cert.DgradGuIdeal.τ).loc Cert.DgradGuIdeal.main_arg0)) (m ((c.tc : Thread Cert.DgradGuIdeal.nD Cert.DgradGuIdeal.τ).loc Cert.DgradGuIdeal.main_arg1)) (m ((c.tc : Thread Cert.DgradGuIdeal.nD Cert.DgradGuIdeal.τ).loc Cert.DgradGuIdeal.main_arg2))) (m ((c.tc : Thread Cert.DgradGuIdeal.nD Cert.DgradGuIdeal.τ).loc Cert.DgradGuIdeal.main_arg4)) (m ((c.tc : Thread Cert.DgradGuIdeal.nD Cert.DgradGuIdeal.τ).loc Cert.DgradGuIdeal.main_arg5))), fun c => grad (n := 8192) (m ((c.tc : Thread Cert.DgradGuIdeal.nD Cert.DgradGuIdeal.τ).loc Cert.DgradGuIdeal.main_arg6)) (Cert.DgradGuIdeal.Product.through (n := 8192) (m ((c.tc : Thread Cert.DgradGuIdeal.nD Cert.DgradGuIdeal.τ).loc Cert.DgradGuIdeal.main_arg3)) (Cert.DgradGuIdeal.Product.both (m ((c.tc : Thread Cert.DgradGuIdeal.nD Cert.DgradGuIdeal.τ).loc Cert.DgradGuIdeal.main_arg0)) (m ((c.tc : Thread Cert.DgradGuIdeal.nD Cert.DgradGuIdeal.τ).loc Cert.DgradGuIdeal.main_arg1)) (m ((c.tc : Thread Cert.DgradGuIdeal.nD Cert.DgradGuIdeal.τ).loc Cert.DgradGuIdeal.main_arg2))) (m ((c.tc : Thread Cert.DgradGuIdeal.nD Cert.DgradGuIdeal.τ).loc Cert.DgradGuIdeal.main_arg4)) (m ((c.tc : Thread Cert.DgradGuIdeal.nD Cert.DgradGuIdeal.τ).loc Cert.DgradGuIdeal.main_arg5))) (m ((c.tc : Thread Cert.DgradGuIdeal.nD Cert.DgradGuIdeal.τ).loc Cert.DgradGuIdeal.main_arg7)), fun c => gains (n := 8192) (m ((c.tc : Thread Cert.DgradGuIdeal.nD Cert.DgradGuIdeal.τ).loc Cert.DgradGuIdeal.main_arg3)) (Cert.DgradGuIdeal.Product.both (m ((c.tc : Thread Cert.DgradGuIdeal.nD Cert.DgradGuIdeal.τ).loc Cert.DgradGuIdeal.main_arg0)) (m ((c.tc : Thread Cert.DgradGuIdeal.nD Cert.DgradGuIdeal.τ).loc Cert.DgradGuIdeal.main_arg1)) (m ((c.tc : Thread Cert.DgradGuIdeal.nD Cert.DgradGuIdeal.τ).loc Cert.DgradGuIdeal.main_arg2))), fun c => gains (n := 8192) (m ((c.tc : Thread Cert.DgradGuIdeal.nD Cert.DgradGuIdeal.τ).loc Cert.DgradGuIdeal.main_arg6)) (Cert.DgradGuIdeal.Product.through (n := 8192) (m ((c.tc : Thread Cert.DgradGuIdeal.nD Cert.DgradGuIdeal.τ).loc Cert.DgradGuIdeal.main_arg3)) (Cert.DgradGuIdeal.Product.both (m ((c.tc : Thread Cert.DgradGuIdeal.nD Cert.DgradGuIdeal.τ).loc Cert.DgradGuIdeal.main_arg0)) (m ((c.tc : Thread Cert.DgradGuIdeal.nD Cert.DgradGuIdeal.τ).loc Cert.DgradGuIdeal.main_arg1)) (m ((c.tc : Thread Cert.DgradGuIdeal.nD Cert.DgradGuIdeal.τ).loc Cert.DgradGuIdeal.main_arg2))) (m ((c.tc : Thread Cert.DgradGuIdeal.nD Cert.DgradGuIdeal.τ).loc Cert.DgradGuIdeal.main_arg4)) (m ((c.tc : Thread Cert.DgradGuIdeal.nD Cert.DgradGuIdeal.τ).loc Cert.DgradGuIdeal.main_arg5))), ?_, ?_⟩
  · refine (θ_run Cert.DgradGuIdeal.defs _ _).mono (fun r h c => ?_) (Cert.DgradGuIdeal.Value.run_blocks (F := Ideal) m g)
    obtain ⟨h0, h1, h2, h3, ha⟩ := h c
    exact ⟨h0.trans (Cert.DgradGuIdeal.Product.array8 m c), h1.trans (Cert.DgradGuIdeal.Product.array9 m c), h2.trans (Cert.DgradGuIdeal.Product.array10 m c), h3.trans (Cert.DgradGuIdeal.Product.array11 m c), ha⟩
  · refine (θ_run Cert.DgradGuRefIdeal.defs _ _).mono (fun r h c => ?_) (Cert.DgradGuRefIdeal.Value.run (F := Ideal) m' g')
    obtain ⟨h0, h1, h2, h3, ha⟩ := h c
    obtain ⟨e0, e1, e2, e3, e4, e5, e6, e7⟩ := hargs c
    exact ⟨h0.trans ((Cert.DgradGuRefIdeal.Read.val_main_v38_eq (F := Ideal) _ _).trans ((Cert.DgradGuIdeal.Product.value38 _ _ _ _ _ _).trans (e0 ▸ e1 ▸ e2 ▸ e3 ▸ e4 ▸ e5 ▸ rfl))),
      h1.trans ((Cert.DgradGuRefIdeal.Read.val_main_v74_eq (F := Ideal) _ _).trans ((Cert.DgradGuIdeal.Product.value74 _ _ _ _ _ _ _ _).trans (e0 ▸ e1 ▸ e2 ▸ e3 ▸ e4 ▸ e5 ▸ e6 ▸ e7 ▸ rfl))),
      h2.trans ((Cert.DgradGuRefIdeal.Read.val_main_v21_eq (F := Ideal) _ _ _ _).trans ((Cert.DgradGuIdeal.Product.value21 _ _ _ _).trans (congrArg₂ _ e3 (e0 ▸ e1 ▸ e2 ▸ rfl)))),
      h3.trans ((Cert.DgradGuRefIdeal.Read.val_main_v57_eq (F := Ideal) _ _).trans ((Cert.DgradGuIdeal.Product.value57 _ _ _ _ _ _ _).trans (e0 ▸ e1 ▸ e2 ▸ e3 ▸ e4 ▸ e5 ▸ e6 ▸ rfl))), ha⟩

theorem dgrad_in_frame : Cert.quiescent_DgradInRefIdeal (hDgradInRefIdeal := Cert.DgradInRefIdeal.Gen.facts) := fun m g _ =>
  (θ_run Cert.DgradInRefIdeal.defs _ _).mono (fun r h => ⟨fun c => (h c).2.2.2.2, sem_eq_zero_of_no_sems (by decide) r.2⟩) (Cert.DgradInRefIdeal.Value.run (F := Ideal) m g)

theorem dgrad_in_same : Cert.algebraic_DgradInIdeal_DgradInRefIdeal (hDgradInIdeal := Cert.DgradInIdeal.Gen.facts) (hDgradInRefIdeal := Cert.DgradInRefIdeal.Gen.facts) := by
  intro m g m' g' _ hargs
  refine ⟨fun c => (Cert.DgradInIdeal.Product.through (n := 8192) (m ((c.tc : Thread Cert.DgradInIdeal.nD Cert.DgradInIdeal.τ).loc Cert.DgradInIdeal.main_arg5)) (Cert.DgradInIdeal.Product.all (m ((c.tc : Thread Cert.DgradInIdeal.nD Cert.DgradInIdeal.τ).loc Cert.DgradInIdeal.main_arg0)) (m ((c.tc : Thread Cert.DgradInIdeal.nD Cert.DgradInIdeal.τ).loc Cert.DgradInIdeal.main_arg1)) (m ((c.tc : Thread Cert.DgradInIdeal.nD Cert.DgradInIdeal.τ).loc Cert.DgradInIdeal.main_arg2)) (m ((c.tc : Thread Cert.DgradInIdeal.nD Cert.DgradInIdeal.τ).loc Cert.DgradInIdeal.main_arg3)) (m ((c.tc : Thread Cert.DgradInIdeal.nD Cert.DgradInIdeal.τ).loc Cert.DgradInIdeal.main_arg4))) (m ((c.tc : Thread Cert.DgradInIdeal.nD Cert.DgradInIdeal.τ).loc Cert.DgradInIdeal.main_arg6)) (m ((c.tc : Thread Cert.DgradInIdeal.nD Cert.DgradInIdeal.τ).loc Cert.DgradInIdeal.main_arg7))), fun c => grad (n := 8192) (m ((c.tc : Thread Cert.DgradInIdeal.nD Cert.DgradInIdeal.τ).loc Cert.DgradInIdeal.main_arg8)) (Cert.DgradInIdeal.Product.through (n := 8192) (m ((c.tc : Thread Cert.DgradInIdeal.nD Cert.DgradInIdeal.τ).loc Cert.DgradInIdeal.main_arg5)) (Cert.DgradInIdeal.Product.all (m ((c.tc : Thread Cert.DgradInIdeal.nD Cert.DgradInIdeal.τ).loc Cert.DgradInIdeal.main_arg0)) (m ((c.tc : Thread Cert.DgradInIdeal.nD Cert.DgradInIdeal.τ).loc Cert.DgradInIdeal.main_arg1)) (m ((c.tc : Thread Cert.DgradInIdeal.nD Cert.DgradInIdeal.τ).loc Cert.DgradInIdeal.main_arg2)) (m ((c.tc : Thread Cert.DgradInIdeal.nD Cert.DgradInIdeal.τ).loc Cert.DgradInIdeal.main_arg3)) (m ((c.tc : Thread Cert.DgradInIdeal.nD Cert.DgradInIdeal.τ).loc Cert.DgradInIdeal.main_arg4))) (m ((c.tc : Thread Cert.DgradInIdeal.nD Cert.DgradInIdeal.τ).loc Cert.DgradInIdeal.main_arg6)) (m ((c.tc : Thread Cert.DgradInIdeal.nD Cert.DgradInIdeal.τ).loc Cert.DgradInIdeal.main_arg7))) (m ((c.tc : Thread Cert.DgradInIdeal.nD Cert.DgradInIdeal.τ).loc Cert.DgradInIdeal.main_arg9)), fun c => gains (n := 8192) (m ((c.tc : Thread Cert.DgradInIdeal.nD Cert.DgradInIdeal.τ).loc Cert.DgradInIdeal.main_arg5)) (Cert.DgradInIdeal.Product.all (m ((c.tc : Thread Cert.DgradInIdeal.nD Cert.DgradInIdeal.τ).loc Cert.DgradInIdeal.main_arg0)) (m ((c.tc : Thread Cert.DgradInIdeal.nD Cert.DgradInIdeal.τ).loc Cert.DgradInIdeal.main_arg1)) (m ((c.tc : Thread Cert.DgradInIdeal.nD Cert.DgradInIdeal.τ).loc Cert.DgradInIdeal.main_arg2)) (m ((c.tc : Thread Cert.DgradInIdeal.nD Cert.DgradInIdeal.τ).loc Cert.DgradInIdeal.main_arg3)) (m ((c.tc : Thread Cert.DgradInIdeal.nD Cert.DgradInIdeal.τ).loc Cert.DgradInIdeal.main_arg4))), fun c => gains (n := 8192) (m ((c.tc : Thread Cert.DgradInIdeal.nD Cert.DgradInIdeal.τ).loc Cert.DgradInIdeal.main_arg8)) (Cert.DgradInIdeal.Product.through (n := 8192) (m ((c.tc : Thread Cert.DgradInIdeal.nD Cert.DgradInIdeal.τ).loc Cert.DgradInIdeal.main_arg5)) (Cert.DgradInIdeal.Product.all (m ((c.tc : Thread Cert.DgradInIdeal.nD Cert.DgradInIdeal.τ).loc Cert.DgradInIdeal.main_arg0)) (m ((c.tc : Thread Cert.DgradInIdeal.nD Cert.DgradInIdeal.τ).loc Cert.DgradInIdeal.main_arg1)) (m ((c.tc : Thread Cert.DgradInIdeal.nD Cert.DgradInIdeal.τ).loc Cert.DgradInIdeal.main_arg2)) (m ((c.tc : Thread Cert.DgradInIdeal.nD Cert.DgradInIdeal.τ).loc Cert.DgradInIdeal.main_arg3)) (m ((c.tc : Thread Cert.DgradInIdeal.nD Cert.DgradInIdeal.τ).loc Cert.DgradInIdeal.main_arg4))) (m ((c.tc : Thread Cert.DgradInIdeal.nD Cert.DgradInIdeal.τ).loc Cert.DgradInIdeal.main_arg6)) (m ((c.tc : Thread Cert.DgradInIdeal.nD Cert.DgradInIdeal.τ).loc Cert.DgradInIdeal.main_arg7))), ?_, ?_⟩
  · refine (θ_run Cert.DgradInIdeal.defs _ _).mono (fun r h c => ?_) (Cert.DgradInIdeal.Whole.run_blocks (F := Ideal) m g)
    obtain ⟨h0, h1, h2, h3, ha⟩ := h c
    exact ⟨h0.trans (Cert.DgradInIdeal.Product.array10 m c), h1.trans (Cert.DgradInIdeal.Product.array11 m c), h2.trans (Cert.DgradInIdeal.Product.array12 m c), h3.trans (Cert.DgradInIdeal.Product.array13 m c), ha⟩
  · refine (θ_run Cert.DgradInRefIdeal.defs _ _).mono (fun r h c => ?_) (Cert.DgradInRefIdeal.Value.run (F := Ideal) m' g')
    obtain ⟨h0, h1, h2, h3, ha⟩ := h c
    obtain ⟨e0, e1, e2, e3, e4, e5, e6, e7, e8, e9⟩ := hargs c
    exact ⟨h0.trans ((Cert.DgradInRefIdeal.Read.val_main_v38_eq (F := Ideal) _ _).trans ((Cert.DgradInIdeal.Product.value38 _ _ _ _ _ _ _ _).trans (e0 ▸ e1 ▸ e2 ▸ e3 ▸ e4 ▸ e5 ▸ e6 ▸ e7 ▸ rfl))),
      h1.trans ((Cert.DgradInRefIdeal.Read.val_main_v74_eq (F := Ideal) _ _).trans ((Cert.DgradInIdeal.Product.value74 _ _ _ _ _ _ _ _ _ _).trans (e0 ▸ e1 ▸ e2 ▸ e3 ▸ e4 ▸ e5 ▸ e6 ▸ e7 ▸ e8 ▸ e9 ▸ rfl))),
      h2.trans ((Cert.DgradInRefIdeal.Read.val_main_v21_eq (F := Ideal) _ _ _ _ _ _).trans ((Cert.DgradInIdeal.Product.value21 _ _ _ _ _ _).trans (congrArg₂ _ e5 (e0 ▸ e1 ▸ e2 ▸ e3 ▸ e4 ▸ rfl)))),
      h3.trans ((Cert.DgradInRefIdeal.Read.val_main_v57_eq (F := Ideal) _ _).trans ((Cert.DgradInIdeal.Product.value57 _ _ _ _ _ _ _ _ _).trans (e0 ▸ e1 ▸ e2 ▸ e3 ▸ e4 ▸ e5 ▸ e6 ▸ e7 ▸ e8 ▸ rfl))), ha⟩

end Cert.Proof

end
-- ==== Proof.GatedRun.lean ====
/- The run of the gated pair of calls: the arrays it ends with are those its two regions leave. -/
module

public import proofs.«01_k».proof.Proof.Gen.GatedIdeal.Frame
public import Idealize.ShloMosaic.PureOps.Ideal

@[expose] public section

noncomputable section

namespace Cert.GatedIdeal.Product

open Cert.GatedIdeal Cert.GatedIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- Every array that outlives the regions ends as the last boundary has it. -/
theorem run_last : θ_run defs (onTc (τ := τ) (main (F := Ideal))) ⟨m, fun _ => 0, ρ⟩
    (fun r => ∀ c : Dev nD, ∀ b ∈ Pipeline.ucRefs τ sig, r.2.mem (((c : Thread nD τ)).1, b) = W4 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.GatedIdeal.Product

end
-- ==== Proof.Gated.lean ====
/- The gated pair of calls over the extended reals: the first stores the gated product and what the gradient needs of it, the second
   the gradients of the two factors; block by block they are those of the whole arrays. -/
module

public import proofs.«01_k».proof.Proof.Dense
public import proofs.«01_k».proof.Proof.GatedRun
public import proofs.«01_k».proof.Proof.Gen.GatedRefIdeal.Read
public import Idealize.ShloMosaic.Lib.Pipeline.ValueKit

@[expose] public section

noncomputable section

namespace Mix

open Idealize.ShloMosaic

/-- The logistic function. -/
def sigm (x : EReal) : EReal := Ideal.div 1 (1 + Ideal.exp (0 - x))

/-- A number times its logistic function. -/
def silu (x : EReal) : EReal := x * sigm x

/-- The slope of `silu`. -/
def siluSlope (x : EReal) : EReal := sigm x + silu x * (1 - sigm x)

/-- The first half of the columns. -/
def gate (x : Mat 8192 5632) : Mat 8192 2816 := fun i => x (ix2 (i 0) ⟨(i 1).val, Nat.lt_trans (i 1).isLt (by decide)⟩)

/-- The other half of the columns. -/
def up (x : Mat 8192 5632) : Mat 8192 2816 := fun i => x (ix2 (i 0) ⟨2816 + (i 1).val, Nat.add_lt_add_left (i 1).isLt 2816⟩)

end Mix

namespace Cert.GatedIdeal.Product

open Cert.GatedIdeal Cert.GatedIdeal.Gen Idealize.ShloMosaic Idealize.ShloMosaic.TcCoe Idealize.ShloMosaic.Tactic Mix
open Cert.KernelIdeal.Stages (piece_in ld_at)

section first

variable (m : (ℓ : Loc nD τ sig) → Buf (Elt Ideal) ℓ) (ρ : Dev nD → PrngReg) (c : Dev nD)

theorem at0_0 : ∀ t : Fin cfg0.N, win0_0.index t = ![t.val % 8, 0] := by decide +kernel
theorem at0_1 : ∀ t : Fin cfg0.N, win0_1.index t = ![t.val / 8, 0] := by decide +kernel
theorem at0_2 : ∀ t : Fin cfg0.N, win0_2.index t = ![t.val / 8 + 2, 0] := by decide +kernel
theorem at0_3 : ∀ t : Fin cfg0.N, win0_3.index t = ![t.val % 8, t.val / 8] := by decide +kernel
theorem at0_4 : ∀ t : Fin cfg0.N, win0_4.index t = ![t.val % 8, t.val / 8] := by decide +kernel
theorem at0_5 : ∀ t : Fin cfg0.N, win0_5.index t = ![t.val % 8, t.val / 8] := by decide +kernel

/-- Both products of the first call, side by side. -/
abbrev both : Mat 8192 5632 := mm (n := 8192) (k := 1024) (m := 5632) (m ((c : Thread nD τ).loc main_arg0)) (m ((c : Thread nD τ).loc main_arg1))

theorem block0_0 (t : Fin cfg0.N) (a b : Fin 1024) (h : 1024 * (t.val % 8) + a.val < 8192) :
    iblk0 (V1 m ρ) c 0 t (ix2 a b) = m ((c : Thread nD τ).loc main_arg0) (ix2 ⟨1024 * (t.val % 8) + a.val, h⟩ b) := by
  refine Eq.trans ?_ (congrFun (W1_args m ρ c main_arg0 (by decide)) _)
  blk_simp [iblk0]
  refine congrArg _ (funext fun k => Fin.ext ?_)
  match k with
  | ⟨0, _⟩ => blk_simp [at0_0]; show _ = 1024 * (t.val % 8) + a.val; simp; omega
  | ⟨1, _⟩ => blk_simp [at0_0]

theorem weights (a : Fin 5632) (b : Fin 1024) : V1 m ρ c main_v1 (ix2 a b) = m ((c : Thread nD τ).loc main_arg1) (ix2 b a) := by
  show StableHlo.after hostOps0 (fun b => m (c, b)) (Proc.devRef .tc main_v1) (ix2 a b) = _
  simp only [hostOps0, List.flatten_cons, List.flatten_nil, List.append_nil]
  after_results
  pointwise []

theorem block0_1 (t : Fin cfg0.N) (a : Fin 1408) (b : Fin 1024) (h : 1408 * (t.val / 8) + a.val < 5632) :
    iblk0 (V1 m ρ) c 1 t (ix2 a b) = m ((c : Thread nD τ).loc main_arg1) (ix2 b ⟨1408 * (t.val / 8) + a.val, h⟩) := by
  refine Eq.trans ?_ (weights m ρ c _ b)
  blk_simp [iblk0]
  refine congrArg _ (funext fun k => Fin.ext ?_)
  match k with
  | ⟨0, _⟩ => blk_simp [at0_1]; show _ = 1408 * (t.val / 8) + a.val; simp; omega
  | ⟨1, _⟩ => blk_simp [at0_1]

theorem block0_2 (t : Fin cfg0.N) (a : Fin 1408) (b : Fin 1024) (h : 2816 + (1408 * (t.val / 8) + a.val) < 5632) :
    iblk0 (V1 m ρ) c 2 t (ix2 a b) = m ((c : Thread nD τ).loc main_arg1) (ix2 b ⟨2816 + (1408 * (t.val / 8) + a.val), h⟩) := by
  refine Eq.trans ?_ (weights m ρ c _ b)
  blk_simp [iblk0]
  refine congrArg _ (funext fun k => Fin.ext ?_)
  match k with
  | ⟨0, _⟩ => blk_simp [at0_2]; show _ = 2816 + (1408 * (t.val / 8) + a.val); omega
  | ⟨1, _⟩ => blk_simp [at0_2]

theorem pay1_at (x : Vec Ideal S1024x1024 .bf16) (y : Vec Ideal S1408x1024 .bf16) (a : Fin 1024) (b : Fin 1408) :
    k0_pay1 x y (ix2 a b) = ∑ k : Fin 1024, x (ix2 a k) * y (ix2 b k) := by
  pointwise [k0_pay1]

theorem pay2_at (x : Vec Ideal S1024x1024 .bf16) (y : Vec Ideal S1408x1024 .bf16) (a : Fin 1024) (b : Fin 1408) :
    k0_pay2 x y (ix2 a b) = ∑ k : Fin 1024, x (ix2 a k) * y (ix2 b k) := by
  pointwise [k0_pay2]

/-- The gate's product in a block is that of the whole arrays. -/
theorem gate_block (t : Fin cfg0.N) (a : Fin 1024) (b : Fin 1408) (h : 1024 * (t.val % 8) + a.val < 8192) (h' : 1408 * (t.val / 8) + b.val < 2816) :
    k0_pay1 (iblk0 (V1 m ρ) c 0 t) (iblk0 (V1 m ρ) c 1 t) (ix2 a b) = gate (both m c) (ix2 ⟨1024 * (t.val % 8) + a.val, h⟩ ⟨1408 * (t.val / 8) + b.val, h'⟩) := by
  exact (pay1_at _ _ a b).trans (sum_mm (a := ⟨1024 * (t.val % 8) + a.val, h⟩) (b := ⟨1408 * (t.val / 8) + b.val, by omega⟩) fun k =>
    congrArg₂ (· * ·) (block0_0 m ρ c t a k h) (block0_1 m ρ c t b k (by omega)))

/-- The other factor's product in a block is that of the whole arrays. -/
theorem up_block (t : Fin cfg0.N) (a : Fin 1024) (b : Fin 1408) (h : 1024 * (t.val % 8) + a.val < 8192) (h' : 1408 * (t.val / 8) + b.val < 2816) :
    k0_pay2 (iblk0 (V1 m ρ) c 0 t) (iblk0 (V1 m ρ) c 2 t) (ix2 a b) = up (both m c) (ix2 ⟨1024 * (t.val % 8) + a.val, h⟩ ⟨1408 * (t.val / 8) + b.val, h'⟩) := by
  exact (pay2_at _ _ a b).trans (sum_mm (a := ⟨1024 * (t.val % 8) + a.val, h⟩) (b := ⟨2816 + (1408 * (t.val / 8) + b.val), by omega⟩) fun k =>
    congrArg₂ (· * ·) (block0_0 m ρ c t a k h) (block0_2 m ρ c t b k (by omega)))

theorem whole0 (x : Vec Ideal S1024x1024 .bf16) : View.ld x r0_0 = x := by
  funext i
  pointwise []

theorem whole1 (x : Vec Ideal S1408x1024 .bf16) : View.ld x r0_1 = x := by
  funext i
  pointwise []

variable (x0 : Vec Ideal S1024x1024 .bf16) (x1 x2 : Vec Ideal S1408x1024 .bf16) (a : Fin 1024) (b : Fin 1408)

theorem body3 : out0_3 x0 x1 x2 (ix2 a b) = silu (k0_pay1 x0 x1 (ix2 a b)) := by
  unfold out0_3
  rw [piece_in (N := 1024) (M := 1408) _ _ _ a b (Nat.zero_le _) a.isLt (Nat.zero_le _) b.isLt, whole0, whole1]
  pointwise [k0_pay5, k0_pay4, k0_pay3]
  rfl

theorem body4 : out0_4 x0 x1 x2 (ix2 a b) = k0_pay2 x0 x2 (ix2 a b) * siluSlope (k0_pay1 x0 x1 (ix2 a b)) := by
  unfold out0_4
  rw [piece_in (N := 1024) (M := 1408) _ _ _ a b (Nat.zero_le _) a.isLt (Nat.zero_le _) b.isLt, whole0, whole1, whole1]
  pointwise [k0_pay6, k0_pay4, k0_pay3]
  rfl

theorem body5 : out0_5 x0 x1 x2 (ix2 a b) = silu (k0_pay1 x0 x1 (ix2 a b)) * k0_pay2 x0 x2 (ix2 a b) := by
  unfold out0_5
  rw [piece_in (N := 1024) (M := 1408) _ _ _ a b (Nat.zero_le _) a.isLt (Nat.zero_le _) b.isLt, whole0, whole1, whole1]
  pointwise [k0_pay7, k0_pay4, k0_pay3]
  rfl

/-- What the first call stores for the gradient of the second factor. -/
theorem array3 : (dat0 (V1 m ρ) c).arrAt 3 cfg0.N = fun i => silu (gate (both m c) i) := by
  refine (dat0 (V1 m ρ) c).arrAt_eq_of_covers 3 _ (by decide +kernel) fun t hf y => ?_
  obtain ⟨a, b, rfl⟩ : ∃ (a : Fin 1024) (b : Fin 1408), y = ix2 a b := ⟨y 0, y 1, (ix2_eta y).symm⟩
  have hN : t.val < 16 := lt_of_lt_of_eq t.isLt (show cfg0.N = 16 from N_0)
  have ha := a.isLt
  have hb := b.isLt
  blk_simp
  rw [after0_3, body3, gate_block m ρ c t a b (by omega) (by omega)]
  refine congrArg (fun i => silu (gate (both m c) i)) (idx2_ext ?_ ?_)
  · blk_simp [at0_3]; show 1024 * (t.val % 8) + a.val = _; simp; omega
  · blk_simp [at0_3]; show 1408 * (t.val / 8) + b.val = _; simp; omega

/-- What the first call stores for the gradient of the gate. -/
theorem array4 : (dat0 (V1 m ρ) c).arrAt 4 cfg0.N = fun i => up (both m c) i * siluSlope (gate (both m c) i) := by
  refine (dat0 (V1 m ρ) c).arrAt_eq_of_covers 4 _ (by decide +kernel) fun t hf y => ?_
  obtain ⟨a, b, rfl⟩ : ∃ (a : Fin 1024) (b : Fin 1408), y = ix2 a b := ⟨y 0, y 1, (ix2_eta y).symm⟩
  have hN : t.val < 16 := lt_of_lt_of_eq t.isLt (show cfg0.N = 16 from N_0)
  have ha := a.isLt
  have hb := b.isLt
  blk_simp
  rw [after0_4, body4, gate_block m ρ c t a b (by omega) (by omega), up_block m ρ c t a b (by omega) (by omega)]
  refine congrArg (fun i => up (both m c) i * siluSlope (gate (both m c) i)) (idx2_ext ?_ ?_)
  · blk_simp [at0_4]; show 1024 * (t.val % 8) + a.val = _; simp; omega
  · blk_simp [at0_4]; show 1408 * (t.val / 8) + b.val = _; simp; omega

/-- The gated product. -/
theorem array5 : (dat0 (V1 m ρ) c).arrAt 5 cfg0.N = fun i => silu (gate (both m c) i) * up (both m c) i := by
  refine (dat0 (V1 m ρ) c).arrAt_eq_of_covers 5 _ (by decide +kernel) fun t hf y => ?_
  obtain ⟨a, b, rfl⟩ : ∃ (a : Fin 1024) (b : Fin 1408), y = ix2 a b := ⟨y 0, y 1, (ix2_eta y).symm⟩
  have hN : t.val < 16 := lt_of_lt_of_eq t.isLt (show cfg0.N = 16 from N_0)
  have ha := a.isLt
  have hb := b.isLt
  blk_simp
  rw [after0_5, body5, gate_block m ρ c t a b (by omega) (by omega), up_block m ρ c t a b (by omega) (by omega)]
  refine congrArg (fun i => silu (gate (both m c) i) * up (both m c) i) (idx2_ext ?_ ?_)
  · blk_simp [at0_5]; show 1024 * (t.val % 8) + a.val = _; simp; omega
  · blk_simp [at0_5]; show 1408 * (t.val / 8) + b.val = _; simp; omega

end first

section second

variable (m : (ℓ : Loc nD τ sig) → Buf (Elt Ideal) ℓ) (ρ : Dev nD → PrngReg) (c : Dev nD)

theorem at1_0 : ∀ t : Fin cfg1.N, win1_0.index t = ![t.val % 8, 0] := by decide +kernel
theorem at1_1 : ∀ t : Fin cfg1.N, win1_1.index t = ![t.val / 8, 0] := by decide +kernel
theorem at1_2 : ∀ t : Fin cfg1.N, win1_2.index t = ![t.val % 8, t.val / 8] := by decide +kernel
theorem at1_3 : ∀ t : Fin cfg1.N, win1_3.index t = ![t.val % 8, t.val / 8] := by decide +kernel
theorem at1_4 : ∀ t : Fin cfg1.N, win1_4.index t = ![t.val % 8, t.val / 8] := by decide +kernel
theorem at1_5 : ∀ t : Fin cfg1.N, win1_5.index t = ![t.val % 8, t.val / 8] := by decide +kernel

/-- The gradient at the gated product. -/
abbrev down : Mat 8192 2816 := mmt (n := 8192) (k := 1024) (m := 2816) (m ((c : Thread nD τ).loc main_arg3)) (m ((c : Thread nD τ).loc main_arg2))

theorem stored3 : V3 m ρ c main_v2_0 = fun i => silu (gate (both m c) i) :=
  (W3_of m ρ c main_v2_0 (by decide)).trans ((W2_arr m ρ c 3).trans (array3 m ρ c))

theorem stored4 : V3 m ρ c main_v2_1 = fun i => up (both m c) i * siluSlope (gate (both m c) i) :=
  (W3_of m ρ c main_v2_1 (by decide)).trans ((W2_arr m ρ c 4).trans (array4 m ρ c))

theorem block1_0 (t : Fin cfg1.N) (a b : Fin 1024) (h : 1024 * (t.val % 8) + a.val < 8192) :
    iblk1 (V3 m ρ) c 0 t (ix2 a b) = m ((c : Thread nD τ).loc main_arg3) (ix2 ⟨1024 * (t.val % 8) + a.val, h⟩ b) := by
  refine Eq.trans ?_ (congrFun (W3_args m ρ c main_arg3 (by decide)) _)
  blk_simp [iblk1]
  refine congrArg _ (funext fun k => Fin.ext ?_)
  match k with
  | ⟨0, _⟩ => blk_simp [at1_0]; show _ = 1024 * (t.val % 8) + a.val; simp; omega
  | ⟨1, _⟩ => blk_simp [at1_0]

theorem down_weights : V3 m ρ c main_v3 = (m ((c : Thread nD τ).loc main_arg2) : Mat 2816 1024) := by
  refine Eq.trans ?_ (W2_args m ρ c main_arg2 (by decide))
  show StableHlo.after hostOps1 (W2 m ρ c) (Proc.devRef .tc main_v3) = _
  simp only [hostOps1, List.flatten_cons, List.flatten_nil, List.append_nil]
  after_results
  funext i
  pointwise []

theorem block1_1 (t : Fin cfg1.N) (a : Fin 1408) (b : Fin 1024) (h : 1408 * (t.val / 8) + a.val < 2816) :
    iblk1 (V3 m ρ) c 1 t (ix2 a b) = m ((c : Thread nD τ).loc main_arg2) (ix2 ⟨1408 * (t.val / 8) + a.val, h⟩ b) := by
  refine Eq.trans ?_ (congrFun (down_weights m ρ c) _)
  blk_simp [iblk1]
  refine congrArg _ (funext fun k => Fin.ext ?_)
  match k with
  | ⟨0, _⟩ => blk_simp [at1_1]; show _ = 1408 * (t.val / 8) + a.val; simp; omega
  | ⟨1, _⟩ => blk_simp [at1_1]

theorem block1_2 (t : Fin cfg1.N) (a : Fin 1024) (b : Fin 1408) (h : 1024 * (t.val % 8) + a.val < 8192) (h' : 1408 * (t.val / 8) + b.val < 2816) :
    iblk1 (V3 m ρ) c 2 t (ix2 a b) = silu (gate (both m c) (ix2 ⟨1024 * (t.val % 8) + a.val, h⟩ ⟨1408 * (t.val / 8) + b.val, h'⟩)) := by
  refine Eq.trans ?_ (congrFun (stored3 m ρ c) _)
  blk_simp [iblk1]
  refine congrArg _ (funext fun k => Fin.ext ?_)
  match k with
  | ⟨0, _⟩ => blk_simp [at1_2]; show _ = 1024 * (t.val % 8) + a.val; simp; omega
  | ⟨1, _⟩ => blk_simp [at1_2]; show _ = 1408 * (t.val / 8) + b.val; simp; omega

theorem block1_3 (t : Fin cfg1.N) (a : Fin 1024) (b : Fin 1408) (h : 1024 * (t.val % 8) + a.val < 8192) (h' : 1408 * (t.val / 8) + b.val < 2816) :
    iblk1 (V3 m ρ) c 3 t (ix2 a b) = up (both m c) (ix2 ⟨1024 * (t.val % 8) + a.val, h⟩ ⟨1408 * (t.val / 8) + b.val, h'⟩)
      * siluSlope (gate (both m c) (ix2 ⟨1024 * (t.val % 8) + a.val, h⟩ ⟨1408 * (t.val / 8) + b.val, h'⟩)) := by
  refine Eq.trans ?_ (congrFun (stored4 m ρ c) _)
  blk_simp [iblk1]
  refine congrArg _ (funext fun k => Fin.ext ?_)
  match k with
  | ⟨0, _⟩ => blk_simp [at1_3]; show _ = 1024 * (t.val % 8) + a.val; simp; omega
  | ⟨1, _⟩ => blk_simp [at1_3]; show _ = 1408 * (t.val / 8) + b.val; simp; omega

theorem down_at (x : Vec Ideal S1024x1024 .bf16) (y : Vec Ideal S1408x1024 .bf16) (a : Fin 1024) (b : Fin 1408) :
    k1_pay1 x y (ix2 a b) = ∑ k : Fin 1024, x (ix2 a k) * y (ix2 b k) := by
  pointwise [k1_pay1]

theorem down_block (t : Fin cfg1.N) (a : Fin 1024) (b : Fin 1408) (h : 1024 * (t.val % 8) + a.val < 8192) (h' : 1408 * (t.val / 8) + b.val < 2816) :
    k1_pay1 (iblk1 (V3 m ρ) c 0 t) (iblk1 (V3 m ρ) c 1 t) (ix2 a b) = down m c (ix2 ⟨1024 * (t.val % 8) + a.val, h⟩ ⟨1408 * (t.val / 8) + b.val, h'⟩) :=
  (down_at _ _ a b).trans (sum_mmt (a := ⟨1024 * (t.val % 8) + a.val, h⟩) (b := ⟨1408 * (t.val / 8) + b.val, h'⟩) fun k =>
    congrArg₂ (· * ·) (block1_0 m ρ c t a k h) (block1_1 m ρ c t b k h'))

theorem whole1_0 (x : Vec Ideal S1024x1024 .bf16) : View.ld x r1_0 = x := by
  funext i
  pointwise []

theorem whole1_1 (x : Vec Ideal S1408x1024 .bf16) : View.ld x r1_1 = x := by
  funext i
  pointwise []

theorem whole1_2 (x : Vec Ideal S1024x1408 .bf16) : View.ld x r1_2 = x := by
  funext i
  pointwise []

variable (x0 : Vec Ideal S1024x1024 .bf16) (x1 : Vec Ideal S1408x1024 .bf16) (x2 x3 : Vec Ideal S1024x1408 .bf16) (a : Fin 1024) (b : Fin 1408)

theorem body1_4 : out1_4 x0 x1 x2 x3 (ix2 a b) = k1_pay1 x0 x1 (ix2 a b) * (x3 (ix2 a b) : EReal) := by
  unfold out1_4
  rw [piece_in (N := 1024) (M := 1408) _ _ _ a b (Nat.zero_le _) a.isLt (Nat.zero_le _) b.isLt, whole1_0, whole1_1, whole1_2]
  pointwise [k1_pay3]

theorem body1_5 : out1_5 x0 x1 x2 x3 (ix2 a b) = k1_pay1 x0 x1 (ix2 a b) * (x2 (ix2 a b) : EReal) := by
  unfold out1_5
  rw [piece_in (N := 1024) (M := 1408) _ _ _ a b (Nat.zero_le _) a.isLt (Nat.zero_le _) b.isLt, whole1_0, whole1_1, whole1_2]
  pointwise [k1_pay2]

/-- The gradient of the gate. -/
theorem array1_4 : (dat1 (V3 m ρ) c).arrAt 4 cfg1.N = fun i => down m c i * (up (both m c) i * siluSlope (gate (both m c) i)) := by
  refine (dat1 (V3 m ρ) c).arrAt_eq_of_covers 4 _ (by decide +kernel) fun t hf y => ?_
  obtain ⟨a, b, rfl⟩ : ∃ (a : Fin 1024) (b : Fin 1408), y = ix2 a b := ⟨y 0, y 1, (ix2_eta y).symm⟩
  have hN : t.val < 16 := lt_of_lt_of_eq t.isLt (show cfg1.N = 16 from N_1)
  have ha := a.isLt
  have hb := b.isLt
  blk_simp
  rw [after1_4, body1_4, down_block m ρ c t a b (by omega) (by omega), block1_3 m ρ c t a b (by omega) (by omega)]
  refine congrArg (fun i => down m c i * (up (both m c) i * siluSlope (gate (both m c) i))) (idx2_ext ?_ ?_)
  · blk_simp [at1_4]; show 1024 * (t.val % 8) + a.val = _; simp; omega
  · blk_simp [at1_4]; show 1408 * (t.val / 8) + b.val = _; simp; omega

/-- The gradient of the other factor. -/
theorem array1_5 : (dat1 (V3 m ρ) c).arrAt 5 cfg1.N = fun i => down m c i * silu (gate (both m c) i) := by
  refine (dat1 (V3 m ρ) c).arrAt_eq_of_covers 5 _ (by decide +kernel) fun t hf y => ?_
  obtain ⟨a, b, rfl⟩ : ∃ (a : Fin 1024) (b : Fin 1408), y = ix2 a b := ⟨y 0, y 1, (ix2_eta y).symm⟩
  have hN : t.val < 16 := lt_of_lt_of_eq t.isLt (show cfg1.N = 16 from N_1)
  have ha := a.isLt
  have hb := b.isLt
  blk_simp
  rw [after1_5, body1_5, down_block m ρ c t a b (by omega) (by omega), block1_2 m ρ c t a b (by omega) (by omega)]
  refine congrArg (fun i => down m c i * silu (gate (both m c) i)) (idx2_ext ?_ ?_)
  · blk_simp [at1_5]; show 1024 * (t.val % 8) + a.val = _; simp; omega
  · blk_simp [at1_5]; show 1408 * (t.val / 8) + b.val = _; simp; omega

/-- The run ends with the gated product and the two gradients, and the arguments as they were. -/
theorem run_values : θ_run defs (onTc (τ := τ) (main (F := Ideal))) ⟨m, fun _ => 0, ρ⟩ (fun r => ∀ c : Dev nD,
      r.2.mem ((c.tc : Thread nD τ).loc main_v2_2) = (fun i => silu (gate (both m c) i) * up (both m c) i)
      ∧ r.2.mem ((c.tc : Thread nD τ).loc main_v4_0) = (fun i => down m c i * (up (both m c) i * siluSlope (gate (both m c) i)))
      ∧ r.2.mem ((c.tc : Thread nD τ).loc main_v4_1) = (fun i => down m c i * silu (gate (both m c) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2_2 (by decide))).trans ((W4_of m ρ c main_v2_2 (by decide)).trans ((W3_of m ρ c main_v2_2 (by decide)).trans ((W2_arr m ρ c 5).trans (array5 m ρ c)))),
     (h c _ (mem_uc main_v4_0 (by decide))).trans ((W4_arr m ρ c 4).trans (array1_4 m ρ c)),
     (h c _ (mem_uc main_v4_1 (by decide))).trans ((W4_arr m ρ c 5).trans (array1_5 m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_last m ρ)

end second

end Cert.GatedIdeal.Product

end
-- ==== Proof.GatedRef.lean ====
/- The reference's gated product and its gradients, entry by entry, and the rearrangement of the gate's gradient over the reals. -/
module

public import proofs.«01_k».proof.Proof.Gated
public import proofs.«01_k».proof.Proof.Finite
public import proofs.«01_k».proof.Proof.Gen.Pre_gated_finite

@[expose] public section

noncomputable section

namespace Cert.GatedIdeal.Product

open Idealize.ShloMosaic Idealize.ShloMosaic.TcCoe Idealize.ShloMosaic.Tactic Mix Cert.GatedRefIdeal.Read

variable (x : Mat 8192 1024) (w : Mat 1024 5632) (v : Mat 2816 1024) (d : Mat 8192 1024)

theorem value1 : val_main_v1 (F := Ideal) x w = mm x w := by
  funext i
  rw [val_main_v1_apply]
  exact Finset.sum_congr rfl fun k _ => congrArg₂ (· * ·) (congrArg x (idx2_ext rfl rfl)) (congrArg w (idx2_ext rfl rfl))

theorem value12 : val_main_v12 (F := Ideal) v d = mmt d v := by
  funext i
  rw [val_main_v12_apply]
  exact Finset.sum_congr rfl fun k _ => congrArg₂ (· * ·) (congrArg d (idx2_ext rfl rfl)) (congrArg v (idx2_ext rfl rfl))

theorem value6 : val_main_v6 (F := Ideal) x w = gate (mm x w) := by
  funext i
  rw [val_main_v6_apply, value1]
  exact congrArg (mm x w) (idx2_ext rfl rfl)

theorem value8 : val_main_v8 (F := Ideal) x w = up (mm x w) := by
  funext i
  rw [val_main_v8_apply, value1]
  exact congrArg (mm x w) (idx2_ext rfl rfl)

theorem neg_sub (x : EReal) : 0 - x = -x := by rw [sub_eq_add_neg, zero_add]

theorem value_sigm : val_main_v7_2 (F := Ideal) x w = fun i => sigm (gate (mm x w) i) := by
  funext i
  unfold val_main_v7_2 val_main_call1_v4 val_main_call1_cst_0 val_main_call1_v3 val_main_call1_v2 val_main_call1_cst val_main_call1_v1 val_main_call1_v0
  rw [value6]
  unfold sigm
  rw [neg_sub]
  pointwise []

theorem value_silu : val_main_v7_0 (F := Ideal) x w = fun i => silu (gate (mm x w) i) := by
  funext i
  unfold val_main_v7_0
  rw [value6, value_sigm]
  pointwise []
  rfl

theorem value19 : val_main_v19 (F := Ideal) x w = fun i => silu (gate (mm x w) i) * up (mm x w) i := by
  have e : val_main_v5 (F := Ideal) x w = val_main_v9 (F := Ideal) x w := rfl
  funext i
  unfold val_main_v19
  rw [e]
  unfold val_main_v9
  rw [value_silu, value8]
  pointwise []

theorem value13 : val_main_v13 (F := Ideal) x w v d = fun i => silu (gate (mm x w) i) * mmt d v i := by
  funext i
  unfold val_main_v13
  rw [value_silu, value12]
  pointwise []

theorem value16 : val_main_v16 (F := Ideal) x w v d = fun i => mmt d v i * up (mm x w) i * sigm (gate (mm x w) i)
    + gate (mm x w) i * (mmt d v i * up (mm x w) i) * (sigm (gate (mm x w) i) * (1 - sigm (gate (mm x w) i))) := by
  funext i
  unfold val_main_v16 val_main_call2_v1 val_main_call2_v2 val_main_call2_v0 val_main_v14 val_main_v7_1 val_main_call1_v7 val_main_call1_v6 val_main_call1_cst_1
  rw [value_sigm, value8, value12, value6]
  pointwise []

theorem value21 : val_main_v21 (F := Ideal) x w v d = val_main_v16 (F := Ideal) x w v d := by
  funext i
  obtain ⟨a, b, rfl⟩ : ∃ (a : Fin 8192) (b : Fin 2816), i = ix2 a b := ⟨i 0, i 1, (ix2_eta i).symm⟩
  unfold val_main_v21 val_main_v20 val_main_v18 val_main_v17 val_main_v15
  generalize val_main_v16 (F := Ideal) x w v d = y
  generalize val_main_v13 (F := Ideal) x w v d = z
  have hb := b.isLt
  pointwise []
  rw [dif_neg fun h => h.1, val_main_cst_apply]
  exact (congrArg (· + y (ix2 a b)) (Ideal.ofBits_zero .f32)).trans (zero_add (y (ix2 a b) : EReal))

theorem value23 : val_main_v23 (F := Ideal) x w v d = val_main_v13 (F := Ideal) x w v d := by
  funext i
  obtain ⟨a, b, rfl⟩ : ∃ (a : Fin 8192) (b : Fin 2816), i = ix2 a b := ⟨i 0, i 1, (ix2_eta i).symm⟩
  unfold val_main_v23 val_main_v22 val_main_v18 val_main_v17 val_main_v15
  generalize val_main_v16 (F := Ideal) x w v d = y
  generalize val_main_v13 (F := Ideal) x w v d = z
  have hb := b.isLt
  pointwise []
  rw [val_main_cst_0_apply]
  exact (congrArg (z (ix2 a b) + ·) (Ideal.ofBits_zero .f32)).trans (add_zero (z (ix2 a b) : EReal))

theorem mm_real {n k l : ℕ} {x : Mat n k} {w : Mat k l} (hx : ∀ i, x i = ((x i).toReal : EReal)) (hw : ∀ i, w i = ((w i).toReal : EReal)) (i) :
    ∃ r : ℝ, mm x w i = r := by
  refine ⟨_, Eq.trans (Finset.sum_congr rfl fun j _ => ?_) (coe_sum Finset.univ fun j => (x (ix2 (i 0) j)).toReal * (w (ix2 j (i 1))).toReal)⟩
  rw [hx, hw, EReal.coe_mul]; rfl

theorem mmt_real {n k l : ℕ} {x : Mat n k} {w : Mat l k} (hx : ∀ i, x i = ((x i).toReal : EReal)) (hw : ∀ i, w i = ((w i).toReal : EReal)) (i) :
    ∃ r : ℝ, mmt x w i = r := by
  refine ⟨_, Eq.trans (Finset.sum_congr rfl fun j _ => ?_) (coe_sum Finset.univ fun j => (x (ix2 (i 0) j)).toReal * (w (ix2 (i 1) j)).toReal)⟩
  rw [hx, hw, EReal.coe_mul]; rfl

theorem sigm_real (r : ℝ) : ∃ s : ℝ, sigm r = s := by
  refine ⟨1 / (1 + Real.exp (-r)), ?_⟩
  unfold sigm
  rw [neg_sub, ← EReal.coe_neg, Ideal.exp_coe, ← EReal.coe_one, ← EReal.coe_add, div_real _ _ (by positivity)]

/-- Over the reals the gradient of the gate multiplies out. -/
theorem rearranged {g u e : EReal} (hg : ∃ r : ℝ, g = r) (hu : ∃ r : ℝ, u = r) (he : ∃ r : ℝ, e = r) :
    e * u * sigm g + g * (e * u) * (sigm g * (1 - sigm g)) = e * (u * siluSlope g) := by
  obtain ⟨g, rfl⟩ := hg
  obtain ⟨u, rfl⟩ := hu
  obtain ⟨e, rfl⟩ := he
  obtain ⟨s, hs⟩ := sigm_real g
  simp only [siluSlope, Mix.silu, hs, ← EReal.coe_one, ← EReal.coe_mul, ← EReal.coe_sub, ← EReal.coe_add]
  exact congrArg Real.toEReal (by ring)

/-- What the precondition says of the inputs: every entry is a real. -/
theorem reals (h : Cert.Pre_gated_finite.fn (F := Ideal) x w v d = fun _ => 1#1) :
    (∀ i, x i = ((x i).toReal : EReal)) ∧ (∀ i, w i = ((w i).toReal : EReal)) ∧ (∀ i, v i = ((v i).toReal : EReal)) ∧ ∀ i, d i = ((d i).toReal : EReal) := by
  have h' := congrFun h (fun k => k.elim0)
  unfold Cert.Pre_gated_finite.fn Cert.Pre_gated_finite.fn_part1 at h'
  obtain ⟨h', g3⟩ := both_at _ _ _ h'
  obtain ⟨h', g2⟩ := both_at _ _ _ h'
  obtain ⟨g0, g1⟩ := both_at _ _ _ h'
  exact ⟨real_all _ _ _ _ _ g0, real_all _ _ _ _ _ g1, real_all _ _ _ _ _ g2, real_all _ _ _ _ _ g3⟩

theorem gate_gradient (h : Cert.Pre_gated_finite.fn (F := Ideal) x w v d = fun _ => 1#1) :
    val_main_v21 (F := Ideal) x w v d = fun i => mmt d v i * (up (mm x w) i * siluSlope (gate (mm x w) i)) := by
  obtain ⟨hx, hw, hv, hd⟩ := reals x w v d h
  rw [value21, value16]
  exact funext fun i => rearranged (mm_real hx hw _) (mm_real hx hw _) (mmt_real hd hv _)

theorem up_gradient : val_main_v23 (F := Ideal) x w v d = fun i => mmt d v i * silu (gate (mm x w) i) := by
  rw [value23, value13]
  exact funext fun i => mul_comm _ _

end Cert.GatedIdeal.Product

end
-- ==== Proof.GatedClaim.lean ====
/- The programs of the gated pair of calls: the reference leaves its arguments unchanged, and the two programs end with the same
   arrays. -/
module

public import proofs.«01_k».proof.Proof.GatedRef
public import Idealize.ShloMosaic.Adequacy
public import Idealize.ShloMosaic.Init

@[expose] public section

noncomputable section

namespace Cert.Proof

open Idealize.ShloMosaic Idealize.ShloMosaic.TcCoe Idealize.SL.Sem Mix Cert.GatedIdeal.Product

theorem gated_frame : Cert.quiescent_GatedRefIdeal (hGatedRefIdeal := Cert.GatedRefIdeal.Gen.facts) := fun m g _ =>
  (θ_run Cert.GatedRefIdeal.defs _ _).mono (fun r h => ⟨fun c => (h c).2.2.2, sem_eq_zero_of_no_sems (by decide) r.2⟩) (Cert.GatedRefIdeal.Value.run (F := Ideal) m g)

theorem gated_same : Cert.algebraic_GatedIdeal_GatedRefIdeal_pre_gated_finite (hGatedIdeal := Cert.GatedIdeal.Gen.facts) (hGatedRefIdeal := Cert.GatedRefIdeal.Gen.facts)
    (hPre_gated_finite := Cert.Pre_gated_finite.Gen.facts) := by
  intro m g m' g' hpre hargs
  refine ⟨fun c i => silu (gate (both m c) i) * up (both m c) i, fun c i => down m c i * (up (both m c) i * siluSlope (gate (both m c) i)),
    fun c i => down m c i * silu (gate (both m c) i), run_values m g, ?_⟩
  refine (θ_run Cert.GatedRefIdeal.defs _ _).mono (fun r h c => ?_) (Cert.GatedRefIdeal.Value.run (F := Ideal) m' g')
  obtain ⟨h0, h1, h2, ha⟩ := h c
  obtain ⟨e0, e1, e2, e3⟩ := hargs c
  refine ⟨h0.trans ((Cert.GatedRefIdeal.Read.val_main_v19_eq (F := Ideal) _ _).trans ?_), h1.trans ((Cert.GatedRefIdeal.Read.val_main_v21_eq (F := Ideal) _ _ _ _).trans ?_),
    h2.trans ((Cert.GatedRefIdeal.Read.val_main_v23_eq (F := Ideal) _ _ _ _).trans ?_), ha⟩
  · rw [e0, e1]; exact value19 _ _
  · rw [e0, e1, e2, e3]; exact gate_gradient _ _ _ _ (hpre c)
  · rw [e0, e1, e2, e3]; exact up_gradient _ _ _ _

end Cert.Proof

end
-- ==== Proof.lean ====
/- The two programs compute the same five arrays: each is run and its results read as the functions of Spec.lean. -/
module

public import proofs.«01_k».proof.Defs
public import proofs.«01_k».proof.Proof.Gen.Kernel
public import proofs.«01_k».proof.Proof.Gen.Kernel.Frame
public import proofs.«01_k».proof.Proof.Results
public import proofs.«01_k».proof.Proof.Backward
public import proofs.«01_k».proof.Proof.Finite
public import proofs.«01_k».proof.Proof.Products
public import proofs.«01_k».proof.Proof.GatedClaim
public import proofs.«01_k».proof.Proof.DgradInRunBits
public import proofs.«01_k».proof.Proof.Gen.WgradDown
public import proofs.«01_k».proof.Proof.Gen.WgradDown.Skeleton
public import proofs.«01_k».proof.Proof.Gen.WgradDown.Launch
public import proofs.«01_k».proof.Proof.Gen.WgradDown.Points
public import proofs.«01_k».proof.Proof.Gen.WgradDown.Frame
public import proofs.«01_k».proof.Proof.Gen.WgradDownIdeal
public import proofs.«01_k».proof.Proof.Gen.WgradDownIdeal.Skeleton
public import proofs.«01_k».proof.Proof.Gen.WgradDownIdeal.Launch
public import proofs.«01_k».proof.Proof.Gen.WgradDownIdeal.Points
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradDownRefIdeal.Read
public import proofs.«01_k».proof.Proof.Gen.WgradGu
public import proofs.«01_k».proof.Proof.Gen.WgradGu.Skeleton
public import proofs.«01_k».proof.Proof.Gen.WgradGu.Launch
public import proofs.«01_k».proof.Proof.Gen.WgradGu.Points
public import proofs.«01_k».proof.Proof.Gen.WgradGu.Frame
public import proofs.«01_k».proof.Proof.Gen.WgradGuIdeal
public import proofs.«01_k».proof.Proof.Gen.WgradGuIdeal.Skeleton
public import proofs.«01_k».proof.Proof.Gen.WgradGuIdeal.Launch
public import proofs.«01_k».proof.Proof.Gen.WgradGuIdeal.Points
public import proofs.«01_k».proof.Proof.Gen.WgradGuIdeal.Frame
public import proofs.«01_k».proof.Proof.Gen.WgradGuIdeal.Value
public import proofs.«01_k».proof.Proof.Gen.WgradGuRefIdeal
public import proofs.«01_k».proof.Proof.Gen.WgradGuRefIdeal.Run
public import proofs.«01_k».proof.Proof.Gen.WgradGuRefIdeal.Read
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutIdeal.Value
public import proofs.«01_k».proof.Proof.Gen.WgradOutRefIdeal
public import proofs.«01_k».proof.Proof.Gen.WgradOutRefIdeal.Run
public import proofs.«01_k».proof.Proof.Gen.WgradOutRefIdeal.Read
public import proofs.«01_k».proof.Proof.Gen.WgradIn
public import proofs.«01_k».proof.Proof.Gen.WgradIn.Skeleton
public import proofs.«01_k».proof.Proof.Gen.WgradIn.Launch
public import proofs.«01_k».proof.Proof.Gen.WgradIn.Points
public import proofs.«01_k».proof.Proof.Gen.WgradIn.Frame
public import proofs.«01_k».proof.Proof.Gen.WgradInIdeal
public import proofs.«01_k».proof.Proof.Gen.WgradInIdeal.Skeleton
public import proofs.«01_k».proof.Proof.Gen.WgradInIdeal.Launch
public import proofs.«01_k».proof.Proof.Gen.WgradInIdeal.Points
public import proofs.«01_k».proof.Proof.Gen.WgradInIdeal.Frame
public import proofs.«01_k».proof.Proof.Gen.WgradInIdeal.Value
public import proofs.«01_k».proof.Proof.Gen.WgradInRefIdeal
public import proofs.«01_k».proof.Proof.Gen.WgradInRefIdeal.Run
public import proofs.«01_k».proof.Proof.Gen.WgradInRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.DgradOut
public import proofs.«01_k».proof.Proof.Gen.DgradOut.Skeleton
public import proofs.«01_k».proof.Proof.Gen.DgradOut.Launch
public import proofs.«01_k».proof.Proof.Gen.DgradOut.Points
public import proofs.«01_k».proof.Proof.Gen.DgradOut.Frame
public import proofs.«01_k».proof.Proof.Gen.DgradOutIdeal
public import proofs.«01_k».proof.Proof.Gen.DgradOutIdeal.Skeleton
public import proofs.«01_k».proof.Proof.Gen.DgradOutIdeal.Launch
public import proofs.«01_k».proof.Proof.Gen.DgradOutIdeal.Points
public import proofs.«01_k».proof.Proof.Gen.DgradOutIdeal.Frame
public import proofs.«01_k».proof.Proof.Gen.DgradOutIdeal.Value
public import proofs.«01_k».proof.Proof.Gen.DgradOutRefIdeal
public import proofs.«01_k».proof.Proof.Gen.DgradOutRefIdeal.Run
public import proofs.«01_k».proof.Proof.Gen.DgradOutRefIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedRefIdeal
public import proofs.«01_k».proof.Proof.Gen.GatedRefIdeal.Run
public import proofs.«01_k».proof.Proof.Gen.GatedRefIdeal.Read
public import proofs.«01_k».proof.Proof.Gen.Pre_gated_finite
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnDownLast
public import proofs.«01_k».proof.Proof.Gen.FfnDownLast.Skeleton
public import proofs.«01_k».proof.Proof.Gen.FfnDownLast.Launch
public import proofs.«01_k».proof.Proof.Gen.FfnDownLast.Points
public import proofs.«01_k».proof.Proof.Gen.FfnDownLast.Frame
public import proofs.«01_k».proof.Proof.Gen.FfnDownLastIdeal
public import proofs.«01_k».proof.Proof.Gen.FfnDownLastIdeal.Skeleton
public import proofs.«01_k».proof.Proof.Gen.FfnDownLastIdeal.Launch
public import proofs.«01_k».proof.Proof.Gen.FfnDownLastIdeal.Points
public import proofs.«01_k».proof.Proof.Gen.FfnDownLastIdeal.Frame
public import proofs.«01_k».proof.Proof.Gen.FfnDownLastIdeal.Value
public import proofs.«01_k».proof.Proof.Gen.FfnDownLastRefIdeal
public import proofs.«01_k».proof.Proof.Gen.FfnDownLastRefIdeal.Run
public import proofs.«01_k».proof.Proof.Gen.FfnDownLastRefIdeal.Read
public import proofs.«01_k».proof.Proof.Gen.DgradGu
public import proofs.«01_k».proof.Proof.Gen.DgradGu.Skeleton
public import proofs.«01_k».proof.Proof.Gen.DgradGu.Launch
public import proofs.«01_k».proof.Proof.Gen.DgradGu.Points
public import proofs.«01_k».proof.Proof.Gen.DgradGu.Frame
public import proofs.«01_k».proof.Proof.Gen.DgradGuIdeal
public import proofs.«01_k».proof.Proof.Gen.DgradGuIdeal.Skeleton
public import proofs.«01_k».proof.Proof.Gen.DgradGuIdeal.Launch
public import proofs.«01_k».proof.Proof.Gen.DgradGuIdeal.Points
public import proofs.«01_k».proof.Proof.Gen.DgradGuIdeal.Frame
public import proofs.«01_k».proof.Proof.Gen.DgradGuIdeal.Value
public import proofs.«01_k».proof.Proof.Gen.DgradGuRefIdeal
public import proofs.«01_k».proof.Proof.Gen.DgradGuRefIdeal.Run
public import proofs.«01_k».proof.Proof.Gen.DgradGuRefIdeal.Read
public import proofs.«01_k».proof.Proof.Gen.DgradIn
public import proofs.«01_k».proof.Proof.Gen.DgradIn.Skeleton
public import proofs.«01_k».proof.Proof.Gen.DgradIn.Launch
public import proofs.«01_k».proof.Proof.Gen.DgradIn.Points
public import proofs.«01_k».proof.Proof.Gen.DgradIn.Frame.RunA
public import proofs.«01_k».proof.Proof.Gen.DgradInIdeal
public import proofs.«01_k».proof.Proof.Gen.DgradInIdeal.Skeleton
public import proofs.«01_k».proof.Proof.Gen.DgradInIdeal.Launch
public import proofs.«01_k».proof.Proof.Gen.DgradInIdeal.Points
public import proofs.«01_k».proof.Proof.Gen.DgradInIdeal.Frame.RunA
public import proofs.«01_k».proof.Proof.Gen.DgradInRefIdeal
public import proofs.«01_k».proof.Proof.Gen.DgradInRefIdeal.Run
public import proofs.«01_k».proof.Proof.Gen.DgradInRefIdeal.Read
public import Idealize.ShloMosaic.Adequacy
public import Idealize.ShloMosaic.Init

@[expose] public section

noncomputable section

namespace Cert.Proof

open Idealize.ShloMosaic Idealize.ShloMosaic.TcCoe Idealize.SL.Sem Mix

/-- The reference leaves its arguments unchanged. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

/-- The two runs end with the same five arrays. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  choose P D cw pw ps gg H using fun c => @inputs_of Cert.Pre_finite.Gen.facts _ _ _ _ _ _ (hpre c)
  refine ⟨fun c => mat 8192 1024 (dp (P c) (D c) (cw c) (diag (pw c)) (ps c) (gg c)), fun c => mat 3 256 (dcw (P c) (D c) (cw c) (gg c) 8192),
    fun c => cube (dbd (P c) (D c) (diag (pw c)) (ps c) (gg c) 8192), fun c => mat 1 256 (fun _ => dps (P c) (D c) (diag (pw c)) (ps c) (gg c) 8192),
    fun c => mat 1 512 (fun _ => dgg (P c) (D c) (cw c) (diag (pw c)) (ps c) 8192), ?_, ?_⟩
  · refine (θ_run Cert.KernelIdeal.defs _ _).mono (fun r h c => ?_)
      (θ_run_and (Cert.KernelIdeal.Stages.run m g P D cw pw ps gg H) (Cert.KernelIdeal.Gen.unchanged (F := Ideal) m g))
    obtain ⟨h0, h1, h2, h3, h4⟩ := h.1 c
    exact ⟨h0, h1, h2, h3, h4, h.2 c⟩
  · refine (θ_run Cert.ReferenceIdeal.defs _ _).mono (fun r h c => ?_) (Cert.ReferenceIdeal.Value.run (F := Ideal) m' g')
    obtain ⟨h0, h1, h2, h3, h4, ha⟩ := h c
    obtain ⟨e0, e1, e2, e3, e4, e5⟩ := hargs c
    have K : Inputs (StableHlo.launchContents m' c (Proc.devRef .tc Cert.ReferenceIdeal.main_arg0)) (StableHlo.launchContents m' c (Proc.devRef .tc Cert.ReferenceIdeal.main_arg1))
        (StableHlo.launchContents m' c (Proc.devRef .tc Cert.ReferenceIdeal.main_arg2)) (StableHlo.launchContents m' c (Proc.devRef .tc Cert.ReferenceIdeal.main_arg3))
        (StableHlo.launchContents m' c (Proc.devRef .tc Cert.ReferenceIdeal.main_arg4)) (StableHlo.launchContents m' c (Proc.devRef .tc Cert.ReferenceIdeal.main_arg5))
        (P c) (D c) (cw c) (pw c) (ps c) (gg c) := by
      have e := H c
      rw [← e0, ← e1, ← e2, ← e3, ← e4, ← e5] at e
      exact e
    exact ⟨h0.trans ((Cert.ReferenceIdeal.Read.val_main_v293_eq (F := Ideal) (StableHlo.launchContents m' c)).trans (Cert.ReferenceIdeal.Mixers.array293 K)),
      h1.trans ((Cert.ReferenceIdeal.Read.val_main_v283_eq (F := Ideal) (StableHlo.launchContents m' c)).trans (Cert.ReferenceIdeal.Mixers.array283 K)),
      h2.trans ((Cert.ReferenceIdeal.Read.val_main_v194_eq (F := Ideal) (StableHlo.launchContents m' c)).trans (Cert.ReferenceIdeal.Mixers.v194 K)),
      h3.trans ((Cert.ReferenceIdeal.Read.val_main_v186_eq (F := Ideal) (StableHlo.launchContents m' c)).trans (Cert.ReferenceIdeal.Mixers.array186 K)),
      h4.trans ((Cert.ReferenceIdeal.Read.val_main_v183_eq (F := Ideal) (StableHlo.launchContents m' c)).trans (Cert.ReferenceIdeal.Mixers.array183 K)), ha⟩

theorem claim : Cert.Claim := ⟨Cert.Kernel.Gen.facts, Cert.KernelIdeal.Gen.facts, Cert.ReferenceIdeal.Gen.facts, Cert.WgradDown.Gen.facts, Cert.WgradDownIdeal.Gen.facts, Cert.WgradDownRefIdeal.Gen.facts, Cert.WgradGu.Gen.facts, Cert.WgradGuIdeal.Gen.facts, Cert.WgradGuRefIdeal.Gen.facts, Cert.WgradOut.Gen.facts, Cert.WgradOutIdeal.Gen.facts, Cert.WgradOutRefIdeal.Gen.facts, Cert.WgradIn.Gen.facts, Cert.WgradInIdeal.Gen.facts, Cert.WgradInRefIdeal.Gen.facts, Cert.Proj.Gen.facts, Cert.ProjIdeal.Gen.facts, Cert.ProjRefIdeal.Gen.facts, Cert.DgradOut.Gen.facts, Cert.DgradOutIdeal.Gen.facts, Cert.DgradOutRefIdeal.Gen.facts, Cert.Gated.Gen.facts, Cert.GatedIdeal.Gen.facts, Cert.GatedRefIdeal.Gen.facts, Cert.MixOut.Gen.facts, Cert.MixOutIdeal.Gen.facts, Cert.MixOutRefIdeal.Gen.facts, Cert.FfnDown.Gen.facts, Cert.FfnDownIdeal.Gen.facts, Cert.FfnDownRefIdeal.Gen.facts, Cert.FfnDownLast.Gen.facts, Cert.FfnDownLastIdeal.Gen.facts, Cert.FfnDownLastRefIdeal.Gen.facts, Cert.DgradGu.Gen.facts, Cert.DgradGuIdeal.Gen.facts, Cert.DgradGuRefIdeal.Gen.facts, Cert.DgradIn.Gen.facts, Cert.DgradInIdeal.Gen.facts, Cert.DgradInRefIdeal.Gen.facts, Cert.Pre_finite.Gen.facts, Cert.Pre_gated_finite.Gen.facts,
  fun m ρ _ => Cert.Kernel.Gen.frame m ρ,
  fun m ρ _ => Cert.KernelIdeal.Gen.frame m ρ,
  fun m ρ _ => Cert.KernelIdeal.Gen.frame m ρ,
  fun m g _ => reference_frame m g,
  fun m g _ => reference_frame m g,
  fun m ρ _ => Cert.WgradDown.Gen.frame m ρ,
  fun m ρ _ => Cert.WgradDownIdeal.Gen.frame m ρ,
  wgrad_down_frame,
  fun m ρ _ => Cert.WgradGu.Gen.frame m ρ,
  fun m ρ _ => Cert.WgradGuIdeal.Gen.frame m ρ,
  wgrad_gu_frame,
  fun m ρ _ => Cert.WgradOut.Gen.frame m ρ,
  fun m ρ _ => Cert.WgradOutIdeal.Gen.frame m ρ,
  wgrad_out_frame,
  fun m ρ _ => Cert.WgradIn.Gen.frame m ρ,
  fun m ρ _ => Cert.WgradInIdeal.Gen.frame m ρ,
  wgrad_in_frame,
  fun m ρ _ => Cert.Proj.Gen.frame m ρ,
  fun m ρ _ => Cert.ProjIdeal.Gen.frame m ρ,
  proj_frame,
  fun m ρ _ => Cert.DgradOut.Gen.frame m ρ,
  fun m ρ _ => Cert.DgradOutIdeal.Gen.frame m ρ,
  dgrad_out_frame,
  fun m ρ _ => Cert.Gated.Gen.frame m ρ,
  fun m ρ _ => Cert.GatedIdeal.Gen.frame m ρ,
  fun m ρ _ => Cert.GatedIdeal.Gen.frame m ρ,
  gated_frame,
  fun m g _ => gated_frame m g trivial,
  fun m ρ _ => Cert.MixOut.Gen.frame m ρ,
  fun m ρ _ => Cert.MixOutIdeal.Gen.frame m ρ,
  mix_out_frame,
  fun m ρ _ => Cert.FfnDown.Gen.frame m ρ,
  fun m ρ _ => Cert.FfnDownIdeal.Gen.frame m ρ,
  ffn_down_frame,
  fun m ρ _ => Cert.FfnDownLast.Gen.frame m ρ,
  fun m ρ _ => Cert.FfnDownLastIdeal.Gen.frame m ρ,
  ffn_down_last_frame,
  fun m ρ _ => Cert.DgradGu.Gen.frame m ρ,
  fun m ρ _ => Cert.DgradGuIdeal.Gen.frame m ρ,
  dgrad_gu_frame,
  fun m ρ _ => Cert.DgradIn.Whole.frame m ρ,
  fun m ρ _ => Cert.DgradInIdeal.Whole.frame m ρ,
  dgrad_in_frame,
  trivial,
  same_results,
  trivial,
  wgrad_down_same,
  trivial,
  wgrad_gu_same,
  trivial,
  wgrad_out_same,
  trivial,
  wgrad_in_same,
  trivial,
  proj_same,
  trivial,
  dgrad_out_same,
  trivial,
  gated_same,
  trivial,
  mix_out_same,
  trivial,
  ffn_down_same,
  trivial,
  ffn_down_last_same,
  trivial,
  dgrad_gu_same,
  trivial,
  dgrad_in_same⟩

end Cert.Proof

end
